-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDwGate (m : (ℓ : Loc Cert.UpDwGate.nD Cert.UpDwGate.τ Cert.UpDwGate.sig) → Buf (Elt Bits) ℓ) : Prop :=
  True

def Pre_UpDwGateIdeal (m : (ℓ : Loc Cert.UpDwGateIdeal.nD Cert.UpDwGateIdeal.τ Cert.UpDwGateIdeal.sig) → Buf (Elt Ideal) ℓ) : Prop :=
  True

def Pre_UpDwGateRefIdeal (m : (ℓ : Loc Cert.UpDwGateRefIdeal.nD Cert.UpDwGateRefIdeal.τ Cert.UpDwGateRefIdeal.sig) → Buf (Elt Ideal) ℓ) : Prop :=
  True

def Pre_UpDwVal (m : (ℓ : Loc Cert.UpDwVal.nD Cert.UpDwVal.τ Cert.UpDwVal.sig) → Buf (Elt Bits) ℓ) : Prop :=
  True

def Pre_UpDwValIdeal (m : (ℓ : Loc Cert.UpDwValIdeal.nD Cert.UpDwValIdeal.τ Cert.UpDwValIdeal.sig) → Buf (Elt Ideal) ℓ) : Prop :=
  True

def Pre_UpDwValRefIdeal (m : (ℓ : Loc Cert.UpDwValRefIdeal.nD Cert.UpDwValRefIdeal.τ Cert.UpDwValRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_MmQkv (m : (ℓ : Loc Cert.MmQkv.nD Cert.MmQkv.τ Cert.MmQkv.sig) → Buf (Elt Bits) ℓ) : Prop :=
  True

def Pre_MmQkvIdeal (m : (ℓ : Loc Cert.MmQkvIdeal.nD Cert.MmQkvIdeal.τ Cert.MmQkvIdeal.sig) → Buf (Elt Ideal) ℓ) : Prop :=
  True

def Pre_MmQkvRefIdeal (m : (ℓ : Loc Cert.MmQkvRefIdeal.nD Cert.MmQkvRefIdeal.τ Cert.MmQkvRefIdeal.sig) → Buf (Elt Ideal) ℓ) : Prop :=
  True

def Pre_MmAg (m : (ℓ : Loc Cert.MmAg.nD Cert.MmAg.τ Cert.MmAg.sig) → Buf (Elt Bits) ℓ) : Prop :=
  True

def Pre_MmAgIdeal (m : (ℓ : Loc Cert.MmAgIdeal.nD Cert.MmAgIdeal.τ Cert.MmAgIdeal.sig) → Buf (Elt Ideal) ℓ) : Prop :=
  True

def Pre_MmAgRefIdeal (m : (ℓ : Loc Cert.MmAgRefIdeal.nD Cert.MmAgRefIdeal.τ Cert.MmAgRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_NormCtxBwd (m : (ℓ : Loc Cert.NormCtxBwd.nD Cert.NormCtxBwd.τ Cert.NormCtxBwd.sig) → Buf (Elt Bits) ℓ) : Prop :=
  True

def Pre_NormCtxBwdIdeal (m : (ℓ : Loc Cert.NormCtxBwdIdeal.nD Cert.NormCtxBwdIdeal.τ Cert.NormCtxBwdIdeal.sig) → Buf (Elt Ideal) ℓ) : Prop :=
  True

def Pre_NormCtxBwdRefIdeal (m : (ℓ : Loc Cert.NormCtxBwdRefIdeal.nD Cert.NormCtxBwdRefIdeal.τ Cert.NormCtxBwdRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_Norm2Fwd (m : (ℓ : Loc Cert.Norm2Fwd.nD Cert.Norm2Fwd.τ Cert.Norm2Fwd.sig) → Buf (Elt Bits) ℓ) : Prop :=
  True

def Pre_Norm2FwdIdeal (m : (ℓ : Loc Cert.Norm2FwdIdeal.nD Cert.Norm2FwdIdeal.τ Cert.Norm2FwdIdeal.sig) → Buf (Elt Ideal) ℓ) : Prop :=
  True

def Pre_Norm2FwdRefIdeal (m : (ℓ : Loc Cert.Norm2FwdRefIdeal.nD Cert.Norm2FwdRefIdeal.τ Cert.Norm2FwdRefIdeal.sig) → Buf (Elt Ideal) ℓ) : Prop :=
  True

def Pre_Norm1Fwd (m : (ℓ : Loc Cert.Norm1Fwd.nD Cert.Norm1Fwd.τ Cert.Norm1Fwd.sig) → Buf (Elt Bits) ℓ) : Prop :=
  True

def Pre_Norm1FwdIdeal (m : (ℓ : Loc Cert.Norm1FwdIdeal.nD Cert.Norm1FwdIdeal.τ Cert.Norm1FwdIdeal.sig) → Buf (Elt Ideal) ℓ) : Prop :=
  True

def Pre_Norm1FwdRefIdeal (m : (ℓ : Loc Cert.Norm1FwdRefIdeal.nD Cert.Norm1FwdRefIdeal.τ Cert.Norm1FwdRefIdeal.sig) → Buf (Elt Ideal) ℓ) : Prop :=
  True

def Pre_NormLoss (m : (ℓ : Loc Cert.NormLoss.nD Cert.NormLoss.τ Cert.NormLoss.sig) → Buf (Elt Bits) ℓ) : Prop :=
  True

def Pre_NormLossIdeal (m : (ℓ : Loc Cert.NormLossIdeal.nD Cert.NormLossIdeal.τ Cert.NormLossIdeal.sig) → Buf (Elt Ideal) ℓ) : Prop :=
  True

def Pre_NormLossRefIdeal (m : (ℓ : Loc Cert.NormLossRefIdeal.nD Cert.NormLossRefIdeal.τ Cert.NormLossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_UpDwGate [hUpDwGate : Cert.UpDwGate.Facts] : Prop :=
  ∀ (m : (ℓ : Loc Cert.UpDwGate.nD Cert.UpDwGate.τ Cert.UpDwGate.sig) → Buf (Elt Bits) ℓ) (g : Dev Cert.UpDwGate.nD → PrngReg), Pre_UpDwGate m →
    θ_run (Cert.UpDwGate.defs (F := Bits)) (onTc (τ := Cert.UpDwGate.τ) (Cert.UpDwGate.main (F := Bits))) ⟨m, fun _ => 0, g⟩ (fun r => (∀ c : Dev Cert.UpDwGate.nD,
      r.2.mem ((c.tc : Thread Cert.UpDwGate.nD Cert.UpDwGate.τ).loc Cert.UpDwGate.main_arg0) = m ((c.tc : Thread Cert.UpDwGate.nD Cert.UpDwGate.τ).loc Cert.UpDwGate.main_arg0)
      ∧ r.2.mem ((c.tc : Thread Cert.UpDwGate.nD Cert.UpDwGate.τ).loc Cert.UpDwGate.main_arg1) = m ((c.tc : Thread Cert.UpDwGate.nD Cert.UpDwGate.τ).loc Cert.UpDwGate.main_arg1))
      ∧ r.2.sem = fun _ => 0)

def quiescent_UpDwGateIdeal [hUpDwGateIdeal : Cert.UpDwGateIdeal.Facts] : Prop :=
  ∀ (m : (ℓ : Loc Cert.UpDwGateIdeal.nD Cert.UpDwGateIdeal.τ Cert.UpDwGateIdeal.sig) → Buf (Elt Ideal) ℓ) (g : Dev Cert.UpDwGateIdeal.nD → PrngReg), Pre_UpDwGateIdeal m →
    θ_run (Cert.UpDwGateIdeal.defs (F := Ideal)) (onTc (τ := Cert.UpDwGateIdeal.τ) (Cert.UpDwGateIdeal.main (F := Ideal))) ⟨m, fun _ => 0, g⟩ (fun r => (∀ c : Dev Cert.UpDwGateIdeal.nD,
      r.2.mem ((c.tc : Thread Cert.UpDwGateIdeal.nD Cert.UpDwGateIdeal.τ).loc Cert.UpDwGateIdeal.main_arg0) = m ((c.tc : Thread Cert.UpDwGateIdeal.nD Cert.UpDwGateIdeal.τ).loc Cert.UpDwGateIdeal.main_arg0)
      ∧ r.2.mem ((c.tc : Thread Cert.UpDwGateIdeal.nD Cert.UpDwGateIdeal.τ).loc Cert.UpDwGateIdeal.main_arg1) = m ((c.tc : Thread Cert.UpDwGateIdeal.nD Cert.UpDwGateIdeal.τ).loc Cert.UpDwGateIdeal.main_arg1))
      ∧ r.2.sem = fun _ => 0)

def quiescent_UpDwGateRefIdeal [hUpDwGateRefIdeal : Cert.UpDwGateRefIdeal.Facts] : Prop :=
  ∀ (m : (ℓ : Loc Cert.UpDwGateRefIdeal.nD Cert.UpDwGateRefIdeal.τ Cert.UpDwGateRefIdeal.sig) → Buf (Elt Ideal) ℓ) (g : Dev Cert.UpDwGateRefIdeal.nD → PrngReg), Pre_UpDwGateRefIdeal m →
    θ_run (Cert.UpDwGateRefIdeal.defs (F := Ideal)) (onTc (τ := Cert.UpDwGateRefIdeal.τ) (Cert.UpDwGateRefIdeal.main (F := Ideal))) ⟨m, fun _ => 0, g⟩ (fun r => (∀ c : Dev Cert.UpDwGateRefIdeal.nD,
      r.2.mem ((c.tc : Thread Cert.UpDwGateRefIdeal.nD Cert.UpDwGateRefIdeal.τ).loc Cert.UpDwGateRefIdeal.main_arg0) = m ((c.tc : Thread Cert.UpDwGateRefIdeal.nD Cert.UpDwGateRefIdeal.τ).loc Cert.UpDwGateRefIdeal.main_arg0)
      ∧ r.2.mem ((c.tc : Thread Cert.UpDwGateRefIdeal.nD Cert.UpDwGateRefIdeal.τ).loc Cert.UpDwGateRefIdeal.main_arg1) = m ((c.tc : Thread Cert.UpDwGateRefIdeal.nD Cert.UpDwGateRefIdeal.τ).loc Cert.UpDwGateRefIdeal.main_arg1))
      ∧ r.2.sem = fun _ => 0)

def quiescent_UpDwVal [hUpDwVal : Cert.UpDwVal.Facts] : Prop :=
  ∀ (m : (ℓ : Loc Cert.UpDwVal.nD Cert.UpDwVal.τ Cert.UpDwVal.sig) → Buf (Elt Bits) ℓ) (g : Dev Cert.UpDwVal.nD → PrngReg), Pre_UpDwVal m →
    θ_run (Cert.UpDwVal.defs (F := Bits)) (onTc (τ := Cert.UpDwVal.τ) (Cert.UpDwVal.main (F := Bits))) ⟨m, fun _ => 0, g⟩ (fun r => (∀ c : Dev Cert.UpDwVal.nD,
      r.2.mem ((c.tc : Thread Cert.UpDwVal.nD Cert.UpDwVal.τ).loc Cert.UpDwVal.main_arg0) = m ((c.tc : Thread Cert.UpDwVal.nD Cert.UpDwVal.τ).loc Cert.UpDwVal.main_arg0)
      ∧ r.2.mem ((c.tc : Thread Cert.UpDwVal.nD Cert.UpDwVal.τ).loc Cert.UpDwVal.main_arg1) = m ((c.tc : Thread Cert.UpDwVal.nD Cert.UpDwVal.τ).loc Cert.UpDwVal.main_arg1)
      ∧ r.2.mem ((c.tc : Thread Cert.UpDwVal.nD Cert.UpDwVal.τ).loc Cert.UpDwVal.main_arg2) = m ((c.tc : Thread Cert.UpDwVal.nD Cert.UpDwVal.τ).loc Cert.UpDwVal.main_arg2))
      ∧ r.2.sem = fun _ => 0)

def quiescent_UpDwValIdeal [hUpDwValIdeal : Cert.UpDwValIdeal.Facts] : Prop :=
  ∀ (m : (ℓ : Loc Cert.UpDwValIdeal.nD Cert.UpDwValIdeal.τ Cert.UpDwValIdeal.sig) → Buf (Elt Ideal) ℓ) (g : Dev Cert.UpDwValIdeal.nD → PrngReg), Pre_UpDwValIdeal m →
    θ_run (Cert.UpDwValIdeal.defs (F := Ideal)) (onTc (τ := Cert.UpDwValIdeal.τ) (Cert.UpDwValIdeal.main (F := Ideal))) ⟨m, fun _ => 0, g⟩ (fun r => (∀ c : Dev Cert.UpDwValIdeal.nD,
      r.2.mem ((c.tc : Thread Cert.UpDwValIdeal.nD Cert.UpDwValIdeal.τ).loc Cert.UpDwValIdeal.main_arg0) = m ((c.tc : Thread Cert.UpDwValIdeal.nD Cert.UpDwValIdeal.τ).loc Cert.UpDwValIdeal.main_arg0)
      ∧ r.2.mem ((c.tc : Thread Cert.UpDwValIdeal.nD Cert.UpDwValIdeal.τ).loc Cert.UpDwValIdeal.main_arg1) = m ((c.tc : Thread Cert.UpDwValIdeal.nD Cert.UpDwValIdeal.τ).loc Cert.UpDwValIdeal.main_arg1)
      ∧ r.2.mem ((c.tc : Thread Cert.UpDwValIdeal.nD Cert.UpDwValIdeal.τ).loc Cert.UpDwValIdeal.main_arg2) = m ((c.tc : Thread Cert.UpDwValIdeal.nD Cert.UpDwValIdeal.τ).loc Cert.UpDwValIdeal.main_arg2))
      ∧ r.2.sem = fun _ => 0)

def quiescent_UpDwValRefIdeal [hUpDwValRefIdeal : Cert.UpDwValRefIdeal.Facts] : Prop :=
  ∀ (m : (ℓ : Loc Cert.UpDwValRefIdeal.nD Cert.UpDwValRefIdeal.τ Cert.UpDwValRefIdeal.sig) → Buf (Elt Ideal) ℓ) (g : Dev Cert.UpDwValRefIdeal.nD → PrngReg), Pre_UpDwValRefIdeal m →
    θ_run (Cert.UpDwValRefIdeal.defs (F := Ideal)) (onTc (τ := Cert.UpDwValRefIdeal.τ) (Cert.UpDwValRefIdeal.main (F := Ideal))) ⟨m, fun _ => 0, g⟩ (fun r => (∀ c : Dev Cert.UpDwValRefIdeal.nD,
      r.2.mem ((c.tc : Thread Cert.UpDwValRefIdeal.nD Cert.UpDwValRefIdeal.τ).loc Cert.UpDwValRefIdeal.main_arg0) = m ((c.tc : Thread Cert.UpDwValRefIdeal.nD Cert.UpDwValRefIdeal.τ).loc Cert.UpDwValRefIdeal.main_arg0)
      ∧ r.2.mem ((c.tc : Thread Cert.UpDwValRefIdeal.nD Cert.UpDwValRefIdeal.τ).loc Cert.UpDwValRefIdeal.main_arg1) = m ((c.tc : Thread Cert.UpDwValRefIdeal.nD Cert.UpDwValRefIdeal.τ).loc Cert.UpDwValRefIdeal.main_arg1)
      ∧ r.2.mem ((c.tc : Thread Cert.UpDwValRefIdeal.nD Cert.UpDwValRefIdeal.τ).loc Cert.UpDwValRefIdeal.main_arg2) = m ((c.tc : Thread Cert.UpDwValRefIdeal.nD Cert.UpDwValRefIdeal.τ).loc Cert.UpDwValRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3)
      ∧ r.2.mem ((c.tc : Thread Cert.InDw.nD Cert.InDw.τ).loc Cert.InDw.main_arg4) = m ((c.tc : Thread Cert.InDw.nD Cert.InDw.τ).loc Cert.InDw.main_arg4)
      ∧ r.2.mem ((c.tc : Thread Cert.InDw.nD Cert.InDw.τ).loc Cert.InDw.main_arg5) = m ((c.tc : Thread Cert.InDw.nD Cert.InDw.τ).loc Cert.InDw.main_arg5))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
      ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
      ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3)
      ∧ r.2.mem ((c.tc : Thread Cert.InDwRefIdeal.nD Cert.InDwRefIdeal.τ).loc Cert.InDwRefIdeal.main_arg4) = m ((c.tc : Thread Cert.InDwRefIdeal.nD Cert.InDwRefIdeal.τ).loc Cert.InDwRefIdeal.main_arg4)
      ∧ r.2.mem ((c.tc : Thread Cert.InDwRefIdeal.nD Cert.InDwRefIdeal.τ).loc Cert.InDwRefIdeal.main_arg5) = m ((c.tc : Thread Cert.InDwRefIdeal.nD Cert.InDwRefIdeal.τ).loc Cert.InDwRefIdeal.main_arg5))
      ∧ r.2.sem = fun _ => 0)

def quiescent_MmQkv [hMmQkv : Cert.MmQkv.Facts] : Prop :=
  ∀ (m : (ℓ : Loc Cert.MmQkv.nD Cert.MmQkv.τ Cert.MmQkv.sig) → Buf (Elt Bits) ℓ) (g : Dev Cert.MmQkv.nD → PrngReg), Pre_MmQkv m →
    θ_run (Cert.MmQkv.defs (F := Bits)) (onTc (τ := Cert.MmQkv.τ) (Cert.MmQkv.main (F := Bits))) ⟨m, fun _ => 0, g⟩ (fun r => (∀ c : Dev Cert.MmQkv.nD,
      r.2.mem ((c.tc : Thread Cert.MmQkv.nD Cert.MmQkv.τ).loc Cert.MmQkv.main_arg0) = m ((c.tc : Thread Cert.MmQkv.nD Cert.MmQkv.τ).loc Cert.MmQkv.main_arg0)
      ∧ r.2.mem ((c.tc : Thread Cert.MmQkv.nD Cert.MmQkv.τ).loc Cert.MmQkv.main_arg1) = m ((c.tc : Thread Cert.MmQkv.nD Cert.MmQkv.τ).loc Cert.MmQkv.main_arg1))
      ∧ r.2.sem = fun _ => 0)

def quiescent_MmQkvIdeal [hMmQkvIdeal : Cert.MmQkvIdeal.Facts] : Prop :=
  ∀ (m : (ℓ : Loc Cert.MmQkvIdeal.nD Cert.MmQkvIdeal.τ Cert.MmQkvIdeal.sig) → Buf (Elt Ideal) ℓ) (g : Dev Cert.MmQkvIdeal.nD → PrngReg), Pre_MmQkvIdeal m →
    θ_run (Cert.MmQkvIdeal.defs (F := Ideal)) (onTc (τ := Cert.MmQkvIdeal.τ) (Cert.MmQkvIdeal.main (F := Ideal))) ⟨m, fun _ => 0, g⟩ (fun r => (∀ c : Dev Cert.MmQkvIdeal.nD,
      r.2.mem ((c.tc : Thread Cert.MmQkvIdeal.nD Cert.MmQkvIdeal.τ).loc Cert.MmQkvIdeal.main_arg0) = m ((c.tc : Thread Cert.MmQkvIdeal.nD Cert.MmQkvIdeal.τ).loc Cert.MmQkvIdeal.main_arg0)
      ∧ r.2.mem ((c.tc : Thread Cert.MmQkvIdeal.nD Cert.MmQkvIdeal.τ).loc Cert.MmQkvIdeal.main_arg1) = m ((c.tc : Thread Cert.MmQkvIdeal.nD Cert.MmQkvIdeal.τ).loc Cert.MmQkvIdeal.main_arg1))
      ∧ r.2.sem = fun _ => 0)

def quiescent_MmQkvRefIdeal [hMmQkvRefIdeal : Cert.MmQkvRefIdeal.Facts] : Prop :=
  ∀ (m : (ℓ : Loc Cert.MmQkvRefIdeal.nD Cert.MmQkvRefIdeal.τ Cert.MmQkvRefIdeal.sig) → Buf (Elt Ideal) ℓ) (g : Dev Cert.MmQkvRefIdeal.nD → PrngReg), Pre_MmQkvRefIdeal m →
    θ_run (Cert.MmQkvRefIdeal.defs (F := Ideal)) (onTc (τ := Cert.MmQkvRefIdeal.τ) (Cert.MmQkvRefIdeal.main (F := Ideal))) ⟨m, fun _ => 0, g⟩ (fun r => (∀ c : Dev Cert.MmQkvRefIdeal.nD,
      r.2.mem ((c.tc : Thread Cert.MmQkvRefIdeal.nD Cert.MmQkvRefIdeal.τ).loc Cert.MmQkvRefIdeal.main_arg0) = m ((c.tc : Thread Cert.MmQkvRefIdeal.nD Cert.MmQkvRefIdeal.τ).loc Cert.MmQkvRefIdeal.main_arg0)
      ∧ r.2.mem ((c.tc : Thread Cert.MmQkvRefIdeal.nD Cert.MmQkvRefIdeal.τ).loc Cert.MmQkvRefIdeal.main_arg1) = m ((c.tc : Thread Cert.MmQkvRefIdeal.nD Cert.MmQkvRefIdeal.τ).loc Cert.MmQkvRefIdeal.main_arg1))
      ∧ r.2.sem = fun _ => 0)

def quiescent_MmAg [hMmAg : Cert.MmAg.Facts] : Prop :=
  ∀ (m : (ℓ : Loc Cert.MmAg.nD Cert.MmAg.τ Cert.MmAg.sig) → Buf (Elt Bits) ℓ) (g : Dev Cert.MmAg.nD → PrngReg), Pre_MmAg m →
    θ_run (Cert.MmAg.defs (F := Bits)) (onTc (τ := Cert.MmAg.τ) (Cert.MmAg.main (F := Bits))) ⟨m, fun _ => 0, g⟩ (fun r => (∀ c : Dev Cert.MmAg.nD,
      r.2.mem ((c.tc : Thread Cert.MmAg.nD Cert.MmAg.τ).loc Cert.MmAg.main_arg0) = m ((c.tc : Thread Cert.MmAg.nD Cert.MmAg.τ).loc Cert.MmAg.main_arg0)
      ∧ r.2.mem ((c.tc : Thread Cert.MmAg.nD Cert.MmAg.τ).loc Cert.MmAg.main_arg1) = m ((c.tc : Thread Cert.MmAg.nD Cert.MmAg.τ).loc Cert.MmAg.main_arg1))
      ∧ r.2.sem = fun _ => 0)

def quiescent_MmAgIdeal [hMmAgIdeal : Cert.MmAgIdeal.Facts] : Prop :=
  ∀ (m : (ℓ : Loc Cert.MmAgIdeal.nD Cert.MmAgIdeal.τ Cert.MmAgIdeal.sig) → Buf (Elt Ideal) ℓ) (g : Dev Cert.MmAgIdeal.nD → PrngReg), Pre_MmAgIdeal m →
    θ_run (Cert.MmAgIdeal.defs (F := Ideal)) (onTc (τ := Cert.MmAgIdeal.τ) (Cert.MmAgIdeal.main (F := Ideal))) ⟨m, fun _ => 0, g⟩ (fun r => (∀ c : Dev Cert.MmAgIdeal.nD,
      r.2.mem ((c.tc : Thread Cert.MmAgIdeal.nD Cert.MmAgIdeal.τ).loc Cert.MmAgIdeal.main_arg0) = m ((c.tc : Thread Cert.MmAgIdeal.nD Cert.MmAgIdeal.τ).loc Cert.MmAgIdeal.main_arg0)
      ∧ r.2.mem ((c.tc : Thread Cert.MmAgIdeal.nD Cert.MmAgIdeal.τ).loc Cert.MmAgIdeal.main_arg1) = m ((c.tc : Thread Cert.MmAgIdeal.nD Cert.MmAgIdeal.τ).loc Cert.MmAgIdeal.main_arg1))
      ∧ r.2.sem = fun _ => 0)

def quiescent_MmAgRefIdeal [hMmAgRefIdeal : Cert.MmAgRefIdeal.Facts] : Prop :=
  ∀ (m : (ℓ : Loc Cert.MmAgRefIdeal.nD Cert.MmAgRefIdeal.τ Cert.MmAgRefIdeal.sig) → Buf (Elt Ideal) ℓ) (g : Dev Cert.MmAgRefIdeal.nD → PrngReg), Pre_MmAgRefIdeal m →
    θ_run (Cert.MmAgRefIdeal.defs (F := Ideal)) (onTc (τ := Cert.MmAgRefIdeal.τ) (Cert.MmAgRefIdeal.main (F := Ideal))) ⟨m, fun _ => 0, g⟩ (fun r => (∀ c : Dev Cert.MmAgRefIdeal.nD,
      r.2.mem ((c.tc : Thread Cert.MmAgRefIdeal.nD Cert.MmAgRefIdeal.τ).loc Cert.MmAgRefIdeal.main_arg0) = m ((c.tc : Thread Cert.MmAgRefIdeal.nD Cert.MmAgRefIdeal.τ).loc Cert.MmAgRefIdeal.main_arg0)
      ∧ r.2.mem ((c.tc : Thread Cert.MmAgRefIdeal.nD Cert.MmAgRefIdeal.τ).loc Cert.MmAgRefIdeal.main_arg1) = m ((c.tc : Thread Cert.MmAgRefIdeal.nD Cert.MmAgRefIdeal.τ).loc Cert.MmAgRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_NormCtxBwd [hNormCtxBwd : Cert.NormCtxBwd.Facts] : Prop :=
  ∀ (m : (ℓ : Loc Cert.NormCtxBwd.nD Cert.NormCtxBwd.τ Cert.NormCtxBwd.sig) → Buf (Elt Bits) ℓ) (g : Dev Cert.NormCtxBwd.nD → PrngReg), Pre_NormCtxBwd m →
    θ_run (Cert.NormCtxBwd.defs (F := Bits)) (onTc (τ := Cert.NormCtxBwd.τ) (Cert.NormCtxBwd.main (F := Bits))) ⟨m, fun _ => 0, g⟩ (fun r => (∀ c : Dev Cert.NormCtxBwd.nD,
      r.2.mem ((c.tc : Thread Cert.NormCtxBwd.nD Cert.NormCtxBwd.τ).loc Cert.NormCtxBwd.main_arg0) = m ((c.tc : Thread Cert.NormCtxBwd.nD Cert.NormCtxBwd.τ).loc Cert.NormCtxBwd.main_arg0)
      ∧ r.2.mem ((c.tc : Thread Cert.NormCtxBwd.nD Cert.NormCtxBwd.τ).loc Cert.NormCtxBwd.main_arg1) = m ((c.tc : Thread Cert.NormCtxBwd.nD Cert.NormCtxBwd.τ).loc Cert.NormCtxBwd.main_arg1)
      ∧ r.2.mem ((c.tc : Thread Cert.NormCtxBwd.nD Cert.NormCtxBwd.τ).loc Cert.NormCtxBwd.main_arg2) = m ((c.tc : Thread Cert.NormCtxBwd.nD Cert.NormCtxBwd.τ).loc Cert.NormCtxBwd.main_arg2)
      ∧ r.2.mem ((c.tc : Thread Cert.NormCtxBwd.nD Cert.NormCtxBwd.τ).loc Cert.NormCtxBwd.main_arg3) = m ((c.tc : Thread Cert.NormCtxBwd.nD Cert.NormCtxBwd.τ).loc Cert.NormCtxBwd.main_arg3)
      ∧ r.2.mem ((c.tc : Thread Cert.NormCtxBwd.nD Cert.NormCtxBwd.τ).loc Cert.NormCtxBwd.main_arg4) = m ((c.tc : Thread Cert.NormCtxBwd.nD Cert.NormCtxBwd.τ).loc Cert.NormCtxBwd.main_arg4))
      ∧ r.2.sem = fun _ => 0)

def quiescent_NormCtxBwdIdeal [hNormCtxBwdIdeal : Cert.NormCtxBwdIdeal.Facts] : Prop :=
  ∀ (m : (ℓ : Loc Cert.NormCtxBwdIdeal.nD Cert.NormCtxBwdIdeal.τ Cert.NormCtxBwdIdeal.sig) → Buf (Elt Ideal) ℓ) (g : Dev Cert.NormCtxBwdIdeal.nD → PrngReg), Pre_NormCtxBwdIdeal m →
    θ_run (Cert.NormCtxBwdIdeal.defs (F := Ideal)) (onTc (τ := Cert.NormCtxBwdIdeal.τ) (Cert.NormCtxBwdIdeal.main (F := Ideal))) ⟨m, fun _ => 0, g⟩ (fun r => (∀ c : Dev Cert.NormCtxBwdIdeal.nD,
      r.2.mem ((c.tc : Thread Cert.NormCtxBwdIdeal.nD Cert.NormCtxBwdIdeal.τ).loc Cert.NormCtxBwdIdeal.main_arg0) = m ((c.tc : Thread Cert.NormCtxBwdIdeal.nD Cert.NormCtxBwdIdeal.τ).loc Cert.NormCtxBwdIdeal.main_arg0)
      ∧ r.2.mem ((c.tc : Thread Cert.NormCtxBwdIdeal.nD Cert.NormCtxBwdIdeal.τ).loc Cert.NormCtxBwdIdeal.main_arg1) = m ((c.tc : Thread Cert.NormCtxBwdIdeal.nD Cert.NormCtxBwdIdeal.τ).loc Cert.NormCtxBwdIdeal.main_arg1)
      ∧ r.2.mem ((c.tc : Thread Cert.NormCtxBwdIdeal.nD Cert.NormCtxBwdIdeal.τ).loc Cert.NormCtxBwdIdeal.main_arg2) = m ((c.tc : Thread Cert.NormCtxBwdIdeal.nD Cert.NormCtxBwdIdeal.τ).loc Cert.NormCtxBwdIdeal.main_arg2)
      ∧ r.2.mem ((c.tc : Thread Cert.NormCtxBwdIdeal.nD Cert.NormCtxBwdIdeal.τ).loc Cert.NormCtxBwdIdeal.main_arg3) = m ((c.tc : Thread Cert.NormCtxBwdIdeal.nD Cert.NormCtxBwdIdeal.τ).loc Cert.NormCtxBwdIdeal.main_arg3)
      ∧ r.2.mem ((c.tc : Thread Cert.NormCtxBwdIdeal.nD Cert.NormCtxBwdIdeal.τ).loc Cert.NormCtxBwdIdeal.main_arg4) = m ((c.tc : Thread Cert.NormCtxBwdIdeal.nD Cert.NormCtxBwdIdeal.τ).loc Cert.NormCtxBwdIdeal.main_arg4))
      ∧ r.2.sem = fun _ => 0)

def quiescent_NormCtxBwdRefIdeal [hNormCtxBwdRefIdeal : Cert.NormCtxBwdRefIdeal.Facts] : Prop :=
  ∀ (m : (ℓ : Loc Cert.NormCtxBwdRefIdeal.nD Cert.NormCtxBwdRefIdeal.τ Cert.NormCtxBwdRefIdeal.sig) → Buf (Elt Ideal) ℓ) (g : Dev Cert.NormCtxBwdRefIdeal.nD → PrngReg), Pre_NormCtxBwdRefIdeal m →
    θ_run (Cert.NormCtxBwdRefIdeal.defs (F := Ideal)) (onTc (τ := Cert.NormCtxBwdRefIdeal.τ) (Cert.NormCtxBwdRefIdeal.main (F := Ideal))) ⟨m, fun _ => 0, g⟩ (fun r => (∀ c : Dev Cert.NormCtxBwdRefIdeal.nD,
      r.2.mem ((c.tc : Thread Cert.NormCtxBwdRefIdeal.nD Cert.NormCtxBwdRefIdeal.τ).loc Cert.NormCtxBwdRefIdeal.main_arg0) = m ((c.tc : Thread Cert.NormCtxBwdRefIdeal.nD Cert.NormCtxBwdRefIdeal.τ).loc Cert.NormCtxBwdRefIdeal.main_arg0)
      ∧ r.2.mem ((c.tc : Thread Cert.NormCtxBwdRefIdeal.nD Cert.NormCtxBwdRefIdeal.τ).loc Cert.NormCtxBwdRefIdeal.main_arg1) = m ((c.tc : Thread Cert.NormCtxBwdRefIdeal.nD Cert.NormCtxBwdRefIdeal.τ).loc Cert.NormCtxBwdRefIdeal.main_arg1)
      ∧ r.2.mem ((c.tc : Thread Cert.NormCtxBwdRefIdeal.nD Cert.NormCtxBwdRefIdeal.τ).loc Cert.NormCtxBwdRefIdeal.main_arg2) = m ((c.tc : Thread Cert.NormCtxBwdRefIdeal.nD Cert.NormCtxBwdRefIdeal.τ).loc Cert.NormCtxBwdRefIdeal.main_arg2)
      ∧ r.2.mem ((c.tc : Thread Cert.NormCtxBwdRefIdeal.nD Cert.NormCtxBwdRefIdeal.τ).loc Cert.NormCtxBwdRefIdeal.main_arg3) = m ((c.tc : Thread Cert.NormCtxBwdRefIdeal.nD Cert.NormCtxBwdRefIdeal.τ).loc Cert.NormCtxBwdRefIdeal.main_arg3)
      ∧ r.2.mem ((c.tc : Thread Cert.NormCtxBwdRefIdeal.nD Cert.NormCtxBwdRefIdeal.τ).loc Cert.NormCtxBwdRefIdeal.main_arg4) = m ((c.tc : Thread Cert.NormCtxBwdRefIdeal.nD Cert.NormCtxBwdRefIdeal.τ).loc Cert.NormCtxBwdRefIdeal.main_arg4))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5)
      ∧ r.2.mem ((c.tc : Thread Cert.Norm2BwdRefIdeal.nD Cert.Norm2BwdRefIdeal.τ).loc Cert.Norm2BwdRefIdeal.main_arg6) = m ((c.tc : Thread Cert.Norm2BwdRefIdeal.nD Cert.Norm2BwdRefIdeal.τ).loc Cert.Norm2BwdRefIdeal.main_arg6)
      ∧ r.2.mem ((c.tc : Thread Cert.Norm2BwdRefIdeal.nD Cert.Norm2BwdRefIdeal.τ).loc Cert.Norm2BwdRefIdeal.main_arg7) = m ((c.tc : Thread Cert.Norm2BwdRefIdeal.nD Cert.Norm2BwdRefIdeal.τ).loc Cert.Norm2BwdRefIdeal.main_arg7))
      ∧ r.2.sem = fun _ => 0)

def quiescent_Norm2Fwd [hNorm2Fwd : Cert.Norm2Fwd.Facts] : Prop :=
  ∀ (m : (ℓ : Loc Cert.Norm2Fwd.nD Cert.Norm2Fwd.τ Cert.Norm2Fwd.sig) → Buf (Elt Bits) ℓ) (g : Dev Cert.Norm2Fwd.nD → PrngReg), Pre_Norm2Fwd m →
    θ_run (Cert.Norm2Fwd.defs (F := Bits)) (onTc (τ := Cert.Norm2Fwd.τ) (Cert.Norm2Fwd.main (F := Bits))) ⟨m, fun _ => 0, g⟩ (fun r => (∀ c : Dev Cert.Norm2Fwd.nD,
      r.2.mem ((c.tc : Thread Cert.Norm2Fwd.nD Cert.Norm2Fwd.τ).loc Cert.Norm2Fwd.main_arg0) = m ((c.tc : Thread Cert.Norm2Fwd.nD Cert.Norm2Fwd.τ).loc Cert.Norm2Fwd.main_arg0)
      ∧ r.2.mem ((c.tc : Thread Cert.Norm2Fwd.nD Cert.Norm2Fwd.τ).loc Cert.Norm2Fwd.main_arg1) = m ((c.tc : Thread Cert.Norm2Fwd.nD Cert.Norm2Fwd.τ).loc Cert.Norm2Fwd.main_arg1)
      ∧ r.2.mem ((c.tc : Thread Cert.Norm2Fwd.nD Cert.Norm2Fwd.τ).loc Cert.Norm2Fwd.main_arg2) = m ((c.tc : Thread Cert.Norm2Fwd.nD Cert.Norm2Fwd.τ).loc Cert.Norm2Fwd.main_arg2)
      ∧ r.2.mem ((c.tc : Thread Cert.Norm2Fwd.nD Cert.Norm2Fwd.τ).loc Cert.Norm2Fwd.main_arg3) = m ((c.tc : Thread Cert.Norm2Fwd.nD Cert.Norm2Fwd.τ).loc Cert.Norm2Fwd.main_arg3)
      ∧ r.2.mem ((c.tc : Thread Cert.Norm2Fwd.nD Cert.Norm2Fwd.τ).loc Cert.Norm2Fwd.main_arg4) = m ((c.tc : Thread Cert.Norm2Fwd.nD Cert.Norm2Fwd.τ).loc Cert.Norm2Fwd.main_arg4)
      ∧ r.2.mem ((c.tc : Thread Cert.Norm2Fwd.nD Cert.Norm2Fwd.τ).loc Cert.Norm2Fwd.main_arg5) = m ((c.tc : Thread Cert.Norm2Fwd.nD Cert.Norm2Fwd.τ).loc Cert.Norm2Fwd.main_arg5))
      ∧ r.2.sem = fun _ => 0)

def quiescent_Norm2FwdIdeal [hNorm2FwdIdeal : Cert.Norm2FwdIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg), Pre_Norm2FwdIdeal m →
    θ_run (Cert.Norm2FwdIdeal.defs (F := Ideal)) (onTc (τ := Cert.Norm2FwdIdeal.τ) (Cert.Norm2FwdIdeal.main (F := Ideal))) ⟨m, fun _ => 0, g⟩ (fun r => (∀ c : Dev Cert.Norm2FwdIdeal.nD,
      r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
      ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
      ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2)
      ∧ r.2.mem ((c.tc : Thread Cert.Norm2FwdIdeal.nD Cert.Norm2FwdIdeal.τ).loc Cert.Norm2FwdIdeal.main_arg3) = m ((c.tc : Thread Cert.Norm2FwdIdeal.nD Cert.Norm2FwdIdeal.τ).loc Cert.Norm2FwdIdeal.main_arg3)
      ∧ r.2.mem ((c.tc : Thread Cert.Norm2FwdIdeal.nD Cert.Norm2FwdIdeal.τ).loc Cert.Norm2FwdIdeal.main_arg4) = m ((c.tc : Thread Cert.Norm2FwdIdeal.nD Cert.Norm2FwdIdeal.τ).loc Cert.Norm2FwdIdeal.main_arg4)
      ∧ r.2.mem ((c.tc : Thread Cert.Norm2FwdIdeal.nD Cert.Norm2FwdIdeal.τ).loc Cert.Norm2FwdIdeal.main_arg5) = m ((c.tc : Thread Cert.Norm2FwdIdeal.nD Cert.Norm2FwdIdeal.τ).loc Cert.Norm2FwdIdeal.main_arg5))
      ∧ r.2.sem = fun _ => 0)

def quiescent_Norm2FwdRefIdeal [hNorm2FwdRefIdeal : Cert.Norm2FwdRefIdeal.Facts] : Prop :=
  ∀ (m : (ℓ : Loc Cert.Norm2FwdRefIdeal.nD Cert.Norm2FwdRefIdeal.τ Cert.Norm2FwdRefIdeal.sig) → Buf (Elt Ideal) ℓ) (g : Dev Cert.Norm2FwdRefIdeal.nD → PrngReg), Pre_Norm2FwdRefIdeal m →
    θ_run (Cert.Norm2FwdRefIdeal.defs (F := Ideal)) (onTc (τ := Cert.Norm2FwdRefIdeal.τ) (Cert.Norm2FwdRefIdeal.main (F := Ideal))) ⟨m, fun _ => 0, g⟩ (fun r => (∀ c : Dev Cert.Norm2FwdRefIdeal.nD,
      r.2.mem ((c.tc : Thread Cert.Norm2FwdRefIdeal.nD Cert.Norm2FwdRefIdeal.τ).loc Cert.Norm2FwdRefIdeal.main_arg0) = m ((c.tc : Thread Cert.Norm2FwdRefIdeal.nD Cert.Norm2FwdRefIdeal.τ).loc Cert.Norm2FwdRefIdeal.main_arg0)
      ∧ r.2.mem ((c.tc : Thread Cert.Norm2FwdRefIdeal.nD Cert.Norm2FwdRefIdeal.τ).loc Cert.Norm2FwdRefIdeal.main_arg1) = m ((c.tc : Thread Cert.Norm2FwdRefIdeal.nD Cert.Norm2FwdRefIdeal.τ).loc Cert.Norm2FwdRefIdeal.main_arg1)
      ∧ r.2.mem ((c.tc : Thread Cert.Norm2FwdRefIdeal.nD Cert.Norm2FwdRefIdeal.τ).loc Cert.Norm2FwdRefIdeal.main_arg2) = m ((c.tc : Thread Cert.Norm2FwdRefIdeal.nD Cert.Norm2FwdRefIdeal.τ).loc Cert.Norm2FwdRefIdeal.main_arg2)
      ∧ r.2.mem ((c.tc : Thread Cert.Norm2FwdRefIdeal.nD Cert.Norm2FwdRefIdeal.τ).loc Cert.Norm2FwdRefIdeal.main_arg3) = m ((c.tc : Thread Cert.Norm2FwdRefIdeal.nD Cert.Norm2FwdRefIdeal.τ).loc Cert.Norm2FwdRefIdeal.main_arg3)
      ∧ r.2.mem ((c.tc : Thread Cert.Norm2FwdRefIdeal.nD Cert.Norm2FwdRefIdeal.τ).loc Cert.Norm2FwdRefIdeal.main_arg4) = m ((c.tc : Thread Cert.Norm2FwdRefIdeal.nD Cert.Norm2FwdRefIdeal.τ).loc Cert.Norm2FwdRefIdeal.main_arg4)
      ∧ r.2.mem ((c.tc : Thread Cert.Norm2FwdRefIdeal.nD Cert.Norm2FwdRefIdeal.τ).loc Cert.Norm2FwdRefIdeal.main_arg5) = m ((c.tc : Thread Cert.Norm2FwdRefIdeal.nD Cert.Norm2FwdRefIdeal.τ).loc Cert.Norm2FwdRefIdeal.main_arg5))
      ∧ r.2.sem = fun _ => 0)

def quiescent_Norm1Fwd [hNorm1Fwd : Cert.Norm1Fwd.Facts] : Prop :=
  ∀ (m : (ℓ : Loc Cert.Norm1Fwd.nD Cert.Norm1Fwd.τ Cert.Norm1Fwd.sig) → Buf (Elt Bits) ℓ) (g : Dev Cert.Norm1Fwd.nD → PrngReg), Pre_Norm1Fwd m →
    θ_run (Cert.Norm1Fwd.defs (F := Bits)) (onTc (τ := Cert.Norm1Fwd.τ) (Cert.Norm1Fwd.main (F := Bits))) ⟨m, fun _ => 0, g⟩ (fun r => (∀ c : Dev Cert.Norm1Fwd.nD,
      r.2.mem ((c.tc : Thread Cert.Norm1Fwd.nD Cert.Norm1Fwd.τ).loc Cert.Norm1Fwd.main_arg0) = m ((c.tc : Thread Cert.Norm1Fwd.nD Cert.Norm1Fwd.τ).loc Cert.Norm1Fwd.main_arg0)
      ∧ r.2.mem ((c.tc : Thread Cert.Norm1Fwd.nD Cert.Norm1Fwd.τ).loc Cert.Norm1Fwd.main_arg1) = m ((c.tc : Thread Cert.Norm1Fwd.nD Cert.Norm1Fwd.τ).loc Cert.Norm1Fwd.main_arg1)
      ∧ r.2.mem ((c.tc : Thread Cert.Norm1Fwd.nD Cert.Norm1Fwd.τ).loc Cert.Norm1Fwd.main_arg2) = m ((c.tc : Thread Cert.Norm1Fwd.nD Cert.Norm1Fwd.τ).loc Cert.Norm1Fwd.main_arg2)
      ∧ r.2.mem ((c.tc : Thread Cert.Norm1Fwd.nD Cert.Norm1Fwd.τ).loc Cert.Norm1Fwd.main_arg3) = m ((c.tc : Thread Cert.Norm1Fwd.nD Cert.Norm1Fwd.τ).loc Cert.Norm1Fwd.main_arg3)
      ∧ r.2.mem ((c.tc : Thread Cert.Norm1Fwd.nD Cert.Norm1Fwd.τ).loc Cert.Norm1Fwd.main_arg4) = m ((c.tc : Thread Cert.Norm1Fwd.nD Cert.Norm1Fwd.τ).loc Cert.Norm1Fwd.main_arg4)
      ∧ r.2.mem ((c.tc : Thread Cert.Norm1Fwd.nD Cert.Norm1Fwd.τ).loc Cert.Norm1Fwd.main_arg5) = m ((c.tc : Thread Cert.Norm1Fwd.nD Cert.Norm1Fwd.τ).loc Cert.Norm1Fwd.main_arg5)
      ∧ r.2.mem ((c.tc : Thread Cert.Norm1Fwd.nD Cert.Norm1Fwd.τ).loc Cert.Norm1Fwd.main_arg6) = m ((c.tc : Thread Cert.Norm1Fwd.nD Cert.Norm1Fwd.τ).loc Cert.Norm1Fwd.main_arg6))
      ∧ r.2.sem = fun _ => 0)

def quiescent_Norm1FwdIdeal [hNorm1FwdIdeal : Cert.Norm1FwdIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg), Pre_Norm1FwdIdeal m →
    θ_run (Cert.Norm1FwdIdeal.defs (F := Ideal)) (onTc (τ := Cert.Norm1FwdIdeal.τ) (Cert.Norm1FwdIdeal.main (F := Ideal))) ⟨m, fun _ => 0, g⟩ (fun r => (∀ c : Dev Cert.Norm1FwdIdeal.nD,
      r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
      ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1)
      ∧ r.2.mem ((c.tc : Thread Cert.Norm1FwdIdeal.nD Cert.Norm1FwdIdeal.τ).loc Cert.Norm1FwdIdeal.main_arg2) = m ((c.tc : Thread Cert.Norm1FwdIdeal.nD Cert.Norm1FwdIdeal.τ).loc Cert.Norm1FwdIdeal.main_arg2)
      ∧ r.2.mem ((c.tc : Thread Cert.Norm1FwdIdeal.nD Cert.Norm1FwdIdeal.τ).loc Cert.Norm1FwdIdeal.main_arg3) = m ((c.tc : Thread Cert.Norm1FwdIdeal.nD Cert.Norm1FwdIdeal.τ).loc Cert.Norm1FwdIdeal.main_arg3)
      ∧ r.2.mem ((c.tc : Thread Cert.Norm1FwdIdeal.nD Cert.Norm1FwdIdeal.τ).loc Cert.Norm1FwdIdeal.main_arg4) = m ((c.tc : Thread Cert.Norm1FwdIdeal.nD Cert.Norm1FwdIdeal.τ).loc Cert.Norm1FwdIdeal.main_arg4)
      ∧ r.2.mem ((c.tc : Thread Cert.Norm1FwdIdeal.nD Cert.Norm1FwdIdeal.τ).loc Cert.Norm1FwdIdeal.main_arg5) = m ((c.tc : Thread Cert.Norm1FwdIdeal.nD Cert.Norm1FwdIdeal.τ).loc Cert.Norm1FwdIdeal.main_arg5)
      ∧ r.2.mem ((c.tc : Thread Cert.Norm1FwdIdeal.nD Cert.Norm1FwdIdeal.τ).loc Cert.Norm1FwdIdeal.main_arg6) = m ((c.tc : Thread Cert.Norm1FwdIdeal.nD Cert.Norm1FwdIdeal.τ).loc Cert.Norm1FwdIdeal.main_arg6))
      ∧ r.2.sem = fun _ => 0)

def quiescent_Norm1FwdRefIdeal [hNorm1FwdRefIdeal : Cert.Norm1FwdRefIdeal.Facts] : Prop :=
  ∀ (m : (ℓ : Loc Cert.Norm1FwdRefIdeal.nD Cert.Norm1FwdRefIdeal.τ Cert.Norm1FwdRefIdeal.sig) → Buf (Elt Ideal) ℓ) (g : Dev Cert.Norm1FwdRefIdeal.nD → PrngReg), Pre_Norm1FwdRefIdeal m →
    θ_run (Cert.Norm1FwdRefIdeal.defs (F := Ideal)) (onTc (τ := Cert.Norm1FwdRefIdeal.τ) (Cert.Norm1FwdRefIdeal.main (F := Ideal))) ⟨m, fun _ => 0, g⟩ (fun r => (∀ c : Dev Cert.Norm1FwdRefIdeal.nD,
      r.2.mem ((c.tc : Thread Cert.Norm1FwdRefIdeal.nD Cert.Norm1FwdRefIdeal.τ).loc Cert.Norm1FwdRefIdeal.main_arg0) = m ((c.tc : Thread Cert.Norm1FwdRefIdeal.nD Cert.Norm1FwdRefIdeal.τ).loc Cert.Norm1FwdRefIdeal.main_arg0)
      ∧ r.2.mem ((c.tc : Thread Cert.Norm1FwdRefIdeal.nD Cert.Norm1FwdRefIdeal.τ).loc Cert.Norm1FwdRefIdeal.main_arg1) = m ((c.tc : Thread Cert.Norm1FwdRefIdeal.nD Cert.Norm1FwdRefIdeal.τ).loc Cert.Norm1FwdRefIdeal.main_arg1)
      ∧ r.2.mem ((c.tc : Thread Cert.Norm1FwdRefIdeal.nD Cert.Norm1FwdRefIdeal.τ).loc Cert.Norm1FwdRefIdeal.main_arg2) = m ((c.tc : Thread Cert.Norm1FwdRefIdeal.nD Cert.Norm1FwdRefIdeal.τ).loc Cert.Norm1FwdRefIdeal.main_arg2)
      ∧ r.2.mem ((c.tc : Thread Cert.Norm1FwdRefIdeal.nD Cert.Norm1FwdRefIdeal.τ).loc Cert.Norm1FwdRefIdeal.main_arg3) = m ((c.tc : Thread Cert.Norm1FwdRefIdeal.nD Cert.Norm1FwdRefIdeal.τ).loc Cert.Norm1FwdRefIdeal.main_arg3)
      ∧ r.2.mem ((c.tc : Thread Cert.Norm1FwdRefIdeal.nD Cert.Norm1FwdRefIdeal.τ).loc Cert.Norm1FwdRefIdeal.main_arg4) = m ((c.tc : Thread Cert.Norm1FwdRefIdeal.nD Cert.Norm1FwdRefIdeal.τ).loc Cert.Norm1FwdRefIdeal.main_arg4)
      ∧ r.2.mem ((c.tc : Thread Cert.Norm1FwdRefIdeal.nD Cert.Norm1FwdRefIdeal.τ).loc Cert.Norm1FwdRefIdeal.main_arg5) = m ((c.tc : Thread Cert.Norm1FwdRefIdeal.nD Cert.Norm1FwdRefIdeal.τ).loc Cert.Norm1FwdRefIdeal.main_arg5)
      ∧ r.2.mem ((c.tc : Thread Cert.Norm1FwdRefIdeal.nD Cert.Norm1FwdRefIdeal.τ).loc Cert.Norm1FwdRefIdeal.main_arg6) = m ((c.tc : Thread Cert.Norm1FwdRefIdeal.nD Cert.Norm1FwdRefIdeal.τ).loc Cert.Norm1FwdRefIdeal.main_arg6))
      ∧ r.2.sem = fun _ => 0)

def quiescent_NormLoss [hNormLoss : Cert.NormLoss.Facts] : Prop :=
  ∀ (m : (ℓ : Loc Cert.NormLoss.nD Cert.NormLoss.τ Cert.NormLoss.sig) → Buf (Elt Bits) ℓ) (g : Dev Cert.NormLoss.nD → PrngReg), Pre_NormLoss m →
    θ_run (Cert.NormLoss.defs (F := Bits)) (onTc (τ := Cert.NormLoss.τ) (Cert.NormLoss.main (F := Bits))) ⟨m, fun _ => 0, g⟩ (fun r => (∀ c : Dev Cert.NormLoss.nD,
      r.2.mem ((c.tc : Thread Cert.NormLoss.nD Cert.NormLoss.τ).loc Cert.NormLoss.main_arg0) = m ((c.tc : Thread Cert.NormLoss.nD Cert.NormLoss.τ).loc Cert.NormLoss.main_arg0)
      ∧ r.2.mem ((c.tc : Thread Cert.NormLoss.nD Cert.NormLoss.τ).loc Cert.NormLoss.main_arg1) = m ((c.tc : Thread Cert.NormLoss.nD Cert.NormLoss.τ).loc Cert.NormLoss.main_arg1)
      ∧ r.2.mem ((c.tc : Thread Cert.NormLoss.nD Cert.NormLoss.τ).loc Cert.NormLoss.main_arg2) = m ((c.tc : Thread Cert.NormLoss.nD Cert.NormLoss.τ).loc Cert.NormLoss.main_arg2)
      ∧ r.2.mem ((c.tc : Thread Cert.NormLoss.nD Cert.NormLoss.τ).loc Cert.NormLoss.main_arg3) = m ((c.tc : Thread Cert.NormLoss.nD Cert.NormLoss.τ).loc Cert.NormLoss.main_arg3)
      ∧ r.2.mem ((c.tc : Thread Cert.NormLoss.nD Cert.NormLoss.τ).loc Cert.NormLoss.main_arg4) = m ((c.tc : Thread Cert.NormLoss.nD Cert.NormLoss.τ).loc Cert.NormLoss.main_arg4))
      ∧ r.2.sem = fun _ => 0)

def quiescent_NormLossIdeal [hNormLossIdeal : Cert.NormLossIdeal.Facts] : Prop :=
  ∀ (m : (ℓ : Loc Cert.NormLossIdeal.nD Cert.NormLossIdeal.τ Cert.NormLossIdeal.sig) → Buf (Elt Ideal) ℓ) (g : Dev Cert.NormLossIdeal.nD → PrngReg), Pre_NormLossIdeal m →
    θ_run (Cert.NormLossIdeal.defs (F := Ideal)) (onTc (τ := Cert.NormLossIdeal.τ) (Cert.NormLossIdeal.main (F := Ideal))) ⟨m, fun _ => 0, g⟩ (fun r => (∀ c : Dev Cert.NormLossIdeal.nD,
      r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
      ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
      ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
      ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3)
      ∧ r.2.mem ((c.tc : Thread Cert.NormLossIdeal.nD Cert.NormLossIdeal.τ).loc Cert.NormLossIdeal.main_arg4) = m ((c.tc : Thread Cert.NormLossIdeal.nD Cert.NormLossIdeal.τ).loc Cert.NormLossIdeal.main_arg4))
      ∧ r.2.sem = fun _ => 0)

def quiescent_NormLossRefIdeal [hNormLossRefIdeal : Cert.NormLossRefIdeal.Facts] : Prop :=
  ∀ (m : (ℓ : Loc Cert.NormLossRefIdeal.nD Cert.NormLossRefIdeal.τ Cert.NormLossRefIdeal.sig) → Buf (Elt Ideal) ℓ) (g : Dev Cert.NormLossRefIdeal.nD → PrngReg), Pre_NormLossRefIdeal m →
    θ_run (Cert.NormLossRefIdeal.defs (F := Ideal)) (onTc (τ := Cert.NormLossRefIdeal.τ) (Cert.NormLossRefIdeal.main (F := Ideal))) ⟨m, fun _ => 0, g⟩ (fun r => (∀ c : Dev Cert.NormLossRefIdeal.nD,
      r.2.mem ((c.tc : Thread Cert.NormLossRefIdeal.nD Cert.NormLossRefIdeal.τ).loc Cert.NormLossRefIdeal.main_arg0) = m ((c.tc : Thread Cert.NormLossRefIdeal.nD Cert.NormLossRefIdeal.τ).loc Cert.NormLossRefIdeal.main_arg0)
      ∧ r.2.mem ((c.tc : Thread Cert.NormLossRefIdeal.nD Cert.NormLossRefIdeal.τ).loc Cert.NormLossRefIdeal.main_arg1) = m ((c.tc : Thread Cert.NormLossRefIdeal.nD Cert.NormLossRefIdeal.τ).loc Cert.NormLossRefIdeal.main_arg1)
      ∧ r.2.mem ((c.tc : Thread Cert.NormLossRefIdeal.nD Cert.NormLossRefIdeal.τ).loc Cert.NormLossRefIdeal.main_arg2) = m ((c.tc : Thread Cert.NormLossRefIdeal.nD Cert.NormLossRefIdeal.τ).loc Cert.NormLossRefIdeal.main_arg2)
      ∧ r.2.mem ((c.tc : Thread Cert.NormLossRefIdeal.nD Cert.NormLossRefIdeal.τ).loc Cert.NormLossRefIdeal.main_arg3) = m ((c.tc : Thread Cert.NormLossRefIdeal.nD Cert.NormLossRefIdeal.τ).loc Cert.NormLossRefIdeal.main_arg3)
      ∧ r.2.mem ((c.tc : Thread Cert.NormLossRefIdeal.nD Cert.NormLossRefIdeal.τ).loc Cert.NormLossRefIdeal.main_arg4) = m ((c.tc : Thread Cert.NormLossRefIdeal.nD Cert.NormLossRefIdeal.τ).loc Cert.NormLossRefIdeal.main_arg4))
      ∧ r.2.sem = fun _ => 0)

def preserves_Kernel_KernelIdeal : Prop :=
  IdealRules.named_const.Statement Cert.KernelIdeal.κ "mask" .f32 0xF149F2CA#32 ⊥

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_UpDwGate_UpDwGateIdeal : Prop :=
  True

def algebraic_UpDwGateIdeal_UpDwGateRefIdeal [hUpDwGateIdeal : Cert.UpDwGateIdeal.Facts] [hUpDwGateRefIdeal : Cert.UpDwGateRefIdeal.Facts] : Prop :=
  ∀ (m : (ℓ : Loc Cert.UpDwGateIdeal.nD Cert.UpDwGateIdeal.τ Cert.UpDwGateIdeal.sig) → Buf (Elt Ideal) ℓ) (g : Dev Cert.UpDwGateIdeal.nD → PrngReg)
    (m' : (ℓ : Loc Cert.UpDwGateRefIdeal.nD Cert.UpDwGateRefIdeal.τ Cert.UpDwGateRefIdeal.sig) → Buf (Elt Ideal) ℓ) (g' : Dev Cert.UpDwGateRefIdeal.nD → PrngReg), Pre_UpDwGateIdeal m →
    (∀ c : Dev Cert.UpDwGateIdeal.nD,
      m' ((c.tc : Thread Cert.UpDwGateRefIdeal.nD Cert.UpDwGateRefIdeal.τ).loc Cert.UpDwGateRefIdeal.main_arg0) = m ((c.tc : Thread Cert.UpDwGateIdeal.nD Cert.UpDwGateIdeal.τ).loc Cert.UpDwGateIdeal.main_arg0)
      ∧ m' ((c.tc : Thread Cert.UpDwGateRefIdeal.nD Cert.UpDwGateRefIdeal.τ).loc Cert.UpDwGateRefIdeal.main_arg1) = m ((c.tc : Thread Cert.UpDwGateIdeal.nD Cert.UpDwGateIdeal.τ).loc Cert.UpDwGateIdeal.main_arg1)) →
    ∃ (v0 : (c : Dev Cert.UpDwGateIdeal.nD) → Buf (Elt Ideal) ((c.tc : Thread Cert.UpDwGateIdeal.nD Cert.UpDwGateIdeal.τ).loc Cert.UpDwGateIdeal.main_v1)),
      θ_run (Cert.UpDwGateIdeal.defs (F := Ideal)) (onTc (τ := Cert.UpDwGateIdeal.τ) (Cert.UpDwGateIdeal.main (F := Ideal))) ⟨m, fun _ => 0, g⟩ (fun r => ∀ c : Dev Cert.UpDwGateIdeal.nD,
          r.2.mem ((c.tc : Thread Cert.UpDwGateIdeal.nD Cert.UpDwGateIdeal.τ).loc Cert.UpDwGateIdeal.main_v1) = v0 c
          ∧ r.2.mem ((c.tc : Thread Cert.UpDwGateIdeal.nD Cert.UpDwGateIdeal.τ).loc Cert.UpDwGateIdeal.main_arg0) = m ((c.tc : Thread Cert.UpDwGateIdeal.nD Cert.UpDwGateIdeal.τ).loc Cert.UpDwGateIdeal.main_arg0)
          ∧ r.2.mem ((c.tc : Thread Cert.UpDwGateIdeal.nD Cert.UpDwGateIdeal.τ).loc Cert.UpDwGateIdeal.main_arg1) = m ((c.tc : Thread Cert.UpDwGateIdeal.nD Cert.UpDwGateIdeal.τ).loc Cert.UpDwGateIdeal.main_arg1))
      ∧ θ_run (Cert.UpDwGateRefIdeal.defs (F := Ideal)) (onTc (τ := Cert.UpDwGateRefIdeal.τ) (Cert.UpDwGateRefIdeal.main (F := Ideal))) ⟨m', fun _ => 0, g'⟩ (fun r => ∀ c : Dev Cert.UpDwGateRefIdeal.nD,
          r.2.mem ((c.tc : Thread Cert.UpDwGateRefIdeal.nD Cert.UpDwGateRefIdeal.τ).loc Cert.UpDwGateRefIdeal.main_v5) = v0 c
          ∧ r.2.mem ((c.tc : Thread Cert.UpDwGateRefIdeal.nD Cert.UpDwGateRefIdeal.τ).loc Cert.UpDwGateRefIdeal.main_arg0) = m' ((c.tc : Thread Cert.UpDwGateRefIdeal.nD Cert.UpDwGateRefIdeal.τ).loc Cert.UpDwGateRefIdeal.main_arg0)
          ∧ r.2.mem ((c.tc : Thread Cert.UpDwGateRefIdeal.nD Cert.UpDwGateRefIdeal.τ).loc Cert.UpDwGateRefIdeal.main_arg1) = m' ((c.tc : Thread Cert.UpDwGateRefIdeal.nD Cert.UpDwGateRefIdeal.τ).loc Cert.UpDwGateRefIdeal.main_arg1))

def preserves_UpDwVal_UpDwValIdeal : Prop :=
  True

def algebraic_UpDwValIdeal_UpDwValRefIdeal [hUpDwValIdeal : Cert.UpDwValIdeal.Facts] [hUpDwValRefIdeal : Cert.UpDwValRefIdeal.Facts] : Prop :=
  ∀ (m : (ℓ : Loc Cert.UpDwValIdeal.nD Cert.UpDwValIdeal.τ Cert.UpDwValIdeal.sig) → Buf (Elt Ideal) ℓ) (g : Dev Cert.UpDwValIdeal.nD → PrngReg)
    (m' : (ℓ : Loc Cert.UpDwValRefIdeal.nD Cert.UpDwValRefIdeal.τ Cert.UpDwValRefIdeal.sig) → Buf (Elt Ideal) ℓ) (g' : Dev Cert.UpDwValRefIdeal.nD → PrngReg), Pre_UpDwValIdeal m →
    (∀ c : Dev Cert.UpDwValIdeal.nD,
      m' ((c.tc : Thread Cert.UpDwValRefIdeal.nD Cert.UpDwValRefIdeal.τ).loc Cert.UpDwValRefIdeal.main_arg0) = m ((c.tc : Thread Cert.UpDwValIdeal.nD Cert.UpDwValIdeal.τ).loc Cert.UpDwValIdeal.main_arg0)
      ∧ m' ((c.tc : Thread Cert.UpDwValRefIdeal.nD Cert.UpDwValRefIdeal.τ).loc Cert.UpDwValRefIdeal.main_arg1) = m ((c.tc : Thread Cert.UpDwValIdeal.nD Cert.UpDwValIdeal.τ).loc Cert.UpDwValIdeal.main_arg1)
      ∧ m' ((c.tc : Thread Cert.UpDwValRefIdeal.nD Cert.UpDwValRefIdeal.τ).loc Cert.UpDwValRefIdeal.main_arg2) = m ((c.tc : Thread Cert.UpDwValIdeal.nD Cert.UpDwValIdeal.τ).loc Cert.UpDwValIdeal.main_arg2)) →
    ∃ (v0 : (c : Dev Cert.UpDwValIdeal.nD) → Buf (Elt Ideal) ((c.tc : Thread Cert.UpDwValIdeal.nD Cert.UpDwValIdeal.τ).loc Cert.UpDwValIdeal.main_v0)),
      θ_run (Cert.UpDwValIdeal.defs (F := Ideal)) (onTc (τ := Cert.UpDwValIdeal.τ) (Cert.UpDwValIdeal.main (F := Ideal))) ⟨m, fun _ => 0, g⟩ (fun r => ∀ c : Dev Cert.UpDwValIdeal.nD,
          r.2.mem ((c.tc : Thread Cert.UpDwValIdeal.nD Cert.UpDwValIdeal.τ).loc Cert.UpDwValIdeal.main_v0) = v0 c
          ∧ r.2.mem ((c.tc : Thread Cert.UpDwValIdeal.nD Cert.UpDwValIdeal.τ).loc Cert.UpDwValIdeal.main_arg0) = m ((c.tc : Thread Cert.UpDwValIdeal.nD Cert.UpDwValIdeal.τ).loc Cert.UpDwValIdeal.main_arg0)
          ∧ r.2.mem ((c.tc : Thread Cert.UpDwValIdeal.nD Cert.UpDwValIdeal.τ).loc Cert.UpDwValIdeal.main_arg1) = m ((c.tc : Thread Cert.UpDwValIdeal.nD Cert.UpDwValIdeal.τ).loc Cert.UpDwValIdeal.main_arg1)
          ∧ r.2.mem ((c.tc : Thread Cert.UpDwValIdeal.nD Cert.UpDwValIdeal.τ).loc Cert.UpDwValIdeal.main_arg2) = m ((c.tc : Thread Cert.UpDwValIdeal.nD Cert.UpDwValIdeal.τ).loc Cert.UpDwValIdeal.main_arg2))
      ∧ θ_run (Cert.UpDwValRefIdeal.defs (F := Ideal)) (onTc (τ := Cert.UpDwValRefIdeal.τ) (Cert.UpDwValRefIdeal.main (F := Ideal))) ⟨m', fun _ => 0, g'⟩ (fun r => ∀ c : Dev Cert.UpDwValRefIdeal.nD,
          r.2.mem ((c.tc : Thread Cert.UpDwValRefIdeal.nD Cert.UpDwValRefIdeal.τ).loc Cert.UpDwValRefIdeal.main_v7) = v0 c
          ∧ r.2.mem ((c.tc : Thread Cert.UpDwValRefIdeal.nD Cert.UpDwValRefIdeal.τ).loc Cert.UpDwValRefIdeal.main_arg0) = m' ((c.tc : Thread Cert.UpDwValRefIdeal.nD Cert.UpDwValRefIdeal.τ).loc Cert.UpDwValRefIdeal.main_arg0)
          ∧ r.2.mem ((c.tc : Thread Cert.UpDwValRefIdeal.nD Cert.UpDwValRefIdeal.τ).loc Cert.UpDwValRefIdeal.main_arg1) = m' ((c.tc : Thread Cert.UpDwValRefIdeal.nD Cert.UpDwValRefIdeal.τ).loc Cert.UpDwValRefIdeal.main_arg1)
          ∧ r.2.mem ((c.tc : Thread Cert.UpDwValRefIdeal.nD Cert.UpDwValRefIdeal.τ).loc Cert.UpDwValRefIdeal.main_arg2) = m' ((c.tc : Thread Cert.UpDwValRefIdeal.nD Cert.UpDwValRefIdeal.τ).loc Cert.UpDwValRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v12) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)
      ∧ m' ((c.tc : Thread Cert.InDwRefIdeal.nD Cert.InDwRefIdeal.τ).loc Cert.InDwRefIdeal.main_arg4) = m ((c.tc : Thread Cert.InDwIdeal.nD Cert.InDwIdeal.τ).loc Cert.InDwIdeal.main_arg4)
      ∧ m' ((c.tc : Thread Cert.InDwRefIdeal.nD Cert.InDwRefIdeal.τ).loc Cert.InDwRefIdeal.main_arg5) = m ((c.tc : Thread Cert.InDwIdeal.nD Cert.InDwIdeal.τ).loc Cert.InDwIdeal.main_arg5)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
          ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
          ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v13) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3)
          ∧ r.2.mem ((c.tc : Thread Cert.InDwRefIdeal.nD Cert.InDwRefIdeal.τ).loc Cert.InDwRefIdeal.main_arg4) = m' ((c.tc : Thread Cert.InDwRefIdeal.nD Cert.InDwRefIdeal.τ).loc Cert.InDwRefIdeal.main_arg4)
          ∧ r.2.mem ((c.tc : Thread Cert.InDwRefIdeal.nD Cert.InDwRefIdeal.τ).loc Cert.InDwRefIdeal.main_arg5) = m' ((c.tc : Thread Cert.InDwRefIdeal.nD Cert.InDwRefIdeal.τ).loc Cert.InDwRefIdeal.main_arg5))

def preserves_MmQkv_MmQkvIdeal : Prop :=
  True

def algebraic_MmQkvIdeal_MmQkvRefIdeal [hMmQkvIdeal : Cert.MmQkvIdeal.Facts] [hMmQkvRefIdeal : Cert.MmQkvRefIdeal.Facts] : Prop :=
  ∀ (m : (ℓ : Loc Cert.MmQkvIdeal.nD Cert.MmQkvIdeal.τ Cert.MmQkvIdeal.sig) → Buf (Elt Ideal) ℓ) (g : Dev Cert.MmQkvIdeal.nD → PrngReg)
    (m' : (ℓ : Loc Cert.MmQkvRefIdeal.nD Cert.MmQkvRefIdeal.τ Cert.MmQkvRefIdeal.sig) → Buf (Elt Ideal) ℓ) (g' : Dev Cert.MmQkvRefIdeal.nD → PrngReg), Pre_MmQkvIdeal m →
    (∀ c : Dev Cert.MmQkvIdeal.nD,
      m' ((c.tc : Thread Cert.MmQkvRefIdeal.nD Cert.MmQkvRefIdeal.τ).loc Cert.MmQkvRefIdeal.main_arg0) = m ((c.tc : Thread Cert.MmQkvIdeal.nD Cert.MmQkvIdeal.τ).loc Cert.MmQkvIdeal.main_arg0)
      ∧ m' ((c.tc : Thread Cert.MmQkvRefIdeal.nD Cert.MmQkvRefIdeal.τ).loc Cert.MmQkvRefIdeal.main_arg1) = m ((c.tc : Thread Cert.MmQkvIdeal.nD Cert.MmQkvIdeal.τ).loc Cert.MmQkvIdeal.main_arg1)) →
    ∃ (v0 : (c : Dev Cert.MmQkvIdeal.nD) → Buf (Elt Ideal) ((c.tc : Thread Cert.MmQkvIdeal.nD Cert.MmQkvIdeal.τ).loc Cert.MmQkvIdeal.main_v0)),
      θ_run (Cert.MmQkvIdeal.defs (F := Ideal)) (onTc (τ := Cert.MmQkvIdeal.τ) (Cert.MmQkvIdeal.main (F := Ideal))) ⟨m, fun _ => 0, g⟩ (fun r => ∀ c : Dev Cert.MmQkvIdeal.nD,
          r.2.mem ((c.tc : Thread Cert.MmQkvIdeal.nD Cert.MmQkvIdeal.τ).loc Cert.MmQkvIdeal.main_v0) = v0 c
          ∧ r.2.mem ((c.tc : Thread Cert.MmQkvIdeal.nD Cert.MmQkvIdeal.τ).loc Cert.MmQkvIdeal.main_arg0) = m ((c.tc : Thread Cert.MmQkvIdeal.nD Cert.MmQkvIdeal.τ).loc Cert.MmQkvIdeal.main_arg0)
          ∧ r.2.mem ((c.tc : Thread Cert.MmQkvIdeal.nD Cert.MmQkvIdeal.τ).loc Cert.MmQkvIdeal.main_arg1) = m ((c.tc : Thread Cert.MmQkvIdeal.nD Cert.MmQkvIdeal.τ).loc Cert.MmQkvIdeal.main_arg1))
      ∧ θ_run (Cert.MmQkvRefIdeal.defs (F := Ideal)) (onTc (τ := Cert.MmQkvRefIdeal.τ) (Cert.MmQkvRefIdeal.main (F := Ideal))) ⟨m', fun _ => 0, g'⟩ (fun r => ∀ c : Dev Cert.MmQkvRefIdeal.nD,
          r.2.mem ((c.tc : Thread Cert.MmQkvRefIdeal.nD Cert.MmQkvRefIdeal.τ).loc Cert.MmQkvRefIdeal.main_v4) = v0 c
          ∧ r.2.mem ((c.tc : Thread Cert.MmQkvRefIdeal.nD Cert.MmQkvRefIdeal.τ).loc Cert.MmQkvRefIdeal.main_arg0) = m' ((c.tc : Thread Cert.MmQkvRefIdeal.nD Cert.MmQkvRefIdeal.τ).loc Cert.MmQkvRefIdeal.main_arg0)
          ∧ r.2.mem ((c.tc : Thread Cert.MmQkvRefIdeal.nD Cert.MmQkvRefIdeal.τ).loc Cert.MmQkvRefIdeal.main_arg1) = m' ((c.tc : Thread Cert.MmQkvRefIdeal.nD Cert.MmQkvRefIdeal.τ).loc Cert.MmQkvRefIdeal.main_arg1))

def preserves_MmAg_MmAgIdeal : Prop :=
  True

def algebraic_MmAgIdeal_MmAgRefIdeal [hMmAgIdeal : Cert.MmAgIdeal.Facts] [hMmAgRefIdeal : Cert.MmAgRefIdeal.Facts] : Prop :=
  ∀ (m : (ℓ : Loc Cert.MmAgIdeal.nD Cert.MmAgIdeal.τ Cert.MmAgIdeal.sig) → Buf (Elt Ideal) ℓ) (g : Dev Cert.MmAgIdeal.nD → PrngReg)
    (m' : (ℓ : Loc Cert.MmAgRefIdeal.nD Cert.MmAgRefIdeal.τ Cert.MmAgRefIdeal.sig) → Buf (Elt Ideal) ℓ) (g' : Dev Cert.MmAgRefIdeal.nD → PrngReg), Pre_MmAgIdeal m →
    (∀ c : Dev Cert.MmAgIdeal.nD,
      m' ((c.tc : Thread Cert.MmAgRefIdeal.nD Cert.MmAgRefIdeal.τ).loc Cert.MmAgRefIdeal.main_arg0) = m ((c.tc : Thread Cert.MmAgIdeal.nD Cert.MmAgIdeal.τ).loc Cert.MmAgIdeal.main_arg0)
      ∧ m' ((c.tc : Thread Cert.MmAgRefIdeal.nD Cert.MmAgRefIdeal.τ).loc Cert.MmAgRefIdeal.main_arg1) = m ((c.tc : Thread Cert.MmAgIdeal.nD Cert.MmAgIdeal.τ).loc Cert.MmAgIdeal.main_arg1)) →
    ∃ (v0 : (c : Dev Cert.MmAgIdeal.nD) → Buf (Elt Ideal) ((c.tc : Thread Cert.MmAgIdeal.nD Cert.MmAgIdeal.τ).loc Cert.MmAgIdeal.main_v0)),
      θ_run (Cert.MmAgIdeal.defs (F := Ideal)) (onTc (τ := Cert.MmAgIdeal.τ) (Cert.MmAgIdeal.main (F := Ideal))) ⟨m, fun _ => 0, g⟩ (fun r => ∀ c : Dev Cert.MmAgIdeal.nD,
          r.2.mem ((c.tc : Thread Cert.MmAgIdeal.nD Cert.MmAgIdeal.τ).loc Cert.MmAgIdeal.main_v0) = v0 c
          ∧ r.2.mem ((c.tc : Thread Cert.MmAgIdeal.nD Cert.MmAgIdeal.τ).loc Cert.MmAgIdeal.main_arg0) = m ((c.tc : Thread Cert.MmAgIdeal.nD Cert.MmAgIdeal.τ).loc Cert.MmAgIdeal.main_arg0)
          ∧ r.2.mem ((c.tc : Thread Cert.MmAgIdeal.nD Cert.MmAgIdeal.τ).loc Cert.MmAgIdeal.main_arg1) = m ((c.tc : Thread Cert.MmAgIdeal.nD Cert.MmAgIdeal.τ).loc Cert.MmAgIdeal.main_arg1))
      ∧ θ_run (Cert.MmAgRefIdeal.defs (F := Ideal)) (onTc (τ := Cert.MmAgRefIdeal.τ) (Cert.MmAgRefIdeal.main (F := Ideal))) ⟨m', fun _ => 0, g'⟩ (fun r => ∀ c : Dev Cert.MmAgRefIdeal.nD,
          r.2.mem ((c.tc : Thread Cert.MmAgRefIdeal.nD Cert.MmAgRefIdeal.τ).loc Cert.MmAgRefIdeal.main_v3) = v0 c
          ∧ r.2.mem ((c.tc : Thread Cert.MmAgRefIdeal.nD Cert.MmAgRefIdeal.τ).loc Cert.MmAgRefIdeal.main_arg0) = m' ((c.tc : Thread Cert.MmAgRefIdeal.nD Cert.MmAgRefIdeal.τ).loc Cert.MmAgRefIdeal.main_arg0)
          ∧ r.2.mem ((c.tc : Thread Cert.MmAgRefIdeal.nD Cert.MmAgRefIdeal.τ).loc Cert.MmAgRefIdeal.main_arg1) = m' ((c.tc : Thread Cert.MmAgRefIdeal.nD Cert.MmAgRefIdeal.τ).loc Cert.MmAgRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v2) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v3) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v2) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_NormCtxBwd_NormCtxBwdIdeal : Prop :=
  True

def algebraic_NormCtxBwdIdeal_NormCtxBwdRefIdeal [hNormCtxBwdIdeal : Cert.NormCtxBwdIdeal.Facts] [hNormCtxBwdRefIdeal : Cert.NormCtxBwdRefIdeal.Facts] : Prop :=
  ∀ (m : (ℓ : Loc Cert.NormCtxBwdIdeal.nD Cert.NormCtxBwdIdeal.τ Cert.NormCtxBwdIdeal.sig) → Buf (Elt Ideal) ℓ) (g : Dev Cert.NormCtxBwdIdeal.nD → PrngReg)
    (m' : (ℓ : Loc Cert.NormCtxBwdRefIdeal.nD Cert.NormCtxBwdRefIdeal.τ Cert.NormCtxBwdRefIdeal.sig) → Buf (Elt Ideal) ℓ) (g' : Dev Cert.NormCtxBwdRefIdeal.nD → PrngReg), Pre_NormCtxBwdIdeal m →
    (∀ c : Dev Cert.NormCtxBwdIdeal.nD,
      m' ((c.tc : Thread Cert.NormCtxBwdRefIdeal.nD Cert.NormCtxBwdRefIdeal.τ).loc Cert.NormCtxBwdRefIdeal.main_arg0) = m ((c.tc : Thread Cert.NormCtxBwdIdeal.nD Cert.NormCtxBwdIdeal.τ).loc Cert.NormCtxBwdIdeal.main_arg0)
      ∧ m' ((c.tc : Thread Cert.NormCtxBwdRefIdeal.nD Cert.NormCtxBwdRefIdeal.τ).loc Cert.NormCtxBwdRefIdeal.main_arg1) = m ((c.tc : Thread Cert.NormCtxBwdIdeal.nD Cert.NormCtxBwdIdeal.τ).loc Cert.NormCtxBwdIdeal.main_arg1)
      ∧ m' ((c.tc : Thread Cert.NormCtxBwdRefIdeal.nD Cert.NormCtxBwdRefIdeal.τ).loc Cert.NormCtxBwdRefIdeal.main_arg2) = m ((c.tc : Thread Cert.NormCtxBwdIdeal.nD Cert.NormCtxBwdIdeal.τ).loc Cert.NormCtxBwdIdeal.main_arg2)
      ∧ m' ((c.tc : Thread Cert.NormCtxBwdRefIdeal.nD Cert.NormCtxBwdRefIdeal.τ).loc Cert.NormCtxBwdRefIdeal.main_arg3) = m ((c.tc : Thread Cert.NormCtxBwdIdeal.nD Cert.NormCtxBwdIdeal.τ).loc Cert.NormCtxBwdIdeal.main_arg3)
      ∧ m' ((c.tc : Thread Cert.NormCtxBwdRefIdeal.nD Cert.NormCtxBwdRefIdeal.τ).loc Cert.NormCtxBwdRefIdeal.main_arg4) = m ((c.tc : Thread Cert.NormCtxBwdIdeal.nD Cert.NormCtxBwdIdeal.τ).loc Cert.NormCtxBwdIdeal.main_arg4)) →
    ∃ (v0 : (c : Dev Cert.NormCtxBwdIdeal.nD) → Buf (Elt Ideal) ((c.tc : Thread Cert.NormCtxBwdIdeal.nD Cert.NormCtxBwdIdeal.τ).loc Cert.NormCtxBwdIdeal.main_v0_0)) (v1 : (c : Dev Cert.NormCtxBwdIdeal.nD) → Buf (Elt Ideal) ((c.tc : Thread Cert.NormCtxBwdIdeal.nD Cert.NormCtxBwdIdeal.τ).loc Cert.NormCtxBwdIdeal.main_v0_1)) (v2 : (c : Dev Cert.NormCtxBwdIdeal.nD) → Buf (Elt Ideal) ((c.tc : Thread Cert.NormCtxBwdIdeal.nD Cert.NormCtxBwdIdeal.τ).loc Cert.NormCtxBwdIdeal.main_v0_2)),
      θ_run (Cert.NormCtxBwdIdeal.defs (F := Ideal)) (onTc (τ := Cert.NormCtxBwdIdeal.τ) (Cert.NormCtxBwdIdeal.main (F := Ideal))) ⟨m, fun _ => 0, g⟩ (fun r => ∀ c : Dev Cert.NormCtxBwdIdeal.nD,
          r.2.mem ((c.tc : Thread Cert.NormCtxBwdIdeal.nD Cert.NormCtxBwdIdeal.τ).loc Cert.NormCtxBwdIdeal.main_v0_0) = v0 c
          ∧ r.2.mem ((c.tc : Thread Cert.NormCtxBwdIdeal.nD Cert.NormCtxBwdIdeal.τ).loc Cert.NormCtxBwdIdeal.main_v0_1) = v1 c
          ∧ r.2.mem ((c.tc : Thread Cert.NormCtxBwdIdeal.nD Cert.NormCtxBwdIdeal.τ).loc Cert.NormCtxBwdIdeal.main_v0_2) = v2 c
          ∧ r.2.mem ((c.tc : Thread Cert.NormCtxBwdIdeal.nD Cert.NormCtxBwdIdeal.τ).loc Cert.NormCtxBwdIdeal.main_arg0) = m ((c.tc : Thread Cert.NormCtxBwdIdeal.nD Cert.NormCtxBwdIdeal.τ).loc Cert.NormCtxBwdIdeal.main_arg0)
          ∧ r.2.mem ((c.tc : Thread Cert.NormCtxBwdIdeal.nD Cert.NormCtxBwdIdeal.τ).loc Cert.NormCtxBwdIdeal.main_arg1) = m ((c.tc : Thread Cert.NormCtxBwdIdeal.nD Cert.NormCtxBwdIdeal.τ).loc Cert.NormCtxBwdIdeal.main_arg1)
          ∧ r.2.mem ((c.tc : Thread Cert.NormCtxBwdIdeal.nD Cert.NormCtxBwdIdeal.τ).loc Cert.NormCtxBwdIdeal.main_arg2) = m ((c.tc : Thread Cert.NormCtxBwdIdeal.nD Cert.NormCtxBwdIdeal.τ).loc Cert.NormCtxBwdIdeal.main_arg2)
          ∧ r.2.mem ((c.tc : Thread Cert.NormCtxBwdIdeal.nD Cert.NormCtxBwdIdeal.τ).loc Cert.NormCtxBwdIdeal.main_arg3) = m ((c.tc : Thread Cert.NormCtxBwdIdeal.nD Cert.NormCtxBwdIdeal.τ).loc Cert.NormCtxBwdIdeal.main_arg3)
          ∧ r.2.mem ((c.tc : Thread Cert.NormCtxBwdIdeal.nD Cert.NormCtxBwdIdeal.τ).loc Cert.NormCtxBwdIdeal.main_arg4) = m ((c.tc : Thread Cert.NormCtxBwdIdeal.nD Cert.NormCtxBwdIdeal.τ).loc Cert.NormCtxBwdIdeal.main_arg4))
      ∧ θ_run (Cert.NormCtxBwdRefIdeal.defs (F := Ideal)) (onTc (τ := Cert.NormCtxBwdRefIdeal.τ) (Cert.NormCtxBwdRefIdeal.main (F := Ideal))) ⟨m', fun _ => 0, g'⟩ (fun r => ∀ c : Dev Cert.NormCtxBwdRefIdeal.nD,
          r.2.mem ((c.tc : Thread Cert.NormCtxBwdRefIdeal.nD Cert.NormCtxBwdRefIdeal.τ).loc Cert.NormCtxBwdRefIdeal.main_v20) = v0 c
          ∧ r.2.mem ((c.tc : Thread Cert.NormCtxBwdRefIdeal.nD Cert.NormCtxBwdRefIdeal.τ).loc Cert.NormCtxBwdRefIdeal.main_v23) = v1 c
          ∧ r.2.mem ((c.tc : Thread Cert.NormCtxBwdRefIdeal.nD Cert.NormCtxBwdRefIdeal.τ).loc Cert.NormCtxBwdRefIdeal.main_v28) = v2 c
          ∧ r.2.mem ((c.tc : Thread Cert.NormCtxBwdRefIdeal.nD Cert.NormCtxBwdRefIdeal.τ).loc Cert.NormCtxBwdRefIdeal.main_arg0) = m' ((c.tc : Thread Cert.NormCtxBwdRefIdeal.nD Cert.NormCtxBwdRefIdeal.τ).loc Cert.NormCtxBwdRefIdeal.main_arg0)
          ∧ r.2.mem ((c.tc : Thread Cert.NormCtxBwdRefIdeal.nD Cert.NormCtxBwdRefIdeal.τ).loc Cert.NormCtxBwdRefIdeal.main_arg1) = m' ((c.tc : Thread Cert.NormCtxBwdRefIdeal.nD Cert.NormCtxBwdRefIdeal.τ).loc Cert.NormCtxBwdRefIdeal.main_arg1)
          ∧ r.2.mem ((c.tc : Thread Cert.NormCtxBwdRefIdeal.nD Cert.NormCtxBwdRefIdeal.τ).loc Cert.NormCtxBwdRefIdeal.main_arg2) = m' ((c.tc : Thread Cert.NormCtxBwdRefIdeal.nD Cert.NormCtxBwdRefIdeal.τ).loc Cert.NormCtxBwdRefIdeal.main_arg2)
          ∧ r.2.mem ((c.tc : Thread Cert.NormCtxBwdRefIdeal.nD Cert.NormCtxBwdRefIdeal.τ).loc Cert.NormCtxBwdRefIdeal.main_arg3) = m' ((c.tc : Thread Cert.NormCtxBwdRefIdeal.nD Cert.NormCtxBwdRefIdeal.τ).loc Cert.NormCtxBwdRefIdeal.main_arg3)
          ∧ r.2.mem ((c.tc : Thread Cert.NormCtxBwdRefIdeal.nD Cert.NormCtxBwdRefIdeal.τ).loc Cert.NormCtxBwdRefIdeal.main_arg4) = m' ((c.tc : Thread Cert.NormCtxBwdRefIdeal.nD Cert.NormCtxBwdRefIdeal.τ).loc Cert.NormCtxBwdRefIdeal.main_arg4))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)) (v2 : (c : Dev Cert.Norm1BwdIdeal.nD) → Buf (Elt Ideal) ((c.tc : Thread Cert.Norm1BwdIdeal.nD Cert.Norm1BwdIdeal.τ).loc Cert.Norm1BwdIdeal.main_v0_2)) (v3 : (c : Dev Cert.Norm1BwdIdeal.nD) → Buf (Elt Ideal) ((c.tc : Thread Cert.Norm1BwdIdeal.nD Cert.Norm1BwdIdeal.τ).loc Cert.Norm1BwdIdeal.main_v0_3)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_v0_2) = v2 c
          ∧ r.2.mem ((c.tc : Thread Cert.Norm1BwdIdeal.nD Cert.Norm1BwdIdeal.τ).loc Cert.Norm1BwdIdeal.main_v0_3) = v3 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v23) = v0 c
          ∧ r.2.mem ((c.tc : Thread Cert.Norm1BwdRefIdeal.nD Cert.Norm1BwdRefIdeal.τ).loc Cert.Norm1BwdRefIdeal.main_v26) = v1 c
          ∧ r.2.mem ((c.tc : Thread Cert.Norm1BwdRefIdeal.nD Cert.Norm1BwdRefIdeal.τ).loc Cert.Norm1BwdRefIdeal.main_v31) = v2 c
          ∧ r.2.mem ((c.tc : Thread Cert.Norm1BwdRefIdeal.nD Cert.Norm1BwdRefIdeal.τ).loc Cert.Norm1BwdRefIdeal.main_v48) = v3 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)
      ∧ m' ((c.tc : Thread Cert.Norm2BwdRefIdeal.nD Cert.Norm2BwdRefIdeal.τ).loc Cert.Norm2BwdRefIdeal.main_arg6) = m ((c.tc : Thread Cert.Norm2BwdIdeal.nD Cert.Norm2BwdIdeal.τ).loc Cert.Norm2BwdIdeal.main_arg6)
      ∧ m' ((c.tc : Thread Cert.Norm2BwdRefIdeal.nD Cert.Norm2BwdRefIdeal.τ).loc Cert.Norm2BwdRefIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v3_0)) (v1 : (c : Dev Cert.Norm2BwdIdeal.nD) → Buf (Elt Ideal) ((c.tc : Thread Cert.Norm2BwdIdeal.nD Cert.Norm2BwdIdeal.τ).loc Cert.Norm2BwdIdeal.main_v3_1)) (v2 : (c : Dev Cert.Norm2BwdIdeal.nD) → Buf (Elt Ideal) ((c.tc : Thread Cert.Norm2BwdIdeal.nD Cert.Norm2BwdIdeal.τ).loc Cert.Norm2BwdIdeal.main_v3_2)) (v3 : (c : Dev Cert.Norm2BwdIdeal.nD) → Buf (Elt Ideal) ((c.tc : Thread Cert.Norm2BwdIdeal.nD Cert.Norm2BwdIdeal.τ).loc Cert.Norm2BwdIdeal.main_v3_3)) (v4 : (c : Dev Cert.Norm2BwdIdeal.nD) → Buf (Elt Ideal) ((c.tc : Thread Cert.Norm2BwdIdeal.nD Cert.Norm2BwdIdeal.τ).loc Cert.Norm2BwdIdeal.main_v3_4)) (v5 : (c : Dev Cert.Norm2BwdIdeal.nD) → Buf (Elt Ideal) ((c.tc : Thread Cert.Norm2BwdIdeal.nD Cert.Norm2BwdIdeal.τ).loc Cert.Norm2BwdIdeal.main_v3_5)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v3_0) = v0 c
          ∧ r.2.mem ((c.tc : Thread Cert.Norm2BwdIdeal.nD Cert.Norm2BwdIdeal.τ).loc Cert.Norm2BwdIdeal.main_v3_1) = v1 c
          ∧ r.2.mem ((c.tc : Thread Cert.Norm2BwdIdeal.nD Cert.Norm2BwdIdeal.τ).loc Cert.Norm2BwdIdeal.main_v3_2) = v2 c
          ∧ r.2.mem ((c.tc : Thread Cert.Norm2BwdIdeal.nD Cert.Norm2BwdIdeal.τ).loc Cert.Norm2BwdIdeal.main_v3_3) = v3 c
          ∧ r.2.mem ((c.tc : Thread Cert.Norm2BwdIdeal.nD Cert.Norm2BwdIdeal.τ).loc Cert.Norm2BwdIdeal.main_v3_4) = v4 c
          ∧ r.2.mem ((c.tc : Thread Cert.Norm2BwdIdeal.nD Cert.Norm2BwdIdeal.τ).loc Cert.Norm2BwdIdeal.main_v3_5) = v5 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v26) = v0 c
          ∧ r.2.mem ((c.tc : Thread Cert.Norm2BwdRefIdeal.nD Cert.Norm2BwdRefIdeal.τ).loc Cert.Norm2BwdRefIdeal.main_v29) = v1 c
          ∧ r.2.mem ((c.tc : Thread Cert.Norm2BwdRefIdeal.nD Cert.Norm2BwdRefIdeal.τ).loc Cert.Norm2BwdRefIdeal.main_v34) = v2 c
          ∧ r.2.mem ((c.tc : Thread Cert.Norm2BwdRefIdeal.nD Cert.Norm2BwdRefIdeal.τ).loc Cert.Norm2BwdRefIdeal.main_v51) = v3 c
          ∧ r.2.mem ((c.tc : Thread Cert.Norm2BwdRefIdeal.nD Cert.Norm2BwdRefIdeal.τ).loc Cert.Norm2BwdRefIdeal.main_v58) = v4 c
          ∧ r.2.mem ((c.tc : Thread Cert.Norm2BwdRefIdeal.nD Cert.Norm2BwdRefIdeal.τ).loc Cert.Norm2BwdRefIdeal.main_v57) = v5 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5)
          ∧ r.2.mem ((c.tc : Thread Cert.Norm2BwdRefIdeal.nD Cert.Norm2BwdRefIdeal.τ).loc Cert.Norm2BwdRefIdeal.main_arg6) = m' ((c.tc : Thread Cert.Norm2BwdRefIdeal.nD Cert.Norm2BwdRefIdeal.τ).loc Cert.Norm2BwdRefIdeal.main_arg6)
          ∧ r.2.mem ((c.tc : Thread Cert.Norm2BwdRefIdeal.nD Cert.Norm2BwdRefIdeal.τ).loc Cert.Norm2BwdRefIdeal.main_arg7) = m' ((c.tc : Thread Cert.Norm2BwdRefIdeal.nD Cert.Norm2BwdRefIdeal.τ).loc Cert.Norm2BwdRefIdeal.main_arg7))

def preserves_Norm2Fwd_Norm2FwdIdeal : Prop :=
  True

def algebraic_Norm2FwdIdeal_Norm2FwdRefIdeal [hNorm2FwdIdeal : Cert.Norm2FwdIdeal.Facts] [hNorm2FwdRefIdeal : Cert.Norm2FwdRefIdeal.Facts] : Prop :=
  ∀ (m : (ℓ : Loc Cert.Norm2FwdIdeal.nD Cert.Norm2FwdIdeal.τ Cert.Norm2FwdIdeal.sig) → Buf (Elt Ideal) ℓ) (g : Dev Cert.Norm2FwdIdeal.nD → PrngReg)
    (m' : (ℓ : Loc Cert.Norm2FwdRefIdeal.nD Cert.Norm2FwdRefIdeal.τ Cert.Norm2FwdRefIdeal.sig) → Buf (Elt Ideal) ℓ) (g' : Dev Cert.Norm2FwdRefIdeal.nD → PrngReg), Pre_Norm2FwdIdeal m →
    (∀ c : Dev Cert.Norm2FwdIdeal.nD,
      m' ((c.tc : Thread Cert.Norm2FwdRefIdeal.nD Cert.Norm2FwdRefIdeal.τ).loc Cert.Norm2FwdRefIdeal.main_arg0) = m ((c.tc : Thread Cert.Norm2FwdIdeal.nD Cert.Norm2FwdIdeal.τ).loc Cert.Norm2FwdIdeal.main_arg0)
      ∧ m' ((c.tc : Thread Cert.Norm2FwdRefIdeal.nD Cert.Norm2FwdRefIdeal.τ).loc Cert.Norm2FwdRefIdeal.main_arg1) = m ((c.tc : Thread Cert.Norm2FwdIdeal.nD Cert.Norm2FwdIdeal.τ).loc Cert.Norm2FwdIdeal.main_arg1)
      ∧ m' ((c.tc : Thread Cert.Norm2FwdRefIdeal.nD Cert.Norm2FwdRefIdeal.τ).loc Cert.Norm2FwdRefIdeal.main_arg2) = m ((c.tc : Thread Cert.Norm2FwdIdeal.nD Cert.Norm2FwdIdeal.τ).loc Cert.Norm2FwdIdeal.main_arg2)
      ∧ m' ((c.tc : Thread Cert.Norm2FwdRefIdeal.nD Cert.Norm2FwdRefIdeal.τ).loc Cert.Norm2FwdRefIdeal.main_arg3) = m ((c.tc : Thread Cert.Norm2FwdIdeal.nD Cert.Norm2FwdIdeal.τ).loc Cert.Norm2FwdIdeal.main_arg3)
      ∧ m' ((c.tc : Thread Cert.Norm2FwdRefIdeal.nD Cert.Norm2FwdRefIdeal.τ).loc Cert.Norm2FwdRefIdeal.main_arg4) = m ((c.tc : Thread Cert.Norm2FwdIdeal.nD Cert.Norm2FwdIdeal.τ).loc Cert.Norm2FwdIdeal.main_arg4)
      ∧ m' ((c.tc : Thread Cert.Norm2FwdRefIdeal.nD Cert.Norm2FwdRefIdeal.τ).loc Cert.Norm2FwdRefIdeal.main_arg5) = m ((c.tc : Thread Cert.Norm2FwdIdeal.nD Cert.Norm2FwdIdeal.τ).loc Cert.Norm2FwdIdeal.main_arg5)) →
    ∃ (v0 : (c : Dev Cert.Norm2FwdIdeal.nD) → Buf (Elt Ideal) ((c.tc : Thread Cert.Norm2FwdIdeal.nD Cert.Norm2FwdIdeal.τ).loc Cert.Norm2FwdIdeal.main_v0_0)) (v1 : (c : Dev Cert.Norm2FwdIdeal.nD) → Buf (Elt Ideal) ((c.tc : Thread Cert.Norm2FwdIdeal.nD Cert.Norm2FwdIdeal.τ).loc Cert.Norm2FwdIdeal.main_v0_1)),
      θ_run (Cert.Norm2FwdIdeal.defs (F := Ideal)) (onTc (τ := Cert.Norm2FwdIdeal.τ) (Cert.Norm2FwdIdeal.main (F := Ideal))) ⟨m, fun _ => 0, g⟩ (fun r => ∀ c : Dev Cert.Norm2FwdIdeal.nD,
          r.2.mem ((c.tc : Thread Cert.Norm2FwdIdeal.nD Cert.Norm2FwdIdeal.τ).loc Cert.Norm2FwdIdeal.main_v0_0) = v0 c
          ∧ r.2.mem ((c.tc : Thread Cert.Norm2FwdIdeal.nD Cert.Norm2FwdIdeal.τ).loc Cert.Norm2FwdIdeal.main_v0_1) = v1 c
          ∧ r.2.mem ((c.tc : Thread Cert.Norm2FwdIdeal.nD Cert.Norm2FwdIdeal.τ).loc Cert.Norm2FwdIdeal.main_arg0) = m ((c.tc : Thread Cert.Norm2FwdIdeal.nD Cert.Norm2FwdIdeal.τ).loc Cert.Norm2FwdIdeal.main_arg0)
          ∧ r.2.mem ((c.tc : Thread Cert.Norm2FwdIdeal.nD Cert.Norm2FwdIdeal.τ).loc Cert.Norm2FwdIdeal.main_arg1) = m ((c.tc : Thread Cert.Norm2FwdIdeal.nD Cert.Norm2FwdIdeal.τ).loc Cert.Norm2FwdIdeal.main_arg1)
          ∧ r.2.mem ((c.tc : Thread Cert.Norm2FwdIdeal.nD Cert.Norm2FwdIdeal.τ).loc Cert.Norm2FwdIdeal.main_arg2) = m ((c.tc : Thread Cert.Norm2FwdIdeal.nD Cert.Norm2FwdIdeal.τ).loc Cert.Norm2FwdIdeal.main_arg2)
          ∧ r.2.mem ((c.tc : Thread Cert.Norm2FwdIdeal.nD Cert.Norm2FwdIdeal.τ).loc Cert.Norm2FwdIdeal.main_arg3) = m ((c.tc : Thread Cert.Norm2FwdIdeal.nD Cert.Norm2FwdIdeal.τ).loc Cert.Norm2FwdIdeal.main_arg3)
          ∧ r.2.mem ((c.tc : Thread Cert.Norm2FwdIdeal.nD Cert.Norm2FwdIdeal.τ).loc Cert.Norm2FwdIdeal.main_arg4) = m ((c.tc : Thread Cert.Norm2FwdIdeal.nD Cert.Norm2FwdIdeal.τ).loc Cert.Norm2FwdIdeal.main_arg4)
          ∧ r.2.mem ((c.tc : Thread Cert.Norm2FwdIdeal.nD Cert.Norm2FwdIdeal.τ).loc Cert.Norm2FwdIdeal.main_arg5) = m ((c.tc : Thread Cert.Norm2FwdIdeal.nD Cert.Norm2FwdIdeal.τ).loc Cert.Norm2FwdIdeal.main_arg5))
      ∧ θ_run (Cert.Norm2FwdRefIdeal.defs (F := Ideal)) (onTc (τ := Cert.Norm2FwdRefIdeal.τ) (Cert.Norm2FwdRefIdeal.main (F := Ideal))) ⟨m', fun _ => 0, g'⟩ (fun r => ∀ c : Dev Cert.Norm2FwdRefIdeal.nD,
          r.2.mem ((c.tc : Thread Cert.Norm2FwdRefIdeal.nD Cert.Norm2FwdRefIdeal.τ).loc Cert.Norm2FwdRefIdeal.main_v2) = v0 c
          ∧ r.2.mem ((c.tc : Thread Cert.Norm2FwdRefIdeal.nD Cert.Norm2FwdRefIdeal.τ).loc Cert.Norm2FwdRefIdeal.main_v21) = v1 c
          ∧ r.2.mem ((c.tc : Thread Cert.Norm2FwdRefIdeal.nD Cert.Norm2FwdRefIdeal.τ).loc Cert.Norm2FwdRefIdeal.main_arg0) = m' ((c.tc : Thread Cert.Norm2FwdRefIdeal.nD Cert.Norm2FwdRefIdeal.τ).loc Cert.Norm2FwdRefIdeal.main_arg0)
          ∧ r.2.mem ((c.tc : Thread Cert.Norm2FwdRefIdeal.nD Cert.Norm2FwdRefIdeal.τ).loc Cert.Norm2FwdRefIdeal.main_arg1) = m' ((c.tc : Thread Cert.Norm2FwdRefIdeal.nD Cert.Norm2FwdRefIdeal.τ).loc Cert.Norm2FwdRefIdeal.main_arg1)
          ∧ r.2.mem ((c.tc : Thread Cert.Norm2FwdRefIdeal.nD Cert.Norm2FwdRefIdeal.τ).loc Cert.Norm2FwdRefIdeal.main_arg2) = m' ((c.tc : Thread Cert.Norm2FwdRefIdeal.nD Cert.Norm2FwdRefIdeal.τ).loc Cert.Norm2FwdRefIdeal.main_arg2)
          ∧ r.2.mem ((c.tc : Thread Cert.Norm2FwdRefIdeal.nD Cert.Norm2FwdRefIdeal.τ).loc Cert.Norm2FwdRefIdeal.main_arg3) = m' ((c.tc : Thread Cert.Norm2FwdRefIdeal.nD Cert.Norm2FwdRefIdeal.τ).loc Cert.Norm2FwdRefIdeal.main_arg3)
          ∧ r.2.mem ((c.tc : Thread Cert.Norm2FwdRefIdeal.nD Cert.Norm2FwdRefIdeal.τ).loc Cert.Norm2FwdRefIdeal.main_arg4) = m' ((c.tc : Thread Cert.Norm2FwdRefIdeal.nD Cert.Norm2FwdRefIdeal.τ).loc Cert.Norm2FwdRefIdeal.main_arg4)
          ∧ r.2.mem ((c.tc : Thread Cert.Norm2FwdRefIdeal.nD Cert.Norm2FwdRefIdeal.τ).loc Cert.Norm2FwdRefIdeal.main_arg5) = m' ((c.tc : Thread Cert.Norm2FwdRefIdeal.nD Cert.Norm2FwdRefIdeal.τ).loc Cert.Norm2FwdRefIdeal.main_arg5))

def preserves_Norm1Fwd_Norm1FwdIdeal : Prop :=
  True

def algebraic_Norm1FwdIdeal_Norm1FwdRefIdeal [hNorm1FwdIdeal : Cert.Norm1FwdIdeal.Facts] [hNorm1FwdRefIdeal : Cert.Norm1FwdRefIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg)
    (m' : (ℓ : Loc Cert.Norm1FwdRefIdeal.nD Cert.Norm1FwdRefIdeal.τ Cert.Norm1FwdRefIdeal.sig) → Buf (Elt Ideal) ℓ) (g' : Dev Cert.Norm1FwdRefIdeal.nD → PrngReg), Pre_Norm1FwdIdeal m →
    (∀ c : Dev Cert.Norm1FwdIdeal.nD,
      m' ((c.tc : Thread Cert.Norm1FwdRefIdeal.nD Cert.Norm1FwdRefIdeal.τ).loc Cert.Norm1FwdRefIdeal.main_arg0) = m ((c.tc : Thread Cert.Norm1FwdIdeal.nD Cert.Norm1FwdIdeal.τ).loc Cert.Norm1FwdIdeal.main_arg0)
      ∧ m' ((c.tc : Thread Cert.Norm1FwdRefIdeal.nD Cert.Norm1FwdRefIdeal.τ).loc Cert.Norm1FwdRefIdeal.main_arg1) = m ((c.tc : Thread Cert.Norm1FwdIdeal.nD Cert.Norm1FwdIdeal.τ).loc Cert.Norm1FwdIdeal.main_arg1)
      ∧ m' ((c.tc : Thread Cert.Norm1FwdRefIdeal.nD Cert.Norm1FwdRefIdeal.τ).loc Cert.Norm1FwdRefIdeal.main_arg2) = m ((c.tc : Thread Cert.Norm1FwdIdeal.nD Cert.Norm1FwdIdeal.τ).loc Cert.Norm1FwdIdeal.main_arg2)
      ∧ m' ((c.tc : Thread Cert.Norm1FwdRefIdeal.nD Cert.Norm1FwdRefIdeal.τ).loc Cert.Norm1FwdRefIdeal.main_arg3) = m ((c.tc : Thread Cert.Norm1FwdIdeal.nD Cert.Norm1FwdIdeal.τ).loc Cert.Norm1FwdIdeal.main_arg3)
      ∧ m' ((c.tc : Thread Cert.Norm1FwdRefIdeal.nD Cert.Norm1FwdRefIdeal.τ).loc Cert.Norm1FwdRefIdeal.main_arg4) = m ((c.tc : Thread Cert.Norm1FwdIdeal.nD Cert.Norm1FwdIdeal.τ).loc Cert.Norm1FwdIdeal.main_arg4)
      ∧ m' ((c.tc : Thread Cert.Norm1FwdRefIdeal.nD Cert.Norm1FwdRefIdeal.τ).loc Cert.Norm1FwdRefIdeal.main_arg5) = m ((c.tc : Thread Cert.Norm1FwdIdeal.nD Cert.Norm1FwdIdeal.τ).loc Cert.Norm1FwdIdeal.main_arg5)
      ∧ m' ((c.tc : Thread Cert.Norm1FwdRefIdeal.nD Cert.Norm1FwdRefIdeal.τ).loc Cert.Norm1FwdRefIdeal.main_arg6) = m ((c.tc : Thread Cert.Norm1FwdIdeal.nD Cert.Norm1FwdIdeal.τ).loc Cert.Norm1FwdIdeal.main_arg6)) →
    ∃ (v0 : (c : Dev Cert.Norm1FwdIdeal.nD) → Buf (Elt Ideal) ((c.tc : Thread Cert.Norm1FwdIdeal.nD Cert.Norm1FwdIdeal.τ).loc Cert.Norm1FwdIdeal.main_v0)),
      θ_run (Cert.Norm1FwdIdeal.defs (F := Ideal)) (onTc (τ := Cert.Norm1FwdIdeal.τ) (Cert.Norm1FwdIdeal.main (F := Ideal))) ⟨m, fun _ => 0, g⟩ (fun r => ∀ c : Dev Cert.Norm1FwdIdeal.nD,
          r.2.mem ((c.tc : Thread Cert.Norm1FwdIdeal.nD Cert.Norm1FwdIdeal.τ).loc Cert.Norm1FwdIdeal.main_v0) = v0 c
          ∧ r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
          ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1)
          ∧ r.2.mem ((c.tc : Thread Cert.Norm1FwdIdeal.nD Cert.Norm1FwdIdeal.τ).loc Cert.Norm1FwdIdeal.main_arg2) = m ((c.tc : Thread Cert.Norm1FwdIdeal.nD Cert.Norm1FwdIdeal.τ).loc Cert.Norm1FwdIdeal.main_arg2)
          ∧ r.2.mem ((c.tc : Thread Cert.Norm1FwdIdeal.nD Cert.Norm1FwdIdeal.τ).loc Cert.Norm1FwdIdeal.main_arg3) = m ((c.tc : Thread Cert.Norm1FwdIdeal.nD Cert.Norm1FwdIdeal.τ).loc Cert.Norm1FwdIdeal.main_arg3)
          ∧ r.2.mem ((c.tc : Thread Cert.Norm1FwdIdeal.nD Cert.Norm1FwdIdeal.τ).loc Cert.Norm1FwdIdeal.main_arg4) = m ((c.tc : Thread Cert.Norm1FwdIdeal.nD Cert.Norm1FwdIdeal.τ).loc Cert.Norm1FwdIdeal.main_arg4)
          ∧ r.2.mem ((c.tc : Thread Cert.Norm1FwdIdeal.nD Cert.Norm1FwdIdeal.τ).loc Cert.Norm1FwdIdeal.main_arg5) = m ((c.tc : Thread Cert.Norm1FwdIdeal.nD Cert.Norm1FwdIdeal.τ).loc Cert.Norm1FwdIdeal.main_arg5)
          ∧ r.2.mem ((c.tc : Thread Cert.Norm1FwdIdeal.nD Cert.Norm1FwdIdeal.τ).loc Cert.Norm1FwdIdeal.main_arg6) = m ((c.tc : Thread Cert.Norm1FwdIdeal.nD Cert.Norm1FwdIdeal.τ).loc Cert.Norm1FwdIdeal.main_arg6))
      ∧ θ_run (Cert.Norm1FwdRefIdeal.defs (F := Ideal)) (onTc (τ := Cert.Norm1FwdRefIdeal.τ) (Cert.Norm1FwdRefIdeal.main (F := Ideal))) ⟨m', fun _ => 0, g'⟩ (fun r => ∀ c : Dev Cert.Norm1FwdRefIdeal.nD,
          r.2.mem ((c.tc : Thread Cert.Norm1FwdRefIdeal.nD Cert.Norm1FwdRefIdeal.τ).loc Cert.Norm1FwdRefIdeal.main_v37) = v0 c
          ∧ r.2.mem ((c.tc : Thread Cert.Norm1FwdRefIdeal.nD Cert.Norm1FwdRefIdeal.τ).loc Cert.Norm1FwdRefIdeal.main_arg0) = m' ((c.tc : Thread Cert.Norm1FwdRefIdeal.nD Cert.Norm1FwdRefIdeal.τ).loc Cert.Norm1FwdRefIdeal.main_arg0)
          ∧ r.2.mem ((c.tc : Thread Cert.Norm1FwdRefIdeal.nD Cert.Norm1FwdRefIdeal.τ).loc Cert.Norm1FwdRefIdeal.main_arg1) = m' ((c.tc : Thread Cert.Norm1FwdRefIdeal.nD Cert.Norm1FwdRefIdeal.τ).loc Cert.Norm1FwdRefIdeal.main_arg1)
          ∧ r.2.mem ((c.tc : Thread Cert.Norm1FwdRefIdeal.nD Cert.Norm1FwdRefIdeal.τ).loc Cert.Norm1FwdRefIdeal.main_arg2) = m' ((c.tc : Thread Cert.Norm1FwdRefIdeal.nD Cert.Norm1FwdRefIdeal.τ).loc Cert.Norm1FwdRefIdeal.main_arg2)
          ∧ r.2.mem ((c.tc : Thread Cert.Norm1FwdRefIdeal.nD Cert.Norm1FwdRefIdeal.τ).loc Cert.Norm1FwdRefIdeal.main_arg3) = m' ((c.tc : Thread Cert.Norm1FwdRefIdeal.nD Cert.Norm1FwdRefIdeal.τ).loc Cert.Norm1FwdRefIdeal.main_arg3)
          ∧ r.2.mem ((c.tc : Thread Cert.Norm1FwdRefIdeal.nD Cert.Norm1FwdRefIdeal.τ).loc Cert.Norm1FwdRefIdeal.main_arg4) = m' ((c.tc : Thread Cert.Norm1FwdRefIdeal.nD Cert.Norm1FwdRefIdeal.τ).loc Cert.Norm1FwdRefIdeal.main_arg4)
          ∧ r.2.mem ((c.tc : Thread Cert.Norm1FwdRefIdeal.nD Cert.Norm1FwdRefIdeal.τ).loc Cert.Norm1FwdRefIdeal.main_arg5) = m' ((c.tc : Thread Cert.Norm1FwdRefIdeal.nD Cert.Norm1FwdRefIdeal.τ).loc Cert.Norm1FwdRefIdeal.main_arg5)
          ∧ r.2.mem ((c.tc : Thread Cert.Norm1FwdRefIdeal.nD Cert.Norm1FwdRefIdeal.τ).loc Cert.Norm1FwdRefIdeal.main_arg6) = m' ((c.tc : Thread Cert.Norm1FwdRefIdeal.nD Cert.Norm1FwdRefIdeal.τ).loc Cert.Norm1FwdRefIdeal.main_arg6))

def preserves_NormLoss_NormLossIdeal : Prop :=
  True

def algebraic_NormLossIdeal_NormLossRefIdeal [hNormLossIdeal : Cert.NormLossIdeal.Facts] [hNormLossRefIdeal : Cert.NormLossRefIdeal.Facts] : Prop :=
  ∀ (m : (ℓ : Loc Cert.NormLossIdeal.nD Cert.NormLossIdeal.τ Cert.NormLossIdeal.sig) → Buf (Elt Ideal) ℓ) (g : Dev Cert.NormLossIdeal.nD → PrngReg)
    (m' : (ℓ : Loc Cert.NormLossRefIdeal.nD Cert.NormLossRefIdeal.τ Cert.NormLossRefIdeal.sig) → Buf (Elt Ideal) ℓ) (g' : Dev Cert.NormLossRefIdeal.nD → PrngReg), Pre_NormLossIdeal m →
    (∀ c : Dev Cert.NormLossIdeal.nD,
      m' ((c.tc : Thread Cert.NormLossRefIdeal.nD Cert.NormLossRefIdeal.τ).loc Cert.NormLossRefIdeal.main_arg0) = m ((c.tc : Thread Cert.NormLossIdeal.nD Cert.NormLossIdeal.τ).loc Cert.NormLossIdeal.main_arg0)
      ∧ m' ((c.tc : Thread Cert.NormLossRefIdeal.nD Cert.NormLossRefIdeal.τ).loc Cert.NormLossRefIdeal.main_arg1) = m ((c.tc : Thread Cert.NormLossIdeal.nD Cert.NormLossIdeal.τ).loc Cert.NormLossIdeal.main_arg1)
      ∧ m' ((c.tc : Thread Cert.NormLossRefIdeal.nD Cert.NormLossRefIdeal.τ).loc Cert.NormLossRefIdeal.main_arg2) = m ((c.tc : Thread Cert.NormLossIdeal.nD Cert.NormLossIdeal.τ).loc Cert.NormLossIdeal.main_arg2)
      ∧ m' ((c.tc : Thread Cert.NormLossRefIdeal.nD Cert.NormLossRefIdeal.τ).loc Cert.NormLossRefIdeal.main_arg3) = m ((c.tc : Thread Cert.NormLossIdeal.nD Cert.NormLossIdeal.τ).loc Cert.NormLossIdeal.main_arg3)
      ∧ m' ((c.tc : Thread Cert.NormLossRefIdeal.nD Cert.NormLossRefIdeal.τ).loc Cert.NormLossRefIdeal.main_arg4) = m ((c.tc : Thread Cert.NormLossIdeal.nD Cert.NormLossIdeal.τ).loc Cert.NormLossIdeal.main_arg4)) →
    ∃ (v0 : (c : Dev Cert.NormLossIdeal.nD) → Buf (Elt Ideal) ((c.tc : Thread Cert.NormLossIdeal.nD Cert.NormLossIdeal.τ).loc Cert.NormLossIdeal.main_v0_0)) (v1 : (c : Dev Cert.NormLossIdeal.nD) → Buf (Elt Ideal) ((c.tc : Thread Cert.NormLossIdeal.nD Cert.NormLossIdeal.τ).loc Cert.NormLossIdeal.main_v0_1)) (v2 : (c : Dev Cert.NormLossIdeal.nD) → Buf (Elt Ideal) ((c.tc : Thread Cert.NormLossIdeal.nD Cert.NormLossIdeal.τ).loc Cert.NormLossIdeal.main_v0_2)) (v3 : (c : Dev Cert.NormLossIdeal.nD) → Buf (Elt Ideal) ((c.tc : Thread Cert.NormLossIdeal.nD Cert.NormLossIdeal.τ).loc Cert.NormLossIdeal.main_v0_3)) (v4 : (c : Dev Cert.NormLossIdeal.nD) → Buf (Elt Ideal) ((c.tc : Thread Cert.NormLossIdeal.nD Cert.NormLossIdeal.τ).loc Cert.NormLossIdeal.main_v0_4)),
      θ_run (Cert.NormLossIdeal.defs (F := Ideal)) (onTc (τ := Cert.NormLossIdeal.τ) (Cert.NormLossIdeal.main (F := Ideal))) ⟨m, fun _ => 0, g⟩ (fun r => ∀ c : Dev Cert.NormLossIdeal.nD,
          r.2.mem ((c.tc : Thread Cert.NormLossIdeal.nD Cert.NormLossIdeal.τ).loc Cert.NormLossIdeal.main_v0_0) = v0 c
          ∧ r.2.mem ((c.tc : Thread Cert.NormLossIdeal.nD Cert.NormLossIdeal.τ).loc Cert.NormLossIdeal.main_v0_1) = v1 c
          ∧ r.2.mem ((c.tc : Thread Cert.NormLossIdeal.nD Cert.NormLossIdeal.τ).loc Cert.NormLossIdeal.main_v0_2) = v2 c
          ∧ r.2.mem ((c.tc : Thread Cert.NormLossIdeal.nD Cert.NormLossIdeal.τ).loc Cert.NormLossIdeal.main_v0_3) = v3 c
          ∧ r.2.mem ((c.tc : Thread Cert.NormLossIdeal.nD Cert.NormLossIdeal.τ).loc Cert.NormLossIdeal.main_v0_4) = v4 c
          ∧ r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
          ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
          ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
          ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3)
          ∧ r.2.mem ((c.tc : Thread Cert.NormLossIdeal.nD Cert.NormLossIdeal.τ).loc Cert.NormLossIdeal.main_arg4) = m ((c.tc : Thread Cert.NormLossIdeal.nD Cert.NormLossIdeal.τ).loc Cert.NormLossIdeal.main_arg4))
      ∧ θ_run (Cert.NormLossRefIdeal.defs (F := Ideal)) (onTc (τ := Cert.NormLossRefIdeal.τ) (Cert.NormLossRefIdeal.main (F := Ideal))) ⟨m', fun _ => 0, g'⟩ (fun r => ∀ c : Dev Cert.NormLossRefIdeal.nD,
          r.2.mem ((c.tc : Thread Cert.NormLossRefIdeal.nD Cert.NormLossRefIdeal.τ).loc Cert.NormLossRefIdeal.main_v51) = v0 c
          ∧ r.2.mem ((c.tc : Thread Cert.NormLossRefIdeal.nD Cert.NormLossRefIdeal.τ).loc Cert.NormLossRefIdeal.main_v57) = v1 c
          ∧ r.2.mem ((c.tc : Thread Cert.NormLossRefIdeal.nD Cert.NormLossRefIdeal.τ).loc Cert.NormLossRefIdeal.main_v58) = v2 c
          ∧ r.2.mem ((c.tc : Thread Cert.NormLossRefIdeal.nD Cert.NormLossRefIdeal.τ).loc Cert.NormLossRefIdeal.main_v56) = v3 c
          ∧ r.2.mem ((c.tc : Thread Cert.NormLossRefIdeal.nD Cert.NormLossRefIdeal.τ).loc Cert.NormLossRefIdeal.main_v35) = v4 c
          ∧ r.2.mem ((c.tc : Thread Cert.NormLossRefIdeal.nD Cert.NormLossRefIdeal.τ).loc Cert.NormLossRefIdeal.main_arg0) = m' ((c.tc : Thread Cert.NormLossRefIdeal.nD Cert.NormLossRefIdeal.τ).loc Cert.NormLossRefIdeal.main_arg0)
          ∧ r.2.mem ((c.tc : Thread Cert.NormLossRefIdeal.nD Cert.NormLossRefIdeal.τ).loc Cert.NormLossRefIdeal.main_arg1) = m' ((c.tc : Thread Cert.NormLossRefIdeal.nD Cert.NormLossRefIdeal.τ).loc Cert.NormLossRefIdeal.main_arg1)
          ∧ r.2.mem ((c.tc : Thread Cert.NormLossRefIdeal.nD Cert.NormLossRefIdeal.τ).loc Cert.NormLossRefIdeal.main_arg2) = m' ((c.tc : Thread Cert.NormLossRefIdeal.nD Cert.NormLossRefIdeal.τ).loc Cert.NormLossRefIdeal.main_arg2)
          ∧ r.2.mem ((c.tc : Thread Cert.NormLossRefIdeal.nD Cert.NormLossRefIdeal.τ).loc Cert.NormLossRefIdeal.main_arg3) = m' ((c.tc : Thread Cert.NormLossRefIdeal.nD Cert.NormLossRefIdeal.τ).loc Cert.NormLossRefIdeal.main_arg3)
          ∧ r.2.mem ((c.tc : Thread Cert.NormLossRefIdeal.nD Cert.NormLossRefIdeal.τ).loc Cert.NormLossRefIdeal.main_arg4) = m' ((c.tc : Thread Cert.NormLossRefIdeal.nD Cert.NormLossRefIdeal.τ).loc Cert.NormLossRefIdeal.main_arg4))

def Claim : Prop :=
  ∃ (hKernel : Cert.Kernel.Facts) (hKernelIdeal : Cert.KernelIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDwGate : Cert.UpDwGate.Facts) (hUpDwGateIdeal : Cert.UpDwGateIdeal.Facts) (hUpDwGateRefIdeal : Cert.UpDwGateRefIdeal.Facts) (hUpDwVal : Cert.UpDwVal.Facts) (hUpDwValIdeal : Cert.UpDwValIdeal.Facts) (hUpDwValRefIdeal : Cert.UpDwValRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hMmQkv : Cert.MmQkv.Facts) (hMmQkvIdeal : Cert.MmQkvIdeal.Facts) (hMmQkvRefIdeal : Cert.MmQkvRefIdeal.Facts) (hMmAg : Cert.MmAg.Facts) (hMmAgIdeal : Cert.MmAgIdeal.Facts) (hMmAgRefIdeal : Cert.MmAgRefIdeal.Facts) (hMmOut : Cert.MmOut.Facts) (hMmOutIdeal : Cert.MmOutIdeal.Facts) (hMmOutRefIdeal : Cert.MmOutRefIdeal.Facts) (hMmUp : Cert.MmUp.Facts) (hMmUpIdeal : Cert.MmUpIdeal.Facts) (hMmUpRefIdeal : Cert.MmUpRefIdeal.Facts) (hMmDown : Cert.MmDown.Facts) (hMmDownIdeal : Cert.MmDownIdeal.Facts) (hMmDownRefIdeal : Cert.MmDownRefIdeal.Facts) (hNormCtxBwd : Cert.NormCtxBwd.Facts) (hNormCtxBwdIdeal : Cert.NormCtxBwdIdeal.Facts) (hNormCtxBwdRefIdeal : Cert.NormCtxBwdRefIdeal.Facts) (hNorm1Bwd : Cert.Norm1Bwd.Facts) (hNorm1BwdIdeal : Cert.Norm1BwdIdeal.Facts) (hNorm1BwdRefIdeal : Cert.Norm1BwdRefIdeal.Facts) (hNorm2Bwd : Cert.Norm2Bwd.Facts) (hNorm2BwdIdeal : Cert.Norm2BwdIdeal.Facts) (hNorm2BwdRefIdeal : Cert.Norm2BwdRefIdeal.Facts) (hNorm2Fwd : Cert.Norm2Fwd.Facts) (hNorm2FwdIdeal : Cert.Norm2FwdIdeal.Facts) (hNorm2FwdRefIdeal : Cert.Norm2FwdRefIdeal.Facts) (hNorm1Fwd : Cert.Norm1Fwd.Facts) (hNorm1FwdIdeal : Cert.Norm1FwdIdeal.Facts) (hNorm1FwdRefIdeal : Cert.Norm1FwdRefIdeal.Facts) (hNormLoss : Cert.NormLoss.Facts) (hNormLossIdeal : Cert.NormLossIdeal.Facts) (hNormLossRefIdeal : Cert.NormLossRefIdeal.Facts),
    quiescent_Kernel (hKernel := hKernel)
    ∧ quiescent_KernelIdeal (hKernelIdeal := hKernelIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDwGate (hUpDwGate := hUpDwGate)
    ∧ quiescent_UpDwGateIdeal (hUpDwGateIdeal := hUpDwGateIdeal)
    ∧ quiescent_UpDwGateRefIdeal (hUpDwGateRefIdeal := hUpDwGateRefIdeal)
    ∧ quiescent_UpDwVal (hUpDwVal := hUpDwVal)
    ∧ quiescent_UpDwValIdeal (hUpDwValIdeal := hUpDwValIdeal)
    ∧ quiescent_UpDwValRefIdeal (hUpDwValRefIdeal := hUpDwValRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_MmQkv (hMmQkv := hMmQkv)
    ∧ quiescent_MmQkvIdeal (hMmQkvIdeal := hMmQkvIdeal)
    ∧ quiescent_MmQkvRefIdeal (hMmQkvRefIdeal := hMmQkvRefIdeal)
    ∧ quiescent_MmAg (hMmAg := hMmAg)
    ∧ quiescent_MmAgIdeal (hMmAgIdeal := hMmAgIdeal)
    ∧ quiescent_MmAgRefIdeal (hMmAgRefIdeal := hMmAgRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_NormCtxBwd (hNormCtxBwd := hNormCtxBwd)
    ∧ quiescent_NormCtxBwdIdeal (hNormCtxBwdIdeal := hNormCtxBwdIdeal)
    ∧ quiescent_NormCtxBwdRefIdeal (hNormCtxBwdRefIdeal := hNormCtxBwdRefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_Norm2Fwd (hNorm2Fwd := hNorm2Fwd)
    ∧ quiescent_Norm2FwdIdeal (hNorm2FwdIdeal := hNorm2FwdIdeal)
    ∧ quiescent_Norm2FwdRefIdeal (hNorm2FwdRefIdeal := hNorm2FwdRefIdeal)
    ∧ quiescent_Norm1Fwd (hNorm1Fwd := hNorm1Fwd)
    ∧ quiescent_Norm1FwdIdeal (hNorm1FwdIdeal := hNorm1FwdIdeal)
    ∧ quiescent_Norm1FwdRefIdeal (hNorm1FwdRefIdeal := hNorm1FwdRefIdeal)
    ∧ quiescent_NormLoss (hNormLoss := hNormLoss)
    ∧ quiescent_NormLossIdeal (hNormLossIdeal := hNormLossIdeal)
    ∧ quiescent_NormLossRefIdeal (hNormLossRefIdeal := hNormLossRefIdeal)
    ∧ preserves_Kernel_KernelIdeal
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDwGate_UpDwGateIdeal
    ∧ algebraic_UpDwGateIdeal_UpDwGateRefIdeal (hUpDwGateIdeal := hUpDwGateIdeal) (hUpDwGateRefIdeal := hUpDwGateRefIdeal)
    ∧ preserves_UpDwVal_UpDwValIdeal
    ∧ algebraic_UpDwValIdeal_UpDwValRefIdeal (hUpDwValIdeal := hUpDwValIdeal) (hUpDwValRefIdeal := hUpDwValRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_MmQkv_MmQkvIdeal
    ∧ algebraic_MmQkvIdeal_MmQkvRefIdeal (hMmQkvIdeal := hMmQkvIdeal) (hMmQkvRefIdeal := hMmQkvRefIdeal)
    ∧ preserves_MmAg_MmAgIdeal
    ∧ algebraic_MmAgIdeal_MmAgRefIdeal (hMmAgIdeal := hMmAgIdeal) (hMmAgRefIdeal := hMmAgRefIdeal)
    ∧ preserves_MmOut_MmOutIdeal
    ∧ algebraic_MmOutIdeal_MmOutRefIdeal (hMmOutIdeal := hMmOutIdeal) (hMmOutRefIdeal := hMmOutRefIdeal)
    ∧ preserves_MmUp_MmUpIdeal
    ∧ algebraic_MmUpIdeal_MmUpRefIdeal (hMmUpIdeal := hMmUpIdeal) (hMmUpRefIdeal := hMmUpRefIdeal)
    ∧ preserves_MmDown_MmDownIdeal
    ∧ algebraic_MmDownIdeal_MmDownRefIdeal (hMmDownIdeal := hMmDownIdeal) (hMmDownRefIdeal := hMmDownRefIdeal)
    ∧ preserves_NormCtxBwd_NormCtxBwdIdeal
    ∧ algebraic_NormCtxBwdIdeal_NormCtxBwdRefIdeal (hNormCtxBwdIdeal := hNormCtxBwdIdeal) (hNormCtxBwdRefIdeal := hNormCtxBwdRefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_Norm2Fwd_Norm2FwdIdeal
    ∧ algebraic_Norm2FwdIdeal_Norm2FwdRefIdeal (hNorm2FwdIdeal := hNorm2FwdIdeal) (hNorm2FwdRefIdeal := hNorm2FwdRefIdeal)
    ∧ preserves_Norm1Fwd_Norm1FwdIdeal
    ∧ algebraic_Norm1FwdIdeal_Norm1FwdRefIdeal (hNorm1FwdIdeal := hNorm1FwdIdeal) (hNorm1FwdRefIdeal := hNorm1FwdRefIdeal)
    ∧ preserves_NormLoss_NormLossIdeal
    ∧ algebraic_NormLossIdeal_NormLossRefIdeal (hNormLossIdeal := hNormLossIdeal) (hNormLossRefIdeal := hNormLossRefIdeal)
-- ==== Kernel.lean ====
abbrev S4352x1536 : Shape := ⟨2, ![4352, 1536]⟩
abbrev S8x15x31 : Shape := ⟨3, ![8, 15, 31]⟩
abbrev S4096x1024 : Shape := ⟨2, ![4096, 1024]⟩
abbrev S4096x512 : Shape := ⟨2, ![4096, 512]⟩
abbrev S4096x8x64 : Shape := ⟨3, ![4096, 8, 64]⟩
abbrev S4352x512 : Shape := ⟨2, ![4352, 512]⟩
abbrev S4352x8x64 : Shape := ⟨3, ![4352, 8, 64]⟩
abbrev S8x4096x4352 : Shape := ⟨3, ![8, 4096, 4352]⟩
abbrev S_ : Shape := ⟨0, ![]⟩
abbrev S4096x4352 : Shape := ⟨2, ![4096, 4352]⟩
abbrev S1x4096x4352 : Shape := ⟨3, ![1, 4096, 4352]⟩
abbrev S4096x4352x1 : Shape := ⟨3, ![4096, 4352, 1]⟩
abbrev S4096x4352x2 : Shape := ⟨3, ![4096, 4352, 2]⟩
abbrev S8x4096 : Shape := ⟨2, ![8, 4096]⟩
abbrev S8x4096x1 : Shape := ⟨3, ![8, 4096, 1]⟩
abbrev S1088x128 : Shape := ⟨2, ![1088, 128]⟩
abbrev S1x1088x128 : Shape := ⟨3, ![1, 1088, 128]⟩
abbrev S1088x128x1 : Shape := ⟨3, ![1088, 128, 1]⟩
abbrev S1088x128x2 : Shape := ⟨3, ![1088, 128, 2]⟩
abbrev S8x1088x128 : Shape := ⟨3, ![8, 1088, 128]⟩
abbrev S4352x1024 : Shape := ⟨2, ![4352, 1024]⟩
abbrev S128x512 : Shape := ⟨2, ![128, 512]⟩
abbrev S8x128 : Shape := ⟨2, ![8, 128]⟩
abbrev S64x128 : Shape := ⟨2, ![64, 128]⟩
abbrev S128x128 : Shape := ⟨2, ![128, 128]⟩
abbrev S128x256 : Shape := ⟨2, ![128, 256]⟩
abbrev S576x128 : Shape := ⟨2, ![576, 128]⟩
abbrev S256x128 : Shape := ⟨2, ![256, 128]⟩
abbrev S576x256 : Shape := ⟨2, ![576, 256]⟩
abbrev S256x256 : Shape := ⟨2, ![256, 256]⟩
abbrev S1x128 : Shape := ⟨2, ![1, 128]⟩
abbrev S1x576x128 : Shape := ⟨3, ![1, 576, 128]⟩
abbrev S448x128 : Shape := ⟨2, ![448, 128]⟩
abbrev S128 : Shape := ⟨1, ![128]⟩
abbrev S256x512 : Shape := ⟨2, ![256, 512]⟩

abbrev nBuf : Space → Nat
  | .hbm => 361
  | .vmem => 14
  | .smem => 0
  | _ => 0

abbrev hbmTy0_0 (i : Nat) : BufTy := match i % 128 with
  | 0 => ⟨S4352x1536, .bf16⟩
  | 1 => ⟨S8x15x31, .f32⟩
  | 2 => ⟨S4096x1024, .f32⟩
  | 3 => ⟨S4096x512, .bf16⟩
  | 4 => ⟨S4096x512, .f32⟩
  | 5 => ⟨S4096x8x64, .f32⟩
  | 6 => ⟨S4352x512, .bf16⟩
  | 7 => ⟨S4352x512, .f32⟩
  | 8 => ⟨S4352x8x64, .f32⟩
  | 9 => ⟨S8x4096x4352, .f32⟩
  | 10 => ⟨S_, .f32⟩
  | 11 => ⟨S8x4096x4352, .f32⟩
  | 12 => ⟨S8x4096x4352, .f32⟩
  | 13 => ⟨S4096x4352, .i32⟩
  | 14 => ⟨S4096x4352, .i32⟩
  | 15 => ⟨S_, .i32⟩
  | 16 => ⟨S_, .i32⟩
  | 17 => ⟨S4096x4352, .i32⟩
  | 18 => ⟨S4096x4352, .i32⟩
  | 19 => ⟨S4096x4352, .i32⟩
  | 20 => ⟨S_, .i32⟩
  | 21 => ⟨S4096x4352, .i32⟩
  | 22 => ⟨S4096x4352, .i1⟩
  | 23 => ⟨S4096x4352, .i32⟩
  | 24 => ⟨S4096x4352, .i32⟩
  | 25 => ⟨S_, .i32⟩
  | 26 => ⟨S4096x4352, .i32⟩
  | 27 => ⟨S4096x4352, .i1⟩
  | 28 => ⟨S4096x4352, .i1⟩
  | 29 => ⟨S_, .i32⟩
  | 30 => ⟨S4096x4352, .i32⟩
  | 31 => ⟨S4096x4352, .i32⟩
  | 32 => ⟨S4096x4352, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4096x4352, .i32⟩
  | 40 => ⟨S4096x4352, .i32⟩
  | 41 => ⟨S_, .i32⟩
  | 42 => ⟨S4096x4352, .i32⟩
  | 43 => ⟨S4096x4352, .i1⟩
  | 44 => ⟨S_, .i32⟩
  | 45 => ⟨S4096x4352, .i32⟩
  | 46 => ⟨S4096x4352, .i1⟩
  | 47 => ⟨S_, .i32⟩
  | 48 => ⟨S_, .i1⟩
  | 49 => ⟨S4096x4352, .i1⟩
  | 50 => ⟨S4096x4352, .i1⟩
  | 51 => ⟨S4096x4352, .i1⟩
  | 52 => ⟨S4096x4352, .i32⟩
  | 53 => ⟨S4096x4352, .i32⟩
  | 54 => ⟨S4096x4352, .i32⟩
  | 55 => ⟨S_, .i32⟩
  | 56 => ⟨S_, .i32⟩
  | 57 => ⟨S4096x4352, .i32⟩
  | 58 => ⟨S4096x4352, .i32⟩
  | 59 => ⟨S4096x4352, .i32⟩
  | 60 => ⟨S_, .i32⟩
  | 61 => ⟨S4096x4352, .i32⟩
  | 62 => ⟨S4096x4352, .i1⟩
  | 63 => ⟨S4096x4352, .i32⟩
  | 64 => ⟨S4096x4352, .i32⟩
  | 65 => ⟨S_, .i32⟩
  | 66 => ⟨S4096x4352, .i32⟩
  | 67 => ⟨S4096x4352, .i1⟩
  | 68 => ⟨S4096x4352, .i1⟩
  | 69 => ⟨S_, .i32⟩
  | 70 => ⟨S4096x4352, .i32⟩
  | 71 => ⟨S4096x4352, .i32⟩
  | 72 => ⟨S4096x4352, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S4096x4352, .i32⟩
  | 80 => ⟨S4096x4352, .i32⟩
  | 81 => ⟨S_, .i32⟩
  | 82 => ⟨S4096x4352, .i32⟩
  | 83 => ⟨S4096x4352, .i1⟩
  | 84 => ⟨S_, .i32⟩
  | 85 => ⟨S4096x4352, .i32⟩
  | 86 => ⟨S4096x4352, .i1⟩
  | 87 => ⟨S_, .i32⟩
  | 88 => ⟨S_, .i1⟩
  | 89 => ⟨S4096x4352, .i1⟩
  | 90 => ⟨S4096x4352, .i1⟩
  | 91 => ⟨S4096x4352, .i1⟩
  | 92 => ⟨S4096x4352, .i32⟩
  | 93 => ⟨S4096x4352, .i32⟩
  | 94 => ⟨S4096x4352, .i32⟩
  | 95 => ⟨S_, .i32⟩
  | 96 => ⟨S4096x4352, .i32⟩
  | 97 => ⟨S4096x4352, .i32⟩
  | 98 => ⟨S_, .i32⟩
  | 99 => ⟨S_, .i32⟩
  | 100 => ⟨S_, .i32⟩
  | 101 => ⟨S4096x4352, .i32⟩
  | 102 => ⟨S4096x4352, .i32⟩
  | 103 => ⟨S_, .i32⟩
  | 104 => ⟨S4096x4352, .i32⟩
  | 105 => ⟨S4096x4352, .i32⟩
  | 106 => ⟨S_, .i32⟩
  | 107 => ⟨S4096x4352, .i32⟩
  | 108 => ⟨S4096x4352, .i32⟩
  | 109 => ⟨S_, .i32⟩
  | 110 => ⟨S_, .i32⟩
  | 111 => ⟨S_, .i32⟩
  | 112 => ⟨S4096x4352, .i32⟩
  | 113 => ⟨S4096x4352, .i32⟩
  | 114 => ⟨S_, .i32⟩
  | 115 => ⟨S4096x4352, .i32⟩
  | 116 => ⟨S4096x4352, .i32⟩
  | 117 => ⟨S4096x4352, .i1⟩
  | 118 => ⟨S_, .i32⟩
  | 119 => ⟨S4096x4352, .i32⟩
  | 120 => ⟨S4096x4352, .i32⟩
  | 121 => ⟨S4096x4352, .i1⟩
  | 122 => ⟨S4096x4352, .i1⟩
  | 123 => ⟨S4096x4352, .i1⟩
  | 124 => ⟨S4096x4352, .i1⟩
  | 125 => ⟨S_, .i32⟩
  | 126 => ⟨S4096x4352, .i32⟩
  | 127 => ⟨S4096x4352, .i32⟩
  | _ => ⟨S4352x1536, .bf16⟩

abbrev hbmTy0_1 (i : Nat) : BufTy := match i % 128 with
  | 0 => ⟨S4096x4352, .i1⟩
  | 1 => ⟨S4096x4352, .i1⟩
  | 2 => ⟨S4096x4352, .i32⟩
  | 3 => ⟨S_, .i32⟩
  | 4 => ⟨S4096x4352, .i32⟩
  | 5 => ⟨S4096x4352, .i32⟩
  | 6 => ⟨S_, .i32⟩
  | 7 => ⟨S_, .i32⟩
  | 8 => ⟨S_, .i32⟩
  | 9 => ⟨S4096x4352, .i32⟩
  | 10 => ⟨S4096x4352, .i32⟩
  | 11 => ⟨S_, .i32⟩
  | 12 => ⟨S4096x4352, .i32⟩
  | 13 => ⟨S4096x4352, .i32⟩
  | 14 => ⟨S4096x4352, .i32⟩
  | 15 => ⟨S_, .i32⟩
  | 16 => ⟨S4096x4352, .i32⟩
  | 17 => ⟨S4096x4352, .i32⟩
  | 18 => ⟨S_, .i32⟩
  | 19 => ⟨S_, .i32⟩
  | 20 => ⟨S_, .i32⟩
  | 21 => ⟨S4096x4352, .i32⟩
  | 22 => ⟨S4096x4352, .i32⟩
  | 23 => ⟨S_, .i32⟩
  | 24 => ⟨S4096x4352, .i32⟩
  | 25 => ⟨S4096x4352, .i32⟩
  | 26 => ⟨S1x4096x4352, .i1⟩
  | 27 => ⟨S_, .i32⟩
  | 28 => ⟨S4096x4352, .i32⟩
  | 29 => ⟨S4096x4352, .i1⟩
  | 30 => ⟨S_, .i32⟩
  | 31 => ⟨S4096x4352, .i32⟩
  | 32 => ⟨S4096x4352, .i32⟩
  | 33 => ⟨S4096x4352, .i32⟩
  | 34 => ⟨S_, .i32⟩
  | 35 => ⟨S4096x4352, .i32⟩
  | 36 => ⟨S4096x4352, .i1⟩
  | 37 => ⟨S_, .i32⟩
  | 38 => ⟨S4096x4352, .i32⟩
  | 39 => ⟨S4096x4352, .i32⟩
  | 40 => ⟨S4096x4352, .i32⟩
  | 41 => ⟨S4096x4352x1, .i32⟩
  | 42 => ⟨S4096x4352x1, .i32⟩
  | 43 => ⟨S4096x4352x2, .i32⟩
  | 44 => ⟨S8x4096x4352, .f32⟩
  | 45 => ⟨S_, .f32⟩
  | 46 => ⟨S_, .f32⟩
  | 47 => ⟨S8x4096x4352, .i1⟩
  | 48 => ⟨S8x4096x4352, .f32⟩
  | 49 => ⟨S8x4096x4352, .f32⟩
  | 50 => ⟨S_, .i32⟩
  | 51 => ⟨S4096x4352, .i32⟩
  | 52 => ⟨S4096x4352, .i1⟩
  | 53 => ⟨S1x4096x4352, .i1⟩
  | 54 => ⟨S_, .f32⟩
  | 55 => ⟨S_, .f32⟩
  | 56 => ⟨S8x4096x4352, .i1⟩
  | 57 => ⟨S8x4096x4352, .f32⟩
  | 58 => ⟨S8x4096x4352, .f32⟩
  | 59 => ⟨S8x4096x4352, .f32⟩
  | 60 => ⟨S_, .f32⟩
  | 61 => ⟨S8x4096, .f32⟩
  | 62 => ⟨S8x4096x1, .f32⟩
  | 63 => ⟨S8x4096x4352, .f32⟩
  | 64 => ⟨S8x4096x4352, .f32⟩
  | 65 => ⟨S8x4096x4352, .f32⟩
  | 66 => ⟨S_, .f32⟩
  | 67 => ⟨S8x4096, .f32⟩
  | 68 => ⟨S8x4096x1, .f32⟩
  | 69 => ⟨S8x4096x1, .f32⟩
  | 70 => ⟨S8x4096x1, .f32⟩
  | 71 => ⟨S8x4096, .f32⟩
  | 72 => ⟨S1088x128, .i32⟩
  | 73 => ⟨S1088x128, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S1088x128, .i32⟩
  | 81 => ⟨S1088x128, .i32⟩
  | 82 => ⟨S_, .i32⟩
  | 83 => ⟨S1088x128, .i32⟩
  | 84 => ⟨S1088x128, .i1⟩
  | 85 => ⟨S_, .i32⟩
  | 86 => ⟨S1088x128, .i32⟩
  | 87 => ⟨S1088x128, .i1⟩
  | 88 => ⟨S_, .i32⟩
  | 89 => ⟨S_, .i1⟩
  | 90 => ⟨S1088x128, .i1⟩
  | 91 => ⟨S1088x128, .i1⟩
  | 92 => ⟨S1088x128, .i1⟩
  | 93 => ⟨S1088x128, .i32⟩
  | 94 => ⟨S1088x128, .i32⟩
  | 95 => ⟨S1088x128, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S1088x128, .i32⟩
  | 103 => ⟨S1088x128, .i32⟩
  | 104 => ⟨S_, .i32⟩
  | 105 => ⟨S1088x128, .i32⟩
  | 106 => ⟨S1088x128, .i1⟩
  | 107 => ⟨S_, .i32⟩
  | 108 => ⟨S1088x128, .i32⟩
  | 109 => ⟨S1088x128, .i1⟩
  | 110 => ⟨S_, .i32⟩
  | 111 => ⟨S_, .i1⟩
  | 112 => ⟨S1088x128, .i1⟩
  | 113 => ⟨S1088x128, .i1⟩
  | 114 => ⟨S1088x128, .i1⟩
  | 115 => ⟨S1088x128, .i32⟩
  | 116 => ⟨S1088x128, .i32⟩
  | 117 => ⟨S1088x128, .i32⟩
  | 118 => ⟨S_, .i32⟩
  | 119 => ⟨S_, .i32⟩
  | 120 => ⟨S1088x128, .i32⟩
  | 121 => ⟨S1088x128, .i32⟩
  | 122 => ⟨S1088x128, .i32⟩
  | 123 => ⟨S_, .i32⟩
  | 124 => ⟨S1088x128, .i32⟩
  | 125 => ⟨S1088x128, .i1⟩
  | 126 => ⟨S1088x128, .i32⟩
  | 127 => ⟨S1088x128, .i32⟩
  | _ => ⟨S4352x1536, .bf16⟩

abbrev hbmTy0_2 (i : Nat) : BufTy := match i % 128 with
  | 0 => ⟨S_, .i32⟩
  | 1 => ⟨S1088x128, .i32⟩
  | 2 => ⟨S1088x128, .i1⟩
  | 3 => ⟨S1088x128, .i1⟩
  | 4 => ⟨S_, .i32⟩
  | 5 => ⟨S1088x128, .i32⟩
  | 6 => ⟨S1088x128, .i32⟩
  | 7 => ⟨S1088x128, .i32⟩
  | 8 => ⟨S_, .i32⟩
  | 9 => ⟨S1088x128, .i32⟩
  | 10 => ⟨S1088x128, .i32⟩
  | 11 => ⟨S_, .i32⟩
  | 12 => ⟨S_, .i32⟩
  | 13 => ⟨S1088x128, .i32⟩
  | 14 => ⟨S1088x128, .i32⟩
  | 15 => ⟨S1088x128, .i32⟩
  | 16 => ⟨S_, .i32⟩
  | 17 => ⟨S1088x128, .i32⟩
  | 18 => ⟨S1088x128, .i1⟩
  | 19 => ⟨S1088x128, .i32⟩
  | 20 => ⟨S1088x128, .i32⟩
  | 21 => ⟨S_, .i32⟩
  | 22 => ⟨S1088x128, .i32⟩
  | 23 => ⟨S1088x128, .i1⟩
  | 24 => ⟨S1088x128, .i1⟩
  | 25 => ⟨S_, .i32⟩
  | 26 => ⟨S1088x128, .i32⟩
  | 27 => ⟨S1088x128, .i32⟩
  | 28 => ⟨S1088x128, .i32⟩
  | 29 => ⟨S1088x128, .i32⟩
  | 30 => ⟨S_, .i32⟩
  | 31 => ⟨S1088x128, .i32⟩
  | 32 => ⟨S1088x128, .i32⟩
  | 33 => ⟨S_, .i32⟩
  | 34 => ⟨S_, .i32⟩
  | 35 => ⟨S_, .i32⟩
  | 36 => ⟨S1088x128, .i32⟩
  | 37 => ⟨S1088x128, .i32⟩
  | 38 => ⟨S_, .i32⟩
  | 39 => ⟨S1088x128, .i32⟩
  | 40 => ⟨S1088x128, .i32⟩
  | 41 => ⟨S1088x128, .i1⟩
  | 42 => ⟨S_, .i32⟩
  | 43 => ⟨S1088x128, .i32⟩
  | 44 => ⟨S1088x128, .i32⟩
  | 45 => ⟨S1088x128, .i1⟩
  | 46 => ⟨S1088x128, .i1⟩
  | 47 => ⟨S_, .i32⟩
  | 48 => ⟨S1088x128, .i32⟩
  | 49 => ⟨S1088x128, .i1⟩
  | 50 => ⟨S1088x128, .i1⟩
  | 51 => ⟨S_, .i32⟩
  | 52 => ⟨S1088x128, .i32⟩
  | 53 => ⟨S1088x128, .i1⟩
  | 54 => ⟨S1088x128, .i1⟩
  | 55 => ⟨S_, .i32⟩
  | 56 => ⟨S_, .i32⟩
  | 57 => ⟨S_, .i32⟩
  | 58 => ⟨S1088x128, .i32⟩
  | 59 => ⟨S1088x128, .i32⟩
  | 60 => ⟨S_, .i32⟩
  | 61 => ⟨S1088x128, .i32⟩
  | 62 => ⟨S1088x128, .i32⟩
  | 63 => ⟨S1088x128, .i32⟩
  | 64 => ⟨S_, .i32⟩
  | 65 => ⟨S1088x128, .i32⟩
  | 66 => ⟨S1088x128, .i32⟩
  | 67 => ⟨S_, .i32⟩
  | 68 => ⟨S1088x128, .i32⟩
  | 69 => ⟨S1088x128, .i32⟩
  | 70 => ⟨S_, .i32⟩
  | 71 => ⟨S_, .i32⟩
  | 72 => ⟨S_, .i32⟩
  | 73 => ⟨S1088x128, .i32⟩
  | 74 => ⟨S1088x128, .i32⟩
  | 75 => ⟨S_, .i32⟩
  | 76 => ⟨S1088x128, .i32⟩
  | 77 => ⟨S1088x128, .i32⟩
  | 78 => ⟨S1x1088x128, .i1⟩
  | 79 => ⟨S_, .i32⟩
  | 80 => ⟨S1088x128, .i32⟩
  | 81 => ⟨S1088x128, .i1⟩
  | 82 => ⟨S_, .i32⟩
  | 83 => ⟨S1088x128, .i32⟩
  | 84 => ⟨S1088x128, .i32⟩
  | 85 => ⟨S1088x128, .i32⟩
  | 86 => ⟨S_, .i32⟩
  | 87 => ⟨S1088x128, .i32⟩
  | 88 => ⟨S1088x128, .i1⟩
  | 89 => ⟨S_, .i32⟩
  | 90 => ⟨S1088x128, .i32⟩
  | 91 => ⟨S1088x128, .i32⟩
  | 92 => ⟨S1088x128, .i32⟩
  | 93 => ⟨S1088x128x1, .i32⟩
  | 94 => ⟨S1088x128x1, .i32⟩
  | 95 => ⟨S1088x128x2, .i32⟩
  | 96 => ⟨S8x1088x128, .f32⟩
  | 97 => ⟨S_, .f32⟩
  | 98 => ⟨S_, .f32⟩
  | 99 => ⟨S8x1088x128, .i1⟩
  | 100 => ⟨S8x1088x128, .f32⟩
  | 101 => ⟨S8x1088x128, .f32⟩
  | 102 => ⟨S4352x512, .bf16⟩
  | 103 => ⟨S4352x1024, .bf16⟩
  | 104 => ⟨S8x1088x128, .f32⟩
  | _ => ⟨S4352x1536, .bf16⟩

abbrev hbmTy (i : Nat) : BufTy := match i / 128 with
  | 0 => hbmTy0_0 i
  | 1 => hbmTy0_1 i
  | 2 => hbmTy0_2 i
  | _ => ⟨S4352x1536, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .f32⟩
  | .local _ .vmem, ⟨3, _⟩ => ⟨S128x512, .f32⟩
  | .local _ .vmem, ⟨4, _⟩ => ⟨S8x128, .f32⟩
  | .local _ .vmem, ⟨5, _⟩ => ⟨S8x128, .f32⟩
  | .local _ .vmem, ⟨6, _⟩ => ⟨S4352x1536, .bf16⟩
  | .local _ .vmem, ⟨7, _⟩ => ⟨S8x1088x128, .f32⟩
  | .local _ .vmem, ⟨8, _⟩ => ⟨S128x512, .bf16⟩
  | .local _ .vmem, ⟨9, _⟩ => ⟨S128x512, .bf16⟩
  | .local _ .vmem, ⟨10, _⟩ => ⟨S4352x1024, .bf16⟩
  | .local _ .vmem, ⟨11, _⟩ => ⟨S8x1088x128, .f32⟩
  | .local _ .vmem, ⟨12, _⟩ => ⟨S4352x512, .f32⟩
  | .local _ .vmem, ⟨13, _⟩ => ⟨S4352x512, .f32⟩
  | _, _ => ⟨S4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v11 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v12 : Ref sig .tc := ⟨.hbm, 54, rfl⟩
abbrev main_c_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v13 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v14 : Ref sig .tc := ⟨.hbm, 94, rfl⟩
abbrev main_c_3 : Ref sig .tc := ⟨.hbm, 95, rfl⟩
abbrev main_v15 : Ref sig .tc := ⟨.hbm, 96, rfl⟩
abbrev main_v16 : Ref sig .tc := ⟨.hbm, 97, rfl⟩
abbrev main_c_4 : Ref sig .tc := ⟨.hbm, 98, rfl⟩
abbrev main_c_5 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v17 : Ref sig .tc := ⟨.hbm, 105, rfl⟩
abbrev main_c_6 : Ref sig .tc := ⟨.hbm, 106, rfl⟩
abbrev main_v18 : Ref sig .tc := ⟨.hbm, 107, rfl⟩
abbrev main_v19 : Ref sig .tc := ⟨.hbm, 108, rfl⟩
abbrev main_c_7 : Ref sig .tc := ⟨.hbm, 109, rfl⟩
abbrev main_c_8 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v20 : Ref sig .tc := ⟨.hbm, 116, rfl⟩
abbrev main_v21 : Ref sig .tc := ⟨.hbm, 117, rfl⟩
abbrev main_c_9 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_c_10 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_c_11 : Ref sig .tc := ⟨.hbm, 131, rfl⟩
abbrev main_v33 : Ref sig .tc := ⟨.hbm, 132, rfl⟩
abbrev main_v34 : Ref sig .tc := ⟨.hbm, 133, rfl⟩
abbrev main_c_12 : Ref sig .tc := ⟨.hbm, 134, rfl⟩
abbrev main_c_13 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v35 : Ref sig .tc := ⟨.hbm, 141, rfl⟩
abbrev main_v36 : Ref sig .tc := ⟨.hbm, 142, rfl⟩
abbrev main_c_14 : Ref sig .tc := ⟨.hbm, 143, rfl⟩
abbrev main_v37 : Ref sig .tc := ⟨.hbm, 144, rfl⟩
abbrev main_v38 : Ref sig .tc := ⟨.hbm, 145, rfl⟩
abbrev main_c_15 : Ref sig .tc := ⟨.hbm, 146, rfl⟩
abbrev main_c_16 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v39 : Ref sig .tc := ⟨.hbm, 153, rfl⟩
abbrev main_v40 : Ref sig .tc := ⟨.hbm, 154, rfl⟩
abbrev main_c_17 : Ref sig .tc := ⟨.hbm, 155, rfl⟩
abbrev main_v41 : Ref sig .tc := ⟨.hbm, 156, rfl⟩
abbrev main_v42 : Ref sig .tc := ⟨.hbm, 157, rfl⟩
abbrev main_c_18 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_c_19 : Ref sig .tc := ⟨.hbm, 162, rfl⟩
abbrev main_v46 : Ref sig .tc := ⟨.hbm, 163, rfl⟩
abbrev main_v47 : Ref sig .tc := ⟨.hbm, 164, rfl⟩
abbrev main_c_20 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_cst_21 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_v55 : Ref sig .tc := ⟨.hbm, 177, rfl⟩
abbrev main_c_22 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_cst_23 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_v59 : Ref sig .tc := ⟨.hbm, 186, rfl⟩
abbrev main_v60 : Ref sig .tc := ⟨.hbm, 187, rfl⟩
abbrev main_cst_24 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩
abbrev main_v64 : Ref sig .tc := ⟨.hbm, 192, rfl⟩
abbrev main_v65 : Ref sig .tc := ⟨.hbm, 193, rfl⟩
abbrev main_cst_25 : Ref sig .tc := ⟨.hbm, 194, rfl⟩
abbrev main_v66 : Ref sig .tc := ⟨.hbm, 195, rfl⟩
abbrev main_v67 : Ref sig .tc := ⟨.hbm, 196, rfl⟩
abbrev main_v68 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_v72 : Ref sig .tc := ⟨.hbm, 201, rfl⟩
abbrev main_c_26 : Ref sig .tc := ⟨.hbm, 202, rfl⟩
abbrev main_call10_v0 : Ref sig .tc := ⟨.hbm, 203, rfl⟩
abbrev main_call10_c : Ref sig .tc := ⟨.hbm, 204, rfl⟩
abbrev main_call10_v1 : Ref sig .tc := ⟨.hbm, 205, rfl⟩
abbrev main_call10_c_0 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_call10_c_1 : Ref sig .tc := ⟨.hbm, 210, rfl⟩
abbrev main_call10_v5 : Ref sig .tc := ⟨.hbm, 211, rfl⟩
abbrev main_call10_v6 : Ref sig .tc := ⟨.hbm, 212, rfl⟩
abbrev main_call10_c_2 : Ref sig .tc := ⟨.hbm, 213, rfl⟩
abbrev main_call10_v7 : Ref sig .tc := ⟨.hbm, 214, rfl⟩
abbrev main_call10_v8 : Ref sig .tc := ⟨.hbm, 215, rfl⟩
abbrev main_call10_c_3 : Ref sig .tc := ⟨.hbm, 216, rfl⟩
abbrev main_call10_v9 : Ref sig .tc := ⟨.hbm, 217, rfl⟩
abbrev main_call10_v10 : Ref sig .tc := ⟨.hbm, 218, rfl⟩
abbrev main_call10_v11 : Ref sig .tc := ⟨.hbm, 219, rfl⟩
abbrev main_call10_v12 : Ref sig .tc := ⟨.hbm, 220, rfl⟩
abbrev main_call10_v13 : Ref sig .tc := ⟨.hbm, 221, rfl⟩
abbrev main_call10_v14 : Ref sig .tc := ⟨.hbm, 222, rfl⟩
abbrev main_v73 : Ref sig .tc := ⟨.hbm, 223, rfl⟩
abbrev main_c_27 : Ref sig .tc := ⟨.hbm, 224, rfl⟩
abbrev main_call11_v0 : Ref sig .tc := ⟨.hbm, 225, rfl⟩
abbrev main_call11_c : Ref sig .tc := ⟨.hbm, 226, rfl⟩
abbrev main_call11_v1 : Ref sig .tc := ⟨.hbm, 227, rfl⟩
abbrev main_call11_c_0 : Ref sig .tc := ⟨.hbm, 228, rfl⟩
abbrev main_call11_v2 : Ref sig .tc := ⟨.hbm, 229, rfl⟩
abbrev main_call11_v3 : Ref sig .tc := ⟨.hbm, 230, rfl⟩
abbrev main_call11_v4 : Ref sig .tc := ⟨.hbm, 231, rfl⟩
abbrev main_call11_c_1 : Ref sig .tc := ⟨.hbm, 232, rfl⟩
abbrev main_call11_v5 : Ref sig .tc := ⟨.hbm, 233, rfl⟩
abbrev main_call11_v6 : Ref sig .tc := ⟨.hbm, 234, rfl⟩
abbrev main_call11_c_2 : Ref sig .tc := ⟨.hbm, 235, rfl⟩
abbrev main_call11_v7 : Ref sig .tc := ⟨.hbm, 236, rfl⟩
abbrev main_call11_v8 : Ref sig .tc := ⟨.hbm, 237, rfl⟩
abbrev main_call11_c_3 : Ref sig .tc := ⟨.hbm, 238, rfl⟩
abbrev main_call11_v9 : Ref sig .tc := ⟨.hbm, 239, rfl⟩
abbrev main_call11_v10 : Ref sig .tc := ⟨.hbm, 240, rfl⟩
abbrev main_call11_v11 : Ref sig .tc := ⟨.hbm, 241, rfl⟩
abbrev main_call11_v12 : Ref sig .tc := ⟨.hbm, 242, rfl⟩
abbrev main_call11_v13 : Ref sig .tc := ⟨.hbm, 243, rfl⟩
abbrev main_call11_v14 : Ref sig .tc := ⟨.hbm, 244, rfl⟩
abbrev main_v74 : Ref sig .tc := ⟨.hbm, 245, rfl⟩
abbrev main_c_28 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_call12_v3 : Ref sig .tc := ⟨.hbm, 250, rfl⟩
abbrev main_call12_v4 : Ref sig .tc := ⟨.hbm, 251, rfl⟩
abbrev main_call12_v5 : Ref sig .tc := ⟨.hbm, 252, rfl⟩
abbrev main_call12_v6 : Ref sig .tc := ⟨.hbm, 253, rfl⟩
abbrev main_call12_v7 : Ref sig .tc := ⟨.hbm, 254, rfl⟩
abbrev main_call12_v8 : Ref sig .tc := ⟨.hbm, 255, rfl⟩
abbrev main_call12_c : Ref sig .tc := ⟨.hbm, 256, rfl⟩
abbrev main_call12_v9 : Ref sig .tc := ⟨.hbm, 257, rfl⟩
abbrev main_call12_v10 : Ref sig .tc := ⟨.hbm, 258, rfl⟩
abbrev main_call12_v11 : Ref sig .tc := ⟨.hbm, 259, rfl⟩
abbrev main_call12_c_0 : Ref sig .tc := ⟨.hbm, 260, rfl⟩
abbrev main_call12_v12 : Ref sig .tc := ⟨.hbm, 261, rfl⟩
abbrev main_call12_v13 : Ref sig .tc := ⟨.hbm, 262, rfl⟩
abbrev main_v75 : Ref sig .tc := ⟨.hbm, 263, rfl⟩
abbrev main_c_29 : Ref sig .tc := ⟨.hbm, 264, rfl⟩
abbrev main_v76 : Ref sig .tc := ⟨.hbm, 265, rfl⟩
abbrev main_v77 : Ref sig .tc := ⟨.hbm, 266, rfl⟩
abbrev main_c_30 : Ref sig .tc := ⟨.hbm, 267, rfl⟩
abbrev main_call13_v0 : Ref sig .tc := ⟨.hbm, 268, rfl⟩
abbrev main_call13_v1 : Ref sig .tc := ⟨.hbm, 269, rfl⟩
abbrev main_call13_v2 : Ref sig .tc := ⟨.hbm, 270, rfl⟩
abbrev main_call13_v3 : Ref sig .tc := ⟨.hbm, 271, rfl⟩
abbrev main_call13_v4 : Ref sig .tc := ⟨.hbm, 272, rfl⟩
abbrev main_call13_v5 : Ref sig .tc := ⟨.hbm, 273, rfl⟩
abbrev main_call13_v6 : Ref sig .tc := ⟨.hbm, 274, rfl⟩
abbrev main_call13_v7 : Ref sig .tc := ⟨.hbm, 275, rfl⟩
abbrev main_call13_v8 : Ref sig .tc := ⟨.hbm, 276, rfl⟩
abbrev main_call13_c : Ref sig .tc := ⟨.hbm, 277, rfl⟩
abbrev main_call13_v9 : Ref sig .tc := ⟨.hbm, 278, rfl⟩
abbrev main_call13_v10 : Ref sig .tc := ⟨.hbm, 279, rfl⟩
abbrev main_call13_v11 : Ref sig .tc := ⟨.hbm, 280, rfl⟩
abbrev main_call13_c_0 : Ref sig .tc := ⟨.hbm, 281, rfl⟩
abbrev main_call13_v12 : Ref sig .tc := ⟨.hbm, 282, rfl⟩
abbrev main_call13_v13 : Ref sig .tc := ⟨.hbm, 283, rfl⟩
abbrev main_v78 : Ref sig .tc := ⟨.hbm, 284, rfl⟩
abbrev main_v79 : Ref sig .tc := ⟨.hbm, 285, rfl⟩
abbrev main_c_31 : Ref sig .tc := ⟨.hbm, 286, rfl⟩
abbrev main_v80 : Ref sig .tc := ⟨.hbm, 287, rfl⟩
abbrev main_v81 : Ref sig .tc := ⟨.hbm, 288, rfl⟩
abbrev main_c_32 : Ref sig .tc := ⟨.hbm, 289, rfl⟩
abbrev main_c_33 : Ref sig .tc := ⟨.hbm, 290, rfl⟩
abbrev main_call14_v0 : Ref sig .tc := ⟨.hbm, 291, rfl⟩
abbrev main_call14_v1 : Ref sig .tc := ⟨.hbm, 292, rfl⟩
abbrev main_call14_v2 : Ref sig .tc := ⟨.hbm, 293, rfl⟩
abbrev main_call14_v3 : Ref sig .tc := ⟨.hbm, 294, rfl⟩
abbrev main_call14_v4 : Ref sig .tc := ⟨.hbm, 295, rfl⟩
abbrev main_v82 : Ref sig .tc := ⟨.hbm, 296, rfl⟩
abbrev main_v83 : Ref sig .tc := ⟨.hbm, 297, rfl⟩
abbrev main_c_34 : Ref sig .tc := ⟨.hbm, 298, rfl⟩
abbrev main_v84 : Ref sig .tc := ⟨.hbm, 299, rfl⟩
abbrev main_v85 : Ref sig .tc := ⟨.hbm, 300, rfl⟩
abbrev main_v86 : Ref sig .tc := ⟨.hbm, 301, rfl⟩
abbrev main_v87 : Ref sig .tc := ⟨.hbm, 302, rfl⟩
abbrev main_c_35 : Ref sig .tc := ⟨.hbm, 303, rfl⟩
abbrev main_v88 : Ref sig .tc := ⟨.hbm, 304, rfl⟩
abbrev main_v89 : Ref sig .tc := ⟨.hbm, 305, rfl⟩
abbrev main_v90 : Ref sig .tc := ⟨.hbm, 306, rfl⟩
abbrev main_c_36 : Ref sig .tc := ⟨.hbm, 307, rfl⟩
abbrev main_v91 : Ref sig .tc := ⟨.hbm, 308, rfl⟩
abbrev main_v92 : Ref sig .tc := ⟨.hbm, 309, rfl⟩
abbrev main_v93 : Ref sig .tc := ⟨.hbm, 310, rfl⟩
abbrev main_c_37 : Ref sig .tc := ⟨.hbm, 311, rfl⟩
abbrev main_c_38 : Ref sig .tc := ⟨.hbm, 312, rfl⟩
abbrev main_call15_v0 : Ref sig .tc := ⟨.hbm, 313, rfl⟩
abbrev main_call15_v1 : Ref sig .tc := ⟨.hbm, 314, rfl⟩
abbrev main_call15_v2 : Ref sig .tc := ⟨.hbm, 315, rfl⟩
abbrev main_call15_v3 : Ref sig .tc := ⟨.hbm, 316, rfl⟩
abbrev main_call15_v4 : Ref sig .tc := ⟨.hbm, 317, rfl⟩
abbrev main_v94 : Ref sig .tc := ⟨.hbm, 318, rfl⟩
abbrev main_v95 : Ref sig .tc := ⟨.hbm, 319, rfl⟩
abbrev main_c_39 : Ref sig .tc := ⟨.hbm, 320, rfl⟩
abbrev main_v96 : Ref sig .tc := ⟨.hbm, 321, rfl⟩
abbrev main_v97 : Ref sig .tc := ⟨.hbm, 322, rfl⟩
abbrev main_c_40 : Ref sig .tc := ⟨.hbm, 323, rfl⟩
abbrev main_v98 : Ref sig .tc := ⟨.hbm, 324, rfl⟩
abbrev main_v99 : Ref sig .tc := ⟨.hbm, 325, rfl⟩
abbrev main_c_41 : Ref sig .tc := ⟨.hbm, 326, rfl⟩
abbrev main_c_42 : Ref sig .tc := ⟨.hbm, 327, rfl⟩
abbrev main_call16_v0 : Ref sig .tc := ⟨.hbm, 328, rfl⟩
abbrev main_call16_v1 : Ref sig .tc := ⟨.hbm, 329, rfl⟩
abbrev main_call16_v2 : Ref sig .tc := ⟨.hbm, 330, rfl⟩
abbrev main_call16_v3 : Ref sig .tc := ⟨.hbm, 331, rfl⟩
abbrev main_call16_v4 : Ref sig .tc := ⟨.hbm, 332, rfl⟩
abbrev main_v100 : Ref sig .tc := ⟨.hbm, 333, rfl⟩
abbrev main_v101 : Ref sig .tc := ⟨.hbm, 334, rfl⟩
abbrev main_c_43 : Ref sig .tc := ⟨.hbm, 335, rfl⟩
abbrev main_v102 : Ref sig .tc := ⟨.hbm, 336, rfl⟩
abbrev main_v103 : Ref sig .tc := ⟨.hbm, 337, rfl⟩
abbrev main_c_44 : Ref sig .tc := ⟨.hbm, 338, rfl⟩
abbrev main_v104 : Ref sig .tc := ⟨.hbm, 339, rfl⟩
abbrev main_v105 : Ref sig .tc := ⟨.hbm, 340, rfl⟩
abbrev main_v106 : Ref sig .tc := ⟨.hbm, 341, rfl⟩
abbrev main_c_45 : Ref sig .tc := ⟨.hbm, 342, rfl⟩
abbrev main_v107 : Ref sig .tc := ⟨.hbm, 343, rfl⟩
abbrev main_v108 : Ref sig .tc := ⟨.hbm, 344, rfl⟩
abbrev main_c_46 : Ref sig .tc := ⟨.hbm, 345, rfl⟩
abbrev main_v109 : Ref sig .tc := ⟨.hbm, 346, rfl⟩
abbrev main_v110 : Ref sig .tc := ⟨.hbm, 347, rfl⟩
abbrev main_v111 : Ref sig .tc := ⟨.hbm, 348, rfl⟩
abbrev main_v112 : Ref sig .tc := ⟨.hbm, 349, rfl⟩
abbrev main_v113 : Ref sig .tc := ⟨.hbm, 350, rfl⟩
abbrev main_v114 : Ref sig .tc := ⟨.hbm, 351, rfl⟩
abbrev main_v115 : Ref sig .tc := ⟨.hbm, 352, rfl⟩
abbrev main_cst_47 : Ref sig .tc := ⟨.hbm, 353, rfl⟩
abbrev main_call17_v0 : Ref sig .tc := ⟨.hbm, 354, rfl⟩
abbrev main_call17_v1 : Ref sig .tc := ⟨.hbm, 355, rfl⟩
abbrev main_call17_v2 : Ref sig .tc := ⟨.hbm, 356, rfl⟩
abbrev main_v116 : Ref sig .tc := ⟨.hbm, 357, rfl⟩
abbrev main_v117_0 : Ref sig .tc := ⟨.hbm, 358, rfl⟩
abbrev main_v117_1 : Ref sig .tc := ⟨.hbm, 359, rfl⟩
abbrev main_v117_2 : Ref sig .tc := ⟨.hbm, 360, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![34], ![false]⟩

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  v16
def k0_mult2 (i : grid0.Coords) : BitVec 32 :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  v21
def k0_off1 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v104 : Index := Scalar.indexCast v17
  let c512 : Index := 512#32
  ![v104.toNat, 512]
def k0_off2 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v107 : Index := Scalar.indexCast v17
  let c1024 : Index := 1024#32
  ![v107.toNat, 1024]
def k0_off3 (i : grid0.Coords) : Fin 3 → Nat :=
  let c0_42 : Index := 0#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v117 : Index := Scalar.indexCast v22
  let c0_43 : Index := 0#32
  ![0, v117.toNat, 0]
def k0_off4 (i : grid0.Coords) : Fin 3 → Nat :=
  let c1_51 : Index := 1#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v164 : Index := Scalar.indexCast v22
  let c0_52 : Index := 0#32
  ![1, v164.toNat, 0]
def k0_off5 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v230 : Index := Scalar.indexCast v17
  let c0_65 : Index := 0#32
  ![v230.toNat, 0]
def k0_off6 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v296 : Index := Scalar.indexCast v17
  let c640 : Index := 640#32
  ![v296.toNat, 640]
def k0_off7 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v299 : Index := Scalar.indexCast v17
  let c1152 : Index := 1152#32
  ![v299.toNat, 1152]
def k0_off8 (i : grid0.Coords) : Fin 3 → Nat :=
  let c2_106 : Index := 2#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v309 : Index := Scalar.indexCast v22
  let c0_107 : Index := 0#32
  ![2, v309.toNat, 0]
def k0_off9 (i : grid0.Coords) : Fin 3 → Nat :=
  let c3_115 : Index := 3#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v356 : Index := Scalar.indexCast v22
  let c0_116 : Index := 0#32
  ![3, v356.toNat, 0]
def k0_off10 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v422 : Index := Scalar.indexCast v17
  let c128_129 : Index := 128#32
  ![v422.toNat, 128]
def k0_off11 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v488 : Index := Scalar.indexCast v17
  let c768 : Index := 768#32
  ![v488.toNat, 768]
def k0_off12 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v491 : Index := Scalar.indexCast v17
  let c1280 : Index := 1280#32
  ![v491.toNat, 1280]
def k0_off13 (i : grid0.Coords) : Fin 3 → Nat :=
  let c4_170 : Index := 4#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v501 : Index := Scalar.indexCast v22
  let c0_171 : Index := 0#32
  ![4, v501.toNat, 0]
def k0_off14 (i : grid0.Coords) : Fin 3 → Nat :=
  let c5_179 : Index := 5#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v548 : Index := Scalar.indexCast v22
  let c0_180 : Index := 0#32
  ![5, v548.toNat, 0]
def k0_off15 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v614 : Index := Scalar.indexCast v17
  let c256_193 : Index := 256#32
  ![v614.toNat, 256]
def k0_off16 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v680 : Index := Scalar.indexCast v17
  let c896 : Index := 896#32
  ![v680.toNat, 896]
def k0_off17 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v683 : Index := Scalar.indexCast v17
  let c1408 : Index := 1408#32
  ![v683.toNat, 1408]
def k0_off18 (i : grid0.Coords) : Fin 3 → Nat :=
  let c6_234 : Index := 6#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v693 : Index := Scalar.indexCast v22
  let c0_235 : Index := 0#32
  ![6, v693.toNat, 0]
def k0_off19 (i : grid0.Coords) : Fin 3 → Nat :=
  let c7_243 : Index := 7#32
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c2_i32_6 : BitVec 32 := 2#32
  let v18 : BitVec 32 := Scalar.muli c2_i32_6 arg0
  let v19 : BitVec 32 := Scalar.subi v15 v18
  let c8_i32 : BitVec 32 := 8#32
  let v20 : BitVec 32 := Scalar.addi v19 c8_i32
  let c64_i32_7 : BitVec 32 := 64#32
  let v21 : BitVec 32 := Scalar.muli v20 c64_i32_7
  let v22 : BitVec 32 := v21
  let v740 : Index := Scalar.indexCast v22
  let c0_244 : Index := 0#32
  ![7, v740.toNat, 0]
def k0_off20 (i : grid0.Coords) : Fin 2 → Nat :=
  let c55_i32 : BitVec 32 := 55#32
  let c0_i32_5 : BitVec 32 := 0#32
  let c2_i32 : BitVec 32 := 2#32
  let arg0 : BitVec 32 := BitVec.ofNat 32 (i 0).val
  let v12 : BitVec 32 := Scalar.muli c2_i32 arg0
  let c4_i32 : BitVec 32 := 4#32
  let v13 : BitVec 32 := Scalar.subi v12 c4_i32
  let v14 : BitVec 32 := Scalar.maxsi c0_i32_5 v13
  let v15 : BitVec 32 := Scalar.minsi c55_i32 v14
  let c64_i32 : BitVec 32 := 64#32
  let v16 : BitVec 32 := Scalar.muli v15 c64_i32
  let v17 : BitVec 32 := v16
  let v806 : Index := Scalar.indexCast v17
  let c384_257 : Index := 384#32
  ![v806.toNat, 384]
def k0_cond4 (i : grid0.Coords) : BitVec 1 :=
  let arg0 : BitVec 32 := BitVec.ofNat 32 (i 0).val
  let c31_i32 : BitVec 32 := 31#32
  let v9 : BitVec 1 := Scalar.cmpi .eq arg0 c31_i32
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_5 : BitVec 32 := 0#32
  let c17_i32 : BitVec 32 := 17#32
  let v12 : BitVec 32 := Scalar.addi c0_i32_5 c17_i32
  let c1_i32 : BitVec 32 := 1#32
  ⟨c0_i32_5, v12, c1_i32⟩
def k0_mult3 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c256_i32 : BitVec 32 := 256#32
  let v13 : BitVec 32 := Scalar.muli arg11 c256_i32
  v13
def k0_off21 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c256_i32 : BitVec 32 := 256#32
  let v13 : BitVec 32 := Scalar.muli arg11 c256_i32
  let v14 : BitVec 32 := v13
  let v15 : Index := Scalar.indexCast v14
  let c0 : Index := 0#32
  ![v15.toNat, 0]
def k0_off22 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c256_i32 : BitVec 32 := 256#32
  let v13 : BitVec 32 := Scalar.muli arg11 c256_i32
  let v14 : BitVec 32 := v13
  let v18 : Index := Scalar.indexCast v14
  let c0_7 : Index := 0#32
  ![v18.toNat, 0]
def k0_off23 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c256_i32 : BitVec 32 := 256#32
  let v13 : BitVec 32 := Scalar.muli arg11 c256_i32
  let v14 : BitVec 32 := v13
  let v23 : Index := Scalar.indexCast v14
  let c512 : Index := 512#32
  ![v23.toNat, 512]
def k0_cond2 (i : grid0.Coords) : BitVec 1 :=
  let arg0 : BitVec 32 := BitVec.ofNat 32 (i 0).val
  let c32_i32 : BitVec 32 := 32#32
  let v3 : BitVec 1 := Scalar.cmpi .sge arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4352x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1088x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1088x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S4096x2816 : Shape := ⟨2, ![4096, 2816]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x5632, .bf16⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S1024x5632, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== UpDwGate.lean ====
abbrev S4096x1024 : Shape := ⟨2, ![4096, 1024]⟩
abbrev S4096x2816 : Shape := ⟨2, ![4096, 2816]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UpDwGateRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDwVal.lean ====
abbrev S4096x1024 : Shape := ⟨2, ![4096, 1024]⟩
abbrev S4096x2816 : Shape := ⟨2, ![4096, 2816]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UpDwValRefIdeal.lean ====
abbrev S4096x1024 : Shape := ⟨2, ![4096, 1024]⟩
abbrev S4096x2816 : Shape := ⟨2, ![4096, 2816]⟩
abbrev S1024x5632 : Shape := ⟨2, ![1024, 5632]⟩
abbrev S1024x2816 : Shape := ⟨2, ![1024, 2816]⟩
abbrev S_ : Shape := ⟨0, ![]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S4096x2816, .f32⟩
  | .hbm, ⟨5, _⟩ => ⟨S1024x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S4352x1024 : Shape := ⟨2, ![4352, 1024]⟩
abbrev S1024x2560 : Shape := ⟨2, ![1024, 2560]⟩
abbrev S4352x512 : Shape := ⟨2, ![4352, 512]⟩
abbrev S1088x512 : Shape := ⟨2, ![1088, 512]⟩
abbrev S1088x1024 : Shape := ⟨2, ![1088, 1024]⟩
abbrev S1088x2560 : Shape := ⟨2, ![1088, 2560]⟩

abbrev nBuf : Space → Nat
  | .hbm => 7
  | .vmem => 11
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x512, .bf16⟩
  | .hbm, ⟨3, _⟩ => ⟨S4352x1024, .bf16⟩
  | .hbm, ⟨4, _⟩ => ⟨S4352x512, .bf16⟩
  | .hbm, ⟨5, _⟩ => ⟨S4352x512, .bf16⟩
  | .hbm, ⟨6, _⟩ => ⟨S4352x1024, .f32⟩
  | .local _ .vmem, ⟨0, _⟩ => ⟨S1088x512, .bf16⟩
  | .local _ .vmem, ⟨1, _⟩ => ⟨S1088x512, .bf16⟩
  | .local _ .vmem, ⟨2, _⟩ => ⟨S1088x1024, .bf16⟩
  | .local _ .vmem, ⟨3, _⟩ => ⟨S1088x1024, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1024x2560, .bf16⟩
  | .local _ .vmem, ⟨9, _⟩ => ⟨S1088x1024, .f32⟩
  | .local _ .vmem, ⟨10, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InDxRefIdeal.lean ====
abbrev S4352x1024 : Shape := ⟨2, ![4352, 1024]⟩
abbrev S1024x2560 : Shape := ⟨2, ![1024, 2560]⟩
abbrev S4352x512 : Shape := ⟨2, ![4352, 512]⟩
abbrev S4352x2560 : Shape := ⟨2, ![4352, 2560]⟩

abbrev nBuf : Space → Nat
  | .hbm => 19
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x512, .bf16⟩
  | .hbm, ⟨3, _⟩ => ⟨S4352x1024, .bf16⟩
  | .hbm, ⟨4, _⟩ => ⟨S4352x512, .bf16⟩
  | .hbm, ⟨5, _⟩ => ⟨S4352x512, .bf16⟩
  | .hbm, ⟨6, _⟩ => ⟨S4352x1024, .f32⟩
  | .hbm, ⟨7, _⟩ => ⟨S1024x2560, .f32⟩
  | .hbm, ⟨8, _⟩ => ⟨S4352x512, .f32⟩
  | .hbm, ⟨9, _⟩ => ⟨S4352x1024, .f32⟩
  | .hbm, ⟨10, _⟩ => ⟨S4352x512, .f32⟩
  | .hbm, ⟨11, _⟩ => ⟨S4352x512, .f32⟩
  | .hbm, ⟨12, _⟩ => ⟨S4352x2560, .f32⟩
  | .hbm, ⟨13, _⟩ => ⟨S4352x512, .f32⟩
  | .hbm, ⟨14, _⟩ => ⟨S4352x1024, .f32⟩
  | .hbm, ⟨15, _⟩ => ⟨S4352x512, .f32⟩
  | .hbm, ⟨16, _⟩ => ⟨S4352x512, .f32⟩
  | .hbm, ⟨17, _⟩ => ⟨S4352x2560, .f32⟩
  | .hbm, ⟨18, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== InDw.lean ====
abbrev S4352x1024 : Shape := ⟨2, ![4352, 1024]⟩
abbrev S1024x2560 : Shape := ⟨2, ![1024, 2560]⟩
abbrev S4352x512 : Shape := ⟨2, ![4352, 512]⟩
abbrev S1088x1024 : Shape := ⟨2, ![1088, 1024]⟩
abbrev S1088x512 : Shape := ⟨2, ![1088, 512]⟩
abbrev S1088x2560 : Shape := ⟨2, ![1088, 2560]⟩

abbrev nBuf : Space → Nat
  | .hbm => 7
  | .vmem => 11
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x512, .bf16⟩
  | .hbm, ⟨3, _⟩ => ⟨S4352x1024, .bf16⟩
  | .hbm, ⟨4, _⟩ => ⟨S4352x512, .bf16⟩
  | .hbm, ⟨5, _⟩ => ⟨S4352x512, .bf16⟩
  | .hbm, ⟨6, _⟩ => ⟨S1024x2560, .f32⟩
  | .local _ .vmem, ⟨0, _⟩ => ⟨S1088x1024, .bf16⟩
  | .local _ .vmem, ⟨1, _⟩ => ⟨S1088x1024, .bf16⟩
  | .local _ .vmem, ⟨2, _⟩ => ⟨S1088x512, .bf16⟩
  | .local _ .vmem, ⟨3, _⟩ => ⟨S1088x512, .bf16⟩
  | .local _ .vmem, ⟨4, _⟩ => ⟨S1088x1024, .bf16⟩
  | .local _ .vmem, ⟨5, _⟩ => ⟨S1088x1024, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1024x2560, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_9 : BitVec 32 := 0#32
  let v9 : BitVec 1 := Scalar.cmpi .ne v8 c0_i32_9
  v9

def k0_cond2 (i : grid0.Coords) : BitVec 1 :=
  let arg2 : BitVec 32 := BitVec.ofNat 32 (i 2).val
  let c0_i32_10 : BitVec 32 := 0#32
  let v10 : BitVec 1 := Scalar.cmpi .sgt arg2 c0_i32_10
  let v11 : BitVec 32 := Scalar.extui v10
  let c0_i32_11 : BitVec 32 := 0#32
  let v12 : BitVec 1 := Scalar.cmpi .ne v11 c0_i32_11
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1024x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== InDwRefIdeal.lean ====
abbrev S4352x1024 : Shape := ⟨2, ![4352, 1024]⟩
abbrev S1024x2560 : Shape := ⟨2, ![1024, 2560]⟩
abbrev S4352x512 : Shape := ⟨2, ![4352, 512]⟩
abbrev S4352x2560 : Shape := ⟨2, ![4352, 2560]⟩
abbrev S2560x1024 : Shape := ⟨2, ![2560, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x512, .bf16⟩
  | .hbm, ⟨3, _⟩ => ⟨S4352x1024, .bf16⟩
  | .hbm, ⟨4, _⟩ => ⟨S4352x512, .bf16⟩
  | .hbm, ⟨5, _⟩ => ⟨S4352x512, .bf16⟩
  | .hbm, ⟨6, _⟩ => ⟨S4352x1024, .f32⟩
  | .hbm, ⟨7, _⟩ => ⟨S1024x2560, .f32⟩
  | .hbm, ⟨8, _⟩ => ⟨S4352x512, .f32⟩
  | .hbm, ⟨9, _⟩ => ⟨S4352x1024, .f32⟩
  | .hbm, ⟨10, _⟩ => ⟨S4352x512, .f32⟩
  | .hbm, ⟨11, _⟩ => ⟨S4352x512, .f32⟩
  | .hbm, ⟨12, _⟩ => ⟨S4352x2560, .f32⟩
  | .hbm, ⟨13, _⟩ => ⟨S4352x512, .f32⟩
  | .hbm, ⟨14, _⟩ => ⟨S4352x1024, .f32⟩
  | .hbm, ⟨15, _⟩ => ⟨S4352x512, .f32⟩
  | .hbm, ⟨16, _⟩ => ⟨S4352x512, .f32⟩
  | .hbm, ⟨17, _⟩ => ⟨S4352x2560, .f32⟩
  | .hbm, ⟨18, _⟩ => ⟨S2560x1024, .f32⟩
  | .hbm, ⟨19, _⟩ => ⟨S1024x2560, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MmQkv.lean ====
abbrev S4352x1024 : Shape := ⟨2, ![4352, 1024]⟩
abbrev S1024x2560 : Shape := ⟨2, ![1024, 2560]⟩
abbrev S4352x1536 : Shape := ⟨2, ![4352, 1536]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x1536, .bf16⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .bf16⟩
  | .local _ .vmem, ⟨5, _⟩ => ⟨S2176x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmQkvRefIdeal.lean ====
abbrev S4352x1024 : Shape := ⟨2, ![4352, 1024]⟩
abbrev S1024x2560 : Shape := ⟨2, ![1024, 2560]⟩
abbrev S4352x2560 : Shape := ⟨2, ![4352, 2560]⟩
abbrev S4352x1536 : Shape := ⟨2, ![4352, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x1024, .f32⟩
  | .hbm, ⟨3, _⟩ => ⟨S1024x2560, .f32⟩
  | .hbm, ⟨4, _⟩ => ⟨S4352x2560, .f32⟩
  | .hbm, ⟨5, _⟩ => ⟨S4352x1536, .f32⟩
  | .hbm, ⟨6, _⟩ => ⟨S4352x1536, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmAg.lean ====
abbrev S4352x1024 : Shape := ⟨2, ![4352, 1024]⟩
abbrev S1024x2560 : Shape := ⟨2, ![1024, 2560]⟩
abbrev S4096x1024 : Shape := ⟨2, ![4096, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.addi arg1 c3_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmAgRefIdeal.lean ====
abbrev S4352x1024 : Shape := ⟨2, ![4352, 1024]⟩
abbrev S1024x2560 : Shape := ⟨2, ![1024, 2560]⟩
abbrev S4352x2560 : Shape := ⟨2, ![4352, 2560]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2560, .bf16⟩
  | .hbm, ⟨2, _⟩ => ⟨S4352x1024, .f32⟩
  | .hbm, ⟨3, _⟩ => ⟨S1024x2560, .f32⟩
  | .hbm, ⟨4, _⟩ => ⟨S4352x2560, .f32⟩
  | .hbm, ⟨5, _⟩ => ⟨S4096x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmOut.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmUp.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormCtxBwd.lean ====
abbrev S256x1024 : Shape := ⟨2, ![256, 1024]⟩
abbrev S1x1024 : Shape := ⟨2, ![1, 1024]⟩
abbrev S4352x1024 : Shape := ⟨2, ![4352, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormCtxBwdRefIdeal.lean ====
abbrev S256x1024 : Shape := ⟨2, ![256, 1024]⟩
abbrev S1x1024 : Shape := ⟨2, ![1, 1024]⟩
abbrev S4352x1024 : Shape := ⟨2, ![4352, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Norm1Bwd.lean ====
abbrev S4096x1024 : Shape := ⟨2, ![4096, 1024]⟩
abbrev S1x1024 : Shape := ⟨2, ![1, 1024]⟩
abbrev S4352x1024 : Shape := ⟨2, ![4352, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v64 : BitVec 1 := Scalar.cmpi .eq arg0 c7_i32
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Norm1BwdRefIdeal.lean ====
abbrev S4096x1024 : Shape := ⟨2, ![4096, 1024]⟩
abbrev S1x1024 : Shape := ⟨2, ![1, 1024]⟩
abbrev S4352x1024 : Shape := ⟨2, ![4352, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4352x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Norm2Bwd.lean ====
abbrev S4096x1024 : Shape := ⟨2, ![4096, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 17
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_43 : BitVec 32 := 0#32
  let v81 : BitVec 1 := Scalar.cmpi .ne v80 c0_i32_43
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Norm2BwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Norm2Fwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2FwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Norm1Fwd.lean ====
abbrev S4096x1024 : Shape := ⟨2, ![4096, 1024]⟩
abbrev S256x1024 : Shape := ⟨2, ![256, 1024]⟩
abbrev S1x1024 : Shape := ⟨2, ![1, 1024]⟩
abbrev S4352x1024 : Shape := ⟨2, ![4352, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm1FwdRefIdeal.lean ====
abbrev S4096x1024 : Shape := ⟨2, ![4096, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x1024 : Shape := ⟨2, ![4352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S4352x1024, .f32⟩
  | .hbm, ⟨52, _⟩ => ⟨S4352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== NormLoss.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩
abbrev S1x1 : Shape := ⟨2, ![1, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v70 : BitVec 1 := Scalar.cmpi .eq arg0 c7_i32
  let v71 : BitVec 32 := Scalar.extui v70
  let c0_i32_34 : BitVec 32 := 0#32
  let v72 : BitVec 1 := Scalar.cmpi .ne v71 c0_i32_34
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormLossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .bf16⟩
  | .hbm, ⟨80, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Bits.Body.lean ====
module

public import proofs.«01_k».proof.Proof.Gen.Kernel.Frame
public import proofs.«01_k».proof.Proof.Bits.RunA
public import proofs.«01_k».proof.Proof.Bits.RunB
public import proofs.«01_k».proof.Proof.Bits.RunC
public import proofs.«01_k».proof.Proof.Bits.RunD

@[expose] public section

set_option maxRecDepth 16384

noncomputable section

namespace Cert.Kernel.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data of the pipeline and its run -/

/-! ## Which kind of point the body is at -/

theorem cond1_iff : ∀ t : Fin cfg0.N, k0_cond1 (cfg0.grid.coords t) = 1#1 ↔ t.val = 0 := by decide +kernel
theorem cond2_iff : ∀ t : Fin cfg0.N, k0_cond2 (cfg0.grid.coords t) = 1#1 ↔ 32 ≤ t.val := by decide +kernel
theorem cond3_iff : ∀ t : Fin cfg0.N, k0_cond3 (cfg0.grid.coords t) = 1#1 ↔ t.val < 32 := by decide +kernel
theorem cond4_iff : ∀ t : Fin cfg0.N, k0_cond4 (cfg0.grid.coords t) = 1#1 ↔ t.val = 31 := by decide +kernel

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)
abbrev ms0_7 (t : Fin cfg0.N) := win0_7.stage (cfg0.slots t 7)
theorem hs0_7 (t : Fin cfg0.N) : (ms0_7 t).IsWhole := hstage0_7 ((cfg0.slots t 7).cast nbuf0_7)
/-- The two accumulators' buffers. -/
abbrev scM0_0 : Memref sig .tc .vmem S4352x512 .f32 := Memref.whole cc0_scratch0
abbrev scM0_1 : Memref sig .tc .vmem S4352x512 .f32 := Memref.whole cc0_scratch1

theorem PhiA0_eq (c : Dev nD) : (Pipeline.ΦA spec0 c : sProp 𝕄)
    = iprop(((∃ d, owns (c : Thread nD τ) scM0_0 fullShare d) ∗ (∃ d, owns (c : Thread nD τ) scM0_1 fullShare d)) ∗ ∃ r, prngReg c r) := by
  unfold Pipeline.ΦA; rw [scopedRest0_eq]; simp only [scM0_0, scM0_1, owns_whole]; try rfl

/-- The outputs, of which nothing is said here. -/
def forgets0 : Fin 8 → Bool := fun w => decide (5 ≤ w.val)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
    | 6 => Pipeline.Dat.unnamed (cfg := cfg0) 6 t
    | 7 => Pipeline.Dat.unnamed (cfg := cfg0) 7 t
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem before0_0 (c : Dev nD) (t : Fin cfg0.N) (d) : (dats m 0 c).before 0 t d = iblk m c 0 t := before0_0_of m (dats m 0 c) (A_eq m c 0) (after0_0 m c) t d
theorem after0_1 (c : Dev nD) (t : Fin cfg0.N) : (dats m 0 c).after 1 t = iblk m c 1 t := rfl
theorem before0_1 (c : Dev nD) (t : Fin cfg0.N) (d) : (dats m 0 c).before 1 t d = iblk m c 1 t := before0_1_of m (dats m 0 c) (A_eq m c 1) (after0_1 m c) t d
theorem after0_2 (c : Dev nD) (t : Fin cfg0.N) : (dats m 0 c).after 2 t = iblk m c 2 t := rfl
theorem before0_2 (c : Dev nD) (t : Fin cfg0.N) (d) : (dats m 0 c).before 2 t d = iblk m c 2 t := before0_2_of m (dats m 0 c) (A_eq m c 2) (after0_2 m c) t d
theorem after0_3 (c : Dev nD) (t : Fin cfg0.N) : (dats m 0 c).after 3 t = iblk m c 3 t := rfl
theorem before0_3 (c : Dev nD) (t : Fin cfg0.N) (d) : (dats m 0 c).before 3 t d = iblk m c 3 t := before0_3_of m (dats m 0 c) (A_eq m c 3) (after0_3 m c) t d
theorem after0_4 (c : Dev nD) (t : Fin cfg0.N) : (dats m 0 c).after 4 t = iblk m c 4 t := rfl
theorem before0_4 (c : Dev nD) (t : Fin cfg0.N) (d) : (dats m 0 c).before 4 t d = iblk m c 4 t := before0_4_of m (dats m 0 c) (A_eq m c 4) (after0_4 m c) t d
/-- A buffer held at some contents is a memref owned at what reading it gives. -/
theorem own_any {sh : Shape} {e : EltTy} (c : Dev nD) (r : Memref sig .tc .vmem sh e) (f) :
    (r.view.loc (c : Thread nD τ) ↦[r.view.set]{fullShare} f : sProp 𝕄) ⊢ owns (c : Thread nD τ) r fullShare (r.view.read (Elt F) f) := by
  unfold owns
  iintro H
  iexists _; isplitr; swap; · iexact H
  ipureintro; rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare d) ∗ (∃ d, owns (c : Thread nD τ) (ms0_6 t) fullShare d) ∗ (∃ d, owns (c : Thread nD τ) (ms0_7 t) fullShare d))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (∃ d, owns (c : Thread nD τ) (ms0_5 t) fullShare d) ∗ (∃ d, owns (c : Thread nD τ) (ms0_6 t) fullShare d) ∗ (∃ d, owns (c : Thread nD τ) (ms0_7 t) fullShare d))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  simp only [before0_0, before0_1, before0_2, before0_3, before0_4]
  iintro ⟨⟨⟨⟨%xk, HK⟩, ⟨%xv, HV⟩⟩, HG⟩, HO, ⟨%e0, H0⟩, ⟨%e1, H1⟩, ⟨%e2, H2⟩, ⟨%e3, H3⟩, ⟨%e4, H4⟩, H5, ⟨%e6, H6⟩, H7⟩
  by_cases h0 : t.val = 0
  · iapply (runA c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond1_iff t).mpr h0) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv).2 Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HK]; · iexact HK
    isplitl [HV]; · iexact HV
    iintro ⟨H0, H1, H2, H3, H4, ⟨%es, H5⟩, H6, H7, HK, HV⟩
    isplitl [HK HV HG]
    · isplitl [HK HV]
      · isplitl [HK]
        · iexists _; iapply own_any; iexact HK
        iexists _; iapply own_any; iexact HV
      iexact HG
    isplitl [HO]; · iexact HO
    isplitl [H0]; · iexact H0
    isplitl [H1]; · iexact H1
    isplitl [H2]; · iexact H2
    isplitl [H3]; · iexact H3
    isplitl [H4]; · iexact H4
    isplitl [H5]; · iexists _; iapply own_any; iexact H5
    isplitl [H6]; · iexact H6
    iexact H7
  by_cases h1 : t.val < 31
  · iapply (runB c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv).2 Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HK]; · iexact HK
    isplitl [HV]; · iexact HV
    iintro ⟨H0, H1, H2, H3, H4, ⟨%es, H5⟩, H6, H7, HK, HV⟩
    isplitl [HK HV HG]
    · isplitl [HK HV]
      · isplitl [HK]
        · iexists _; iapply own_any; iexact HK
        iexists _; iapply own_any; iexact HV
      iexact HG
    isplitl [HO]; · iexact HO
    isplitl [H0]; · iexact H0
    isplitl [H1]; · iexact H1
    isplitl [H2]; · iexact H2
    isplitl [H3]; · iexact H3
    isplitl [H4]; · iexact H4
    isplitl [H5]; · iexists _; iapply own_any; iexact H5
    isplitl [H6]; · iexact H6
    iexact H7
  by_cases h2 : t.val = 31
  · iapply (runC c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h2) (iblk m c 0 t) (iblk m c 1 t) (iblk m c 2 t) (iblk m c 3 t) (iblk m c 4 t) xk xv).2 Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HK]; · iexact HK
    isplitl [HV]; · iexact HV
    iintro ⟨H0, H1, H2, H3, H4, ⟨%es, H5⟩, ⟨%es6, H6⟩, H7, HK, HV⟩
    isplitl [HK HV HG]
    · isplitl [HK HV]
      · isplitl [HK]
        · iexists _; iapply own_any; iexact HK
        iexists _; iapply own_any; iexact HV
      iexact HG
    isplitl [HO]; · iexact HO
    isplitl [H0]; · iexact H0
    isplitl [H1]; · iexact H1
    isplitl [H2]; · iexact H2
    isplitl [H3]; · iexact H3
    isplitl [H4]; · iexact H4
    isplitl [H5]; · iexists _; iapply own_any; iexact H5
    isplitl [H6]; · iexists _; iapply own_any; iexact H6
    iexact H7
  iapply (runD c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) ((cond2_iff t).mpr (by omega)) (fun h' => absurd ((cond3_iff t).mp h') (by omega)) (fun h' => absurd ((cond4_iff t).mp h') (by omega)) (iblk m c 0 t) (iblk m c 1 t) (iblk m c 2 t) (iblk m c 3 t) (iblk m c 4 t) xk xv e6).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HK]; · iexact HK
  isplitl [HV]; · iexact HV
  iintro ⟨H0, H1, H2, H3, H4, ⟨%es, H5⟩, H6, H7, HK, HV⟩
  isplitl [HK HV HG]
  · isplitl [HK HV]
    · isplitl [HK]
      · iexists _; iexact HK
      iexists _; iexact HV
    iexact HG
  isplitl [HO]; · iexact HO
  isplitl [H0]; · iexact H0
  isplitl [H1]; · iexact H1
  isplitl [H2]; · iexact H2
  isplitl [H3]; · iexact H3
  isplitl [H4]; · iexact H4
  isplitl [H5]; · iexists _; iapply own_any; iexact H5
  isplitl [H6]; · iexists _; iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every weakly fair execution of @main terminates, every buffer that is no output as the region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

end Cert.Kernel.AttnRun

end
-- ==== Proof.Offsets.lean ====
module

public import proofs.«01_k».proof.Proof.Gen.KernelIdeal.Frame
public import proofs.«01_k».proof.Proof.Gen.KernelIdeal.Loops

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first key row of point `i`'s window, as a row of the key array: `64 · clip(2i − 4, 0, 55)`. -/
def K0 (i : grid0.Coords) : Nat := 64 * min (2 * (i 0).val - 4) 55

theorem off3_eq (i : grid0.Coords) : k0_off3 i = ![0, k0_off3 i 1, 0] := by
  funext a; fin_cases a <;> rfl
instance closed3 (i : grid0.Coords) : ClosedOff (k0_off3 i) := ⟨![0, k0_off3 i 1, 0], off3_eq i⟩
theorem off4_eq (i : grid0.Coords) : k0_off4 i = ![1, k0_off3 i 1, 0] := by
  funext a; fin_cases a <;> rfl
instance closed4 (i : grid0.Coords) : ClosedOff (k0_off4 i) := ⟨![1, k0_off3 i 1, 0], off4_eq i⟩
theorem off8_eq (i : grid0.Coords) : k0_off8 i = ![2, k0_off3 i 1, 0] := by
  funext a; fin_cases a <;> rfl
instance closed8 (i : grid0.Coords) : ClosedOff (k0_off8 i) := ⟨![2, k0_off3 i 1, 0], off8_eq i⟩
theorem off9_eq (i : grid0.Coords) : k0_off9 i = ![3, k0_off3 i 1, 0] := by
  funext a; fin_cases a <;> rfl
instance closed9 (i : grid0.Coords) : ClosedOff (k0_off9 i) := ⟨![3, k0_off3 i 1, 0], off9_eq i⟩
theorem off13_eq (i : grid0.Coords) : k0_off13 i = ![4, k0_off3 i 1, 0] := by
  funext a; fin_cases a <;> rfl
instance closed13 (i : grid0.Coords) : ClosedOff (k0_off13 i) := ⟨![4, k0_off3 i 1, 0], off13_eq i⟩
theorem off14_eq (i : grid0.Coords) : k0_off14 i = ![5, k0_off3 i 1, 0] := by
  funext a; fin_cases a <;> rfl
instance closed14 (i : grid0.Coords) : ClosedOff (k0_off14 i) := ⟨![5, k0_off3 i 1, 0], off14_eq i⟩
theorem off18_eq (i : grid0.Coords) : k0_off18 i = ![6, k0_off3 i 1, 0] := by
  funext a; fin_cases a <;> rfl
instance closed18 (i : grid0.Coords) : ClosedOff (k0_off18 i) := ⟨![6, k0_off3 i 1, 0], off18_eq i⟩
theorem off19_eq (i : grid0.Coords) : k0_off19 i = ![7, k0_off3 i 1, 0] := by
  funext a; fin_cases a <;> rfl
instance closed19 (i : grid0.Coords) : ClosedOff (k0_off19 i) := ⟨![7, k0_off3 i 1, 0], off19_eq i⟩
theorem off5_eq : ∀ i : grid0.Coords, k0_off5 i = ![64 * min (2 * (i 0).val - 4) 55, 0] := by decide +kernel
instance closed5 (i : grid0.Coords) : ClosedOff (k0_off5 i) := ⟨![64 * min (2 * (i 0).val - 4) 55, 0], off5_eq i⟩
theorem off10_eq : ∀ i : grid0.Coords, k0_off10 i = ![64 * min (2 * (i 0).val - 4) 55, 128] := by decide +kernel
instance closed10 (i : grid0.Coords) : ClosedOff (k0_off10 i) := ⟨![64 * min (2 * (i 0).val - 4) 55, 128], off10_eq i⟩
theorem off15_eq : ∀ i : grid0.Coords, k0_off15 i = ![64 * min (2 * (i 0).val - 4) 55, 256] := by decide +kernel
instance closed15 (i : grid0.Coords) : ClosedOff (k0_off15 i) := ⟨![64 * min (2 * (i 0).val - 4) 55, 256], off15_eq i⟩
theorem off20_eq : ∀ i : grid0.Coords, k0_off20 i = ![64 * min (2 * (i 0).val - 4) 55, 384] := by decide +kernel
instance closed20 (i : grid0.Coords) : ClosedOff (k0_off20 i) := ⟨![64 * min (2 * (i 0).val - 4) 55, 384], off20_eq i⟩

theorem off1_eq : ∀ i : grid0.Coords, k0_off1 i = ![64 * min (2 * (i 0).val - 4) 55, 512] := by decide +kernel
theorem off2_eq : ∀ i : grid0.Coords, k0_off2 i = ![64 * min (2 * (i 0).val - 4) 55, 1024] := by decide +kernel
theorem off6_eq : ∀ i : grid0.Coords, k0_off6 i = ![64 * min (2 * (i 0).val - 4) 55, 640] := by decide +kernel
theorem off7_eq : ∀ i : grid0.Coords, k0_off7 i = ![64 * min (2 * (i 0).val - 4) 55, 1152] := by decide +kernel
theorem off11_eq : ∀ i : grid0.Coords, k0_off11 i = ![64 * min (2 * (i 0).val - 4) 55, 768] := by decide +kernel
theorem off12_eq : ∀ i : grid0.Coords, k0_off12 i = ![64 * min (2 * (i 0).val - 4) 55, 1280] := by decide +kernel
theorem off16_eq : ∀ i : grid0.Coords, k0_off16 i = ![64 * min (2 * (i 0).val - 4) 55, 896] := by decide +kernel
theorem off17_eq : ∀ i : grid0.Coords, k0_off17 i = ![64 * min (2 * (i 0).val - 4) 55, 1408] := by decide +kernel

end Cert.KernelIdeal.AttnRun

end
-- ==== Proof.Canon.lean ====
module

public import proofs.«01_k».proof.Proof.Gen.KernelIdeal.Frame
public import proofs.«01_k».proof.Proof.Offsets
public import Idealize.ShloMosaic.Lib.VecWindow

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow (window put)

variable {F : FTy → Type} [FloatOps F] [Named F]

local notation "𝕄" => MT nD τ sig Unit (Elt F) ℕ (UR sig nD τ) ℕ

/-! # What one point of the attention backward computes, as functions of the blocks it reads

A point handles two query rows (128 queries) and four pairs of heads. `pair` below names one pair's values; every
definition is the printed operations of the body on the pair's slices, and the four pairs are the same functions of
different slices. -/

/-- A pair's query slice, scaled by 1/8. -/
def qs (q : FVec F S128x128 .bf16) : FVec F S128x128 .bf16 := mulf q (broadcast S128x128 (Scalar.ofBits .bf16 0x3E00#16))

/-- A pair's cotangent slice, in bf16. -/
def ds0 (d : FVec F S128x128 .f32) : FVec F S128x128 .bf16 := truncf .bf16 d bitsLt_bf16_f32

/-- The two heads of a transposed slice side by side on the lanes, each with the other's features zeroed. -/
def lanes2 (x : FVec F S128x128 .bf16) : FVec F S128x256 .bf16 :=
  concatenate S128x256 1
    [⟨S128x128, select (cmpi .slt (iota .tc S128x128 32 [0] iota_S128x128_d0_w32) (broadcast S128x128 64#32))
        (transpose S128x128 [1, 0] x transposes_S128x128_p1_0_S128x128) (broadcast S128x128 (Scalar.ofBits .bf16 0x0000#16))⟩,
     ⟨S128x128, select (cmpi .sge (iota .tc S128x128 32 [0] iota_S128x128_d0_w32) (broadcast S128x128 64#32))
        (transpose S128x128 [1, 0] x transposes_S128x128_p1_0_S128x128) (broadcast S128x128 (Scalar.ofBits .bf16 0x0000#16))⟩]
    concatenates_S128x128_S128x128_S128x256_d1

/-- The two heads of a slice one above the other on the rows, each with the other's features zeroed. -/
def rows2 (x : FVec F S128x128 .bf16) : FVec F S256x128 .bf16 :=
  concatenate S256x128 0
    [⟨S128x128, select (cmpi .slt (iota .tc S128x128 32 [1] iota_S128x128_d1_w32) (broadcast S128x128 64#32))
        x (broadcast S128x128 (Scalar.ofBits .bf16 0x0000#16))⟩,
     ⟨S128x128, select (cmpi .sge (iota .tc S128x128 32 [1] iota_S128x128_d1_w32) (broadcast S128x128 64#32))
        x (broadcast S128x128 (Scalar.ofBits .bf16 0x0000#16))⟩]
    concatenates_S128x128_S128x128_S256x128_d0

/-- A window's keys against both heads of a slice. -/
def dotL (k : FVec F S576x128 .bf16) (x : FVec F S128x128 .bf16) : FVec F S576x256 .f32 :=
  matmul dot_S576x128_S128x256_S576x256_1_0_0_1_n_n none k (lanes2 x) (constant S576x256 .f32 0x00000000#32)

/-- The context keys against both heads of a slice. -/
def dotC (k : FVec F S256x128 .bf16) (x : FVec F S128x128 .bf16) : FVec F S256x256 .f32 :=
  matmul dot_S256x128_S128x256_S256x256_1_0_0_1_n_n none k (lanes2 x) (constant S256x256 .f32 0x00000000#32)

def loL (x : FVec F S576x256 .f32) : FVec F S576x128 .f32 := extractStridedSlice S576x128 ![0, 0] x slices_S576x256_o0_0_S576x128
def hiL (x : FVec F S576x256 .f32) : FVec F S576x128 .f32 := extractStridedSlice S576x128 ![0, 128] x slices_S576x256_o0_128_S576x128
def loC (x : FVec F S256x256 .f32) : FVec F S256x128 .f32 := extractStridedSlice S256x128 ![0, 0] x slices_S256x256_o0_0_S256x128
def hiC (x : FVec F S256x256 .f32) : FVec F S256x128 .f32 := extractStridedSlice S256x128 ![0, 128] x slices_S256x256_o0_128_S256x128

/-- A head's row of log-sums. -/
def lrow (l : FVec F S1x128 .f32) : FVec F S1x128 .f32 := shapeCast S1x128 l shapeCasts_S1x128_S1x128

/-- The scores of a window's keys with the bias, the first and last key row masked. -/
def biased (e0 e1 : FVec F S64x128 .f32) (s : FVec F S576x128 .f32) (b : FVec F S1x576x128 .f32) : FVec F S576x128 .f32 :=
  concatenate S576x128 0
    [⟨S64x128, addf (extractStridedSlice S64x128 ![0, 0] (addf s (shapeCast S576x128 b shapeCasts_S1x576x128_S576x128)) slices_S576x128_o0_0_S64x128) e0⟩,
     ⟨S448x128, extractStridedSlice S448x128 ![64, 0] (addf s (shapeCast S576x128 b shapeCasts_S1x576x128_S576x128)) slices_S576x128_o64_0_S448x128⟩,
     ⟨S64x128, addf (extractStridedSlice S64x128 ![512, 0] (addf s (shapeCast S576x128 b shapeCasts_S1x576x128_S576x128)) slices_S576x128_o512_0_S64x128) e1⟩]
    concatenates_S64x128_S448x128_S64x128_S576x128_d0

/-- The weights of a window's keys. -/
def pL (e0 e1 : FVec F S64x128 .f32) (s : FVec F S576x128 .f32) (b : FVec F S1x576x128 .f32) (l : FVec F S1x128 .f32) : FVec F S576x128 .f32 :=
  exp (subf (biased e0 e1 s b) (broadcastTo S576x128 (lrow l) broadcasts_S1x128_S576x128))

/-- The weights of the context keys. -/
def pC (s : FVec F S256x128 .f32) (l : FVec F S1x128 .f32) : FVec F S256x128 .f32 :=
  exp (subf s (broadcastTo S256x128 (lrow l) broadcasts_S1x128_S256x128))

/-- Each query's sum of weight times weight gradient. -/
def delta (p g : FVec F S576x128 .f32) (p' g' : FVec F S256x128 .f32) : FVec F S1x128 .f32 :=
  addf (shapeCast S1x128 (multiReduction .add [0] S128 (mulf p g) 0x00000000#32 reduces_S576x128_S128 (.inl rfl) rfl) shapeCasts_S128_S1x128)
    (shapeCast S1x128 (multiReduction .add [0] S128 (mulf p' g') 0x00000000#32 reduces_S256x128_S128 (.inl rfl) rfl) shapeCasts_S128_S1x128)

/-- The gradient of a window's scores. -/
def gL (p g : FVec F S576x128 .f32) (δ : FVec F S1x128 .f32) : FVec F S576x128 .f32 :=
  mulf p (subf g (broadcastTo S576x128 δ broadcasts_S1x128_S576x128))

/-- The gradient of the context scores. -/
def gC (p g : FVec F S256x128 .f32) (δ : FVec F S1x128 .f32) : FVec F S256x128 .f32 :=
  mulf p (subf g (broadcastTo S256x128 δ broadcasts_S1x128_S256x128))

/-- Two heads' values side by side, in bf16. -/
def catL (x y : FVec F S576x128 .f32) : FVec F S576x256 .bf16 :=
  concatenate S576x256 1 [⟨S576x128, truncf .bf16 x bitsLt_bf16_f32⟩, ⟨S576x128, truncf .bf16 y bitsLt_bf16_f32⟩] concatenates_S576x128_S576x128_S576x256_d1
def catC (x y : FVec F S256x128 .f32) : FVec F S256x256 .bf16 :=
  concatenate S256x256 1 [⟨S256x128, truncf .bf16 x bitsLt_bf16_f32⟩, ⟨S256x128, truncf .bf16 y bitsLt_bf16_f32⟩] concatenates_S256x128_S256x128_S256x256_d1

/-- The blocks one pair of heads reads: queries, cotangents, the window's and the context's keys and values, the two
    heads' log-sums and bias windows, and the masks of the window's first and last row. -/
structure Pair (F : FTy → Type) where
  q : FVec F S128x128 .bf16
  d : FVec F S128x128 .f32
  kw : FVec F S576x128 .bf16
  kc : FVec F S256x128 .bf16
  vw : FVec F S576x128 .bf16
  vc : FVec F S256x128 .bf16
  l0 : FVec F S1x128 .f32
  l1 : FVec F S1x128 .f32
  b0 : FVec F S1x576x128 .f32
  b1 : FVec F S1x576x128 .f32
  e0 : FVec F S64x128 .f32
  e1 : FVec F S64x128 .f32

namespace Pair

variable (P : Pair F)

def pL0 : FVec F S576x128 .f32 := pL P.e0 P.e1 (loL (dotL P.kw (qs P.q))) P.b0 P.l0
def pL1 : FVec F S576x128 .f32 := pL P.e0 P.e1 (hiL (dotL P.kw (qs P.q))) P.b1 P.l1
def pC0 : FVec F S256x128 .f32 := pC (loC (dotC P.kc (qs P.q))) P.l0
def pC1 : FVec F S256x128 .f32 := pC (hiC (dotC P.kc (qs P.q))) P.l1
def hL0 : FVec F S576x128 .f32 := loL (dotL P.vw (ds0 P.d))
def hL1 : FVec F S576x128 .f32 := hiL (dotL P.vw (ds0 P.d))
def hC0 : FVec F S256x128 .f32 := loC (dotC P.vc (ds0 P.d))
def hC1 : FVec F S256x128 .f32 := hiC (dotC P.vc (ds0 P.d))
def δ0 : FVec F S1x128 .f32 := delta P.pL0 P.hL0 P.pC0 P.hC0
def δ1 : FVec F S1x128 .f32 := delta P.pL1 P.hL1 P.pC1 P.hC1
def gL0 : FVec F S576x128 .f32 := gL P.pL0 P.hL0 P.δ0
def gL1 : FVec F S576x128 .f32 := gL P.pL1 P.hL1 P.δ1
def gC0 : FVec F S256x128 .f32 := gC P.pC0 P.hC0 P.δ0
def gC1 : FVec F S256x128 .f32 := gC P.pC1 P.hC1 P.δ1

/-- What the pair adds to the value gradient of the window's keys. -/
def dvL : FVec F S576x128 .f32 :=
  matmul dot_S576x256_S256x128_S576x128_1_0_0_1_n_n none (catL P.pL0 P.pL1) (rows2 (ds0 P.d)) (constant S576x128 .f32 0x00000000#32)
/-- … and of the context keys. -/
def dvC : FVec F S256x128 .f32 :=
  matmul dot_S256x256_S256x128_S256x128_1_0_0_1_n_n none (catC P.pC0 P.pC1) (rows2 (ds0 P.d)) (constant S256x128 .f32 0x00000000#32)
/-- What the pair adds to the key gradient of the window's keys. -/
def dkL : FVec F S576x128 .f32 :=
  matmul dot_S576x256_S256x128_S576x128_1_0_0_1_n_n none (catL P.gL0 P.gL1) (rows2 (qs P.q)) (constant S576x128 .f32 0x00000000#32)
def dkC : FVec F S256x128 .f32 :=
  matmul dot_S256x256_S256x128_S256x128_1_0_0_1_n_n none (catC P.gC0 P.gC1) (rows2 (qs P.q)) (constant S256x128 .f32 0x00000000#32)
/-- Both heads' query gradients, each over all 128 features of the pair. -/
def dq2 : FVec F S256x128 .f32 :=
  addf (matmul dot_S576x256_S576x128_S256x128_0_0_1_1_n_n none (catL P.gL0 P.gL1) P.kw (constant S256x128 .f32 0x00000000#32))
    (matmul dot_S256x256_S256x128_S256x128_0_0_1_1_n_n none (catC P.gC0 P.gC1) P.kc (constant S256x128 .f32 0x00000000#32))
/-- The pair's query gradient. -/
def dq : FVec F S128x128 .bf16 :=
  truncf .bf16 (mulf (select (cmpi .slt (iota .tc S128x128 32 [1] iota_S128x128_d1_w32) (broadcast S128x128 64#32))
      (extractStridedSlice S128x128 ![0, 0] P.dq2 slices_S256x128_o0_0_S128x128) (extractStridedSlice S128x128 ![128, 0] P.dq2 slices_S256x128_o128_0_S128x128))
    (broadcast S128x128 (Scalar.ofBits .f32 0x3E000000#32))) bitsLt_bf16_f32

end Pair

/-- The first key row of point `i`'s window, as the body's word. -/
def wspW (i : grid0.Coords) : BitVec 32 :=
  Scalar.minsi 55#32 (Scalar.maxsi 0#32 (Scalar.subi (Scalar.muli 2#32 (BitVec.ofNat 32 (i 0).val)) 4#32))

/-- Each query's row, two rows a point, less half the window's eight. -/
def rowW (i : grid0.Coords) : IVec S64x128 32 :=
  subi (addi (broadcast S64x128 (Scalar.muli 2#32 (BitVec.ofNat 32 (i 0).val)))
      (select (andi
          (cmpi .ne (subi (extui 32 (cmpi .sgt (iota .tc S64x128 32 [1] iota_S64x128_d1_w32) (broadcast S64x128 0#32)) natLt_1_32)
              (extui 32 (cmpi .slt (iota .tc S64x128 32 [1] iota_S64x128_d1_w32) (broadcast S64x128 0#32)) natLt_1_32)) (broadcast S64x128 1#32))
          (cmpi .ne (remsi (iota .tc S64x128 32 [1] iota_S64x128_d1_w32) (broadcast S64x128 64#32)) (broadcast S64x128 0#32)))
        (subi (divsi (iota .tc S64x128 32 [1] iota_S64x128_d1_w32) (broadcast S64x128 64#32)) (broadcast S64x128 1#32))
        (divsi (iota .tc S64x128 32 [1] iota_S64x128_d1_w32) (broadcast S64x128 64#32))))
    (broadcast S64x128 4#32)

/-- The masks of the window's first and last key row. -/
def mask0 (i : grid0.Coords) : FVec F S64x128 .f32 := k0_pay11 (wspW i) (rowW i) 0#32 56#32
def mask1 (i : grid0.Coords) : FVec F S64x128 .f32 := k0_pay12 (wspW i) (rowW i) 0#32 56#32

theorem K0_le (i : grid0.Coords) : 64 * min (2 * (i 0).val - 4) 55 + 576 ≤ 4096 := by omega

theorem inb_kw (i : grid0.Coords) (c : ℕ) (hc : c + 128 ≤ 1536) : ∀ a, (![64 * min (2 * (i 0).val - 4) 55, c] : Fin 2 → ℕ) a + (![576, 128] : Fin 2 → ℕ) a ≤ S4352x1536.size a := by
  have := K0_le i
  intro a; fin_cases a
  · show 64 * min (2 * (i 0).val - 4) 55 + 576 ≤ 4352; omega
  · exact hc
theorem inb_aw (i : grid0.Coords) (c : ℕ) (hc : c + 128 ≤ 512) : ∀ a, (![64 * min (2 * (i 0).val - 4) 55, c] : Fin 2 → ℕ) a + (![576, 128] : Fin 2 → ℕ) a ≤ S4352x512.size a := by
  have := K0_le i
  intro a; fin_cases a
  · show 64 * min (2 * (i 0).val - 4) 55 + 576 ≤ 4352; omega
  · exact hc
theorem inb_kc (c : ℕ) (hc : c + 128 ≤ 1536) : ∀ a, (![4096, c] : Fin 2 → ℕ) a + (![256, 128] : Fin 2 → ℕ) a ≤ S4352x1536.size a := by
  intro a; fin_cases a
  · show 4096 + 256 ≤ 4352; omega
  · exact hc
theorem inb_ac (c : ℕ) (hc : c + 128 ≤ 512) : ∀ a, (![4096, c] : Fin 2 → ℕ) a + (![256, 128] : Fin 2 → ℕ) a ≤ S4352x512.size a := by
  intro a; fin_cases a
  · show 4096 + 256 ≤ 4352; omega
  · exact hc
theorem inb_q (c : ℕ) (hc : c + 128 ≤ 512) : ∀ a, (![0, c] : Fin 2 → ℕ) a + (![128, 128] : Fin 2 → ℕ) a ≤ S128x512.size a := by
  intro a; fin_cases a
  · show 0 + 128 ≤ 128; omega
  · exact hc
theorem inb_l (h : ℕ) (hh : h + 1 ≤ 8) : ∀ a, (![h, 0] : Fin 2 → ℕ) a + (![1, 128] : Fin 2 → ℕ) a ≤ S8x128.size a := by
  intro a; fin_cases a
  · exact hh
  · show 0 + 128 ≤ 128; omega
theorem inb_b (i : grid0.Coords) (hc3 : k0_cond3 i = 1#1) (h : ℕ) (hh : h + 1 ≤ 8) :
    ∀ a, (![h, k0_off3 i 1, 0] : Fin 3 → ℕ) a + (![1, 576, 128] : Fin 3 → ℕ) a ≤ S8x1088x128.size a := by
  have := k0_off3_inb i hc3 1
  intro a; fin_cases a
  · exact hh
  · exact this
  · show 0 + 128 ≤ 128; omega

/-- Pair `p`'s blocks at point `i`, of the blocks the body is called with. -/
def pairAt (i : grid0.Coords) (hc3 : k0_cond3 i = 1#1) (p : ℕ) (hp : p < 4) (x0 : Vec F S128x512 .bf16) (x1 : Vec F S128x512 .f32) (x2 : Vec F S8x128 .f32)
    (x3 : Vec F S4352x1536 .bf16) (x4 : Vec F S8x1088x128 .f32) : Pair F where
  q := window x0 ![0, 128 * p] ![128, 128] (inb_q _ (by omega))
  d := window x1 ![0, 128 * p] ![128, 128] (inb_q _ (by omega))
  kw := window x3 ![64 * min (2 * (i 0).val - 4) 55, 512 + 128 * p] ![576, 128] (inb_kw i _ (by omega))
  kc := window x3 ![4096, 512 + 128 * p] ![256, 128] (inb_kc _ (by omega))
  vw := window x3 ![64 * min (2 * (i 0).val - 4) 55, 1024 + 128 * p] ![576, 128] (inb_kw i _ (by omega))
  vc := window x3 ![4096, 1024 + 128 * p] ![256, 128] (inb_kc _ (by omega))
  l0 := window x2 ![2 * p, 0] ![1, 128] (inb_l _ (by omega))
  l1 := window x2 ![2 * p + 1, 0] ![1, 128] (inb_l _ (by omega))
  b0 := window x4 ![2 * p, k0_off3 i 1, 0] ![1, 576, 128] (inb_b i hc3 _ (by omega))
  b1 := window x4 ![2 * p + 1, k0_off3 i 1, 0] ![1, 576, 128] (inb_b i hc3 _ (by omega))
  e0 := mask0 i
  e1 := mask1 i

/-- One pair's update of an accumulator: what it adds to the window's rows and to the context rows, at its columns;
    `x` is the accumulator as the point finds it. -/
def accPair (i : grid0.Coords) (p : ℕ) (hp : p < 4) (x : Vec F S4352x512 .f32) (loc : FVec F S576x128 .f32) (ctx : FVec F S256x128 .f32)
    (y : Vec F S4352x512 .f32) : Vec F S4352x512 .f32 :=
  put (put y ![64 * min (2 * (i 0).val - 4) 55, 128 * p] ![576, 128] (addf (F := F) (s := S576x128) (φ := .f32) (window x ![64 * min (2 * (i 0).val - 4) 55, 128 * p] ![576, 128] (inb_aw i _ (by omega))) loc))
    ![4096, 128 * p] ![256, 128] (addf (F := F) (s := S256x128) (φ := .f32) (window x ![4096, 128 * p] ![256, 128] (inb_ac _ (by omega))) ctx)

/-- The four pairs' updates of an accumulator. -/
def accAll (i : grid0.Coords) (loc : (p : ℕ) → p < 4 → FVec F S576x128 .f32) (ctx : (p : ℕ) → p < 4 → FVec F S256x128 .f32)
    (x : Vec F S4352x512 .f32) : Vec F S4352x512 .f32 :=
  accPair i 3 (by omega) x (loc 3 (by omega)) (ctx 3 (by omega))
    (accPair i 2 (by omega) x (loc 2 (by omega)) (ctx 2 (by omega))
      (accPair i 1 (by omega) x (loc 1 (by omega)) (ctx 1 (by omega))
        (accPair i 0 (by omega) x (loc 0 (by omega)) (ctx 0 (by omega)) x)))

section
variable (i : grid0.Coords) (hc3 : k0_cond3 i = 1#1) (x0 : Vec F S128x512 .bf16) (x1 : Vec F S128x512 .f32) (x2 : Vec F S8x128 .f32)
    (x3 : Vec F S4352x1536 .bf16) (x4 : Vec F S8x1088x128 .f32)

/-- The key-gradient accumulator after point `i`. -/
def dkNew (xk : Vec F S4352x512 .f32) : Vec F S4352x512 .f32 :=
  accAll i (fun p hp => (pairAt i hc3 p hp x0 x1 x2 x3 x4).dkL) (fun p hp => (pairAt i hc3 p hp x0 x1 x2 x3 x4).dkC) xk
/-- The value-gradient accumulator after point `i`. -/
def dvNew (xv : Vec F S4352x512 .f32) : Vec F S4352x512 .f32 :=
  accAll i (fun p hp => (pairAt i hc3 p hp x0 x1 x2 x3 x4).dvL) (fun p hp => (pairAt i hc3 p hp x0 x1 x2 x3 x4).dvC) xv
/-- The query-gradient block of point `i`, over whatever the block held. -/
def dqNew (y : Vec F S128x512 .bf16) : Vec F S128x512 .bf16 :=
  put (put (put (put y ![0, 0] ![128, 128] (pairAt i hc3 0 (by omega) x0 x1 x2 x3 x4).dq)
      ![0, 128] ![128, 128] (pairAt i hc3 1 (by omega) x0 x1 x2 x3 x4).dq)
      ![0, 256] ![128, 128] (pairAt i hc3 2 (by omega) x0 x1 x2 x3 x4).dq)
      ![0, 384] ![128, 128] (pairAt i hc3 3 (by omega) x0 x1 x2 x3 x4).dq
end

end Cert.KernelIdeal.AttnRun

end
-- ==== Proof.Acc.lean ====
module

public import proofs.«01_k».proof.Proof.Gen.KernelIdeal.Frame
public import proofs.«01_k».proof.Proof.Canon
public import Idealize.ShloMosaic.Lib.Pipeline.Value
public import Idealize.ShloMosaic.Lib.Pointwise.Index

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow (window put window_put_of_disjoint)

variable {F : FTy → Type} [FloatOps F] [Named F]

/-! # The pieces a point stores into an accumulator, and what they leave

`ld` is the contents a load of the window's rows reads, given what was stored before it: everything stored, or the
contents the point found. -/

section
variable {κ : Kind} {sp : Space} (v : View sig κ sp S4352x512 .f32) (f : v.ty.Contents (Elt F))
  (ld : List (View.Piece (Elt F) S4352x512 .f32) → v.ty.Contents (Elt F))

/-- A pair's store into the window's rows. -/
def accLoc (oL : Fin 2 → ℕ) (iL : ∀ a, oL a + S576x128.size a ≤ S4352x512.size a) (loc : FVec F S576x128 .f32)
    (L : List (View.Piece (Elt F) S4352x512 .f32)) : List (View.Piece (Elt F) S4352x512 .f32) :=
  ⟨Rect.unit (s := S4352x512) oL S576x128.size iL, shapeCast S576x128 (addf (F := F) (s := S576x128) (φ := .f32)
      (v.readAt (Elt F) (Rect.unit (s := S4352x512) oL S576x128.size iL).toLoadRect (ld L)) loc) shapeCasts_S576x128_S576x128⟩ :: L

/-- A pair's store into the context's rows. -/
def accCtx (oC : Fin 2 → ℕ) (iC : ∀ a, oC a + S256x128.size a ≤ S4352x512.size a) (ctx : FVec F S256x128 .f32)
    (L : List (View.Piece (Elt F) S4352x512 .f32)) : List (View.Piece (Elt F) S4352x512 .f32) :=
  ⟨Rect.unit (s := S4352x512) oC S256x128.size iC, shapeCast S256x128 (addf (F := F) (s := S256x128) (φ := .f32)
      (v.readAt (Elt F) (Rect.unit (s := S4352x512) oC S256x128.size iC).toLoadRect (v.writes (Elt F) f L)) ctx) shapeCasts_S256x128_S256x128⟩ :: L

/-- One pair's two stores. -/
def accStep (oL oC : Fin 2 → ℕ) (iL : ∀ a, oL a + S576x128.size a ≤ S4352x512.size a) (iC : ∀ a, oC a + S256x128.size a ≤ S4352x512.size a)
    (loc : FVec F S576x128 .f32) (ctx : FVec F S256x128 .f32) (L : List (View.Piece (Elt F) S4352x512 .f32)) : List (View.Piece (Elt F) S4352x512 .f32) :=
  accCtx v f oC iC ctx (accLoc v ld oL iL loc L)

theorem read_accStep (i : grid0.Coords) (p : ℕ) (hp : p < 4) {oL oC : Fin 2 → ℕ} (iL iC) (loc : FVec F S576x128 .f32) (ctx : FVec F S256x128 .f32)
    (L : List (View.Piece (Elt F) S4352x512 .f32)) (hL : oL = ![64 * min (2 * (i 0).val - 4) 55, 128 * p]) (hC : oC = ![4096, 128 * p])
    (x y : Vec F S4352x512 .f32) (hy : v.read (Elt F) (v.writes (Elt F) f L) = y)
    (h₁ : window (v.read (Elt F) (ld L)) ![64 * min (2 * (i 0).val - 4) 55, 128 * p] ![576, 128] (inb_aw i _ (by omega)) = window x ![64 * min (2 * (i 0).val - 4) 55, 128 * p] ![576, 128] (inb_aw i _ (by omega)))
    (h₂ : window y ![4096, 128 * p] ![256, 128] (inb_ac _ (by omega)) = window x ![4096, 128 * p] ![256, 128] (inb_ac _ (by omega))) :
    v.read (Elt F) (v.writes (Elt F) f (accStep v f ld oL oC iL iC loc ctx L)) = accPair i p hp x loc ctx y := by
  subst hL; subst hC
  have hK := K0_le i
  unfold accStep accCtx accLoc accPair
  rw [View.read_writes_cons_put v f _ _ _ rfl, View.readAt_unit v _ _ rfl (inb_ac _ (by omega)), View.read_writes_cons_put v f _ _ _ rfl, hy,
    View.readAt_unit v (ld L) _ rfl (inb_aw i _ (by omega))]
  have e : window (put y ![64 * min (2 * (i 0).val - 4) 55, 128 * p] ![576, 128] (addf (F := F) (s := S576x128) (φ := .f32) (window (v.read (Elt F) (ld L)) ![64 * min (2 * (i 0).val - 4) 55, 128 * p] ![576, 128] (inb_aw i _ (by omega))) loc))
      ![4096, 128 * p] ![256, 128] (inb_ac _ (by omega)) = window x ![4096, 128 * p] ![256, 128] (inb_ac _ (by omega)) :=
    (window_put_of_disjoint y _ _ _ _ _ _ 0 (.inr hK)).trans h₂
  rw [shapeCast_self, shapeCast_self, ← h₁, ← e]

/-- A pair's update leaves the columns of another as they were. -/
theorem window_accPair (i : grid0.Coords) (p : ℕ) (hp : p < 4) (x : Vec F S4352x512 .f32) (loc : FVec F S576x128 .f32) (ctx : FVec F S256x128 .f32)
    (y : Vec F S4352x512 .f32) (r n q : ℕ) (hq : p < q) (inb) :
    window (accPair i p hp x loc ctx y) ![r, 128 * q] ![n, 128] inb = window y ![r, 128 * q] ![n, 128] inb := by
  have hd : 128 * p + 128 ≤ 128 * q := by omega
  unfold accPair
  rw [window_put_of_disjoint _ _ _ _ _ _ _ 1 (.inr hd), window_put_of_disjoint _ _ _ _ _ _ _ 1 (.inr hd)]

/-- A point's eight stores. -/
def accList (i : grid0.Coords) (hc3 : k0_cond3 i = 1#1) (loc : (p : ℕ) → p < 4 → FVec F S576x128 .f32) (ctx : (p : ℕ) → p < 4 → FVec F S256x128 .f32)
    (L : List (View.Piece (Elt F) S4352x512 .f32)) : List (View.Piece (Elt F) S4352x512 .f32) :=
  accStep v f ld (k0_off20 i) ![4096, 384] (k0_off20_inb i hc3) inb_S4352x512_S256x128_4096_384 (loc 3 (by omega)) (ctx 3 (by omega))
    (accStep v f ld (k0_off15 i) ![4096, 256] (k0_off15_inb i hc3) inb_S4352x512_S256x128_4096_256 (loc 2 (by omega)) (ctx 2 (by omega))
      (accStep v f ld (k0_off10 i) ![4096, 128] (k0_off10_inb i hc3) inb_S4352x512_S256x128_4096_128 (loc 1 (by omega)) (ctx 1 (by omega))
        (accStep v f ld (k0_off5 i) ![4096, 0] (k0_off5_inb i hc3) inb_S4352x512_S256x128_4096_0 (loc 0 (by omega)) (ctx 0 (by omega)) L)))

/-- The stores leave the four pairs' updates, if every load of the window's rows reads all that was stored … -/
theorem read_accList_all (i : grid0.Coords) (hc3 : k0_cond3 i = 1#1) (loc : (p : ℕ) → p < 4 → FVec F S576x128 .f32) (ctx : (p : ℕ) → p < 4 → FVec F S256x128 .f32)
    (L : List (View.Piece (Elt F) S4352x512 .f32)) (x : Vec F S4352x512 .f32) (hx : v.read (Elt F) (v.writes (Elt F) f L) = x) :
    v.read (Elt F) (v.writes (Elt F) f (accList v f (v.writes (Elt F) f) i hc3 loc ctx L)) = accAll i loc ctx x := by
  unfold accList accAll
  have e0 := read_accStep v f (v.writes (Elt F) f) i 0 (by omega) (k0_off5_inb i hc3) inb_S4352x512_S256x128_4096_0 (loc 0 (by omega)) (ctx 0 (by omega)) L (off5_eq i) rfl x x hx
    (by rw [hx]) rfl
  have e1 := read_accStep v f (v.writes (Elt F) f) i 1 (by omega) (k0_off10_inb i hc3) inb_S4352x512_S256x128_4096_128 (loc 1 (by omega)) (ctx 1 (by omega)) _ (off10_eq i) rfl x _ e0
    (by rw [e0]; exact (window_accPair _ 0 _ _ _ _ _ _ _ _ (by decide) _)) (window_accPair _ 0 _ _ _ _ _ _ _ _ (by decide) _)
  have e2 := read_accStep v f (v.writes (Elt F) f) i 2 (by omega) (k0_off15_inb i hc3) inb_S4352x512_S256x128_4096_256 (loc 2 (by omega)) (ctx 2 (by omega)) _ (off15_eq i) rfl x _ e1
    (by rw [e1]; exact ((window_accPair _ 1 _ _ _ _ _ _ _ _ (by decide) _).trans (window_accPair _ 0 _ _ _ _ _ _ _ _ (by decide) _))) ((window_accPair _ 1 _ _ _ _ _ _ _ _ (by decide) _).trans (window_accPair _ 0 _ _ _ _ _ _ _ _ (by decide) _))
  exact read_accStep v f (v.writes (Elt F) f) i 3 (by omega) (k0_off20_inb i hc3) inb_S4352x512_S256x128_4096_384 (loc 3 (by omega)) (ctx 3 (by omega)) _ (off20_eq i) rfl x _ e2
    (by rw [e2]; exact ((window_accPair _ 2 _ _ _ _ _ _ _ _ (by decide) _).trans ((window_accPair _ 1 _ _ _ _ _ _ _ _ (by decide) _).trans (window_accPair _ 0 _ _ _ _ _ _ _ _ (by decide) _)))) ((window_accPair _ 2 _ _ _ _ _ _ _ _ (by decide) _).trans ((window_accPair _ 1 _ _ _ _ _ _ _ _ (by decide) _).trans (window_accPair _ 0 _ _ _ _ _ _ _ _ (by decide) _)))

/-- … and if it reads what the point found. -/
theorem read_accList_base (i : grid0.Coords) (hc3 : k0_cond3 i = 1#1) (loc : (p : ℕ) → p < 4 → FVec F S576x128 .f32) (ctx : (p : ℕ) → p < 4 → FVec F S256x128 .f32)
    (x : Vec F S4352x512 .f32) (hx : v.read (Elt F) f = x) :
    v.read (Elt F) (v.writes (Elt F) f (accList v f (fun _ => f) i hc3 loc ctx [])) = accAll i loc ctx x := by
  unfold accList accAll
  have e0 := read_accStep v f (fun _ => f) i 0 (by omega) (k0_off5_inb i hc3) inb_S4352x512_S256x128_4096_0 (loc 0 (by omega)) (ctx 0 (by omega)) [] (off5_eq i) rfl x x hx
    (by rw [hx]) rfl
  have e1 := read_accStep v f (fun _ => f) i 1 (by omega) (k0_off10_inb i hc3) inb_S4352x512_S256x128_4096_128 (loc 1 (by omega)) (ctx 1 (by omega)) _ (off10_eq i) rfl x _ e0
    (by rw [hx]) (window_accPair _ 0 _ _ _ _ _ _ _ _ (by decide) _)
  have e2 := read_accStep v f (fun _ => f) i 2 (by omega) (k0_off15_inb i hc3) inb_S4352x512_S256x128_4096_256 (loc 2 (by omega)) (ctx 2 (by omega)) _ (off15_eq i) rfl x _ e1
    (by rw [hx]) ((window_accPair _ 1 _ _ _ _ _ _ _ _ (by decide) _).trans (window_accPair _ 0 _ _ _ _ _ _ _ _ (by decide) _))
  exact read_accStep v f (fun _ => f) i 3 (by omega) (k0_off20_inb i hc3) inb_S4352x512_S256x128_4096_384 (loc 3 (by omega)) (ctx 3 (by omega)) _ (off20_eq i) rfl x _ e2
    (by rw [hx]) ((window_accPair _ 2 _ _ _ _ _ _ _ _ (by decide) _).trans ((window_accPair _ 1 _ _ _ _ _ _ _ _ (by decide) _).trans (window_accPair _ 0 _ _ _ _ _ _ _ _ (by decide) _)))

end

/-- A point's four stores into the query-gradient block. -/
def dqList (q : (p : ℕ) → p < 4 → FVec F S128x128 .bf16) : List (View.Piece (Elt F) S128x512 .bf16) :=
  [⟨Rect.unit (s := S128x512) ![0, 384] S128x128.size inb_S128x512_S128x128_0_384, q 3 (by omega)⟩,
   ⟨Rect.unit (s := S128x512) ![0, 256] S128x128.size inb_S128x512_S128x128_0_256, q 2 (by omega)⟩,
   ⟨Rect.unit (s := S128x512) ![0, 128] S128x128.size inb_S128x512_S128x128_0_128, q 1 (by omega)⟩,
   ⟨Rect.unit (s := S128x512) ![0, 0] S128x128.size inb_S128x512_S128x128_0_0, q 0 (by omega)⟩]

def dqList4 (q0 q1 q2 q3 : FVec F S128x128 .bf16) : List (View.Piece (Elt F) S128x512 .bf16) :=
  [⟨Rect.unit (s := S128x512) ![0, 384] S128x128.size inb_S128x512_S128x128_0_384, q3⟩,
   ⟨Rect.unit (s := S128x512) ![0, 256] S128x128.size inb_S128x512_S128x128_0_256, q2⟩,
   ⟨Rect.unit (s := S128x512) ![0, 128] S128x128.size inb_S128x512_S128x128_0_128, q1⟩,
   ⟨Rect.unit (s := S128x512) ![0, 0] S128x128.size inb_S128x512_S128x128_0_0, q0⟩]

/-- The block the four stores leave. -/
def dqBlock (q : (p : ℕ) → p < 4 → FVec F S128x128 .bf16) : Vec F S128x512 .bf16 := fun y =>
  q ((y 1).val / 128) (by have : (y 1).val < 512 := (y 1).isLt; omega) (ix2 (n0 := 128) (n1 := 128) ⟨(y 0).val, (y 0).isLt⟩ ⟨(y 1).val % 128, Nat.mod_lt _ (by decide)⟩)

theorem read_dqList {κ : Kind} {sp : Space} (v : View sig κ sp S128x512 .bf16) (f : v.ty.Contents (Elt F)) (q : (p : ℕ) → p < 4 → FVec F S128x128 .bf16) :
    v.read (Elt F) (v.writes (Elt F) f (dqList q)) = dqBlock q := by
  unfold dqList
  simp only [View.read_writes_cons_put v f _ _ _ rfl]
  funext y
  have h0 : (y 0).val < 128 := (y 0).isLt
  have h1 : (y 1).val < 512 := (y 1).isLt
  unfold dqBlock
  have key : ∀ p (hp : p < 4) (h : (y 1).val / 128 = p) (z : S128x128.Idx) (hz0 : (z 0).val = (y 0).val) (hz1 : (z 1).val + 128 * p = (y 1).val),
      q p hp z = q ((y 1).val / 128) (by omega) (ix2 (n0 := 128) (n1 := 128) ⟨(y 0).val, (y 0).isLt⟩ ⟨(y 1).val % 128, Nat.mod_lt _ (by decide)⟩) := by
    rintro p hp rfl z hz0 hz1
    congr 1; funext a; fin_cases a
    · exact Fin.ext hz0
    · exact Fin.ext (show (z 1).val = (y 1).val % 128 by omega)
  have mem : ∀ p : ℕ, (y 1).val / 128 = p → ∀ a : Fin 2, (![0, 128 * p] : Fin 2 → ℕ) a ≤ (y a).val ∧ (y a).val < (![0, 128 * p] : Fin 2 → ℕ) a + S128x128.size a := by
    intro p h a; fin_cases a
    · exact ⟨Nat.zero_le _, by show (y 0).val < 0 + 128; omega⟩
    · exact ⟨by show 128 * p ≤ (y 1).val; omega, by show (y 1).val < 128 * p + 128; omega⟩
  have nmem : ∀ p : ℕ, (y 1).val / 128 ≠ p → ¬ ∀ a : Fin 2, (![0, 128 * p] : Fin 2 → ℕ) a ≤ (y a).val ∧ (y a).val < (![0, 128 * p] : Fin 2 → ℕ) a + S128x128.size a := by
    intro p h hall
    have : 128 * p ≤ (y 1).val ∧ (y 1).val < 128 * p + 128 := hall 1
    omega
  have hit : ∀ (p : ℕ) (hp : p < 4) (x : Vec F S128x512 .bf16), (y 1).val / 128 = p →
      put x ![0, 128 * p] S128x128.size (q p hp) y = q ((y 1).val / 128) (by omega) (ix2 (n0 := 128) (n1 := 128) ⟨(y 0).val, (y 0).isLt⟩ ⟨(y 1).val % 128, Nat.mod_lt _ (by decide)⟩) := by
    intro p hp x h
    refine (dif_pos (mem p h)).trans (key p hp h _ ?_ ?_)
    · show (y 0).val - 0 = (y 0).val; omega
    · show (y 1).val - 128 * p + 128 * p = (y 1).val; have : 128 * p ≤ (y 1).val := (mem p h 1).1; omega
  have miss : ∀ (p : ℕ) (hp : p < 4) (x : Vec F S128x512 .bf16), (y 1).val / 128 ≠ p → put x ![0, 128 * p] S128x128.size (q p hp) y = x y :=
    fun p hp x h => dif_neg (nmem p h)
  have h4 : (y 1).val / 128 = 0 ∨ (y 1).val / 128 = 1 ∨ (y 1).val / 128 = 2 ∨ (y 1).val / 128 = 3 := by omega
  by_cases h3 : (y 1).val / 128 = 3
  · exact hit 3 (by omega) _ h3
  refine (miss 3 (by omega) _ h3).trans ?_
  by_cases h2 : (y 1).val / 128 = 2
  · exact hit 2 (by omega) _ h2
  refine (miss 2 (by omega) _ h2).trans ?_
  by_cases h1' : (y 1).val / 128 = 1
  · exact hit 1 (by omega) _ h1'
  exact (miss 1 (by omega) _ h1').trans (hit 0 (by omega) _ (by omega))

end Cert.KernelIdeal.AttnRun

end
-- ==== Proof.Raw.lean ====
module

public import proofs.«01_k».proof.Proof.Gen.KernelIdeal.Frame
public import proofs.«01_k».proof.Proof.Acc

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow (window put window_put_of_disjoint)

variable {F : FTy → Type} [FloatOps F] [Named F]

theorem readAt_unread {sp : Space} {s : Shape} {e : EltTy} {m : Memref sig .tc sp s e} (h : m.IsWhole) (x : s.Idx → Elt F e)
    {off size : Fin s.rank → ℕ} (inb : ∀ a, off a + size a ≤ s.size a) :
    m.view.readAt (Elt F) (Rect.unit off size inb).toLoadRect (h.unread x) = window x off size inb := by
  rw [View.readAt_unit m.view _ inb rfl inb, h.read_unread]

/-! # The runs' pieces are the pairs' values of the blocks -/

section
variable (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole)
    (x0 : Vec F S128x512 .bf16) (x1 : Vec F S128x512 .f32) (x2 : Vec F S8x128 .f32) (x3 : Vec F S4352x1536 .bf16) (x4 : Vec F S8x1088x128 .f32)

/-- A pair's blocks, as the body loads them. -/
def rawPair (p : ℕ) (hp : p < 4) (oK oV : Fin 2 → ℕ) (oB oB' : Fin 3 → ℕ) (iK : ∀ a, oK a + S576x128.size a ≤ S4352x1536.size a) (iV : ∀ a, oV a + S576x128.size a ≤ S4352x1536.size a)
    (iB : ∀ a, oB a + S1x576x128.size a ≤ S8x1088x128.size a) (iB' : ∀ a, oB' a + S1x576x128.size a ≤ S8x1088x128.size a) : Pair F where
  q := arg1.view.readAt (Elt F) (Rect.unit (s := S128x512) ![0, 128 * p] S128x128.size (inb_q _ (by omega))).toLoadRect (harg1.unread x0)
  d := arg2.view.readAt (Elt F) (Rect.unit (s := S128x512) ![0, 128 * p] S128x128.size (inb_q _ (by omega))).toLoadRect (harg2.unread x1)
  kw := arg4.view.readAt (Elt F) (Rect.unit (s := S4352x1536) oK S576x128.size iK).toLoadRect (harg4.unread x3)
  kc := arg4.view.readAt (Elt F) (Rect.unit (s := S4352x1536) ![4096, 512 + 128 * p] S256x128.size (inb_kc _ (by omega))).toLoadRect (harg4.unread x3)
  vw := arg4.view.readAt (Elt F) (Rect.unit (s := S4352x1536) oV S576x128.size iV).toLoadRect (harg4.unread x3)
  vc := arg4.view.readAt (Elt F) (Rect.unit (s := S4352x1536) ![4096, 1024 + 128 * p] S256x128.size (inb_kc _ (by omega))).toLoadRect (harg4.unread x3)
  l0 := arg3.view.readAt (Elt F) (Rect.unit (s := S8x128) ![2 * p, 0] S1x128.size (inb_l _ (by omega))).toLoadRect (harg3.unread x2)
  l1 := arg3.view.readAt (Elt F) (Rect.unit (s := S8x128) ![2 * p + 1, 0] S1x128.size (inb_l _ (by omega))).toLoadRect (harg3.unread x2)
  b0 := arg5.view.readAt (Elt F) (Rect.unit (s := S8x1088x128) oB S1x576x128.size iB).toLoadRect (harg5.unread x4)
  b1 := arg5.view.readAt (Elt F) (Rect.unit (s := S8x1088x128) oB' S1x576x128.size iB').toLoadRect (harg5.unread x4)
  e0 := mask0 i
  e1 := mask1 i

theorem rawPair_eq (hc3 : k0_cond3 i = 1#1) (p : ℕ) (hp : p < 4) {oK oV : Fin 2 → ℕ} {oB oB' : Fin 3 → ℕ} (iK iV iB iB')
    (hK : oK = ![64 * min (2 * (i 0).val - 4) 55, 512 + 128 * p]) (hV : oV = ![64 * min (2 * (i 0).val - 4) 55, 1024 + 128 * p])
    (hB : oB = ![2 * p, k0_off3 i 1, 0]) (hB' : oB' = ![2 * p + 1, k0_off3 i 1, 0]) :
    rawPair i arg1 harg1 arg2 harg2 arg3 harg3 arg4 harg4 arg5 harg5 x0 x1 x2 x3 x4 p hp oK oV oB oB' iK iV iB iB' = pairAt i hc3 p hp x0 x1 x2 x3 x4 := by
  subst hK; subst hV; subst hB; subst hB'
  unfold rawPair pairAt
  simp only [readAt_unread]

/-- The four pairs as the body loads them. -/
def rawAll (hc3 : k0_cond3 i = 1#1) : (p : ℕ) → p < 4 → Pair F
  | 0, h => rawPair i arg1 harg1 arg2 harg2 arg3 harg3 arg4 harg4 arg5 harg5 x0 x1 x2 x3 x4 0 h (k0_off1 i) (k0_off2 i) (k0_off3 i) (k0_off4 i) (k0_off1_inb i hc3) (k0_off2_inb i hc3) (k0_off3_inb i hc3) (k0_off4_inb i hc3)
  | 1, h => rawPair i arg1 harg1 arg2 harg2 arg3 harg3 arg4 harg4 arg5 harg5 x0 x1 x2 x3 x4 1 h (k0_off6 i) (k0_off7 i) (k0_off8 i) (k0_off9 i) (k0_off6_inb i hc3) (k0_off7_inb i hc3) (k0_off8_inb i hc3) (k0_off9_inb i hc3)
  | 2, h => rawPair i arg1 harg1 arg2 harg2 arg3 harg3 arg4 harg4 arg5 harg5 x0 x1 x2 x3 x4 2 h (k0_off11 i) (k0_off12 i) (k0_off13 i) (k0_off14 i) (k0_off11_inb i hc3) (k0_off12_inb i hc3) (k0_off13_inb i hc3) (k0_off14_inb i hc3)
  | 3, h => rawPair i arg1 harg1 arg2 harg2 arg3 harg3 arg4 harg4 arg5 harg5 x0 x1 x2 x3 x4 3 h (k0_off16 i) (k0_off17 i) (k0_off18 i) (k0_off19 i) (k0_off16_inb i hc3) (k0_off17_inb i hc3) (k0_off18_inb i hc3) (k0_off19_inb i hc3)

theorem rawAll_eq (hc3 : k0_cond3 i = 1#1) : ∀ (p : ℕ) (hp : p < 4),
    rawAll i arg1 harg1 arg2 harg2 arg3 harg3 arg4 harg4 arg5 harg5 x0 x1 x2 x3 x4 hc3 p hp = pairAt i hc3 p hp x0 x1 x2 x3 x4
  | 0, h => rawPair_eq i arg1 harg1 arg2 harg2 arg3 harg3 arg4 harg4 arg5 harg5 x0 x1 x2 x3 x4 hc3 0 h _ _ _ _ (off1_eq i) (off2_eq i) (off3_eq i) (off4_eq i)
  | 1, h => rawPair_eq i arg1 harg1 arg2 harg2 arg3 harg3 arg4 harg4 arg5 harg5 x0 x1 x2 x3 x4 hc3 1 h _ _ _ _ (off6_eq i) (off7_eq i) (off8_eq i) (off9_eq i)
  | 2, h => rawPair_eq i arg1 harg1 arg2 harg2 arg3 harg3 arg4 harg4 arg5 harg5 x0 x1 x2 x3 x4 hc3 2 h _ _ _ _ (off11_eq i) (off12_eq i) (off13_eq i) (off14_eq i)
  | 3, h => rawPair_eq i arg1 harg1 arg2 harg2 arg3 harg3 arg4 harg4 arg5 harg5 x0 x1 x2 x3 x4 hc3 3 h _ _ _ _ (off16_eq i) (off17_eq i) (off18_eq i) (off19_eq i)

end

end Cert.KernelIdeal.AttnRun

end
-- ==== Proof.RunA.lean ====
module

public import proofs.«01_k».proof.Proof.Gen.KernelIdeal.Frame
public import proofs.«01_k».proof.Proof.Gen.KernelIdeal.Loops
public import proofs.«01_k».proof.Proof.Offsets

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 8000000 in
/-- The body at the first, which clears the accumulators before it adds to them: what it stores, piece by piece, and that it runs. -/
noncomputable def runA (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : k0_cond1 i = 1#1) (hc2 : ¬ k0_cond2 i = 1#1) (hc3 : k0_cond3 i = 1#1) (hc4 : ¬ k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32) :
    { L : List (View.Piece (Elt F) S128x512 .bf16) × List (View.Piece (Elt F) S4352x512 .f32) × List (View.Piece (Elt F) S4352x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (∃ d, owns (c : Thread nD τ) arg8 fullShare d) ∗ owns (c : Thread nD τ) arg9 fullShare xk ∗ owns (c : Thread nD τ) arg10 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ es, (arg6.view.loc (c : Thread nD τ) ↦[arg6.view.set]{fullShare} arg6.view.writes (Elt F) es L.1))
                ∗ (∃ d, owns (c : Thread nD τ) arg7 fullShare d)
                ∗ (∃ d, owns (c : Thread nD τ) arg8 fullShare d)
                ∗ (arg9.view.loc (c : Thread nD τ) ↦[arg9.view.set]{fullShare} arg9.view.writes (Elt F) arg9.view.junk L.2.1)
                ∗ (arg10.view.loc (c : Thread nD τ) ↦[arg10.view.set]{fullShare} arg10.view.writes (Elt F) arg10.view.junk L.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, %hf7, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexists _; isplitr; · ipureintro; exact hf7
      iexact H7
    isplitl [H8]
    · iexists _; iexists _; isplitr; swap; · iexact H8
      ipureintro; rfl
    isplitl [H9]
    · iexact H9
    iexact H10

end Cert.KernelIdeal.AttnRun

end
-- ==== Proof.BridgeA.lean ====
module

public import proofs.«01_k».proof.Proof.Gen.KernelIdeal.Frame
public import proofs.«01_k».proof.Proof.Raw
public import proofs.«01_k».proof.Proof.RunA

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! # What the run of case A stores, as the pairs' values -/

section
variable (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : k0_cond1 i = 1#1) (hc2 : ¬ k0_cond2 i = 1#1) (hc3 : k0_cond3 i = 1#1) (hc4 : ¬ k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32)

set_option maxHeartbeats 1000000 in
theorem runA_dq0 : (runA.sl.v269 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 0 (by omega)).dq := rfl

set_option maxHeartbeats 1000000 in
theorem runA_dq1 : (runA.sl.v461 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 1 (by omega)).dq := rfl

set_option maxHeartbeats 1000000 in
theorem runA_dq2 : (runA.sl.v653 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 2 (by omega)).dq := rfl

set_option maxHeartbeats 1000000 in
theorem runA_dq3 : (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runA.sl.v786 c i arg1 harg1 arg2 harg2 arg3 harg3 arg4 harg4 arg5 harg5 hc3 x0 x1 x2 x3 x4) (runA.sl.v787 c i arg1 harg1 arg2 harg2 arg3 harg3 arg4 harg4 arg5 harg5 hc3 x0 x1 x2 x3 x4)) = (rawAll i arg1 harg1 arg2 harg2 arg3 harg3 arg4 harg4 arg5 harg5 x0 x1 x2 x3 x4 hc3 3 (by omega)).dq := rfl

set_option maxHeartbeats 1000000 in
theorem runA_dqL : (runA c i arg1 harg1 arg2 harg2 arg3 harg3 arg4 harg4 arg5 harg5 arg6 harg6 arg7 harg7 arg8 harg8 arg9 harg9 arg10 harg10 hc1 hc2 hc3 hc4 x0 x1 x2 x3 x4 xk xv).1.1 = dqList4 (runA.sl.v269 c i arg1 harg1 arg2 harg2 arg3 harg3 arg4 harg4 arg5 harg5 hc3 x0 x1 x2 x3 x4) (runA.sl.v461 c i arg1 harg1 arg2 harg2 arg3 harg3 arg4 harg4 arg5 harg5 hc3 x0 x1 x2 x3 x4) (runA.sl.v653 c i arg1 harg1 arg2 harg2 arg3 harg3 arg4 harg4 arg5 harg5 hc3 x0 x1 x2 x3 x4) (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runA.sl.v786 c i arg1 harg1 arg2 harg2 arg3 harg3 arg4 harg4 arg5 harg5 hc3 x0 x1 x2 x3 x4) (runA.sl.v787 c i arg1 harg1 arg2 harg2 arg3 harg3 arg4 harg4 arg5 harg5 hc3 x0 x1 x2 x3 x4)) := rfl

set_option maxHeartbeats 1000000 in
theorem runA_dk_2 : (runA.sl.H9_2 c i arg1 harg1 arg2 harg2 arg3 harg3 arg4 harg4 arg5 harg5 arg9 hc3 x0 x1 x2 x3 x4) = accLoc arg9.view (arg9.view.writes (Elt F) arg9.view.junk) (k0_off5 i) (k0_off5_inb i hc3) (rawAll i arg1 harg1 arg2 harg2 arg3 harg3 arg4 harg4 arg5 harg5 x0 x1 x2 x3 x4 hc3 0 (by omega)).dkL (runA.sl.H9_1) := rfl

set_option maxHeartbeats 1000000 in
theorem runA_dk_3 : (runA.sl.H9_3 c i arg1 harg1 arg2 harg2 arg3 harg3 arg4 harg4 arg5 harg5 arg9 hc3 x0 x1 x2 x3 x4) = accCtx arg9.view arg9.view.junk ![4096, 0] inb_S4352x512_S256x128_4096_0 (rawAll i arg1 harg1 arg2 harg2 arg3 harg3 arg4 harg4 arg5 harg5 x0 x1 x2 x3 x4 hc3 0 (by omega)).dkC (runA.sl.H9_2 c i arg1 harg1 arg2 harg2 arg3 harg3 arg4 harg4 arg5 harg5 arg9 hc3 x0 x1 x2 x3 x4) := rfl

set_option maxHeartbeats 1000000 in
theorem runA_dk_4 : (runA.sl.H9_4 c i arg1 harg1 arg2 harg2 arg3 harg3 arg4 harg4 arg5 harg5 arg9 hc3 x0 x1 x2 x3 x4) = accLoc arg9.view (arg9.view.writes (Elt F) arg9.view.junk) (k0_off10 i) (k0_off10_inb i hc3) (rawAll i arg1 harg1 arg2 harg2 arg3 harg3 arg4 harg4 arg5 harg5 x0 x1 x2 x3 x4 hc3 1 (by omega)).dkL (runA.sl.H9_3 c i arg1 harg1 arg2 harg2 arg3 harg3 arg4 harg4 arg5 harg5 arg9 hc3 x0 x1 x2 x3 x4) := rfl

set_option maxHeartbeats 1000000 in
theorem runA_dk_5 : (runA.sl.H9_5 c i arg1 harg1 arg2 harg2 arg3 harg3 arg4 harg4 arg5 harg5 arg9 hc3 x0 x1 x2 x3 x4) = accCtx arg9.view arg9.view.junk ![4096, 128] inb_S4352x512_S256x128_4096_128 (rawAll i arg1 harg1 arg2 harg2 arg3 harg3 arg4 harg4 arg5 harg5 x0 x1 x2 x3 x4 hc3 1 (by omega)).dkC (runA.sl.H9_4 c i arg1 harg1 arg2 harg2 arg3 harg3 arg4 harg4 arg5 harg5 arg9 hc3 x0 x1 x2 x3 x4) := rfl

set_option maxHeartbeats 1000000 in
theorem runA_dk_6 : (runA.sl.H9_6 c i arg1 harg1 arg2 harg2 arg3 harg3 arg4 harg4 arg5 harg5 arg9 hc3 x0 x1 x2 x3 x4) = accLoc arg9.view (arg9.view.writes (Elt F) arg9.view.junk) (k0_off15 i) (k0_off15_inb i hc3) (rawAll i arg1 harg1 arg2 harg2 arg3 harg3 arg4 harg4 arg5 harg5 x0 x1 x2 x3 x4 hc3 2 (by omega)).dkL (runA.sl.H9_5 c i arg1 harg1 arg2 harg2 arg3 harg3 arg4 harg4 arg5 harg5 arg9 hc3 x0 x1 x2 x3 x4) := rfl

set_option maxHeartbeats 1000000 in
theorem runA_dk_7 : (runA.sl.H9_7 c i arg1 harg1 arg2 harg2 arg3 harg3 arg4 harg4 arg5 harg5 arg9 hc3 x0 x1 x2 x3 x4) = accCtx arg9.view arg9.view.junk ![4096, 256] inb_S4352x512_S256x128_4096_256 (rawAll i arg1 harg1 arg2 harg2 arg3 harg3 arg4 harg4 arg5 harg5 x0 x1 x2 x3 x4 hc3 2 (by omega)).dkC (runA.sl.H9_6 c i arg1 harg1 arg2 harg2 arg3 harg3 arg4 harg4 arg5 harg5 arg9 hc3 x0 x1 x2 x3 x4) := rfl

set_option maxHeartbeats 1000000 in
theorem runA_dk_8 : (runA.sl.H9_8 c i arg1 harg1 arg2 harg2 arg3 harg3 arg4 harg4 arg5 harg5 arg9 hc3 x0 x1 x2 x3 x4) = accLoc arg9.view (arg9.view.writes (Elt F) arg9.view.junk) (k0_off20 i) (k0_off20_inb i hc3) (rawAll i arg1 harg1 arg2 harg2 arg3 harg3 arg4 harg4 arg5 harg5 x0 x1 x2 x3 x4 hc3 3 (by omega)).dkL (runA.sl.H9_7 c i arg1 harg1 arg2 harg2 arg3 harg3 arg4 harg4 arg5 harg5 arg9 hc3 x0 x1 x2 x3 x4) := rfl

set_option maxHeartbeats 1000000 in
theorem runA_dk_last : (runA c i arg1 harg1 arg2 harg2 arg3 harg3 arg4 harg4 arg5 harg5 arg6 harg6 arg7 harg7 arg8 harg8 arg9 harg9 arg10 harg10 hc1 hc2 hc3 hc4 x0 x1 x2 x3 x4 xk xv).1.2.1 = accCtx arg9.view arg9.view.junk ![4096, 384] inb_S4352x512_S256x128_4096_384 (rawAll i arg1 harg1 arg2 harg2 arg3 harg3 arg4 harg4 arg5 harg5 x0 x1 x2 x3 x4 hc3 3 (by omega)).dkC (runA.sl.H9_8 c i arg1 harg1 arg2 harg2 arg3 harg3 arg4 harg4 arg5 harg5 arg9 hc3 x0 x1 x2 x3 x4) := rfl

set_option maxHeartbeats 1000000 in
theorem runA_dv_2 : (runA.sl.H10_2 c i arg1 harg1 arg2 harg2 arg3 harg3 arg4 harg4 arg5 harg5 arg10 hc3 x0 x1 x2 x3 x4) = accLoc arg10.view (arg10.view.writes (Elt F) arg10.view.junk) (k0_off5 i) (k0_off5_inb i hc3) (rawAll i arg1 harg1 arg2 harg2 arg3 harg3 arg4 harg4 arg5 harg5 x0 x1 x2 x3 x4 hc3 0 (by omega)).dvL (runA.sl.H10_1) := rfl

set_option maxHeartbeats 1000000 in
theorem runA_dv_3 : (runA.sl.H10_3 c i arg1 harg1 arg2 harg2 arg3 harg3 arg4 harg4 arg5 harg5 arg10 hc3 x0 x1 x2 x3 x4) = accCtx arg10.view arg10.view.junk ![4096, 0] inb_S4352x512_S256x128_4096_0 (rawAll i arg1 harg1 arg2 harg2 arg3 harg3 arg4 harg4 arg5 harg5 x0 x1 x2 x3 x4 hc3 0 (by omega)).dvC (runA.sl.H10_2 c i arg1 harg1 arg2 harg2 arg3 harg3 arg4 harg4 arg5 harg5 arg10 hc3 x0 x1 x2 x3 x4) := rfl

set_option maxHeartbeats 1000000 in
theorem runA_dv_4 : (runA.sl.H10_4 c i arg1 harg1 arg2 harg2 arg3 harg3 arg4 harg4 arg5 harg5 arg10 hc3 x0 x1 x2 x3 x4) = accLoc arg10.view (arg10.view.writes (Elt F) arg10.view.junk) (k0_off10 i) (k0_off10_inb i hc3) (rawAll i arg1 harg1 arg2 harg2 arg3 harg3 arg4 harg4 arg5 harg5 x0 x1 x2 x3 x4 hc3 1 (by omega)).dvL (runA.sl.H10_3 c i arg1 harg1 arg2 harg2 arg3 harg3 arg4 harg4 arg5 harg5 arg10 hc3 x0 x1 x2 x3 x4) := rfl

set_option maxHeartbeats 1000000 in
theorem runA_dv_5 : (runA.sl.H10_5 c i arg1 harg1 arg2 harg2 arg3 harg3 arg4 harg4 arg5 harg5 arg10 hc3 x0 x1 x2 x3 x4) = accCtx arg10.view arg10.view.junk ![4096, 128] inb_S4352x512_S256x128_4096_128 (rawAll i arg1 harg1 arg2 harg2 arg3 harg3 arg4 harg4 arg5 harg5 x0 x1 x2 x3 x4 hc3 1 (by omega)).dvC (runA.sl.H10_4 c i arg1 harg1 arg2 harg2 arg3 harg3 arg4 harg4 arg5 harg5 arg10 hc3 x0 x1 x2 x3 x4) := rfl

set_option maxHeartbeats 1000000 in
theorem runA_dv_6 : (runA.sl.H10_6 c i arg1 harg1 arg2 harg2 arg3 harg3 arg4 harg4 arg5 harg5 arg10 hc3 x0 x1 x2 x3 x4) = accLoc arg10.view (arg10.view.writes (Elt F) arg10.view.junk) (k0_off15 i) (k0_off15_inb i hc3) (rawAll i arg1 harg1 arg2 harg2 arg3 harg3 arg4 harg4 arg5 harg5 x0 x1 x2 x3 x4 hc3 2 (by omega)).dvL (runA.sl.H10_5 c i arg1 harg1 arg2 harg2 arg3 harg3 arg4 harg4 arg5 harg5 arg10 hc3 x0 x1 x2 x3 x4) := rfl

set_option maxHeartbeats 1000000 in
theorem runA_dv_7 : (runA.sl.H10_7 c i arg1 harg1 arg2 harg2 arg3 harg3 arg4 harg4 arg5 harg5 arg10 hc3 x0 x1 x2 x3 x4) = accCtx arg10.view arg10.view.junk ![4096, 256] inb_S4352x512_S256x128_4096_256 (rawAll i arg1 harg1 arg2 harg2 arg3 harg3 arg4 harg4 arg5 harg5 x0 x1 x2 x3 x4 hc3 2 (by omega)).dvC (runA.sl.H10_6 c i arg1 harg1 arg2 harg2 arg3 harg3 arg4 harg4 arg5 harg5 arg10 hc3 x0 x1 x2 x3 x4) := rfl

set_option maxHeartbeats 1000000 in
theorem runA_dv_8 : (runA.sl.H10_8 c i arg1 harg1 arg2 harg2 arg3 harg3 arg4 harg4 arg5 harg5 arg10 hc3 x0 x1 x2 x3 x4) = accLoc arg10.view (arg10.view.writes (Elt F) arg10.view.junk) (k0_off20 i) (k0_off20_inb i hc3) (rawAll i arg1 harg1 arg2 harg2 arg3 harg3 arg4 harg4 arg5 harg5 x0 x1 x2 x3 x4 hc3 3 (by omega)).dvL (runA.sl.H10_7 c i arg1 harg1 arg2 harg2 arg3 harg3 arg4 harg4 arg5 harg5 arg10 hc3 x0 x1 x2 x3 x4) := rfl

set_option maxHeartbeats 1000000 in
theorem runA_dv_last : (runA c i arg1 harg1 arg2 harg2 arg3 harg3 arg4 harg4 arg5 harg5 arg6 harg6 arg7 harg7 arg8 harg8 arg9 harg9 arg10 harg10 hc1 hc2 hc3 hc4 x0 x1 x2 x3 x4 xk xv).1.2.2 = accCtx arg10.view arg10.view.junk ![4096, 384] inb_S4352x512_S256x128_4096_384 (rawAll i arg1 harg1 arg2 harg2 arg3 harg3 arg4 harg4 arg5 harg5 x0 x1 x2 x3 x4 hc3 3 (by omega)).dvC (runA.sl.H10_8 c i arg1 harg1 arg2 harg2 arg3 harg3 arg4 harg4 arg5 harg5 arg10 hc3 x0 x1 x2 x3 x4) := rfl

theorem runA_read_dq (f) : arg6.view.read (Elt F) (arg6.view.writes (Elt F) f (runA c i arg1 harg1 arg2 harg2 arg3 harg3 arg4 harg4 arg5 harg5 arg6 harg6 arg7 harg7 arg8 harg8 arg9 harg9 arg10 harg10 hc1 hc2 hc3 hc4 x0 x1 x2 x3 x4 xk xv).1.1) = dqBlock (fun p hp => (pairAt i hc3 p hp x0 x1 x2 x3 x4).dq) := by
  rw [runA_dqL, runA_dq0, runA_dq1, runA_dq2, runA_dq3]
  refine (read_dqList arg6.view f (fun p hp => (rawAll i arg1 harg1 arg2 harg2 arg3 harg3 arg4 harg4 arg5 harg5 x0 x1 x2 x3 x4 hc3 p hp).dq)).trans ?_
  simp only [rawAll_eq]

theorem runA_read_dk : arg9.view.read (Elt F) (arg9.view.writes (Elt F) arg9.view.junk (runA c i arg1 harg1 arg2 harg2 arg3 harg3 arg4 harg4 arg5 harg5 arg6 harg6 arg7 harg7 arg8 harg8 arg9 harg9 arg10 harg10 hc1 hc2 hc3 hc4 x0 x1 x2 x3 x4 xk xv).1.2.1) = dkNew i hc3 x0 x1 x2 x3 x4 k0_pay1 := by
  rw [runA_dk_last, runA_dk_8, runA_dk_7, runA_dk_6, runA_dk_5, runA_dk_4, runA_dk_3, runA_dk_2]
  refine (read_accList_all arg9.view arg9.view.junk i hc3 (fun p hp => (rawAll i arg1 harg1 arg2 harg2 arg3 harg3 arg4 harg4 arg5 harg5 x0 x1 x2 x3 x4 hc3 p hp).dkL) (fun p hp => (rawAll i arg1 harg1 arg2 harg2 arg3 harg3 arg4 harg4 arg5 harg5 x0 x1 x2 x3 x4 hc3 p hp).dkC) runA.sl.H9_1 k0_pay1 (View.read_writes_full arg9.view _ _ _ _)).trans ?_
  unfold dkNew
  simp only [rawAll_eq]

theorem runA_read_dv : arg10.view.read (Elt F) (arg10.view.writes (Elt F) arg10.view.junk (runA c i arg1 harg1 arg2 harg2 arg3 harg3 arg4 harg4 arg5 harg5 arg6 harg6 arg7 harg7 arg8 harg8 arg9 harg9 arg10 harg10 hc1 hc2 hc3 hc4 x0 x1 x2 x3 x4 xk xv).1.2.2) = dvNew i hc3 x0 x1 x2 x3 x4 k0_pay2 := by
  rw [runA_dv_last, runA_dv_8, runA_dv_7, runA_dv_6, runA_dv_5, runA_dv_4, runA_dv_3, runA_dv_2]
  refine (read_accList_all arg10.view arg10.view.junk i hc3 (fun p hp => (rawAll i arg1 harg1 arg2 harg2 arg3 harg3 arg4 harg4 arg5 harg5 x0 x1 x2 x3 x4 hc3 p hp).dvL) (fun p hp => (rawAll i arg1 harg1 arg2 harg2 arg3 harg3 arg4 harg4 arg5 harg5 x0 x1 x2 x3 x4 hc3 p hp).dvC) runA.sl.H10_1 k0_pay2 (View.read_writes_full arg10.view _ _ _ _)).trans ?_
  unfold dvNew
  simp only [rawAll_eq]

end

end Cert.KernelIdeal.AttnRun

end
-- ==== Proof.RunB.lean ====
module

public import proofs.«01_k».proof.Proof.Gen.KernelIdeal.Frame
public import proofs.«01_k».proof.Proof.Gen.KernelIdeal.Loops
public import proofs.«01_k».proof.Proof.Offsets

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 8000000 in
/-- The body at one of the points between the first and the last query rows: what it stores, piece by piece, and that it runs. -/
noncomputable def runB (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : ¬ k0_cond1 i = 1#1) (hc2 : ¬ k0_cond2 i = 1#1) (hc3 : k0_cond3 i = 1#1) (hc4 : ¬ k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32) :
    { L : List (View.Piece (Elt F) S128x512 .bf16) × List (View.Piece (Elt F) S4352x512 .f32) × List (View.Piece (Elt F) S4352x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (∃ d, owns (c : Thread nD τ) arg8 fullShare d) ∗ owns (c : Thread nD τ) arg9 fullShare xk ∗ owns (c : Thread nD τ) arg10 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ es, (arg6.view.loc (c : Thread nD τ) ↦[arg6.view.set]{fullShare} arg6.view.writes (Elt F) es L.1))
                ∗ (∃ d, owns (c : Thread nD τ) arg7 fullShare d)
                ∗ (∃ d, owns (c : Thread nD τ) arg8 fullShare d)
                ∗ (arg9.view.loc (c : Thread nD τ) ↦[arg9.view.set]{fullShare} arg9.view.writes (Elt F) (harg9.unread xk) L.2.1)
                ∗ (arg10.view.loc (c : Thread nD τ) ↦[arg10.view.set]{fullShare} arg10.view.writes (Elt F) (harg10.unread xv) L.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, %hf7, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexists _; isplitr; · ipureintro; exact hf7
      iexact H7
    isplitl [H8]
    · iexists _; iexists _; isplitr; swap; · iexact H8
      ipureintro; rfl
    isplitl [H9]
    · iexact H9
    iexact H10

end Cert.KernelIdeal.AttnRun

end
-- ==== Proof.BridgeB.lean ====
module

public import proofs.«01_k».proof.Proof.Gen.KernelIdeal.Frame
public import proofs.«01_k».proof.Proof.Raw
public import proofs.«01_k».proof.Proof.RunB

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! # What the run of case B stores, as the pairs' values -/

section
variable (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : ¬ k0_cond1 i = 1#1) (hc2 : ¬ k0_cond2 i = 1#1) (hc3 : k0_cond3 i = 1#1) (hc4 : ¬ k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32)

set_option maxHeartbeats 1000000 in
theorem runB_dq0 : (runB.sl.v269 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 0 (by omega)).dq := rfl

set_option maxHeartbeats 1000000 in
theorem runB_dq1 : (runB.sl.v461 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 1 (by omega)).dq := rfl

set_option maxHeartbeats 1000000 in
theorem runB_dq2 : (runB.sl.v653 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 2 (by omega)).dq := rfl

set_option maxHeartbeats 1000000 in
theorem runB_dq3 : (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runB.sl.v786 c i arg1 harg1 arg2 harg2 arg3 harg3 arg4 harg4 arg5 harg5 hc3 x0 x1 x2 x3 x4) (runB.sl.v787 c i arg1 harg1 arg2 harg2 arg3 harg3 arg4 harg4 arg5 harg5 hc3 x0 x1 x2 x3 x4)) = (rawAll i arg1 harg1 arg2 harg2 arg3 harg3 arg4 harg4 arg5 harg5 x0 x1 x2 x3 x4 hc3 3 (by omega)).dq := rfl

set_option maxHeartbeats 1000000 in
theorem runB_dqL : (runB c i arg1 harg1 arg2 harg2 arg3 harg3 arg4 harg4 arg5 harg5 arg6 harg6 arg7 harg7 arg8 harg8 arg9 harg9 arg10 harg10 hc1 hc2 hc3 hc4 x0 x1 x2 x3 x4 xk xv).1.1 = dqList4 (runB.sl.v269 c i arg1 harg1 arg2 harg2 arg3 harg3 arg4 harg4 arg5 harg5 hc3 x0 x1 x2 x3 x4) (runB.sl.v461 c i arg1 harg1 arg2 harg2 arg3 harg3 arg4 harg4 arg5 harg5 hc3 x0 x1 x2 x3 x4) (runB.sl.v653 c i arg1 harg1 arg2 harg2 arg3 harg3 arg4 harg4 arg5 harg5 hc3 x0 x1 x2 x3 x4) (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runB.sl.v786 c i arg1 harg1 arg2 harg2 arg3 harg3 arg4 harg4 arg5 harg5 hc3 x0 x1 x2 x3 x4) (runB.sl.v787 c i arg1 harg1 arg2 harg2 arg3 harg3 arg4 harg4 arg5 harg5 hc3 x0 x1 x2 x3 x4)) := rfl

set_option maxHeartbeats 1000000 in
theorem runB_dk_1 : (runB.sl.H9_1 c i arg1 harg1 arg2 harg2 arg3 harg3 arg4 harg4 arg5 harg5 arg9 harg9 hc3 x0 x1 x2 x3 x4 xk) = accLoc arg9.view (fun _ => (harg9.unread xk)) (k0_off5 i) (k0_off5_inb i hc3) (rawAll i arg1 harg1 arg2 harg2 arg3 harg3 arg4 harg4 arg5 harg5 x0 x1 x2 x3 x4 hc3 0 (by omega)).dkL [] := rfl

set_option maxHeartbeats 1000000 in
theorem runB_dk_3 : (runB.sl.H9_3 c i arg1 harg1 arg2 harg2 arg3 harg3 arg4 harg4 arg5 harg5 arg9 harg9 hc3 x0 x1 x2 x3 x4 xk) = accLoc arg9.view (fun _ => (harg9.unread xk)) (k0_off10 i) (k0_off10_inb i hc3) (rawAll i arg1 harg1 arg2 harg2 arg3 harg3 arg4 harg4 arg5 harg5 x0 x1 x2 x3 x4 hc3 1 (by omega)).dkL (accCtx arg9.view (harg9.unread xk) ![4096, 0] inb_S4352x512_S256x128_4096_0 (rawAll i arg1 harg1 arg2 harg2 arg3 harg3 arg4 harg4 arg5 harg5 x0 x1 x2 x3 x4 hc3 0 (by omega)).dkC (runB.sl.H9_1 c i arg1 harg1 arg2 harg2 arg3 harg3 arg4 harg4 arg5 harg5 arg9 harg9 hc3 x0 x1 x2 x3 x4 xk)) := rfl

set_option maxHeartbeats 1000000 in
theorem runB_dk_5 : (runB.sl.H9_5 c i arg1 harg1 arg2 harg2 arg3 harg3 arg4 harg4 arg5 harg5 arg9 harg9 hc3 x0 x1 x2 x3 x4 xk) = accLoc arg9.view (fun _ => (harg9.unread xk)) (k0_off15 i) (k0_off15_inb i hc3) (rawAll i arg1 harg1 arg2 harg2 arg3 harg3 arg4 harg4 arg5 harg5 x0 x1 x2 x3 x4 hc3 2 (by omega)).dkL (accCtx arg9.view (harg9.unread xk) ![4096, 128] inb_S4352x512_S256x128_4096_128 (rawAll i arg1 harg1 arg2 harg2 arg3 harg3 arg4 harg4 arg5 harg5 x0 x1 x2 x3 x4 hc3 1 (by omega)).dkC (runB.sl.H9_3 c i arg1 harg1 arg2 harg2 arg3 harg3 arg4 harg4 arg5 harg5 arg9 harg9 hc3 x0 x1 x2 x3 x4 xk)) := rfl

set_option maxHeartbeats 1000000 in
theorem runB_dk_7 : (runB.sl.H9_7 c i arg1 harg1 arg2 harg2 arg3 harg3 arg4 harg4 arg5 harg5 arg9 harg9 hc3 x0 x1 x2 x3 x4 xk) = accLoc arg9.view (fun _ => (harg9.unread xk)) (k0_off20 i) (k0_off20_inb i hc3) (rawAll i arg1 harg1 arg2 harg2 arg3 harg3 arg4 harg4 arg5 harg5 x0 x1 x2 x3 x4 hc3 3 (by omega)).dkL (accCtx arg9.view (harg9.unread xk) ![4096, 256] inb_S4352x512_S256x128_4096_256 (rawAll i arg1 harg1 arg2 harg2 arg3 harg3 arg4 harg4 arg5 harg5 x0 x1 x2 x3 x4 hc3 2 (by omega)).dkC (runB.sl.H9_5 c i arg1 harg1 arg2 harg2 arg3 harg3 arg4 harg4 arg5 harg5 arg9 harg9 hc3 x0 x1 x2 x3 x4 xk)) := rfl

set_option maxHeartbeats 1000000 in
theorem runB_dk_last : (runB c i arg1 harg1 arg2 harg2 arg3 harg3 arg4 harg4 arg5 harg5 arg6 harg6 arg7 harg7 arg8 harg8 arg9 harg9 arg10 harg10 hc1 hc2 hc3 hc4 x0 x1 x2 x3 x4 xk xv).1.2.1 = accCtx arg9.view (harg9.unread xk) ![4096, 384] inb_S4352x512_S256x128_4096_384 (rawAll i arg1 harg1 arg2 harg2 arg3 harg3 arg4 harg4 arg5 harg5 x0 x1 x2 x3 x4 hc3 3 (by omega)).dkC (runB.sl.H9_7 c i arg1 harg1 arg2 harg2 arg3 harg3 arg4 harg4 arg5 harg5 arg9 harg9 hc3 x0 x1 x2 x3 x4 xk) := rfl

set_option maxHeartbeats 1000000 in
theorem runB_dv_1 : (runB.sl.H10_1 c i arg1 harg1 arg2 harg2 arg3 harg3 arg4 harg4 arg5 harg5 arg10 harg10 hc3 x0 x1 x2 x3 x4 xv) = accLoc arg10.view (fun _ => (harg10.unread xv)) (k0_off5 i) (k0_off5_inb i hc3) (rawAll i arg1 harg1 arg2 harg2 arg3 harg3 arg4 harg4 arg5 harg5 x0 x1 x2 x3 x4 hc3 0 (by omega)).dvL [] := rfl

set_option maxHeartbeats 1000000 in
theorem runB_dv_3 : (runB.sl.H10_3 c i arg1 harg1 arg2 harg2 arg3 harg3 arg4 harg4 arg5 harg5 arg10 harg10 hc3 x0 x1 x2 x3 x4 xv) = accLoc arg10.view (fun _ => (harg10.unread xv)) (k0_off10 i) (k0_off10_inb i hc3) (rawAll i arg1 harg1 arg2 harg2 arg3 harg3 arg4 harg4 arg5 harg5 x0 x1 x2 x3 x4 hc3 1 (by omega)).dvL (accCtx arg10.view (harg10.unread xv) ![4096, 0] inb_S4352x512_S256x128_4096_0 (rawAll i arg1 harg1 arg2 harg2 arg3 harg3 arg4 harg4 arg5 harg5 x0 x1 x2 x3 x4 hc3 0 (by omega)).dvC (runB.sl.H10_1 c i arg1 harg1 arg2 harg2 arg3 harg3 arg4 harg4 arg5 harg5 arg10 harg10 hc3 x0 x1 x2 x3 x4 xv)) := rfl

set_option maxHeartbeats 1000000 in
theorem runB_dv_5 : (runB.sl.H10_5 c i arg1 harg1 arg2 harg2 arg3 harg3 arg4 harg4 arg5 harg5 arg10 harg10 hc3 x0 x1 x2 x3 x4 xv) = accLoc arg10.view (fun _ => (harg10.unread xv)) (k0_off15 i) (k0_off15_inb i hc3) (rawAll i arg1 harg1 arg2 harg2 arg3 harg3 arg4 harg4 arg5 harg5 x0 x1 x2 x3 x4 hc3 2 (by omega)).dvL (accCtx arg10.view (harg10.unread xv) ![4096, 128] inb_S4352x512_S256x128_4096_128 (rawAll i arg1 harg1 arg2 harg2 arg3 harg3 arg4 harg4 arg5 harg5 x0 x1 x2 x3 x4 hc3 1 (by omega)).dvC (runB.sl.H10_3 c i arg1 harg1 arg2 harg2 arg3 harg3 arg4 harg4 arg5 harg5 arg10 harg10 hc3 x0 x1 x2 x3 x4 xv)) := rfl

set_option maxHeartbeats 1000000 in
theorem runB_dv_7 : (runB.sl.H10_7 c i arg1 harg1 arg2 harg2 arg3 harg3 arg4 harg4 arg5 harg5 arg10 harg10 hc3 x0 x1 x2 x3 x4 xv) = accLoc arg10.view (fun _ => (harg10.unread xv)) (k0_off20 i) (k0_off20_inb i hc3) (rawAll i arg1 harg1 arg2 harg2 arg3 harg3 arg4 harg4 arg5 harg5 x0 x1 x2 x3 x4 hc3 3 (by omega)).dvL (accCtx arg10.view (harg10.unread xv) ![4096, 256] inb_S4352x512_S256x128_4096_256 (rawAll i arg1 harg1 arg2 harg2 arg3 harg3 arg4 harg4 arg5 harg5 x0 x1 x2 x3 x4 hc3 2 (by omega)).dvC (runB.sl.H10_5 c i arg1 harg1 arg2 harg2 arg3 harg3 arg4 harg4 arg5 harg5 arg10 harg10 hc3 x0 x1 x2 x3 x4 xv)) := rfl

set_option maxHeartbeats 1000000 in
theorem runB_dv_last : (runB c i arg1 harg1 arg2 harg2 arg3 harg3 arg4 harg4 arg5 harg5 arg6 harg6 arg7 harg7 arg8 harg8 arg9 harg9 arg10 harg10 hc1 hc2 hc3 hc4 x0 x1 x2 x3 x4 xk xv).1.2.2 = accCtx arg10.view (harg10.unread xv) ![4096, 384] inb_S4352x512_S256x128_4096_384 (rawAll i arg1 harg1 arg2 harg2 arg3 harg3 arg4 harg4 arg5 harg5 x0 x1 x2 x3 x4 hc3 3 (by omega)).dvC (runB.sl.H10_7 c i arg1 harg1 arg2 harg2 arg3 harg3 arg4 harg4 arg5 harg5 arg10 harg10 hc3 x0 x1 x2 x3 x4 xv) := rfl

theorem runB_read_dq (f) : arg6.view.read (Elt F) (arg6.view.writes (Elt F) f (runB c i arg1 harg1 arg2 harg2 arg3 harg3 arg4 harg4 arg5 harg5 arg6 harg6 arg7 harg7 arg8 harg8 arg9 harg9 arg10 harg10 hc1 hc2 hc3 hc4 x0 x1 x2 x3 x4 xk xv).1.1) = dqBlock (fun p hp => (pairAt i hc3 p hp x0 x1 x2 x3 x4).dq) := by
  rw [runB_dqL, runB_dq0, runB_dq1, runB_dq2, runB_dq3]
  refine (read_dqList arg6.view f (fun p hp => (rawAll i arg1 harg1 arg2 harg2 arg3 harg3 arg4 harg4 arg5 harg5 x0 x1 x2 x3 x4 hc3 p hp).dq)).trans ?_
  simp only [rawAll_eq]

theorem runB_read_dk : arg9.view.read (Elt F) (arg9.view.writes (Elt F) (harg9.unread xk) (runB c i arg1 harg1 arg2 harg2 arg3 harg3 arg4 harg4 arg5 harg5 arg6 harg6 arg7 harg7 arg8 harg8 arg9 harg9 arg10 harg10 hc1 hc2 hc3 hc4 x0 x1 x2 x3 x4 xk xv).1.2.1) = dkNew i hc3 x0 x1 x2 x3 x4 xk := by
  rw [runB_dk_last, runB_dk_7, runB_dk_5, runB_dk_3, runB_dk_1]
  refine (read_accList_base arg9.view (harg9.unread xk) i hc3 (fun p hp => (rawAll i arg1 harg1 arg2 harg2 arg3 harg3 arg4 harg4 arg5 harg5 x0 x1 x2 x3 x4 hc3 p hp).dkL) (fun p hp => (rawAll i arg1 harg1 arg2 harg2 arg3 harg3 arg4 harg4 arg5 harg5 x0 x1 x2 x3 x4 hc3 p hp).dkC) xk (harg9.read_unread xk)).trans ?_
  unfold dkNew
  simp only [rawAll_eq]

theorem runB_read_dv : arg10.view.read (Elt F) (arg10.view.writes (Elt F) (harg10.unread xv) (runB c i arg1 harg1 arg2 harg2 arg3 harg3 arg4 harg4 arg5 harg5 arg6 harg6 arg7 harg7 arg8 harg8 arg9 harg9 arg10 harg10 hc1 hc2 hc3 hc4 x0 x1 x2 x3 x4 xk xv).1.2.2) = dvNew i hc3 x0 x1 x2 x3 x4 xv := by
  rw [runB_dv_last, runB_dv_7, runB_dv_5, runB_dv_3, runB_dv_1]
  refine (read_accList_base arg10.view (harg10.unread xv) i hc3 (fun p hp => (rawAll i arg1 harg1 arg2 harg2 arg3 harg3 arg4 harg4 arg5 harg5 x0 x1 x2 x3 x4 hc3 p hp).dvL) (fun p hp => (rawAll i arg1 harg1 arg2 harg2 arg3 harg3 arg4 harg4 arg5 harg5 x0 x1 x2 x3 x4 hc3 p hp).dvC) xv (harg10.read_unread xv)).trans ?_
  unfold dvNew
  simp only [rawAll_eq]

end

end Cert.KernelIdeal.AttnRun

end
-- ==== Proof.RunC.lean ====
module

public import proofs.«01_k».proof.Proof.Gen.KernelIdeal.Frame
public import proofs.«01_k».proof.Proof.Gen.KernelIdeal.Loops
public import proofs.«01_k».proof.Proof.Offsets

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 8000000 in
/-- The body at the last query rows', which also writes the accumulators out: what it stores, piece by piece, and that it runs. -/
noncomputable def runC (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : ¬ k0_cond1 i = 1#1) (hc2 : ¬ k0_cond2 i = 1#1) (hc3 : k0_cond3 i = 1#1) (hc4 : k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32) :
    { L : List (View.Piece (Elt F) S128x512 .bf16) × List (View.Piece (Elt F) S4352x1024 .bf16) × List (View.Piece (Elt F) S4352x512 .f32) × List (View.Piece (Elt F) S4352x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (∃ d, owns (c : Thread nD τ) arg8 fullShare d) ∗ owns (c : Thread nD τ) arg9 fullShare xk ∗ owns (c : Thread nD τ) arg10 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ es, (arg6.view.loc (c : Thread nD τ) ↦[arg6.view.set]{fullShare} arg6.view.writes (Elt F) es L.1))
                ∗ (∃ es, (arg7.view.loc (c : Thread nD τ) ↦[arg7.view.set]{fullShare} arg7.view.writes (Elt F) es L.2.1))
                ∗ (∃ d, owns (c : Thread nD τ) arg8 fullShare d)
                ∗ (arg9.view.loc (c : Thread nD τ) ↦[arg9.view.set]{fullShare} arg9.view.writes (Elt F) (harg9.unread xk) L.2.2.1)
                ∗ (arg10.view.loc (c : Thread nD τ) ↦[arg10.view.set]{fullShare} arg10.view.writes (Elt F) (harg10.unread xv) L.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨⟨?_, ?_, ?_, ?_⟩, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexists _; isplitr; swap; · iexact H8
      ipureintro; rfl
    isplitl [H9]
    · iexact H9
    iexact H10

end Cert.KernelIdeal.AttnRun

end
-- ==== Proof.BridgeC.lean ====
module

public import proofs.«01_k».proof.Proof.Gen.KernelIdeal.Frame
public import proofs.«01_k».proof.Proof.Raw
public import proofs.«01_k».proof.Proof.RunC

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! # What the run of case C stores, as the pairs' values -/

section
variable (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : ¬ k0_cond1 i = 1#1) (hc2 : ¬ k0_cond2 i = 1#1) (hc3 : k0_cond3 i = 1#1) (hc4 : k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32)

set_option maxHeartbeats 1000000 in
theorem runC_dq0 : (runC.sl.v269 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 0 (by omega)).dq := rfl

set_option maxHeartbeats 1000000 in
theorem runC_dq1 : (runC.sl.v461 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 1 (by omega)).dq := rfl

set_option maxHeartbeats 1000000 in
theorem runC_dq2 : (runC.sl.v653 c i arg1 harg1 arg2 harg2 arg3 harg3 arg4 harg4 arg5 harg5 hc3 x0 x1 x2 x3 x4) = (rawAll i arg1 harg1 arg2 harg2 arg3 harg3 arg4 harg4 arg5 harg5 x0 x1 x2 x3 x4 hc3 2 (by omega)).dq := rfl

set_option maxHeartbeats 1000000 in
theorem runC_dq3 : (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runC.sl.v786 c i arg1 harg1 arg2 harg2 arg3 harg3 arg4 harg4 arg5 harg5 hc3 x0 x1 x2 x3 x4) (runC.sl.v787 c i arg1 harg1 arg2 harg2 arg3 harg3 arg4 harg4 arg5 harg5 hc3 x0 x1 x2 x3 x4)) = (rawAll i arg1 harg1 arg2 harg2 arg3 harg3 arg4 harg4 arg5 harg5 x0 x1 x2 x3 x4 hc3 3 (by omega)).dq := rfl

set_option maxHeartbeats 1000000 in
theorem runC_dqL : (runC c i arg1 harg1 arg2 harg2 arg3 harg3 arg4 harg4 arg5 harg5 arg6 harg6 arg7 harg7 arg8 harg8 arg9 harg9 arg10 harg10 hc1 hc2 hc3 hc4 x0 x1 x2 x3 x4 xk xv).1.1 = dqList4 (runC.sl.v269 c i arg1 harg1 arg2 harg2 arg3 harg3 arg4 harg4 arg5 harg5 hc3 x0 x1 x2 x3 x4) (runC.sl.v461 c i arg1 harg1 arg2 harg2 arg3 harg3 arg4 harg4 arg5 harg5 hc3 x0 x1 x2 x3 x4) (runC.sl.v653 c i arg1 harg1 arg2 harg2 arg3 harg3 arg4 harg4 arg5 harg5 hc3 x0 x1 x2 x3 x4) (k0_pay6 (arg4.view.readAt (Elt F) (Rect.unit (s := S4352x1536) (k0_off16 i) S576x128.size (k0_off16_inb i hc3)).toLoadRect (harg4.unread x3)) (arg4.view.readAt (Elt F) (Rect.unit (s := S4352x1536) ![4096, 896] S256x128.size (inb_kc 896 (by omega))).toLoadRect (harg4.unread x3)) (runC.sl.v786 c i arg1 harg1 arg2 harg2 arg3 harg3 arg4 harg4 arg5 harg5 hc3 x0 x1 x2 x3 x4) (runC.sl.v787 c i arg1 harg1 arg2 harg2 arg3 harg3 arg4 harg4 arg5 harg5 hc3 x0 x1 x2 x3 x4)) := rfl

set_option maxHeartbeats 1000000 in
theorem runC_dk_1 : (runC.sl.H9_1 c i arg1 harg1 arg2 harg2 arg3 harg3 arg4 harg4 arg5 harg5 arg9 harg9 hc3 x0 x1 x2 x3 x4 xk) = accLoc arg9.view (fun _ => (harg9.unread xk)) (k0_off5 i) (k0_off5_inb i hc3) (rawAll i arg1 harg1 arg2 harg2 arg3 harg3 arg4 harg4 arg5 harg5 x0 x1 x2 x3 x4 hc3 0 (by omega)).dkL [] := rfl

set_option maxHeartbeats 1000000 in
theorem runC_dk_3 : (runC.sl.H9_3 c i arg1 harg1 arg2 harg2 arg3 harg3 arg4 harg4 arg5 harg5 arg9 harg9 hc3 x0 x1 x2 x3 x4 xk) = accLoc arg9.view (fun _ => (harg9.unread xk)) (k0_off10 i) (k0_off10_inb i hc3) (rawAll i arg1 harg1 arg2 harg2 arg3 harg3 arg4 harg4 arg5 harg5 x0 x1 x2 x3 x4 hc3 1 (by omega)).dkL (accCtx arg9.view (harg9.unread xk) ![4096, 0] inb_S4352x512_S256x128_4096_0 (rawAll i arg1 harg1 arg2 harg2 arg3 harg3 arg4 harg4 arg5 harg5 x0 x1 x2 x3 x4 hc3 0 (by omega)).dkC (runC.sl.H9_1 c i arg1 harg1 arg2 harg2 arg3 harg3 arg4 harg4 arg5 harg5 arg9 harg9 hc3 x0 x1 x2 x3 x4 xk)) := rfl

set_option maxHeartbeats 1000000 in
theorem runC_dk_5 : (runC.sl.H9_5 c i arg1 harg1 arg2 harg2 arg3 harg3 arg4 harg4 arg5 harg5 arg9 harg9 hc3 x0 x1 x2 x3 x4 xk) = accLoc arg9.view (fun _ => (harg9.unread xk)) (k0_off15 i) (k0_off15_inb i hc3) (rawAll i arg1 harg1 arg2 harg2 arg3 harg3 arg4 harg4 arg5 harg5 x0 x1 x2 x3 x4 hc3 2 (by omega)).dkL (accCtx arg9.view (harg9.unread xk) ![4096, 128] inb_S4352x512_S256x128_4096_128 (rawAll i arg1 harg1 arg2 harg2 arg3 harg3 arg4 harg4 arg5 harg5 x0 x1 x2 x3 x4 hc3 1 (by omega)).dkC (runC.sl.H9_3 c i arg1 harg1 arg2 harg2 arg3 harg3 arg4 harg4 arg5 harg5 arg9 harg9 hc3 x0 x1 x2 x3 x4 xk)) := rfl

set_option maxHeartbeats 1000000 in
theorem runC_dk_7 : (runC.sl.H9_7 c i arg1 harg1 arg2 harg2 arg3 harg3 arg4 harg4 arg5 harg5 arg9 harg9 hc3 x0 x1 x2 x3 x4 xk) = accLoc arg9.view (fun _ => (harg9.unread xk)) (k0_off20 i) (k0_off20_inb i hc3) (rawAll i arg1 harg1 arg2 harg2 arg3 harg3 arg4 harg4 arg5 harg5 x0 x1 x2 x3 x4 hc3 3 (by omega)).dkL (accCtx arg9.view (harg9.unread xk) ![4096, 256] inb_S4352x512_S256x128_4096_256 (rawAll i arg1 harg1 arg2 harg2 arg3 harg3 arg4 harg4 arg5 harg5 x0 x1 x2 x3 x4 hc3 2 (by omega)).dkC (runC.sl.H9_5 c i arg1 harg1 arg2 harg2 arg3 harg3 arg4 harg4 arg5 harg5 arg9 harg9 hc3 x0 x1 x2 x3 x4 xk)) := rfl

set_option maxHeartbeats 1000000 in
theorem runC_dk_last : (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.1 = accCtx arg9.view (harg9.unread xk) ![4096, 384] inb_S4352x512_S256x128_4096_384 (rawAll i arg1 harg1 arg2 harg2 arg3 harg3 arg4 harg4 arg5 harg5 x0 x1 x2 x3 x4 hc3 3 (by omega)).dkC (runC.sl.H9_7 c i arg1 harg1 arg2 harg2 arg3 harg3 arg4 harg4 arg5 harg5 arg9 harg9 hc3 x0 x1 x2 x3 x4 xk) := rfl

set_option maxHeartbeats 1000000 in
theorem runC_dv_1 : (runC.sl.H10_1 c i arg1 harg1 arg2 harg2 arg3 harg3 arg4 harg4 arg5 harg5 arg10 harg10 hc3 x0 x1 x2 x3 x4 xv) = accLoc arg10.view (fun _ => (harg10.unread xv)) (k0_off5 i) (k0_off5_inb i hc3) (rawAll i arg1 harg1 arg2 harg2 arg3 harg3 arg4 harg4 arg5 harg5 x0 x1 x2 x3 x4 hc3 0 (by omega)).dvL [] := rfl

set_option maxHeartbeats 1000000 in
theorem runC_dv_3 : (runC.sl.H10_3 c i arg1 harg1 arg2 harg2 arg3 harg3 arg4 harg4 arg5 harg5 arg10 harg10 hc3 x0 x1 x2 x3 x4 xv) = accLoc arg10.view (fun _ => (harg10.unread xv)) (k0_off10 i) (k0_off10_inb i hc3) (rawAll i arg1 harg1 arg2 harg2 arg3 harg3 arg4 harg4 arg5 harg5 x0 x1 x2 x3 x4 hc3 1 (by omega)).dvL (accCtx arg10.view (harg10.unread xv) ![4096, 0] inb_S4352x512_S256x128_4096_0 (rawAll i arg1 harg1 arg2 harg2 arg3 harg3 arg4 harg4 arg5 harg5 x0 x1 x2 x3 x4 hc3 0 (by omega)).dvC (runC.sl.H10_1 c i arg1 harg1 arg2 harg2 arg3 harg3 arg4 harg4 arg5 harg5 arg10 harg10 hc3 x0 x1 x2 x3 x4 xv)) := rfl

set_option maxHeartbeats 1000000 in
theorem runC_dv_5 : (runC.sl.H10_5 c i arg1 harg1 arg2 harg2 arg3 harg3 arg4 harg4 arg5 harg5 arg10 harg10 hc3 x0 x1 x2 x3 x4 xv) = accLoc arg10.view (fun _ => (harg10.unread xv)) (k0_off15 i) (k0_off15_inb i hc3) (rawAll i arg1 harg1 arg2 harg2 arg3 harg3 arg4 harg4 arg5 harg5 x0 x1 x2 x3 x4 hc3 2 (by omega)).dvL (accCtx arg10.view (harg10.unread xv) ![4096, 128] inb_S4352x512_S256x128_4096_128 (rawAll i arg1 harg1 arg2 harg2 arg3 harg3 arg4 harg4 arg5 harg5 x0 x1 x2 x3 x4 hc3 1 (by omega)).dvC (runC.sl.H10_3 c i arg1 harg1 arg2 harg2 arg3 harg3 arg4 harg4 arg5 harg5 arg10 harg10 hc3 x0 x1 x2 x3 x4 xv)) := rfl

set_option maxHeartbeats 1000000 in
theorem runC_dv_7 : (runC.sl.H10_7 c i arg1 harg1 arg2 harg2 arg3 harg3 arg4 harg4 arg5 harg5 arg10 harg10 hc3 x0 x1 x2 x3 x4 xv) = accLoc arg10.view (fun _ => (harg10.unread xv)) (k0_off20 i) (k0_off20_inb i hc3) (rawAll i arg1 harg1 arg2 harg2 arg3 harg3 arg4 harg4 arg5 harg5 x0 x1 x2 x3 x4 hc3 3 (by omega)).dvL (accCtx arg10.view (harg10.unread xv) ![4096, 256] inb_S4352x512_S256x128_4096_256 (rawAll i arg1 harg1 arg2 harg2 arg3 harg3 arg4 harg4 arg5 harg5 x0 x1 x2 x3 x4 hc3 2 (by omega)).dvC (runC.sl.H10_5 c i arg1 harg1 arg2 harg2 arg3 harg3 arg4 harg4 arg5 harg5 arg10 harg10 hc3 x0 x1 x2 x3 x4 xv)) := rfl

set_option maxHeartbeats 1000000 in
theorem runC_dv_last : (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.2 = accCtx arg10.view (harg10.unread xv) ![4096, 384] inb_S4352x512_S256x128_4096_384 (rawAll i arg1 harg1 arg2 harg2 arg3 harg3 arg4 harg4 arg5 harg5 x0 x1 x2 x3 x4 hc3 3 (by omega)).dvC (runC.sl.H10_7 c i arg1 harg1 arg2 harg2 arg3 harg3 arg4 harg4 arg5 harg5 arg10 harg10 hc3 x0 x1 x2 x3 x4 xv) := rfl

theorem runC_read_dq (f) : arg6.view.read (Elt F) (arg6.view.writes (Elt F) f (runC c i arg1 harg1 arg2 harg2 arg3 harg3 arg4 harg4 arg5 harg5 arg6 harg6 arg7 harg7 arg8 harg8 arg9 harg9 arg10 harg10 hc1 hc2 hc3 hc4 x0 x1 x2 x3 x4 xk xv).1.1) = dqBlock (fun p hp => (pairAt i hc3 p hp x0 x1 x2 x3 x4).dq) := by
  rw [runC_dqL, runC_dq0, runC_dq1, runC_dq2, runC_dq3]
  refine (read_dqList arg6.view f (fun p hp => (rawAll i arg1 harg1 arg2 harg2 arg3 harg3 arg4 harg4 arg5 harg5 x0 x1 x2 x3 x4 hc3 p hp).dq)).trans ?_
  simp only [rawAll_eq]

theorem runC_read_dk : arg9.view.read (Elt F) (arg9.view.writes (Elt F) (harg9.unread xk) (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.1) = dkNew i hc3 x0 x1 x2 x3 x4 xk := by
  rw [runC_dk_last, runC_dk_7, runC_dk_5, runC_dk_3, runC_dk_1]
  refine (read_accList_base arg9.view (harg9.unread xk) i hc3 (fun p hp => (rawAll i arg1 harg1 arg2 harg2 arg3 harg3 arg4 harg4 arg5 harg5 x0 x1 x2 x3 x4 hc3 p hp).dkL) (fun p hp => (rawAll i arg1 harg1 arg2 harg2 arg3 harg3 arg4 harg4 arg5 harg5 x0 x1 x2 x3 x4 hc3 p hp).dkC) xk (harg9.read_unread xk)).trans ?_
  unfold dkNew
  simp only [rawAll_eq]

theorem runC_read_dv : arg10.view.read (Elt F) (arg10.view.writes (Elt F) (harg10.unread xv) (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.2) = dvNew i hc3 x0 x1 x2 x3 x4 xv := by
  rw [runC_dv_last, runC_dv_7, runC_dv_5, runC_dv_3, runC_dv_1]
  refine (read_accList_base arg10.view (harg10.unread xv) i hc3 (fun p hp => (rawAll i arg1 harg1 arg2 harg2 arg3 harg3 arg4 harg4 arg5 harg5 x0 x1 x2 x3 x4 hc3 p hp).dvL) (fun p hp => (rawAll i arg1 harg1 arg2 harg2 arg3 harg3 arg4 harg4 arg5 harg5 x0 x1 x2 x3 x4 hc3 p hp).dvC) xv (harg10.read_unread xv)).trans ?_
  unfold dvNew
  simp only [rawAll_eq]

theorem runC_dkv : (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.1 = pb_k0_t1 (F := F) Variants.none c none i arg1 harg1 arg2 harg2 arg3 harg3 arg4 harg4 arg5 harg5 arg6 harg6 arg7 harg7 arg8 harg8 arg9 harg9 arg10 harg10 hc4
    (arg9.view.writes (Elt F) (harg9.unread xk) (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.1) (arg10.view.writes (Elt F) (harg10.unread xv) (runC c i arg1 harg1 arg2 harg2 arg3 harg3 arg4 harg4 arg5 harg5 arg6 harg6 arg7 harg7 arg8 harg8 arg9 harg9 arg10 harg10 hc1 hc2 hc3 hc4 x0 x1 x2 x3 x4 xk xv).1.2.2.2) 17 := rfl

end

end Cert.KernelIdeal.AttnRun

end
-- ==== Proof.Flush.lean ====
module

public import proofs.«01_k».proof.Proof.Acc
public import proofs.«01_k».proof.Proof.Gen.KernelIdeal.Loops

@[expose] public section

set_option maxRecDepth 16384

noncomputable section

namespace Cert.KernelIdeal.AttnRun

open Idealize.ShloMosaic Idealize.ShloMosaic.TcCoe Idealize.ShloMosaic.Tactic
open Cert.KernelIdeal Cert.KernelIdeal.Gen
open Idealize.ShloMosaic.VecWindow (window put)

variable {F : FTy → Type} [FloatOps F] [Named F]

/-! # The last point's write of both accumulators, 256 rows at a time -/

/-- The key gradients and the value gradients side by side, in bf16. -/
def dkvBlock (x y : Vec F S4352x512 .f32) : Vec F S4352x1024 .bf16 := fun z =>
  if h : (z 1).val < 512 then truncf (F := F) (s := S4352x512) .bf16 x bitsLt_bf16_f32 (ix2 (n0 := 4352) (n1 := 512) ⟨(z 0).val, (z 0).isLt⟩ ⟨(z 1).val, h⟩)
  else truncf (F := F) (s := S4352x512) .bf16 y bitsLt_bf16_f32 (ix2 (n0 := 4352) (n1 := 512) ⟨(z 0).val, (z 0).isLt⟩ ⟨(z 1).val - 512, by have : (z 1).val < 1024 := (z 1).isLt; omega⟩)

section
variable (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc4 : k0_cond4 i = 1#1) (X9 : BufTy.Contents (Elt F) arg9.view.ty) (X10 : BufTy.Contents (Elt F) arg10.view.ty)

theorem trip_pieces (k : Fin k0_t1_loop.trips) :
    tripL_k0_t1 (F := F) Variants.none c none i arg1 harg1 arg2 harg2 arg3 harg3 arg4 harg4 arg5 harg5 arg6 harg6 arg7 harg7 arg8 harg8 arg9 harg9 arg10 harg10 hc4 X9 X10 k
      = [⟨Rect.unit (s := S4352x1024) (k0_off23 k) S256x512.size (k0_off23_inb i k hc4),
            k0_pay8 (arg10.view.readAt (Elt F) (Rect.unit (s := S4352x512) (k0_off21 k) S256x512.size (k0_off21_inb i k hc4)).toLoadRect X10)⟩,
         ⟨Rect.unit (s := S4352x1024) (k0_off22 k) S256x512.size (k0_off22_inb i k hc4),
            k0_pay7 (arg9.view.readAt (Elt F) (Rect.unit (s := S4352x512) (k0_off21 k) S256x512.size (k0_off21_inb i k hc4)).toLoadRect X9)⟩] := by
  unfold tripL_k0_t1 trip_k0_t1
  rfl

theorem off21_eq : ∀ k : Fin k0_t1_loop.trips, k0_off21 k = ![256 * k.val, 0] := by decide +kernel
theorem off22_eq : ∀ k : Fin k0_t1_loop.trips, k0_off22 k = ![256 * k.val, 0] := by decide +kernel
theorem off23_eq : ∀ k : Fin k0_t1_loop.trips, k0_off23 k = ![256 * k.val, 512] := by decide +kernel
theorem trips_eq : k0_t1_loop.trips = 17 := by decide +kernel

/-- After `n` trips the first `256 n` rows hold both accumulators. -/
theorem read_trips (f : BufTy.Contents (Elt F) arg7.view.ty) (z : S4352x1024.Idx) : ∀ n : ℕ, n ≤ 17 → (z 0).val < 256 * n →
    arg7.view.read (Elt F) (arg7.view.writes (Elt F) f
      (pb_k0_t1 (F := F) Variants.none c none i arg1 harg1 arg2 harg2 arg3 harg3 arg4 harg4 arg5 harg5 arg6 harg6 arg7 harg7 arg8 harg8 arg9 harg9 arg10 harg10 hc4 X9 X10 n)) z
      = dkvBlock (arg9.view.read (Elt F) X9) (arg10.view.read (Elt F) X10) z
  | 0, _, h => absurd h (by omega)
  | n + 1, hn, h => by
    have hk : n < k0_t1_loop.trips := by rw [trips_eq]; omega
    have hs := pb_k0_t1_succ (F := F) Variants.none c none i arg1 harg1 arg2 harg2 arg3 harg3 arg4 harg4 arg5 harg5 arg6 harg6 arg7 harg7 arg8 harg8 arg9 harg9 arg10 harg10 hc4 X9 X10 ⟨n, hk⟩
    simp only at hs
    rw [hs, trip_pieces]
    simp only [List.cons_append, List.nil_append]
    rw [View.read_writes_cons_put _ _ _ _ _ (off23_eq ⟨n, hk⟩), View.read_writes_cons_put _ _ _ _ _ (off22_eq ⟨n, hk⟩)]
    have h0 : (z 0).val < 4352 := (z 0).isLt
    have h1 : (z 1).val < 1024 := (z 1).isLt
    have mem : ∀ q : ℕ, 256 * n ≤ (z 0).val → q ≤ (z 1).val → (z 1).val < q + 512 →
        ∀ a : Fin 2, (![256 * n, q] : Fin 2 → ℕ) a ≤ (z a).val ∧ (z a).val < (![256 * n, q] : Fin 2 → ℕ) a + S256x512.size a := by
      intro q h2 h3 h4 a; fin_cases a
      · exact ⟨h2, by show (z 0).val < 256 * n + 256; omega⟩
      · exact ⟨h3, h4⟩
    have nmem : ∀ q : ℕ, ¬ (256 * n ≤ (z 0).val ∧ q ≤ (z 1).val) →
        ¬ ∀ a : Fin 2, (![256 * n, q] : Fin 2 → ℕ) a ≤ (z a).val ∧ (z a).val < (![256 * n, q] : Fin 2 → ℕ) a + S256x512.size a :=
      fun q h2 hall => h2 ⟨(hall 0).1, (hall 1).1⟩
    by_cases hr : 256 * n ≤ (z 0).val
    · by_cases hc : (z 1).val < 512
      · refine (dif_neg (nmem 512 (by omega))).trans ((dif_pos (mem 0 hr (Nat.zero_le _) (by omega))).trans ?_)
        unfold dkvBlock k0_pay7
        rw [dif_pos hc, View.readAt_unit _ _ _ (off21_eq ⟨n, hk⟩) (by rw [← off21_eq ⟨n, hk⟩]; exact k0_off21_inb i ⟨n, hk⟩ hc4)]
        refine congrArg (truncf (F := F) (s := S4352x512) .bf16 (arg9.view.read (Elt F) X9) bitsLt_bf16_f32) (funext fun a => ?_)
        fin_cases a
        · exact Fin.ext (by show 256 * n + 1 * ((z 0).val - 256 * n) = (z 0).val; omega)
        · exact Fin.ext (by show 0 + 1 * ((z 1).val - 0) = (z 1).val; omega)
      · refine (dif_pos (mem 512 hr (by omega) (by omega))).trans ?_
        unfold dkvBlock k0_pay8
        rw [dif_neg hc, View.readAt_unit _ _ _ (off21_eq ⟨n, hk⟩) (by rw [← off21_eq ⟨n, hk⟩]; exact k0_off21_inb i ⟨n, hk⟩ hc4)]
        refine congrArg (truncf (F := F) (s := S4352x512) .bf16 (arg10.view.read (Elt F) X10) bitsLt_bf16_f32) (funext fun a => ?_)
        fin_cases a
        · exact Fin.ext (by show 256 * n + 1 * ((z 0).val - 256 * n) = (z 0).val; omega)
        · exact Fin.ext (by show 0 + 1 * ((z 1).val - 512) = (z 1).val - 512; omega)
    · refine (dif_neg (nmem 512 (by omega))).trans ((dif_neg (nmem 0 (by omega))).trans ?_)
      exact read_trips f z n (by omega) (by omega)

/-- The seventeen trips write both accumulators out. -/
theorem read_flush (f : BufTy.Contents (Elt F) arg7.view.ty) :
    arg7.view.read (Elt F) (arg7.view.writes (Elt F) f
      (pb_k0_t1 (F := F) Variants.none c none i arg1 harg1 arg2 harg2 arg3 harg3 arg4 harg4 arg5 harg5 arg6 harg6 arg7 harg7 arg8 harg8 arg9 harg9 arg10 harg10 hc4 X9 X10 17))
      = dkvBlock (arg9.view.read (Elt F) X9) (arg10.view.read (Elt F) X10) :=
  funext fun z => read_trips c i arg1 harg1 arg2 harg2 arg3 harg3 arg4 harg4 arg5 harg5 arg6 harg6 arg7 harg7 arg8 harg8 arg9 harg9 arg10 harg10 hc4 X9 X10 f z 17 le_rfl
    (by have : (z 0).val < 4352 := (z 0).isLt; omega)

end

end Cert.KernelIdeal.AttnRun

end
-- ==== Proof.RunD.lean ====
module

public import proofs.«01_k».proof.Proof.Gen.KernelIdeal.Frame
public import proofs.«01_k».proof.Proof.Gen.KernelIdeal.Loops
public import proofs.«01_k».proof.Proof.Offsets

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 8000000 in
/-- The body at a context point, which only writes zeros to the query gradient: what it stores, piece by piece, and that it runs. -/
noncomputable def runD (c : Dev nD) (i : grid0.Coords) (arg1 : Memref sig .tc .vmem S128x512 .bf16) (harg1 : arg1.IsWhole) (arg2 : Memref sig .tc .vmem S128x512 .f32) (harg2 : arg2.IsWhole)
    (arg3 : Memref sig .tc .vmem S8x128 .f32) (harg3 : arg3.IsWhole) (arg4 : Memref sig .tc .vmem S4352x1536 .bf16) (harg4 : arg4.IsWhole)
    (arg5 : Memref sig .tc .vmem S8x1088x128 .f32) (harg5 : arg5.IsWhole) (arg6 : Memref sig .tc .vmem S128x512 .bf16) (harg6 : arg6.IsWhole)
    (arg7 : Memref sig .tc .vmem S4352x1024 .bf16) (harg7 : arg7.IsWhole) (arg8 : Memref sig .tc .vmem S8x1088x128 .f32) (harg8 : arg8.IsWhole)
    (arg9 : Memref sig .tc .vmem S4352x512 .f32) (harg9 : arg9.IsWhole) (arg10 : Memref sig .tc .vmem S4352x512 .f32) (harg10 : arg10.IsWhole)
    (hc1 : ¬ k0_cond1 i = 1#1) (hc2 : k0_cond2 i = 1#1) (hc3 : ¬ k0_cond3 i = 1#1) (hc4 : ¬ k0_cond4 i = 1#1)
    (x0 : Vec F S128x512 .bf16) (x1 : Vec F S128x512 .f32) (x2 : Vec F S8x128 .f32) (x3 : Vec F S4352x1536 .bf16) (x4 : Vec F S8x1088x128 .f32) (xk : Vec F S4352x512 .f32) (xv : Vec F S4352x512 .f32) (x7 : Vec F S4352x1024 .bf16) :
    { L : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare x7
            ∗ (∃ d, owns (c : Thread nD τ) arg8 fullShare d) ∗ owns (c : Thread nD τ) arg9 fullShare xk ∗ owns (c : Thread nD τ) arg10 fullShare xv
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ es, (arg6.view.loc (c : Thread nD τ) ↦[arg6.view.set]{fullShare} arg6.view.writes (Elt F) es L))
                ∗ owns (c : Thread nD τ) arg7 fullShare x7
                ∗ (∃ d, owns (c : Thread nD τ) arg8 fullShare d)
                ∗ owns (c : Thread nD τ) arg9 fullShare xk
                ∗ owns (c : Thread nD τ) arg10 fullShare xv) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5
    obtain rfl := harg9.eq_unread hf9; obtain rfl := harg10.eq_unread hf10
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; isplitr; · ipureintro; exact hf7
      iexact H7
    isplitl [H8]
    · iexists _; iexists _; isplitr; swap; · iexact H8
      ipureintro; rfl
    isplitl [H9]
    · iexists _; isplitr; · ipureintro; exact harg9.read_unread _
      iexact H9
    iexists _; isplitr; · ipureintro; exact harg10.read_unread _
    iexact H10

end Cert.KernelIdeal.AttnRun

end
-- ==== Proof.Body.lean ====
module

public import proofs.«01_k».proof.Proof.Gen.KernelIdeal.Frame
public import proofs.«01_k».proof.Proof.BridgeA
public import proofs.«01_k».proof.Proof.BridgeB
public import proofs.«01_k».proof.Proof.BridgeC
public import proofs.«01_k».proof.Proof.Flush
public import proofs.«01_k».proof.Proof.RunD
public import Idealize.ShloMosaic.Lib.Pipeline.TableIdle

@[expose] public section

set_option maxRecDepth 16384

noncomputable section

namespace Cert.KernelIdeal.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The proof data of the pipeline and its run -/

/-! ## Which kind of point the body is at -/

theorem cond1_iff : ∀ t : Fin cfg0.N, k0_cond1 (cfg0.grid.coords t) = 1#1 ↔ t.val = 0 := by decide +kernel
theorem cond2_iff : ∀ t : Fin cfg0.N, k0_cond2 (cfg0.grid.coords t) = 1#1 ↔ 32 ≤ t.val := by decide +kernel
theorem cond3_iff : ∀ t : Fin cfg0.N, k0_cond3 (cfg0.grid.coords t) = 1#1 ↔ t.val < 32 := by decide +kernel
theorem cond4_iff : ∀ t : Fin cfg0.N, k0_cond4 (cfg0.grid.coords t) = 1#1 ↔ t.val = 31 := by decide +kernel
theorem idle6 : ∀ t : Fin cfg0.N, cfg0.idle 6 (cfg0.grid.coords t) = !decide (t.val = 31) := by decide +kernel
theorem idle5 : ∀ t : Fin cfg0.N, cfg0.idle 5 (cfg0.grid.coords t) = false := by decide +kernel
theorem fresh6 : ∀ t : Fin cfg0.N, cfg0.fresh 6 t.val = decide (t.val ≤ 31) := by decide +kernel

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)
abbrev ms0_7 (t : Fin cfg0.N) := win0_7.stage (cfg0.slots t 7)
theorem hs0_7 (t : Fin cfg0.N) : (ms0_7 t).IsWhole := hstage0_7 ((cfg0.slots t 7).cast nbuf0_7)
/-- The two accumulators' buffers. -/
abbrev scM0_0 : Memref sig .tc .vmem S4352x512 .f32 := Memref.whole cc0_scratch0
abbrev scM0_1 : Memref sig .tc .vmem S4352x512 .f32 := Memref.whole cc0_scratch1

/-! ## What the accumulators and the outputs hold -/

/-- The key- and value-gradient accumulators after the first `n` points: zero to begin with, one point's contribution added at each of
    the 32 query points, left alone at the two context points. -/
def accAt (c : Dev nD) : ℕ → Vec F S4352x512 .f32 × Vec F S4352x512 .f32
  | 0 => (k0_pay1, k0_pay2)
  | n + 1 =>
    if h : n < 32 then
      let t : Fin cfg0.N := ⟨n, lt_of_lt_of_le h (by decide)⟩
      (dkNew (cfg0.grid.coords t) ((cond3_iff t).mpr h) (iblk m c 0 t) (iblk m c 1 t) (iblk m c 2 t) (iblk m c 3 t) (iblk m c 4 t) (accAt c n).1,
        dvNew (cfg0.grid.coords t) ((cond3_iff t).mpr h) (iblk m c 0 t) (iblk m c 1 t) (iblk m c 2 t) (iblk m c 3 t) (iblk m c 4 t) (accAt c n).2)
    else accAt c n

theorem accAt_succ (c : Dev nD) (t : Fin cfg0.N) (h : t.val < 32) (h3 : k0_cond3 (cfg0.grid.coords t) = 1#1) :
    accAt m c (t.val + 1) = (dkNew (cfg0.grid.coords t) h3 (iblk m c 0 t) (iblk m c 1 t) (iblk m c 2 t) (iblk m c 3 t) (iblk m c 4 t) (accAt m c t.val).1,
      dvNew (cfg0.grid.coords t) h3 (iblk m c 0 t) (iblk m c 1 t) (iblk m c 2 t) (iblk m c 3 t) (iblk m c 4 t) (accAt m c t.val).2) := by
  conv_lhs => unfold accAt
  rw [dif_pos h]

theorem accAt_stay (c : Dev nD) (n : ℕ) (h : ¬ n < 32) : accAt m c (n + 1) = accAt m c n := by
  conv_lhs => unfold accAt
  rw [dif_neg h]

/-- The query-gradient block the body leaves at point `t`. -/
def dqAt (c : Dev nD) (t : Fin cfg0.N) : Vec F S128x512 .bf16 :=
  if h : t.val < 32 then dqBlock (fun p hp => (pairAt (cfg0.grid.coords t) ((cond3_iff t).mpr h) p hp (iblk m c 0 t) (iblk m c 1 t) (iblk m c 2 t) (iblk m c 3 t) (iblk m c 4 t)).dq) else k0_pay4

/-- The key and value gradients the body leaves, at the last query point. -/
def dkvAt (c : Dev nD) : Vec F S4352x1024 .bf16 := dkvBlock (accAt m c 32).1 (accAt m c 32).2

/-! ## The proof data -/

/-- The invariant: before the first point the accumulators hold anything, after it the accumulated values. -/
def PhiS (c : Dev nD) (n : ℕ) (_ : n ≤ cfg0.N) : sProp 𝕄 :=
  match n with
  | 0 => Pipeline.ΦA spec0 c
  | n + 1 => iprop((owns (c : Thread nD τ) scM0_0 fullShare (accAt m c (n + 1)).1 ∗ owns (c : Thread nD τ) scM0_1 fullShare (accAt m c (n + 1)).2) ∗ ∃ r, prngReg c r)

theorem PhiS_zero (c : Dev nD) (n : ℕ) (h : n ≤ cfg0.N) (hz : n = 0) : PhiS m c n h = Pipeline.ΦA spec0 c := by subst hz; rfl
theorem PhiS_pos (c : Dev nD) (n : ℕ) (h : n ≤ cfg0.N) (hz : n ≠ 0) : PhiS m c n h
    = iprop((owns (c : Thread nD τ) scM0_0 fullShare (accAt m c n).1 ∗ owns (c : Thread nD τ) scM0_1 fullShare (accAt m c n).2) ∗ ∃ r, prngReg c r) := by
  obtain ⟨k, rfl⟩ := Nat.exists_eq_succ_of_ne_zero hz; rfl

theorem PhiA0_eq (c : Dev nD) : (Pipeline.ΦA spec0 c : sProp 𝕄)
    = iprop(((∃ d, owns (c : Thread nD τ) scM0_0 fullShare d) ∗ (∃ d, owns (c : Thread nD τ) scM0_1 fullShare d)) ∗ ∃ r, prngReg c r) := by
  unfold Pipeline.ΦA; rw [scopedRest0_eq]; simp only [scM0_0, scM0_1, owns_whole]; try rfl

/-- The window of the table gradient, of which nothing is said. -/
def forgets0 : Fin 8 → Bool := fun w => decide (w = 7)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => dqAt m c t
    | 6 => dkvAt m c
    | 7 => Pipeline.Dat.unnamed (cfg := cfg0) 7 t
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem before0_0 (c : Dev nD) (t : Fin cfg0.N) (d) : (dats m 0 c).before 0 t d = iblk m c 0 t := before0_0_of m (dats m 0 c) (A_eq m c 0) (after0_0 m c) t d
theorem after0_1 (c : Dev nD) (t : Fin cfg0.N) : (dats m 0 c).after 1 t = iblk m c 1 t := rfl
theorem before0_1 (c : Dev nD) (t : Fin cfg0.N) (d) : (dats m 0 c).before 1 t d = iblk m c 1 t := before0_1_of m (dats m 0 c) (A_eq m c 1) (after0_1 m c) t d
theorem after0_2 (c : Dev nD) (t : Fin cfg0.N) : (dats m 0 c).after 2 t = iblk m c 2 t := rfl
theorem before0_2 (c : Dev nD) (t : Fin cfg0.N) (d) : (dats m 0 c).before 2 t d = iblk m c 2 t := before0_2_of m (dats m 0 c) (A_eq m c 2) (after0_2 m c) t d
theorem after0_3 (c : Dev nD) (t : Fin cfg0.N) : (dats m 0 c).after 3 t = iblk m c 3 t := rfl
theorem before0_3 (c : Dev nD) (t : Fin cfg0.N) (d) : (dats m 0 c).before 3 t d = iblk m c 3 t := before0_3_of m (dats m 0 c) (A_eq m c 3) (after0_3 m c) t d
theorem after0_4 (c : Dev nD) (t : Fin cfg0.N) : (dats m 0 c).after 4 t = iblk m c 4 t := rfl
theorem before0_4 (c : Dev nD) (t : Fin cfg0.N) (d) : (dats m 0 c).before 4 t d = iblk m c 4 t := before0_4_of m (dats m 0 c) (A_eq m c 4) (after0_4 m c) t d
theorem before0_6 (c : Dev nD) (t : Fin cfg0.N) (d) : (dats m 0 c).before 6 t d = if cfg0.fresh 6 t.val then d else dkvAt m c :=
  (dats m 0 c).before_out_traj 6 rfl (fun _ _ => rfl) (fun _ _ _ _ => rfl) t.val t rfl d

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ ∃ d, owns (c : Thread nD τ) (ms0_7 t) fullShare d)
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ ∃ d, owns (c : Thread nD τ) (ms0_7 t) fullShare d)

/-- The output block of the key and value gradients at a point that leaves it alone, before the last query point: it still holds anything. -/
theorem leaves6_early (c : Dev nD) (t : Fin cfg0.N) (h : t.val < 31) :
    (dats m 0 c).leavesExact 6 t = iprop(∃ d, owns (c : Thread nD τ) (ms0_6 t) fullShare d) := by
  rw [(dats m 0 c).leavesExact_idle 6 t ((idle6 t).trans (by simp; omega))
    (by rw [Bool.eq_false_iff]; intro hf; have := (flush0_6 t).mp hf; omega)]
  simp only [before0_6, fresh6, show decide (t.val ≤ 31) = true from decide_eq_true (by omega), if_true]
theorem before6_early (c : Dev nD) (t : Fin cfg0.N) (h : t.val ≤ 31) :
    iprop(∃ d, owns (c : Thread nD τ) (ms0_6 t) fullShare ((dats m 0 c).before 6 t d)) = (iprop(∃ d, owns (c : Thread nD τ) (ms0_6 t) fullShare d) : sProp 𝕄) := by
  simp only [before0_6, fresh6, show decide (t.val ≤ 31) = true from decide_eq_true h, if_true]
theorem before6_late (c : Dev nD) (t : Fin cfg0.N) (h : 32 ≤ t.val) (d) : (dats m 0 c).before 6 t d = dkvAt m c := by
  rw [before0_6, fresh6, show decide (t.val ≤ 31) = false from decide_eq_false (by omega)]; rfl
theorem leaves6_last (c : Dev nD) (t : Fin cfg0.N) (h : t.val = 31) :
    (dats m 0 c).leavesExact 6 t = owns (c : Thread nD τ) (ms0_6 t) fullShare (dkvAt m c) := by
  unfold Dat.leavesExact; rw [idle6, show (!decide (t.val = 31)) = false by simp [h]]; rfl
theorem leaves5 (c : Dev nD) (t : Fin cfg0.N) : (dats m 0 c).leavesExact 5 t = owns (c : Thread nD τ) (ms0_5 t) fullShare (dqAt m c t) := by
  unfold Dat.leavesExact; rw [idle5]; rfl
theorem leaves6_late (c : Dev nD) (t : Fin cfg0.N) (h : 32 ≤ t.val) :
    owns (c : Thread nD τ) (ms0_6 t) fullShare (dkvAt m c) ⊢ ((dats m 0 c).leavesExact 6 t : sProp 𝕄) := by
  unfold Dat.leavesExact; rw [idle6, show (!decide (t.val = 31)) = true by simp; omega]
  cases hf : (cfg0.win 6).flush t
  · simp only [before6_late m c t h]
    iintro H; iexists (dkvAt m c); iexact H
  · exact .rfl

theorem read_full (v : View sig .tc .vmem S128x512 .bf16) (f) : v.read (Elt F) (v.writes (Elt F) f [⟨Rect.unit (s := S128x512) ![0, 0] S128x512.size (by decide), k0_pay4⟩]) = k0_pay4 :=
  View.read_writes_full v f _ _ _

set_option maxHeartbeats 8000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = PhiS m c t.val (le_of_lt t.isLt) from rfl, show (dats m 0 c).Φ t.succ = PhiS m c (t.val + 1) t.isLt from rfl,
    PhiS_pos m c (t.val + 1) t.isLt (Nat.succ_ne_zero _), leaves5, PhiS_zero m c t.val _ h, PhiA0_eq, before6_early m c t (by omega), leaves6_early m c t (by omega)]
  simp only [before0_0, before0_1, before0_2, before0_3, before0_4]
  have hacc := accAt_succ m c t (by omega) ((cond3_iff t).mpr (by omega))
  rw [show accAt m c t.val = (k0_pay1, k0_pay2) by rw [h]; rfl] at hacc
  iintro ⟨⟨⟨⟨%xk, HK⟩, ⟨%xv, HV⟩⟩, HG⟩, HO, ⟨%e0, H0⟩, ⟨%e1, H1⟩, ⟨%e2, H2⟩, ⟨%e3, H3⟩, ⟨%e4, H4⟩, ⟨%e5, H5⟩, H6, H7⟩
  iapply (runA c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond1_iff t).mpr h) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv).2 Set.univ _
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HK]; · iexact HK
  isplitl [HV]; · iexact HV
  iintro ⟨H0, H1, H2, H3, H4, ⟨%es, H5⟩, H6, H7, HK, HV⟩
  isplitl [HK HV HG]
  · isplitl [HK HV]
    · isplitl [HK]
      · unfold owns; iexists _; isplitr; swap; · iexact HK
        ipureintro; exact (runA_read_dk c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond1_iff t).mpr h) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv).trans (congrArg Prod.fst hacc).symm
      unfold owns; iexists _; isplitr; swap; · iexact HV
      ipureintro; exact (runA_read_dv c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond1_iff t).mpr h) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv).trans (congrArg Prod.snd hacc).symm
    iexact HG
  isplitl [HO]; · iexact HO
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; unfold dqAt
    rw [dif_pos (show t.val < 32 by omega)]; exact runA_read_dq c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond1_iff t).mpr h) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) xk xv es
  isplitl [H6]; · iexact H6
  iexact H7

set_option maxHeartbeats 8000000 in
/-- The body at a query point between the first and the last. -/
theorem sound_B (c : Dev nD) (t : Fin cfg0.N) (h : 0 < t.val ∧ t.val < 31) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = PhiS m c t.val (le_of_lt t.isLt) from rfl, show (dats m 0 c).Φ t.succ = PhiS m c (t.val + 1) t.isLt from rfl,
    PhiS_pos m c (t.val + 1) t.isLt (Nat.succ_ne_zero _), leaves5, PhiS_pos m c t.val _ (by omega), before6_early m c t (by omega), leaves6_early m c t (by omega)]
  simp only [before0_0, before0_1, before0_2, before0_3, before0_4]
  have hacc := accAt_succ m c t (by omega) ((cond3_iff t).mpr (by omega))
  iintro ⟨⟨⟨HK, HV⟩, HG⟩, HO, ⟨%e0, H0⟩, ⟨%e1, H1⟩, ⟨%e2, H2⟩, ⟨%e3, H3⟩, ⟨%e4, H4⟩, ⟨%e5, H5⟩, H6, H7⟩
  iapply (runB c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) (accAt m c t.val).1 (accAt m c t.val).2).2 Set.univ _
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HK]; · iexact HK
  isplitl [HV]; · iexact HV
  iintro ⟨H0, H1, H2, H3, H4, ⟨%es, H5⟩, H6, H7, HK, HV⟩
  isplitl [HK HV HG]
  · isplitl [HK HV]
    · isplitl [HK]
      · unfold owns; iexists _; isplitr; swap; · iexact HK
        ipureintro; exact (runB_read_dk c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) (accAt m c t.val).1 (accAt m c t.val).2).trans (congrArg Prod.fst hacc).symm
      unfold owns; iexists _; isplitr; swap; · iexact HV
      ipureintro; exact (runB_read_dv c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) (accAt m c t.val).1 (accAt m c t.val).2).trans (congrArg Prod.snd hacc).symm
    iexact HG
  isplitl [HO]; · iexact HO
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; unfold dqAt
    rw [dif_pos (show t.val < 32 by omega)]; exact runB_read_dq c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) (fun h' => absurd ((cond4_iff t).mp h') (by omega)) (iblk m c 0 t) (iblk m c 1 t) (iblk m c 2 t) (iblk m c 3 t) (iblk m c 4 t) (accAt m c t.val).1 (accAt m c t.val).2 es
  isplitl [H6]; · iexact H6
  iexact H7

set_option maxHeartbeats 8000000 in
/-- The body at the last query point. -/
theorem sound_C (c : Dev nD) (t : Fin cfg0.N) (h : t.val = 31) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = PhiS m c t.val (le_of_lt t.isLt) from rfl, show (dats m 0 c).Φ t.succ = PhiS m c (t.val + 1) t.isLt from rfl,
    PhiS_pos m c (t.val + 1) t.isLt (Nat.succ_ne_zero _), leaves5, PhiS_pos m c t.val _ (by omega), before6_early m c t (by omega), leaves6_last m c t h]
  simp only [before0_0, before0_1, before0_2, before0_3, before0_4]
  have hacc := accAt_succ m c t (by omega) ((cond3_iff t).mpr (by omega))
  iintro ⟨⟨⟨HK, HV⟩, HG⟩, HO, ⟨%e0, H0⟩, ⟨%e1, H1⟩, ⟨%e2, H2⟩, ⟨%e3, H3⟩, ⟨%e4, H4⟩, ⟨%e5, H5⟩, H6, H7⟩
  iapply (runC c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2).2 Set.univ _
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HK]; · iexact HK
  isplitl [HV]; · iexact HV
  iintro ⟨H0, H1, H2, H3, H4, ⟨%es, H5⟩, ⟨%es6, H6⟩, H7, HK, HV⟩
  isplitl [HK HV HG]
  · isplitl [HK HV]
    · isplitl [HK]
      · unfold owns; iexists _; isplitr; swap; · iexact HK
        ipureintro; exact (runC_read_dk c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2).trans (congrArg Prod.fst hacc).symm
      unfold owns; iexists _; isplitr; swap; · iexact HV
      ipureintro; exact (runC_read_dv c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2).trans (congrArg Prod.snd hacc).symm
    iexact HG
  isplitl [HO]; · iexact HO
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; unfold dqAt
    rw [dif_pos (show t.val < 32 by omega)]; exact runC_read_dq c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2 es
  isplitl [H6]
  · unfold owns; iexists _; isplitr; swap; · iexact H6
    ipureintro
    rw [runC_dkv]
    refine (read_flush c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((cond4_iff t).mpr h) _ _ es6).trans ?_
    unfold dkvAt
    rw [show accAt m c 32 = accAt m c (t.val + 1) by rw [h], hacc]
    exact congrArg₂ dkvBlock (runC_read_dk c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2) (runC_read_dv c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) (fun h' => absurd ((cond2_iff t).mp h') (by omega)) ((cond3_iff t).mpr (by omega)) ((cond4_iff t).mpr h) (iblk m c 0 t) (iblk m c 1 t) (iblk m c 2 t) (iblk m c 3 t) (iblk m c 4 t) (accAt m c t.val).1 (accAt m c t.val).2)
  iexact H7

set_option maxHeartbeats 8000000 in
/-- The body at a context point. -/
theorem sound_D (c : Dev nD) (t : Fin cfg0.N) (h : 32 ≤ t.val) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = PhiS m c t.val (le_of_lt t.isLt) from rfl, show (dats m 0 c).Φ t.succ = PhiS m c (t.val + 1) t.isLt from rfl,
    PhiS_pos m c (t.val + 1) t.isLt (Nat.succ_ne_zero _), leaves5, PhiS_pos m c t.val _ (by omega)]
  simp only [before0_0, before0_1, before0_2, before0_3, before0_4, before6_late m c t h]
  iintro ⟨⟨⟨HK, HV⟩, HG⟩, HO, ⟨%e0, H0⟩, ⟨%e1, H1⟩, ⟨%e2, H2⟩, ⟨%e3, H3⟩, ⟨%e4, H4⟩, ⟨%e5, H5⟩, ⟨%e6, H6⟩, H7⟩
  iapply (runD c (cfg0.grid.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h' => absurd ((cond1_iff t).mp h') (by omega)) ((cond2_iff t).mpr (by omega)) (fun h' => absurd ((cond3_iff t).mp h') (by omega)) (fun h' => absurd ((cond4_iff t).mp h') (by omega)) (iblk m c 0 t) (iblk m c 1 t) (iblk m c 2 t) (iblk m c 3 t) (iblk m c 4 t) (accAt m c t.val).1 (accAt m c t.val).2 (dkvAt m c)).2 Set.univ _
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HK]; · iexact HK
  isplitl [HV]; · iexact HV
  iintro ⟨H0, H1, H2, H3, H4, ⟨%es, H5⟩, H6, H7, HK, HV⟩
  isplitl [HK HV HG]
  · isplitl [HK HV]
    · isplitl [HK]
      · rw [accAt_stay m c t.val (by omega)]; iexact HK
      rw [accAt_stay m c t.val (by omega)]; iexact HV
    iexact HG
  isplitl [HO]; · iexact HO
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; unfold dqAt
    rw [dif_neg (show ¬ t.val < 32 by omega)]; exact read_full _ es
  isplitl [H6]; · iapply leaves6_late m c t h; iexact H6
  iexact H7

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 31
  · exact sound_B m c t ⟨by omega, h1⟩
  by_cases h2 : t.val = 31
  · exact sound_C m c t h2
  exact sound_D m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

theorem hin (c : Dev nD) : (Pipeline.ΦA spec0 c : sProp 𝕄) ⊢ (dats m 0 c).Φ 0 := .rfl
theorem hout (c : Dev nD) : (dats m 0 c).Φ (Fin.last cfg0.N) ⊢ (Pipeline.ΦA spec0 c : sProp 𝕄) := by
  rw [PhiA0_eq, show (dats m 0 c).Φ (Fin.last cfg0.N) = PhiS m c cfg0.N le_rfl from rfl, PhiS_pos m c cfg0.N le_rfl (by decide)]
  iintro ⟨⟨HK, HV⟩, HG⟩
  isplitl [HK HV]
  · isplitl [HK]
    · iexists _; iexact HK
    iexists _; iexact HV
  iexact HG

set_option backward.isDefEq.respectTransparency.types false in
/-- Every weakly fair execution of @main terminates, with the windows' arrays at what the data name and every other buffer as the
    region found it. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m)
    (hin := hin m) (hout := hout m)

end Cert.KernelIdeal.AttnRun

end
-- ==== Proof.Products.Sums.lean ====
/- The products of the backward pass at the ideal instance, read at an element: a product with either operand
   transposed is the sum over the one contracted coordinate; a sum over a long axis is the sum of its equal runs. -/
module

public import Idealize.ShloMosaic.PureOps.Ideal.Laws
public import Idealize.ShloMosaic.Lib.MatmulPlain
public import Idealize.ShloMosaic.Lib.Pipeline.Value
public import Idealize.ShloMosaic.Lib.Pipeline.ValueKit

@[expose] public section

noncomputable section

namespace Cert.Products

open Idealize.ShloMosaic
open scoped BigOperators

/-- A rank-2 index by its two coordinates. -/
abbrev at2 {a b : ℕ} (p : Fin a) (q : Fin b) : (⟨2, ![a, b]⟩ : Shape).Idx := ValueIdx.ix2 p q

/-- An index is the one its two coordinates name. -/
theorem eq_at2 {a b : ℕ} (i : (⟨2, ![a, b]⟩ : Shape).Idx) : i = at2 (i 0) (i 1) := ValueIdx.eq_ix2 i

/-- Two indices with the same coordinates are one. -/
theorem ext2 {a b : ℕ} {i j : (⟨2, ![a, b]⟩ : Shape).Idx} (h0 : (i 0 : ℕ) = j 0) (h1 : (i 1 : ℕ) = j 1) : i = j := by
  funext x; apply Fin.ext
  match x with
  | ⟨0, _⟩ => exact h0
  | ⟨1, _⟩ => exact h1

/-- The dimension numbers of `[K,M]ᵀ × [K,N]`. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [], rfl, Nat.two_pos,
    fun b => by fin_cases b <;> rfl⟩

/-- The sums of products down the rows of a `[K,M]` array and of a `[K,N]` one: `xᵀ w` at an element. -/
def cols {M K N : ℕ} (x : FVec Ideal ⟨2, ![K, M]⟩ .bf16) (w : FVec Ideal ⟨2, ![K, N]⟩ .bf16) (p : Fin M) (q : Fin N) : EReal :=
  ∑ k : Fin K, x (at2 k p) * w (at2 k q)

variable {M K N : ℕ} {φ₁ φ₂ : FTy} (prec : Option ContractPrecision)

/-- `[M,K] × [K,N]` over a zero accumulator, at an element. -/
theorem nn_apply (x : FVec Ideal ⟨2, ![M, K]⟩ φ₁) (w : FVec Ideal ⟨2, ![K, N]⟩ φ₂) (p : Fin M) (q : Fin N) :
    matmul (DotDims.plain M K N) prec x w (constant ⟨2, ![M, N]⟩ .f32 0x00000000#32) (at2 p q)
      = ∑ k : Fin K, x (at2 p k) * w (at2 k q) := by
  refine (Ideal.matmul_plain_apply prec x w _ p q).trans ?_
  rw [show (constant (F := Ideal) ⟨2, ![M, N]⟩ .f32 0x00000000#32) (ValueIdx.ix2 p q) = 0 from Ideal.ofBits_zero_f32, zero_add]

/-- `[M,K] × [N,K]ᵀ` over a zero accumulator, at an element. -/
theorem nt_apply (x : FVec Ideal ⟨2, ![M, K]⟩ φ₁) (w : FVec Ideal ⟨2, ![N, K]⟩ φ₂) (p : Fin M) (q : Fin N) :
    matmul (DotDims.transposedRhs M K N) prec x w (constant ⟨2, ![M, N]⟩ .f32 0x00000000#32) (at2 p q)
      = ∑ k : Fin K, x (at2 p k) * w (at2 q k) := by
  refine (Ideal.matmul_transposedRhs_apply prec x w _ p q).trans ?_
  rw [show (constant (F := Ideal) ⟨2, ![M, N]⟩ .f32 0x00000000#32) (ValueIdx.ix2 p q) = 0 from Ideal.ofBits_zero_f32, zero_add]

/-- `[K,M]ᵀ × [K,N]` over a zero accumulator, at an element. -/
theorem tn_apply (x : FVec Ideal ⟨2, ![K, M]⟩ φ₁) (w : FVec Ideal ⟨2, ![K, N]⟩ φ₂) (p : Fin M) (q : Fin N) :
    matmul (transposedLhs M K N) prec x w (constant ⟨2, ![M, N]⟩ .f32 0x00000000#32) (at2 p q)
      = ∑ k : Fin K, x (at2 k p) * w (at2 k q) := by
  refine (Ideal.matmul_apply _ prec x w _ _).trans ?_
  rw [show (constant (F := Ideal) ⟨2, ![M, N]⟩ .f32 0x00000000#32) (at2 p q) = 0 from Ideal.ofBits_zero_f32, zero_add,
    ← Equiv.sum_comp (ValueIdx.contrEquiv1 (transposedLhs M K N) K rfl rfl).symm]
  refine Finset.sum_congr rfl fun k _ => ?_
  have hk := ValueIdx.contrEquiv1_symm_val (transposedLhs M K N) K rfl rfl k
  have el : (transposedLhs M K N).lhsIdx (at2 p q) ((ValueIdx.contrEquiv1 (transposedLhs M K N) K rfl rfl).symm k) = at2 k p :=
    ext2 hk rfl
  have er : (transposedLhs M K N).rhsIdx (at2 p q) ((ValueIdx.contrEquiv1 (transposedLhs M K N) K rfl rfl).symm k) = at2 k q :=
    ext2 hk rfl
  rw [el, er]

/-- … as the sum the gradients of the weights accumulate. -/
theorem tn_cols (x : FVec Ideal ⟨2, ![K, M]⟩ .bf16) (w : FVec Ideal ⟨2, ![K, N]⟩ .bf16) (p : Fin M) (q : Fin N) :
    matmul (transposedLhs M K N) prec x w (constant ⟨2, ![M, N]⟩ .f32 0x00000000#32) (at2 p q) = cols x w p q :=
  tn_apply prec x w p q

/-- A sum over `n * w` places is the sum over `n` runs of the sums over each run's `w` places. -/
theorem sum_runs {A : Type*} [AddCommMonoid A] {L : ℕ} (n w : ℕ) (h : L = n * w) (f : Fin L → A) :
    ∑ k, f k = ∑ s : Fin n, ∑ k : Fin w, f ⟨s.val * w + k.val, h ▸ by
      have := Nat.mul_le_mul_right w s.isLt; have := k.isLt; rw [Nat.succ_mul] at *; omega⟩ := by
  subst h
  rw [← Equiv.sum_comp finProdFinEquiv f, Fintype.sum_prod_type]
  refine Finset.sum_congr rfl fun s _ => Finset.sum_congr rfl fun k _ => congrArg f (Fin.ext ?_)
  show k.val + w * s.val = _
  rw [Nat.mul_comm, Nat.add_comm]

/-- The sum down `n * w` rows is the sum over the `n` row blocks' sums. -/
theorem cols_runs {L M' N' : ℕ} (n w : ℕ) (h : L = n * w) (x : FVec Ideal ⟨2, ![L, M]⟩ .bf16) (g : FVec Ideal ⟨2, ![L, N]⟩ .bf16)
    (xb : Fin n → FVec Ideal ⟨2, ![w, M']⟩ .bf16) (gb : Fin n → FVec Ideal ⟨2, ![w, N']⟩ .bf16) (p : Fin M) (q : Fin N) (p' : Fin M') (q' : Fin N')
    (hx : ∀ s (k : Fin w) (r : Fin L), r.val = s.val * w + k.val → xb s (at2 k p') = x (at2 r p))
    (hg : ∀ s (k : Fin w) (r : Fin L), r.val = s.val * w + k.val → gb s (at2 k q') = g (at2 r q)) :
    ∑ s, cols (xb s) (gb s) p' q' = cols x g p q := by
  unfold cols
  rw [sum_runs n w h]
  exact Finset.sum_congr rfl fun s _ => Finset.sum_congr rfl fun k _ => congrArg₂ (· * ·) (hx s k _ rfl) (hg s k _ rfl)

/-- An element of a window's block on an axis where the block does not move sits at its own coordinate, … -/
theorem emb_fixed {sig : RefSig} {G : Pipeline.Grid} (w : Pipeline.Window sig G) (t : Fin G.N) (y : (w.xblock (G.coords t)).Idx)
    (a : Fin w.shape.rank) (h : w.index t a = 0) : ((w.rect t).emb y a : ℕ) = y a :=
  w.rect_emb_val_of_index_zero t a h y

/-- … and on an axis where two windows' blocks have one size and one index, at equal coordinates for equal ones. -/
theorem emb_at {sig : RefSig} {G : Pipeline.Grid} (w w' : Pipeline.Window sig G) (t t' : Fin G.N) (y : (w.xblock (G.coords t)).Idx)
    (y' : (w'.xblock (G.coords t')).Idx) (a : Fin w.shape.rank) (a' : Fin w'.shape.rank) (hk : w.kind = .blocked) (hk' : w'.kind = .blocked)
    (hi : w.index t a = w'.index t' a') (hs : w.size a = w'.size a') (hy : (y a : ℕ) = y' a') :
    ((w.rect t).emb y a : ℕ) = (w'.rect t').emb y' a' := by
  rw [w.rect_emb_val t y a hk, w'.rect_emb_val t' y' a' hk', hi, hs, hy]

/-- An accumulation that starts at the first term and adds one term a point is the sum of the terms so far. -/
theorem acc_sum {L : ℕ} (f : (t : ℕ) → t < L → EReal) (g : Fin L → EReal) (h0 : ∀ h, f 0 h = g ⟨0, h⟩)
    (hs : ∀ t (h : t + 1 < L), f (t + 1) h = f t (Nat.lt_of_succ_lt h) + g ⟨t + 1, h⟩) :
    ∀ t (h : t < L), f t h = ∑ s : Fin (t + 1), g ⟨s.val, Nat.lt_of_lt_of_le s.isLt h⟩ := by
  intro t
  induction t with
  | zero => intro h; rw [Fin.sum_univ_one]; exact h0 h
  | succ t ih => intro h; rw [Fin.sum_univ_castSucc]; exact (hs t h).trans (congrArg (· + _) (ih _))

variable {A : Type} {R R' T : ℕ}

/-- A piece of arrays joined along the columns, read at a column inside it. -/
theorem join_piece {n : ℕ} (xs : List ((s : Shape) × (s.Idx → A))) (h : Shape.Concatenates (xs.map (·.1)) ⟨2, ![R, T]⟩ 1)
    (p : Fin R) (k : Fin T) (i : ℕ) (hi : i < xs.length) (x : (⟨2, ![R, n]⟩ : Shape).Idx → A) (hx : xs[i] = ⟨⟨2, ![R, n]⟩, x⟩)
    (pre : ℕ) (hpre : (((xs.take i).map (·.1)).map fun s => if h : s.rank = (⟨2, ![R, T]⟩ : Shape).rank
      then s.size ((1 : Fin (⟨2, ![R, T]⟩ : Shape).rank).cast h.symm) else 0).sum = pre)
    (j : Fin n) (hj : pre + j.val = k.val) :
    concatenate ⟨2, ![R, T]⟩ 1 xs h (at2 p k) = x (at2 p j) :=
  concatenate_apply_piece (1 : Fin (⟨2, ![R, T]⟩ : Shape).rank) xs h (at2 p k) i hi _ x hx rfl pre hpre (at2 p j)
    (fun b hb => match b with
      | ⟨0, _⟩ => rfl
      | ⟨1, _⟩ => absurd rfl hb) hj

/-- Two arrays joined along the columns read at a row as two others do at theirs, when each piece does. -/
theorem join_two {a b : ℕ} (x : (⟨2, ![R, a]⟩ : Shape).Idx → A) (y : (⟨2, ![R, b]⟩ : Shape).Idx → A)
    (x' : (⟨2, ![R', a]⟩ : Shape).Idx → A) (y' : (⟨2, ![R', b]⟩ : Shape).Idx → A)
    (h : Shape.Concatenates [⟨2, ![R, a]⟩, ⟨2, ![R, b]⟩] ⟨2, ![R, T]⟩ 1) (h' : Shape.Concatenates [⟨2, ![R', a]⟩, ⟨2, ![R', b]⟩] ⟨2, ![R', T]⟩ 1)
    (hT : T = a + b) (p : Fin R) (p' : Fin R') (hx : ∀ k, x (at2 p k) = x' (at2 p' k)) (hy : ∀ k, y (at2 p k) = y' (at2 p' k)) (k : Fin T) :
    concatenate ⟨2, ![R, T]⟩ 1 [⟨_, x⟩, ⟨_, y⟩] h (at2 p k) = concatenate ⟨2, ![R', T]⟩ 1 [⟨_, x'⟩, ⟨_, y'⟩] h' (at2 p' k) := by
  let xs : List ((s : Shape) × (s.Idx → A)) := [⟨⟨2, ![R, a]⟩, x⟩, ⟨⟨2, ![R, b]⟩, y⟩]
  let xs' : List ((s : Shape) × (s.Idx → A)) := [⟨⟨2, ![R', a]⟩, x'⟩, ⟨⟨2, ![R', b]⟩, y'⟩]
  have hk := k.isLt
  by_cases h1 : k.val < a
  · exact (join_piece xs h p k 0 (by simp [xs]) x rfl 0 rfl ⟨k.val, h1⟩ (Nat.zero_add _)).trans
      ((hx _).trans (join_piece xs' h' p' k 0 (by simp [xs']) x' rfl 0 rfl ⟨k.val, h1⟩ (Nat.zero_add _)).symm)
  · exact (join_piece xs h p k 1 (by simp [xs]) y rfl a (Nat.add_zero _) ⟨k.val - a, by omega⟩ (by dsimp only; omega)).trans
      ((hy _).trans (join_piece xs' h' p' k 1 (by simp [xs']) y' rfl a (Nat.add_zero _) ⟨k.val - a, by omega⟩ (by dsimp only; omega)).symm)

/-- … and four as four others. -/
theorem join_four {a b c d : ℕ} (x : (⟨2, ![R, a]⟩ : Shape).Idx → A) (y : (⟨2, ![R, b]⟩ : Shape).Idx → A) (z : (⟨2, ![R, c]⟩ : Shape).Idx → A)
    (w : (⟨2, ![R, d]⟩ : Shape).Idx → A)
    (x' : (⟨2, ![R', a]⟩ : Shape).Idx → A) (y' : (⟨2, ![R', b]⟩ : Shape).Idx → A) (z' : (⟨2, ![R', c]⟩ : Shape).Idx → A)
    (w' : (⟨2, ![R', d]⟩ : Shape).Idx → A)
    (h : Shape.Concatenates [⟨2, ![R, a]⟩, ⟨2, ![R, b]⟩, ⟨2, ![R, c]⟩, ⟨2, ![R, d]⟩] ⟨2, ![R, T]⟩ 1)
    (h' : Shape.Concatenates [⟨2, ![R', a]⟩, ⟨2, ![R', b]⟩, ⟨2, ![R', c]⟩, ⟨2, ![R', d]⟩] ⟨2, ![R', T]⟩ 1)
    (hT : T = a + b + c + d) (p : Fin R) (p' : Fin R') (hx : ∀ k, x (at2 p k) = x' (at2 p' k)) (hy : ∀ k, y (at2 p k) = y' (at2 p' k))
    (hz : ∀ k, z (at2 p k) = z' (at2 p' k)) (hw : ∀ k, w (at2 p k) = w' (at2 p' k)) (k : Fin T) :
    concatenate ⟨2, ![R, T]⟩ 1 [⟨_, x⟩, ⟨_, y⟩, ⟨_, z⟩, ⟨_, w⟩] h (at2 p k)
      = concatenate ⟨2, ![R', T]⟩ 1 [⟨_, x'⟩, ⟨_, y'⟩, ⟨_, z'⟩, ⟨_, w'⟩] h' (at2 p' k) := by
  let xs : List ((s : Shape) × (s.Idx → A)) := [⟨⟨2, ![R, a]⟩, x⟩, ⟨⟨2, ![R, b]⟩, y⟩, ⟨⟨2, ![R, c]⟩, z⟩, ⟨⟨2, ![R, d]⟩, w⟩]
  let xs' : List ((s : Shape) × (s.Idx → A)) := [⟨⟨2, ![R', a]⟩, x'⟩, ⟨⟨2, ![R', b]⟩, y'⟩, ⟨⟨2, ![R', c]⟩, z'⟩, ⟨⟨2, ![R', d]⟩, w'⟩]
  have hk := k.isLt
  by_cases h1 : k.val < a
  · exact (join_piece xs h p k 0 (by simp [xs]) x rfl 0 rfl ⟨k.val, h1⟩ (Nat.zero_add _)).trans
      ((hx _).trans (join_piece xs' h' p' k 0 (by simp [xs']) x' rfl 0 rfl ⟨k.val, h1⟩ (Nat.zero_add _)).symm)
  by_cases h2 : k.val < a + b
  · exact (join_piece xs h p k 1 (by simp [xs]) y rfl a (Nat.add_zero _) ⟨k.val - a, by omega⟩ (by dsimp only; omega)).trans
      ((hy _).trans (join_piece xs' h' p' k 1 (by simp [xs']) y' rfl a (Nat.add_zero _) ⟨k.val - a, by omega⟩ (by dsimp only; omega)).symm)
  by_cases h3 : k.val < a + b + c
  · exact (join_piece xs h p k 2 (by simp [xs]) z rfl (a + (b + 0)) rfl ⟨k.val - (a + b), by omega⟩ (by dsimp only; omega)).trans
      ((hz _).trans (join_piece xs' h' p' k 2 (by simp [xs']) z' rfl (a + (b + 0)) rfl ⟨k.val - (a + b), by omega⟩ (by dsimp only; omega)).symm)
  · exact (join_piece xs h p k 3 (by simp [xs]) w rfl (a + (b + (c + 0))) rfl ⟨k.val - (a + b + c), by omega⟩ (by dsimp only; omega)).trans
      ((hw _).trans (join_piece xs' h' p' k 3 (by simp [xs']) w' rfl (a + (b + (c + 0))) rfl ⟨k.val - (a + b + c), by omega⟩ (by dsimp only; omega)).symm)

end Cert.Products
-- ==== Proof.Products.DownDx.lean ====
module

public import proofs.«01_k».proof.Proof.Gen.DownDxIdeal.Value
public import proofs.«01_k».proof.Proof.Gen.DownDxRefIdeal.Read
public import Idealize.ShloMosaic.Lib.Pipeline.ValueKit
public import proofs.«01_k».proof.Proof.Products.Sums

@[expose] public section

noncomputable section

namespace Cert.DownDxIdeal.Product

open Cert.DownDxIdeal Cert.DownDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S1024x1024 .bf16) (x1 : Vec Ideal S2816x1024 .bf16) (p : Fin 1024) (q : Fin 2816) :
    out0_2 (F := Ideal) x0 x1 (at2 p q) = ∑ k : Fin 1024, x0 (at2 p k) * x1 (at2 q k) := by
  unfold out0_2
  rw [View.canon_unit_zero (by decide), View.ld_unit_zero (S := S1024x1024) (by decide), View.ld_unit_zero (S := S2816x1024) (by decide)]
  exact nt_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

theorem final (c : Dev nD) : (dats m 0 c).arrAt 2 cfg0.N
    = Cert.DownDxRefIdeal.Read.val_main_v5 (m ((c : Thread nD τ).loc main_arg1)) (m ((c : Thread nD τ).loc main_arg2)) := by
  refine (dats m 0 c).arrAt_eq_of_covers 2 _ (by decide +kernel) fun t hf y => ?_
  obtain ⟨e0, e1, e2, e3, e4⟩ := idx_facts t
  blk_simp
  rw [after0_2, eq_at2 y]
  refine (out_eq _ _ _ _).trans ?_
  refine (Eq.trans ?_ (Cert.DownDxRefIdeal.Read.val_main_v4_apply _ _ _).symm)
  refine Finset.sum_congr rfl fun k _ => congrArg₂ (· * ·) ?_ ?_
  · show m ((c : Thread nD τ).loc main_arg2) ((win0_0.rect t).emb _) = m ((c : Thread nD τ).loc main_arg2) _
    refine congrArg _ (ext2 ?_ ?_)
    · refine (win0_0.rect_emb_val t _ 0).trans ?_
      refine Eq.trans ?_ (win0_2.rect_emb_val t _ 0).symm
      rw [e0]; rfl
    · refine (win0_0.rect_emb_val t _ 1).trans ?_
      rw [e1]; exact Nat.zero_add _
  · show m ((c : Thread nD τ).loc main_arg1) ((win0_1.rect t).emb _) = m ((c : Thread nD τ).loc main_arg1) _
    refine congrArg _ (ext2 ?_ ?_)
    · refine (win0_1.rect_emb_val t _ 0).trans ?_
      refine Eq.trans ?_ (win0_2.rect_emb_val t _ 1).symm
      rw [e2, e4]; rfl
    · refine (win0_1.rect_emb_val t _ 1).trans ?_
      rw [e3]; exact Nat.zero_add _

end Cert.DownDxIdeal.Product
-- ==== Proof.Products.DownDw.lean ====
module

public import proofs.«01_k».proof.Proof.Gen.DownDwIdeal.Value
public import proofs.«01_k».proof.Proof.Gen.DownDwRefIdeal.Read
public import Idealize.ShloMosaic.Lib.Pipeline.ValueKit
public import proofs.«01_k».proof.Proof.Products.Sums

@[expose] public section

noncomputable section

namespace Cert.DownDwIdeal.Product

open Cert.DownDwIdeal Cert.DownDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem outs_first (c : Dev nD) (t : Fin cfg0.N) (h0 : t.val % 2 = 0) (p : Fin 1408) (q : Fin 1024) :
    outsAt0 (F := Ideal) m c t.val t.isLt (at2 p q) = cols (M := 1408) (K := 2048) (N := 1024) (iblk m c 0 t) (iblk m c 1 t) p q := by
  rw [outsAt0_A m c t h0 (by omega)]
  unfold out0_A_2
  rw [View.read_writes_eq_canon _ _ _ (cover0_A_2 c _ _ _ _ _ _ _ _ _ _ _)]
  unfold kernelRun0_A
  dsimp only
  sl_unfold_words
  rw [View.canon_unit_zero (by decide)]
  simp only [View.readAt_eq_ld, (hs0_0 t).read_unread, (hs0_1 t).read_unread]
  rw [View.ld_unit_zero (S := S2048x1408) (by decide), View.ld_unit_zero (S := S2048x1024) (by decide)]
  exact tn_cols none _ _ p q

theorem outs_next (c : Dev nD) (t : Fin cfg0.N) (h0 : ¬t.val % 2 = 0) (p : Fin 1408) (q : Fin 1024) :
    outsAt0 (F := Ideal) m c t.val t.isLt (at2 p q)
      = outsAt0 (F := Ideal) m c (t.val - 1) (Nat.lt_of_le_of_lt (Nat.sub_le _ _) t.isLt) (at2 p q) + cols (M := 1408) (K := 2048) (N := 1024) (iblk m c 0 t) (iblk m c 1 t) p q := by
  rw [outsAt0_B m c t h0 (by omega)]
  unfold out0_B_2
  rw [View.read_writes_eq_canon _ _ _ (cover0_B_2 c _ _ _ _ _ _ _ _ _ _ _ _)]
  unfold kernelRun0_B
  dsimp only
  sl_unfold_words
  rw [View.canon_unit_zero (by decide)]
  simp only [View.readAt_eq_ld, (hs0_0 t).read_unread, (hs0_1 t).read_unread, (hs0_2 t).read_unread]
  rw [View.ld_unit_zero (S := S2048x1408) (by decide), View.ld_unit_zero (S := S2048x1024) (by decide), View.ld_unit_zero (S := S1408x1024) (by decide)]
  unfold k0_pay2
  rw [shapeCast_self]
  exact congrArg₂ (· + ·) rfl (tn_cols none _ _ p q)

theorem idx_facts : ∀ t : Fin cfg0.N, win0_0.index t (0 : Fin 2) = t.val % 2 ∧ win0_0.index t (1 : Fin 2) = win0_2.index t (0 : Fin 2)
    ∧ win0_1.index t (0 : Fin 2) = t.val % 2 ∧ win0_1.index t (1 : Fin 2) = 0 ∧ win0_2.index t (1 : Fin 2) = 0
    ∧ win0_2.index t (0 : Fin 2) = t.val / 2 :=
  (by decide +kernel : ∀ t : Fin grid0.N, _)

/-- The points of one output block: `t` is the last of the `2` that accumulate into it. -/
theorem outs_sum (c : Dev nD) (t : Fin cfg0.N) (h1 : t.val % 2 = 1) (p : Fin 1408) (q : Fin 1024) :
    outsAt0 (F := Ideal) m c t.val t.isLt (at2 p q)
      = ∑ s : Fin 2, cols (M := 1408) (K := 2048) (N := 1024) (iblk m c 0 ⟨t.val - 1 + s.val, by have := t.isLt; omega⟩)
          (iblk m c 1 ⟨t.val - 1 + s.val, by have := t.isLt; omega⟩) p q := by
  obtain ⟨n, hn⟩ := t
  obtain ⟨n, rfl⟩ : ∃ k, n = k + 1 := ⟨n - 1, by dsimp only at h1; omega⟩
  dsimp only at h1
  rw [Fin.sum_univ_two]
  refine (outs_next m c ⟨n + 1, hn⟩ (by dsimp only; omega) p q).trans (congrArg₂ (· + ·) ?_ rfl)
  exact outs_first m c ⟨n, by omega⟩ (by dsimp only; omega) p q

theorem final (c : Dev nD) : (dats m 0 c).arrAt 2 cfg0.N
    = Cert.DownDwRefIdeal.Read.val_main_v5 (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  blk_simp
  rw [after0_2]
  obtain ⟨p, q, rfl⟩ : ∃ (p : Fin 1408) (q : Fin 1024), y = at2 p q := ⟨_, _, eq_at2 y⟩
  refine (outs_sum m c t h1 p q).trans ?_
  refine Eq.trans ?_ (Cert.DownDwRefIdeal.Read.val_main_v5_apply _ _ _).symm
  refine Eq.trans ?_ (Cert.DownDwRefIdeal.Read.val_main_v4_apply _ _ _).symm
  refine (cols_runs 2 2048 rfl (m ((c : Thread nD τ).loc main_arg0)) (m ((c : Thread nD τ).loc main_arg2)) _ _
    ((win0_2.rect t).emb (at2 p q) 0) ((win0_2.rect t).emb (at2 p q) 1) p q ?_ ?_).trans
    (Finset.sum_congr rfl fun k _ => (mul_comm _ _).trans (congrArg₂ (· * ·)
      (congrArg (m ((c : Thread nD τ).loc main_arg2)) (ext2 rfl rfl)) (congrArg (m ((c : Thread nD τ).loc main_arg0)) (ext2 rfl rfl))))
  all_goals
    intro s k r hr
    obtain ⟨-, -, -, -, f4, f5⟩ := idx_facts t
    obtain ⟨e0, e1, e2, e3, -, e5⟩ := idx_facts ⟨t.val - 1 + s.val, Nat.lt_of_le_of_lt (show t.val - 1 + s.val ≤ t.val by have := s.isLt; omega) t.isLt⟩
    dsimp only at e0 e2 e5
  · show m ((c : Thread nD τ).loc main_arg0) ((win0_0.rect _).emb _) = m ((c : Thread nD τ).loc main_arg0) _
    refine congrArg _ (ext2 ?_ ?_)
    · refine (win0_0.rect_emb_val _ _ 0).trans ((congrArg (· * 2048 + k.val) e0).trans ?_)
      show _ = r.val
      omega
    · exact emb_at win0_0 win0_2 _ t _ _ 1 0 rfl rfl (by rw [e1, e5, f5]; omega) rfl rfl
  · show m ((c : Thread nD τ).loc main_arg2) ((win0_1.rect _).emb _) = m ((c : Thread nD τ).loc main_arg2) _
    refine congrArg _ (ext2 ?_ ?_)
    · refine (win0_1.rect_emb_val _ _ 0).trans ((congrArg (· * 2048 + k.val) e2).trans ?_)
      show _ = r.val
      omega
    · exact emb_at win0_1 win0_2 _ t _ _ 1 1 rfl rfl (by rw [e3, f4]) rfl rfl

end Cert.DownDwIdeal.Product
-- ==== Proof.Products.UpDx.lean ====
module

public import proofs.«01_k».proof.Proof.Gen.UpDxIdeal.Value
public import proofs.«01_k».proof.Proof.Gen.UpDxRefIdeal.Read
public import Idealize.ShloMosaic.Lib.Pipeline.ValueKit
public import proofs.«01_k».proof.Proof.Products.Sums

@[expose] public section

noncomputable section

namespace Cert.UpDxIdeal.Product

open Cert.UpDxIdeal Cert.UpDxIdeal.Gen Cert.Products Idealize.ShloMosaic Idealize.ShloMosaic.TcCoe Idealize.SL.Sem
open Idealize.ShloMosaic.Pipeline (Dat)

variable (m : (ℓ : Loc nD τ sig) → Buf (Elt Ideal) ℓ)

/-- The two cotangents' blocks side by side. -/
def joined (x0 x1 : FVec Ideal S1024x2816 .bf16) : FVec Ideal S1024x5632 .bf16 :=
  concatenate S1024x5632 1 [⟨S1024x2816, x0⟩, ⟨S1024x2816, x1⟩] concatenates_S1024x2816_S1024x2816_S1024x5632_d1

theorem out_eq (x0 x1 : FVec Ideal S1024x2816 .bf16) (x2 : FVec Ideal S1024x5632 .bf16) (p q : Fin 1024) :
    out0_3 (F := Ideal) x0 x1 x2 (at2 p q) = ∑ k : Fin 5632, joined x0 x1 (at2 p k) * x2 (at2 q k) := by
  unfold out0_3
  rw [View.canon_unit_zero (by decide), View.ld_unit_zero (S := S1024x2816) (by decide), View.ld_unit_zero (S := S1024x2816) (by decide),
    View.ld_unit_zero (S := S1024x5632) (by decide)]
  exact nt_apply (φ₁ := .bf16) (φ₂ := .bf16) none (joined x0 x1) x2 p q

theorem idx_facts : ∀ t : Fin cfg0.N, win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0 ∧ win0_3.index t (1 : Fin 2) = 0 :=
  (by decide +kernel : ∀ t : Fin grid0.N, _)

theorem final (c : Dev nD) : (dats m 0 c).arrAt 3 cfg0.N
    = Cert.UpDxRefIdeal.Read.val_main_v8 (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨e0, e1, f0, f1, g0, g1, h1⟩ := idx_facts t
  blk_simp
  rw [after0_3]
  obtain ⟨p, q, rfl⟩ : ∃ (p : Fin 1024) (q : Fin 1024), y = at2 p q := ⟨_, _, eq_at2 y⟩
  refine (out_eq _ _ _ p q).trans ?_
  refine (Eq.trans ?_ (Cert.UpDxRefIdeal.Read.val_main_v8_apply _ _ _ _).symm)
  refine Finset.sum_congr rfl fun k _ => congrArg₂ (· * ·) ?_ ?_
  · refine Eq.trans ?_ (congrArg (Cert.UpDxRefIdeal.Read.val_main_v7 (F := Ideal) _ _)
      (a₁ := at2 ((win0_3.rect t).emb (at2 p q) 0) k) (ext2 rfl rfl))
    refine join_two (T := 5632) (a := 2816) (b := 2816) _ _ _ _ _ _ rfl p ((win0_3.rect t).emb (at2 p q) 0) (fun k => ?_) (fun k => ?_) k
    · show m ((c : Thread nD τ).loc main_arg2) ((win0_0.rect t).emb _) = m ((c : Thread nD τ).loc main_arg2) _
      exact congrArg _ (ext2 (emb_at win0_0 win0_3 t t _ _ 0 0 rfl rfl e0 rfl rfl) (emb_fixed win0_0 t _ 1 e1))
    · show m ((c : Thread nD τ).loc main_arg3) ((win0_1.rect t).emb _) = m ((c : Thread nD τ).loc main_arg3) _
      exact congrArg _ (ext2 (emb_at win0_1 win0_3 t t _ _ 0 0 rfl rfl f0 rfl rfl) (emb_fixed win0_1 t _ 1 f1))
  · show m ((c : Thread nD τ).loc main_arg1) ((win0_2.rect t).emb _) = m ((c : Thread nD τ).loc main_arg1) _
    exact congrArg _ (ext2 ((emb_fixed win0_2 t _ 0 g0).trans (emb_fixed win0_3 t (at2 p q) 1 h1).symm) (emb_fixed win0_2 t _ 1 g1))

end Cert.UpDxIdeal.Product
-- ==== Proof.Products.UpDwGate.lean ====
module

public import proofs.«01_k».proof.Proof.Gen.UpDwGateIdeal.Frame
public import proofs.«01_k».proof.Proof.Gen.UpDwGateRefIdeal.Read
public import Idealize.ShloMosaic.Lib.Pipeline.ValueKit
public import proofs.«01_k».proof.Proof.Products.Sums

@[expose] public section

noncomputable section

namespace Cert.UpDwGateIdeal.Product

open Cert.UpDwGateIdeal Cert.UpDwGateIdeal.Gen Cert.Products Idealize.ShloMosaic Idealize.ShloMosaic.TcCoe Idealize.SL.Sem
open Idealize.ShloMosaic.Pipeline (Dat)

variable (m : (ℓ : Loc nD τ sig) → Buf (Elt Ideal) ℓ)

theorem outs_first (c : Dev nD) (t : Fin cfg0.N) (h0 : t.val % 4 = 0) (p : Fin 1024) (q : Fin 2816) :
    outsAt0 (F := Ideal) m c t.val t.isLt (at2 p q) = cols (M := 1024) (K := 1024) (N := 2816) (iblk m c 0 t) (iblk m c 1 t) p q := by
  rw [outsAt0_A m c t h0 (by have h4 : t.val < 4 := t.isLt; omega)]
  unfold out0_A_2
  rw [View.read_writes_eq_canon _ _ _ (cover0_A_2 c _ _ _ _ _ _ _ _ _ _ _)]
  unfold kernelRun0_A
  dsimp only
  sl_unfold_words
  rw [View.canon_unit_zero (by decide)]
  simp only [View.readAt_eq_ld, (hs0_0 t).read_unread, (hs0_1 t).read_unread]
  rw [View.ld_unit_zero (S := S1024x1024) (by decide), View.ld_unit_zero (S := S1024x2816) (by decide)]
  exact tn_cols none _ _ p q

theorem outs_next (c : Dev nD) (t : Fin cfg0.N) (h0 : ¬t.val % 4 = 0) (p : Fin 1024) (q : Fin 2816) :
    outsAt0 (F := Ideal) m c t.val t.isLt (at2 p q)
      = outsAt0 (F := Ideal) m c (t.val - 1) (Nat.lt_of_le_of_lt (Nat.sub_le _ _) t.isLt) (at2 p q) + cols (M := 1024) (K := 1024) (N := 2816) (iblk m c 0 t) (iblk m c 1 t) p q := by
  rw [outsAt0_B m c t h0 (by omega)]
  unfold out0_B_2
  rw [View.read_writes_eq_canon _ _ _ (cover0_B_2 c _ _ _ _ _ _ _ _ _ _ _ _)]
  unfold kernelRun0_B
  dsimp only
  sl_unfold_words
  rw [View.canon_unit_zero (by decide)]
  simp only [View.readAt_eq_ld, (hs0_0 t).read_unread, (hs0_1 t).read_unread, (hs0_2 t).read_unread]
  rw [View.ld_unit_zero (S := S1024x1024) (by decide), View.ld_unit_zero (S := S1024x2816) (by decide), View.ld_unit_zero (S := S1024x2816) (by decide)]
  unfold k0_pay2
  rw [shapeCast_self]
  exact congrArg₂ (· + ·) rfl (tn_cols none _ _ p q)

theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (1 : Fin 2) = 0
    ∧ win0_2.index t (0 : Fin 2) = 0 :=
  (by decide +kernel : ∀ t : Fin grid0.N, _)

/-- The last of the four points leaves the sum of the four blocks' products. -/
theorem outs_sum (c : Dev nD) (t : Fin cfg0.N) (h3 : t.val = 3) (p : Fin 1024) (q : Fin 2816) :
    outsAt0 (F := Ideal) m c t.val t.isLt (at2 p q)
      = ∑ s : Fin 4, cols (M := 1024) (K := 1024) (N := 2816) (iblk m c 0 ⟨s.val, s.isLt⟩) (iblk m c 1 ⟨s.val, s.isLt⟩) p q := by
  obtain ⟨n, hn⟩ := t
  obtain rfl : n = 3 := h3
  exact acc_sum (L := cfg0.N) (fun t h => outsAt0 (F := Ideal) m c t h (at2 p q))
    (fun t => cols (M := 1024) (K := 1024) (N := 2816) (iblk m c 0 t) (iblk m c 1 t) p q)
    (fun h => outs_first m c ⟨0, h⟩ rfl p q)
    (fun t h => outs_next m c ⟨t + 1, h⟩ (by have h4 : t + 1 < 4 := h; dsimp only; omega) p q) 3 hn

/-- The product in the left half of the array, zero in the right. -/
def halfOf (x0 : FVec Ideal S4096x1024 .bf16) (x1 : FVec Ideal S4096x2816 .bf16) : FVec Ideal S1024x5632 .f32 :=
  fun i => if h : (i (1 : Fin 2) : ℕ) < 2816 then cols x0 x1 (i (0 : Fin 2)) ⟨i (1 : Fin 2), h⟩ else (0 : EReal)

theorem halfOf_left (x0 : FVec Ideal S4096x1024 .bf16) (x1 : FVec Ideal S4096x2816 .bf16) (i : S1024x5632.Idx) (p : Fin 1024) (q : Fin 2816)
    (hp : (i (0 : Fin 2) : ℕ) = p) (hq : (i (1 : Fin 2) : ℕ) = q) : halfOf x0 x1 i = cols x0 x1 p q :=
  (dif_pos (show (i (1 : Fin 2) : ℕ) < 2816 from hq ▸ q.isLt)).trans (congrArg₂ (cols x0 x1) (Fin.ext hp) (Fin.ext hq))

theorem ref_eq (x0 : FVec Ideal S4096x1024 .bf16) (x1 : FVec Ideal S4096x2816 .bf16) (p : Fin 1024) (q : Fin 2816) :
    Cert.UpDwGateRefIdeal.Read.val_main_v5 (F := Ideal) x0 x1 (at2 p q) = cols x0 x1 p q := by
  refine (Cert.UpDwGateRefIdeal.Read.val_main_v5_apply _ _ _).trans ((Cert.UpDwGateRefIdeal.Read.val_main_v4_apply _ _ _).trans ?_)
  exact Finset.sum_congr rfl fun k _ => (mul_comm _ _).trans (congrArg₂ (· * ·) (congrArg x0 (ext2 rfl rfl)) (congrArg x1 (ext2 rfl rfl)))

/-- The left half of the array the call returns is the product; the call leaves the right half unwritten. -/
theorem half (c : Dev nD) (p : Fin 1024) (q : Fin 2816) (k : Fin 5632) (hk : k.val = q.val) :
    (dats m 0 c).arrAt 2 cfg0.N (at2 p k)
      = cols (m ((c : Thread nD τ).loc main_arg0) : FVec Ideal S4096x1024 .bf16) (m ((c : Thread nD τ).loc main_arg1) : FVec Ideal S4096x2816 .bf16) p q := by
  refine (congrFun ((dats m 0 c).arrAt_eq_of_coversWhere 2 (halfOf (m ((c : Thread nD τ).loc main_arg0)) (m ((c : Thread nD τ).loc main_arg1)))
    (P := fun i => (i (1 : Fin 2) : ℕ) / 2816 = 0) (fun β => β (1 : Fin 2) = 0) (by decide +kernel) (fun t hf y => ?_) (fun j => Iff.rfl)) (at2 p k)).trans ?_
  · have h3 : t.val = 3 := by have h4 : t.val < 4 := t.isLt; have := (flush0_2 t).mp hf; omega
    obtain ⟨-, -, -, -, f4, f5⟩ := idx_facts t
    blk_simp
    rw [after0_2]
    obtain ⟨p, q, rfl⟩ : ∃ (p : Fin 1024) (q : Fin 2816), y = at2 p q := ⟨_, _, eq_at2 y⟩
    refine (outs_sum m c t h3 p q).trans ?_
    refine Eq.trans ?_ (halfOf_left _ _ _ p q (emb_fixed win0_2 t (at2 p q) 0 f5) (emb_fixed win0_2 t (at2 p q) 1 f4)).symm
    refine cols_runs 4 1024 rfl (m ((c : Thread nD τ).loc main_arg0)) (m ((c : Thread nD τ).loc main_arg1)) _ _ p q p q ?_ ?_
    all_goals
      intro s k r hr
      obtain ⟨e0, e1, e2, e3, -, -⟩ := idx_facts ⟨s.val, s.isLt⟩
      dsimp only at e0 e2
    · show m ((c : Thread nD τ).loc main_arg0) ((win0_0.rect _).emb _) = m ((c : Thread nD τ).loc main_arg0) _
      refine congrArg _ (ext2 ?_ (emb_fixed win0_0 _ _ 1 e1))
      exact ((win0_0.rect_emb_val _ _ 0).trans (congrArg (· * 1024 + k.val) e0)).trans hr.symm
    · show m ((c : Thread nD τ).loc main_arg1) ((win0_1.rect _).emb _) = m ((c : Thread nD τ).loc main_arg1) _
      refine congrArg _ (ext2 ?_ (emb_fixed win0_1 _ _ 1 e3))
      exact ((win0_1.rect_emb_val _ _ 0).trans (congrArg (· * 1024 + k.val) e2)).trans hr.symm
  · have hq := q.isLt
    exact (if_pos (show k.val / 2816 = 0 by omega)).trans (halfOf_left _ _ _ p q rfl hk)

/-- What the lines after the call leave in the result: the left half. -/
theorem tail_eq (c : Dev nD) : Pipeline.afterTail₀ cfgs (dats (F := Ideal) m) 0 (V0 m) [hostOps1] c main_v1
    = Cert.UpDwGateRefIdeal.Read.val_main_v5 (m ((c : Thread nD τ).loc main_arg0)) (m ((c : Thread nD τ).loc main_arg1)) := by
  unfold Pipeline.afterTail₀
  show StableHlo.after hostOps1 _ main_v1 = _
  after_results
  funext i
  obtain ⟨p, q, rfl⟩ : ∃ (p : Fin 1024) (q : Fin 2816), i = at2 p q := ⟨_, _, eq_at2 i⟩
  refine (extractStridedSlice_apply ![0, 0] _ slices_S1024x5632_S1024x2816_0_0 (at2 p q) (at2 p ⟨q.val, by have := q.isLt; omega⟩) (fun a => match a with
    | ⟨0, _⟩ => (Nat.zero_add _).symm
    | ⟨1, _⟩ => (Nat.zero_add _).symm)).trans ?_
  refine (congrFun (Pipeline.withArrays_arr spec0 launch0.win.arr_inj c (V0 m c) (fun w => (dats m 0 c).arrAt w cfg0.N) 2) _).trans ?_
  exact (half m c p q _ rfl).trans (ref_eq _ _ p q).symm

theorem run (ρ : Dev nD → PrngReg) : θ_run defs (onTc (τ := τ) (main (F := Ideal))) ⟨m, fun _ => 0, ρ⟩ fun r => ∀ c : Dev nD,
      r.2.mem ((c : Thread nD τ).loc main_v1)
        = Cert.UpDwGateRefIdeal.Read.val_main_v5 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).2 main_v1 (by decide)).trans (tail_eq m c), h.2 c⟩)
    (θ_run_and (run_main m ρ) (unchanged m ρ))

end Cert.UpDwGateIdeal.Product
-- ==== Proof.Products.UpDwVal.lean ====
module

public import proofs.«01_k».proof.Proof.Gen.UpDwValIdeal.Value
public import proofs.«01_k».proof.Proof.Gen.UpDwValRefIdeal.Read
public import Idealize.ShloMosaic.Lib.Pipeline.ValueKit
public import proofs.«01_k».proof.Proof.Products.Sums

@[expose] public section

noncomputable section

namespace Cert.UpDwValIdeal.Product

open Cert.UpDwValIdeal Cert.UpDwValIdeal.Gen Cert.Products Idealize.ShloMosaic Idealize.ShloMosaic.TcCoe Idealize.SL.Sem
open Idealize.ShloMosaic.Pipeline (Dat)

variable (m : (ℓ : Loc nD τ sig) → Buf (Elt Ideal) ℓ)

theorem outs_first (c : Dev nD) (t : Fin cfg0.N) (h0 : t.val % 4 = 0) (p : Fin 1024) (q : Fin 2816) :
    outsAt0 (F := Ideal) m c t.val t.isLt (at2 p q) = cols (M := 1024) (K := 1024) (N := 2816) (iblk m c 0 t) (iblk m c 1 t) p q := by
  rw [outsAt0_A m c t h0 (by have h4 : t.val < 4 := t.isLt; omega)]
  unfold out0_A_2
  rw [View.read_writes_eq_canon _ _ _ (cover0_A_2 c _ _ _ _ _ _ _ _ _ _ _)]
  unfold kernelRun0_A
  dsimp only
  sl_unfold_words
  rw [View.canon_unit_zero (by decide)]
  simp only [View.readAt_eq_ld, (hs0_0 t).read_unread, (hs0_1 t).read_unread]
  rw [View.ld_unit_zero (S := S1024x1024) (by decide), View.ld_unit_zero (S := S1024x2816) (by decide)]
  exact tn_cols none _ _ p q

theorem outs_next (c : Dev nD) (t : Fin cfg0.N) (h0 : ¬t.val % 4 = 0) (p : Fin 1024) (q : Fin 2816) :
    outsAt0 (F := Ideal) m c t.val t.isLt (at2 p q)
      = outsAt0 (F := Ideal) m c (t.val - 1) (Nat.lt_of_le_of_lt (Nat.sub_le _ _) t.isLt) (at2 p q) + cols (M := 1024) (K := 1024) (N := 2816) (iblk m c 0 t) (iblk m c 1 t) p q := by
  rw [outsAt0_B m c t h0 (by omega)]
  unfold out0_B_2
  rw [View.read_writes_eq_canon _ _ _ (cover0_B_2 c _ _ _ _ _ _ _ _ _ _ _ _)]
  unfold kernelRun0_B
  dsimp only
  sl_unfold_words
  rw [View.canon_unit_zero (by decide)]
  simp only [View.readAt_eq_ld, (hs0_0 t).read_unread, (hs0_1 t).read_unread, (hs0_2 t).read_unread]
  rw [View.ld_unit_zero (S := S1024x1024) (by decide), View.ld_unit_zero (S := S1024x2816) (by decide), View.ld_unit_zero (S := S1024x2816) (by decide)]
  unfold k0_pay2
  rw [shapeCast_self]
  exact congrArg₂ (· + ·) rfl (tn_cols none _ _ p q)

theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (1 : Fin 2) = 1
    ∧ win0_2.index t (0 : Fin 2) = 0 :=
  (by decide +kernel : ∀ t : Fin grid0.N, _)

/-- The last of the four points leaves the sum of the four blocks' products. -/
theorem outs_sum (c : Dev nD) (t : Fin cfg0.N) (h3 : t.val = 3) (p : Fin 1024) (q : Fin 2816) :
    outsAt0 (F := Ideal) m c t.val t.isLt (at2 p q)
      = ∑ s : Fin 4, cols (M := 1024) (K := 1024) (N := 2816) (iblk m c 0 ⟨s.val, s.isLt⟩) (iblk m c 1 ⟨s.val, s.isLt⟩) p q := by
  obtain ⟨n, hn⟩ := t
  obtain rfl : n = 3 := h3
  exact acc_sum (L := cfg0.N) (fun t h => outsAt0 (F := Ideal) m c t h (at2 p q))
    (fun t => cols (M := 1024) (K := 1024) (N := 2816) (iblk m c 0 t) (iblk m c 1 t) p q)
    (fun h => outs_first m c ⟨0, h⟩ rfl p q)
    (fun t h => outs_next m c ⟨t + 1, h⟩ (by have h4 : t + 1 < 4 := h; dsimp only; omega) p q) 3 hn

/-- The right half of the reference's array is the product, the left half the array given. -/
theorem ref_right (x0 : FVec Ideal S4096x1024 .bf16) (x1 : FVec Ideal S4096x2816 .bf16) (x2 : FVec Ideal S1024x5632 .f32) (p : Fin 1024) (j : Fin 2816)
    (k : Fin 5632) (hk : 2816 + j.val = k.val) :
    Cert.UpDwValRefIdeal.Read.val_main_v7 (F := Ideal) x0 x1 x2 (at2 p k) = cols x0 x1 p j := by
  refine (join_piece (R := 1024) (T := 5632) (n := 2816) _ _ p k 1 (by simp) (Cert.UpDwValRefIdeal.Read.val_main_v6 (F := Ideal) x0 x1) rfl 2816 rfl j hk).trans ?_
  refine (Cert.UpDwValRefIdeal.Read.val_main_v6_apply _ _ _).trans ((Cert.UpDwValRefIdeal.Read.val_main_v5_apply _ _ _).trans ?_)
  exact Finset.sum_congr rfl fun k _ => (mul_comm _ _).trans (congrArg₂ (· * ·) (congrArg x0 (ext2 rfl rfl)) (congrArg x1 (ext2 rfl rfl)))

theorem ref_left (x0 : FVec Ideal S4096x1024 .bf16) (x1 : FVec Ideal S4096x2816 .bf16) (x2 : FVec Ideal S1024x5632 .f32) (p : Fin 1024)
    (k : Fin 5632) (hk : k.val < 2816) :
    Cert.UpDwValRefIdeal.Read.val_main_v7 (F := Ideal) x0 x1 x2 (at2 p k) = x2 (at2 p k) := by
  refine (join_piece (R := 1024) (T := 5632) (n := 2816) _ _ p k 0 (by simp) (Cert.UpDwValRefIdeal.Read.val_main_v2 (F := Ideal) x2) rfl 0 rfl ⟨k.val, hk⟩ (Nat.zero_add _)).trans ?_
  exact (Cert.UpDwValRefIdeal.Read.val_main_v2_apply _ _).trans (congrArg x2 (ext2 rfl rfl))

/-- At entry the output array holds the array given. -/
theorem entry (c : Dev nD) : (dats m 0 c).A 2 = m ((c : Thread nD τ).loc main_arg2) := by
  refine (A_eq m c 2).trans ?_
  show StableHlo.after hostOps0 (fun b => m (c, b)) main_v0 = _
  after_results
  rfl

theorem final (c : Dev nD) : (dats m 0 c).arrAt 2 cfg0.N
    = Cert.UpDwValRefIdeal.Read.val_main_v7 (m ((c : Thread nD τ).loc main_arg0)) (m ((c : Thread nD τ).loc main_arg1)) (m ((c : Thread nD τ).loc main_arg2)) := by
  refine ((dats m 0 c).arrAt_eq_of_coversWhere 2 (Cert.UpDwValRefIdeal.Read.val_main_v7 (m ((c : Thread nD τ).loc main_arg0))
      (m ((c : Thread nD τ).loc main_arg1)) (m ((c : Thread nD τ).loc main_arg2)))
    (P := fun i => (i (1 : Fin 2) : ℕ) / 2816 = 1) (fun β => β (1 : Fin 2) = 1) (by decide +kernel) (fun t hf y => ?_) (fun j => Iff.rfl)).trans (funext fun i => ?_)
  · have h3 : t.val = 3 := by have h4 : t.val < 4 := t.isLt; have := (flush0_2 t).mp hf; omega
    obtain ⟨-, -, -, -, f4, f5⟩ := idx_facts t
    blk_simp
    rw [after0_2]
    obtain ⟨p, q, rfl⟩ : ∃ (p : Fin 1024) (q : Fin 2816), y = at2 p q := ⟨_, _, eq_at2 y⟩
    refine (outs_sum m c t h3 p q).trans ?_
    refine Eq.trans ?_ (congrArg (Cert.UpDwValRefIdeal.Read.val_main_v7 (F := Ideal) _ _ _)
      (a₁ := at2 p ⟨2816 + q.val, by have := q.isLt; omega⟩) (ext2 (emb_fixed win0_2 t (at2 p q) 0 f5).symm
        (((win0_2.rect_emb_val t (at2 p q) 1).trans (congrArg (· * 2816 + q.val) f4)).trans (by show 1 * 2816 + q.val = 2816 + q.val; omega)).symm))
    refine Eq.trans ?_ (ref_right _ _ _ p q _ rfl).symm
    refine cols_runs 4 1024 rfl (m ((c : Thread nD τ).loc main_arg0)) (m ((c : Thread nD τ).loc main_arg1)) _ _ p q p q ?_ ?_
    all_goals
      intro s k r hr
      obtain ⟨e0, e1, e2, e3, -, -⟩ := idx_facts ⟨s.val, s.isLt⟩
      dsimp only at e0 e2
    · show m ((c : Thread nD τ).loc main_arg0) ((win0_0.rect _).emb _) = m ((c : Thread nD τ).loc main_arg0) _
      refine congrArg _ (ext2 ?_ (emb_fixed win0_0 _ _ 1 e1))
      exact ((win0_0.rect_emb_val _ _ 0).trans (congrArg (· * 1024 + k.val) e0)).trans hr.symm
    · show m ((c : Thread nD τ).loc main_arg1) ((win0_1.rect _).emb _) = m ((c : Thread nD τ).loc main_arg1) _
      refine congrArg _ (ext2 ?_ (emb_fixed win0_1 _ _ 1 e3))
      exact ((win0_1.rect_emb_val _ _ 0).trans (congrArg (· * 1024 + k.val) e2)).trans hr.symm
  · obtain ⟨p, k, rfl⟩ : ∃ (p : Fin 1024) (k : Fin 5632), i = at2 p k := ⟨_, _, eq_at2 i⟩
    split
    · rfl
    · rename_i h
      have hk : k.val < 2816 := by
        have h' : ¬k.val / 2816 = 1 := h
        have := k.isLt; omega
      rw [entry m c]
      exact (ref_left _ _ _ p k hk).symm

end Cert.UpDwValIdeal.Product
-- ==== Proof.Products.OutDx.lean ====
module

public import proofs.«01_k».proof.Proof.Gen.OutDxIdeal.Value
public import proofs.«01_k».proof.Proof.Gen.OutDxRefIdeal.Read
public import Idealize.ShloMosaic.Lib.Pipeline.ValueKit
public import proofs.«01_k».proof.Proof.Products.Sums

@[expose] public section

noncomputable section

namespace Cert.OutDxIdeal.Product

open Cert.OutDxIdeal Cert.OutDxIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S2048x1024 .bf16) (x1 : Vec Ideal S512x1024 .bf16) (p : Fin 2048) (q : Fin 512) :
    out0_2 (F := Ideal) x0 x1 (at2 p q) = ∑ k : Fin 1024, x0 (at2 p k) * x1 (at2 q k) := by
  unfold out0_2
  rw [View.canon_unit_zero (by decide), View.ld_unit_zero (S := S2048x1024) (by decide), View.ld_unit_zero (S := S512x1024) (by decide)]
  exact nt_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem final (c : Dev nD) : (dats m 0 c).arrAt 2 cfg0.N
    = Cert.OutDxRefIdeal.Read.val_main_v4 (m ((c : Thread nD τ).loc main_arg1)) (m ((c : Thread nD τ).loc main_arg2)) := by
  refine (dats m 0 c).arrAt_eq_of_covers 2 _ (by decide +kernel) fun t hf y => ?_
  obtain ⟨e0, e1, e2, e3⟩ := idx_facts t
  blk_simp
  rw [after0_2, eq_at2 y]
  refine (out_eq _ _ _ _).trans ?_
  refine (Eq.trans ?_ (Cert.OutDxRefIdeal.Read.val_main_v4_apply _ _ _).symm)
  refine Finset.sum_congr rfl fun k _ => congrArg₂ (· * ·) ?_ ?_
  · show m ((c : Thread nD τ).loc main_arg2) ((win0_0.rect t).emb _) = m ((c : Thread nD τ).loc main_arg2) _
    refine congrArg _ (ext2 ?_ ?_)
    · refine (win0_0.rect_emb_val t _ 0).trans ?_
      refine Eq.trans ?_ (win0_2.rect_emb_val t _ 0).symm
      rw [e0]; rfl
    · refine (win0_0.rect_emb_val t _ 1).trans ?_
      rw [e1]; exact Nat.zero_add _
  · show m ((c : Thread nD τ).loc main_arg1) ((win0_1.rect t).emb _) = m ((c : Thread nD τ).loc main_arg1) _
    refine congrArg _ (ext2 ?_ ?_)
    · refine (win0_1.rect_emb_val t _ 0).trans ?_
      refine Eq.trans ?_ (win0_2.rect_emb_val t _ 1).symm
      rw [e2]; rfl
    · refine (win0_1.rect_emb_val t _ 1).trans ?_
      rw [e3]; exact Nat.zero_add _

end Cert.OutDxIdeal.Product
-- ==== Proof.Products.OutDw.lean ====
module

public import proofs.«01_k».proof.Proof.Gen.OutDwIdeal.Value
public import proofs.«01_k».proof.Proof.Gen.OutDwRefIdeal.Read
public import Idealize.ShloMosaic.Lib.Pipeline.ValueKit
public import proofs.«01_k».proof.Proof.Products.Sums

@[expose] public section

noncomputable section

namespace Cert.OutDwIdeal.Product

open Cert.OutDwIdeal Cert.OutDwIdeal.Gen Cert.Products Idealize.ShloMosaic Idealize.ShloMosaic.TcCoe Idealize.SL.Sem
open Idealize.ShloMosaic.Pipeline (Dat)

variable (m : (ℓ : Loc nD τ sig) → Buf (Elt Ideal) ℓ)

theorem outs_first (c : Dev nD) (t : Fin cfg0.N) (h0 : t.val % 4 = 0) (p : Fin 1024) (q : Fin 1024) :
    outsAt0 (F := Ideal) m c t.val t.isLt (at2 p q) = cols (M := 1024) (K := 1024) (N := 1024) (iblk m c 0 t) (iblk m c 1 t) p q := by
  rw [outsAt0_A m c t h0 (by have h4 : t.val < 4 := t.isLt; omega)]
  unfold out0_A_2
  rw [View.read_writes_eq_canon _ _ _ (cover0_A_2 c _ _ _ _ _ _ _ _ _ _ _)]
  unfold kernelRun0_A
  dsimp only
  sl_unfold_words
  rw [View.canon_unit_zero (by decide)]
  simp only [View.readAt_eq_ld, (hs0_0 t).read_unread, (hs0_1 t).read_unread]
  rw [View.ld_unit_zero (S := S1024x1024) (by decide), View.ld_unit_zero (S := S1024x1024) (by decide)]
  exact tn_cols none _ _ p q

theorem outs_next (c : Dev nD) (t : Fin cfg0.N) (h0 : ¬t.val % 4 = 0) (p : Fin 1024) (q : Fin 1024) :
    outsAt0 (F := Ideal) m c t.val t.isLt (at2 p q)
      = outsAt0 (F := Ideal) m c (t.val - 1) (Nat.lt_of_le_of_lt (Nat.sub_le _ _) t.isLt) (at2 p q) + cols (M := 1024) (K := 1024) (N := 1024) (iblk m c 0 t) (iblk m c 1 t) p q := by
  rw [outsAt0_B m c t h0 (by omega)]
  unfold out0_B_2
  rw [View.read_writes_eq_canon _ _ _ (cover0_B_2 c _ _ _ _ _ _ _ _ _ _ _ _)]
  unfold kernelRun0_B
  dsimp only
  sl_unfold_words
  rw [View.canon_unit_zero (by decide)]
  simp only [View.readAt_eq_ld, (hs0_0 t).read_unread, (hs0_1 t).read_unread, (hs0_2 t).read_unread]
  rw [View.ld_unit_zero (S := S1024x1024) (by decide), View.ld_unit_zero (S := S1024x1024) (by decide), View.ld_unit_zero (S := S1024x1024) (by decide)]
  unfold k0_pay2
  rw [shapeCast_self]
  exact congrArg₂ (· + ·) rfl (tn_cols none _ _ p q)

theorem idx_facts : ∀ t : Fin cfg0.N, win0_0.index t (0 : Fin 2) = t.val ∧ win0_0.index t (1 : Fin 2) = win0_2.index t (0 : Fin 2)
    ∧ win0_1.index t (0 : Fin 2) = t.val ∧ win0_1.index t (1 : Fin 2) = 0 ∧ win0_2.index t (1 : Fin 2) = 0
    ∧ win0_2.index t (0 : Fin 2) = 0 :=
  (by decide +kernel : ∀ t : Fin grid0.N, _)

/-- The last of the four points leaves the sum of the four blocks' products. -/
theorem outs_sum (c : Dev nD) (t : Fin cfg0.N) (h3 : t.val = 3) (p : Fin 1024) (q : Fin 1024) :
    outsAt0 (F := Ideal) m c t.val t.isLt (at2 p q)
      = ∑ s : Fin 4, cols (M := 1024) (K := 1024) (N := 1024) (iblk m c 0 ⟨s.val, s.isLt⟩) (iblk m c 1 ⟨s.val, s.isLt⟩) p q := by
  obtain ⟨n, hn⟩ := t
  obtain rfl : n = 3 := h3
  exact acc_sum (L := cfg0.N) (fun t h => outsAt0 (F := Ideal) m c t h (at2 p q))
    (fun t => cols (M := 1024) (K := 1024) (N := 1024) (iblk m c 0 t) (iblk m c 1 t) p q)
    (fun h => outs_first m c ⟨0, h⟩ rfl p q)
    (fun t h => outs_next m c ⟨t + 1, h⟩ (by have h4 : t + 1 < 4 := h; dsimp only; omega) p q) 3 hn

theorem final (c : Dev nD) : (dats m 0 c).arrAt 2 cfg0.N
    = Cert.OutDwRefIdeal.Read.val_main_v5 (m ((c : Thread nD τ).loc main_arg0)) (m ((c : Thread nD τ).loc main_arg2)) := by
  refine (dats m 0 c).arrAt_eq_of_covers 2 _ (by decide +kernel) fun t hf y => ?_
  have h3 : t.val = 3 := by have h4 : t.val < 4 := t.isLt; have := (flush0_2 t).mp hf; omega
  blk_simp
  rw [after0_2]
  obtain ⟨p, q, rfl⟩ : ∃ (p : Fin 1024) (q : Fin 1024), y = at2 p q := ⟨_, _, eq_at2 y⟩
  refine (outs_sum m c t h3 p q).trans ?_
  refine Eq.trans ?_ (Cert.OutDwRefIdeal.Read.val_main_v5_apply _ _ _).symm
  refine Eq.trans ?_ (Cert.OutDwRefIdeal.Read.val_main_v4_apply _ _ _).symm
  refine (cols_runs 4 1024 rfl (m ((c : Thread nD τ).loc main_arg0)) (m ((c : Thread nD τ).loc main_arg2)) _ _
    ((win0_2.rect t).emb (at2 p q) 0) ((win0_2.rect t).emb (at2 p q) 1) p q ?_ ?_).trans
    (Finset.sum_congr rfl fun k _ => (mul_comm _ _).trans (congrArg₂ (· * ·)
      (congrArg (m ((c : Thread nD τ).loc main_arg2)) (ext2 rfl rfl)) (congrArg (m ((c : Thread nD τ).loc main_arg0)) (ext2 rfl rfl))))
  all_goals
    intro s k r hr
    obtain ⟨-, -, -, -, f4, f5⟩ := idx_facts t
    obtain ⟨e0, e1, e2, e3, -, e5⟩ := idx_facts ⟨s.val, s.isLt⟩
    dsimp only at e0 e2 e5
  · show m ((c : Thread nD τ).loc main_arg0) ((win0_0.rect _).emb _) = m ((c : Thread nD τ).loc main_arg0) _
    refine congrArg _ (ext2 ?_ ?_)
    · refine (win0_0.rect_emb_val _ _ 0).trans ((congrArg (· * 1024 + k.val) e0).trans ?_)
      show _ = r.val
      omega
    · exact emb_at win0_0 win0_2 _ t _ _ 1 0 rfl rfl (by rw [e1, e5, f5]) rfl rfl
  · show m ((c : Thread nD τ).loc main_arg2) ((win0_1.rect _).emb _) = m ((c : Thread nD τ).loc main_arg2) _
    refine congrArg _ (ext2 ?_ ?_)
    · refine (win0_1.rect_emb_val _ _ 0).trans ((congrArg (· * 1024 + k.val) e2).trans ?_)
      show _ = r.val
      omega
    · exact emb_at win0_1 win0_2 _ t _ _ 1 1 rfl rfl (by rw [e3, f4]) rfl rfl

end Cert.OutDwIdeal.Product
-- ==== Proof.Products.InDx.lean ====
module

public import proofs.«01_k».proof.Proof.Gen.InDxIdeal.Value
public import proofs.«01_k».proof.Proof.Gen.InDxRefIdeal.Read
public import Idealize.ShloMosaic.Lib.Pipeline.ValueKit
public import proofs.«01_k».proof.Proof.Products.Sums

@[expose] public section

noncomputable section

namespace Cert.InDxIdeal.Product

open Cert.InDxIdeal Cert.InDxIdeal.Gen Cert.Products Idealize.ShloMosaic Idealize.ShloMosaic.TcCoe Idealize.SL.Sem
open Idealize.ShloMosaic.Pipeline (Dat)

variable (m : (ℓ : Loc nD τ sig) → Buf (Elt Ideal) ℓ)

/-- The four cotangents' blocks side by side. -/
def joined (x0 : FVec Ideal S1088x512 .bf16) (x1 : FVec Ideal S1088x1024 .bf16) (x2 x3 : FVec Ideal S1088x512 .bf16) : FVec Ideal S1088x2560 .bf16 :=
  concatenate S1088x2560 1 [⟨S1088x512, x0⟩, ⟨S1088x1024, x1⟩, ⟨S1088x512, x2⟩, ⟨S1088x512, x3⟩]
    concatenates_S1088x512_S1088x1024_S1088x512_S1088x512_S1088x2560_d1

theorem out_eq (x0 : FVec Ideal S1088x512 .bf16) (x1 : FVec Ideal S1088x1024 .bf16) (x2 x3 : FVec Ideal S1088x512 .bf16)
    (x4 : FVec Ideal S1024x2560 .bf16) (p : Fin 1088) (q : Fin 1024) :
    out0_5 (F := Ideal) x0 x1 x2 x3 x4 (at2 p q) = ∑ k : Fin 2560, joined x0 x1 x2 x3 (at2 p k) * x4 (at2 q k) := by
  unfold out0_5
  rw [View.canon_unit_zero (by decide), View.ld_unit_zero (S := S1088x512) (by decide), View.ld_unit_zero (S := S1088x512) (by decide),
    View.ld_unit_zero (S := S1088x512) (by decide), View.ld_unit_zero (S := S1088x1024) (by decide), View.ld_unit_zero (S := S1024x2560) (by decide)]
  exact nt_apply (φ₁ := .bf16) (φ₂ := .bf16) none (joined x0 x1 x2 x3) x4 p q

theorem idx_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (0 : Fin 2) ∧ win0_3.index t (1 : Fin 2) = 0
    ∧ win0_4.index t (0 : Fin 2) = 0 ∧ win0_4.index t (1 : Fin 2) = 0 ∧ win0_5.index t (1 : Fin 2) = 0 :=
  (by decide +kernel : ∀ t : Fin grid0.N, _)

theorem final (c : Dev nD) : (dats m 0 c).arrAt 5 cfg0.N
    = Cert.InDxRefIdeal.Read.val_main_v12 (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t hf y => ?_
  obtain ⟨a0, a1, b0, b1, c0, c1, d0, d1, g0, g1, h1⟩ := idx_facts t
  blk_simp
  rw [after0_5]
  obtain ⟨p, q, rfl⟩ : ∃ (p : Fin 1088) (q : Fin 1024), y = at2 p q := ⟨_, _, eq_at2 y⟩
  refine (out_eq _ _ _ _ _ p q).trans ?_
  refine (Eq.trans ?_ (Cert.InDxRefIdeal.Read.val_main_v12_apply _ _ _ _ _ _).symm)
  refine Finset.sum_congr rfl fun k _ => congrArg₂ (· * ·) ?_ ?_
  · refine Eq.trans ?_ (congrArg (Cert.InDxRefIdeal.Read.val_main_v11 (F := Ideal) _ _ _ _)
      (a₁ := at2 ((win0_5.rect t).emb (at2 p q) 0) k) (ext2 rfl rfl))
    refine join_four (T := 2560) (a := 512) (b := 1024) (c := 512) (d := 512) _ _ _ _ _ _ _ _ _ _ rfl p ((win0_5.rect t).emb (at2 p q) 0) (fun k => ?_) (fun k => ?_) (fun k => ?_) (fun k => ?_) k
    · show m ((c : Thread nD τ).loc main_arg2) ((win0_0.rect t).emb _) = m ((c : Thread nD τ).loc main_arg2) _
      exact congrArg _ (ext2 (emb_at win0_0 win0_5 t t _ _ 0 0 rfl rfl a0 rfl rfl) (emb_fixed win0_0 t _ 1 a1))
    · show m ((c : Thread nD τ).loc main_arg3) ((win0_1.rect t).emb _) = m ((c : Thread nD τ).loc main_arg3) _
      exact congrArg _ (ext2 (emb_at win0_1 win0_5 t t _ _ 0 0 rfl rfl b0 rfl rfl) (emb_fixed win0_1 t _ 1 b1))
    · show m ((c : Thread nD τ).loc main_arg4) ((win0_2.rect t).emb _) = m ((c : Thread nD τ).loc main_arg4) _
      exact congrArg _ (ext2 (emb_at win0_2 win0_5 t t _ _ 0 0 rfl rfl c0 rfl rfl) (emb_fixed win0_2 t _ 1 c1))
    · show m ((c : Thread nD τ).loc main_arg5) ((win0_3.rect t).emb _) = m ((c : Thread nD τ).loc main_arg5) _
      exact congrArg _ (ext2 (emb_at win0_3 win0_5 t t _ _ 0 0 rfl rfl d0 rfl rfl) (emb_fixed win0_3 t _ 1 d1))
  · show m ((c : Thread nD τ).loc main_arg1) ((win0_4.rect t).emb _) = m ((c : Thread nD τ).loc main_arg1) _
    exact congrArg _ (ext2 ((emb_fixed win0_4 t _ 0 g0).trans (emb_fixed win0_5 t (at2 p q) 1 h1).symm) (emb_fixed win0_4 t _ 1 g1))

end Cert.InDxIdeal.Product
-- ==== Proof.Products.InDw.lean ====
module

public import proofs.«01_k».proof.Proof.Gen.InDwIdeal.Value
public import proofs.«01_k».proof.Proof.Gen.InDwRefIdeal.Read
public import Idealize.ShloMosaic.Lib.Pipeline.ValueKit
public import proofs.«01_k».proof.Proof.Products.Sums

@[expose] public section

noncomputable section

namespace Cert.InDwIdeal.Product

open Cert.InDwIdeal Cert.InDwIdeal.Gen Cert.Products Idealize.ShloMosaic Idealize.ShloMosaic.TcCoe Idealize.SL.Sem
open Idealize.ShloMosaic.Pipeline (Dat)

variable (m : (ℓ : Loc nD τ sig) → Buf (Elt Ideal) ℓ)

/-- The four cotangents' blocks side by side. -/
def joined (x0 : FVec Ideal S1088x512 .bf16) (x1 : FVec Ideal S1088x1024 .bf16) (x2 x3 : FVec Ideal S1088x512 .bf16) : FVec Ideal S1088x2560 .bf16 :=
  concatenate S1088x2560 1 [⟨S1088x512, x0⟩, ⟨S1088x1024, x1⟩, ⟨S1088x512, x2⟩, ⟨S1088x512, x3⟩]
    concatenates_S1088x512_S1088x1024_S1088x512_S1088x512_S1088x2560_d1

/-- The cotangents' blocks of point `t` side by side. -/
def ct (c : Dev nD) (t : Fin cfg0.N) : FVec Ideal S1088x2560 .bf16 :=
  joined (iblk m c 1 t) (iblk m c 2 t) (iblk m c 3 t) (iblk m c 4 t)

theorem outs_first (c : Dev nD) (t : Fin cfg0.N) (h0 : t.val % 4 = 0) (p : Fin 1024) (q : Fin 2560) :
    outsAt0 (F := Ideal) m c t.val t.isLt (at2 p q) = cols (M := 1024) (K := 1088) (N := 2560) (iblk m c 0 t) (ct m c t) p q := by
  rw [outsAt0_A m c t h0 (by have h4 : t.val < 4 := t.isLt; omega)]
  unfold out0_A_5
  rw [View.read_writes_eq_canon _ _ _ (cover0_A_5 c _ _ _ _ _ _ _ _ _ _ _ _ _ _ _ _ _ _ _ _)]
  unfold kernelRun0_A
  dsimp only
  sl_unfold_words
  rw [View.canon_unit_zero (by decide)]
  simp only [View.readAt_eq_ld, (hs0_0 t).read_unread, (hs0_1 t).read_unread, (hs0_2 t).read_unread, (hs0_3 t).read_unread, (hs0_4 t).read_unread]
  rw [View.ld_unit_zero (S := S1088x1024) (by decide), View.ld_unit_zero (S := S1088x1024) (by decide), View.ld_unit_zero (S := S1088x512) (by decide),
    View.ld_unit_zero (S := S1088x512) (by decide), View.ld_unit_zero (S := S1088x512) (by decide)]
  exact tn_cols none _ (ct m c t) p q

theorem outs_next (c : Dev nD) (t : Fin cfg0.N) (h0 : ¬t.val % 4 = 0) (p : Fin 1024) (q : Fin 2560) :
    outsAt0 (F := Ideal) m c t.val t.isLt (at2 p q)
      = outsAt0 (F := Ideal) m c (t.val - 1) (Nat.lt_of_le_of_lt (Nat.sub_le _ _) t.isLt) (at2 p q) + cols (M := 1024) (K := 1088) (N := 2560) (iblk m c 0 t) (ct m c t) p q := by
  rw [outsAt0_B m c t h0 (by omega)]
  unfold out0_B_5
  rw [View.read_writes_eq_canon _ _ _ (cover0_B_5 c _ _ _ _ _ _ _ _ _ _ _ _ _ _ _ _ _ _ _ _ _)]
  unfold kernelRun0_B
  dsimp only
  sl_unfold_words
  rw [View.canon_unit_zero (by decide)]
  simp only [View.readAt_eq_ld, (hs0_0 t).read_unread, (hs0_1 t).read_unread, (hs0_2 t).read_unread, (hs0_3 t).read_unread, (hs0_4 t).read_unread,
    (hs0_5 t).read_unread]
  rw [View.ld_unit_zero (S := S1088x1024) (by decide), View.ld_unit_zero (S := S1088x1024) (by decide), View.ld_unit_zero (S := S1088x512) (by decide),
    View.ld_unit_zero (S := S1088x512) (by decide), View.ld_unit_zero (S := S1088x512) (by decide), View.ld_unit_zero (S := S1024x2560) (by decide)]
  unfold k0_pay2
  rw [shapeCast_self]
  exact congrArg₂ (· + ·) rfl (tn_cols none _ (ct m c t) p q)

theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 2) = t.val ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The last of the four points leaves the sum of the four blocks' products. -/
theorem outs_sum (c : Dev nD) (t : Fin cfg0.N) (h3 : t.val = 3) (p : Fin 1024) (q : Fin 2560) :
    outsAt0 (F := Ideal) m c t.val t.isLt (at2 p q)
      = ∑ s : Fin 4, cols (M := 1024) (K := 1088) (N := 2560) (iblk m c 0 ⟨s.val, s.isLt⟩) (ct m c ⟨s.val, s.isLt⟩) p q := by
  obtain ⟨n, hn⟩ := t
  obtain rfl : n = 3 := h3
  exact acc_sum (L := cfg0.N) (fun t h => outsAt0 (F := Ideal) m c t h (at2 p q))
    (fun t => cols (M := 1024) (K := 1088) (N := 2560) (iblk m c 0 t) (ct m c t) p q)
    (fun h => outs_first m c ⟨0, h⟩ rfl p q)
    (fun t h => outs_next m c ⟨t + 1, h⟩ (by have h4 : t + 1 < 4 := h; dsimp only; omega) p q) 3 hn

theorem final (c : Dev nD) : (dats m 0 c).arrAt 5 cfg0.N
    = Cert.InDwRefIdeal.Read.val_main_v13 (m ((c : Thread nD τ).loc main_arg0)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t hf y => ?_
  have h3 : t.val = 3 := by have h4 : t.val < 4 := t.isLt; have := (flush0_5 t).mp hf; omega
  obtain ⟨-, -, -, -, -, -, -, -, -, -, f0, f1⟩ := idx_facts t
  blk_simp
  rw [after0_5]
  obtain ⟨p, q, rfl⟩ : ∃ (p : Fin 1024) (q : Fin 2560), y = at2 p q := ⟨_, _, eq_at2 y⟩
  refine (outs_sum m c t h3 p q).trans ?_
  refine Eq.trans ?_ (Cert.InDwRefIdeal.Read.val_main_v13_apply _ _ _ _ _ _).symm
  refine Eq.trans ?_ (Cert.InDwRefIdeal.Read.val_main_v12_apply _ _ _ _ _ _).symm
  refine (cols_runs 4 1088 rfl (m ((c : Thread nD τ).loc main_arg0)) (Cert.InDwRefIdeal.Read.val_main_v11 (F := Ideal) (m ((c : Thread nD τ).loc main_arg2))
      (m ((c : Thread nD τ).loc main_arg3)) (m ((c : Thread nD τ).loc main_arg4)) (m ((c : Thread nD τ).loc main_arg5))) _ _ p q p q ?_ ?_).trans
    (Finset.sum_congr rfl fun k _ => (mul_comm _ _).trans (congrArg₂ (· * ·)
      (congrArg (Cert.InDwRefIdeal.Read.val_main_v11 (F := Ideal) _ _ _ _) (ext2 rfl (emb_fixed win0_5 t (at2 p q) 1 f1).symm))
      (congrArg (m ((c : Thread nD τ).loc main_arg0)) (ext2 rfl (emb_fixed win0_5 t (at2 p q) 0 f0).symm))))
  all_goals
    intro s k r hr
    obtain ⟨a0, a1, b0, b1, c0, c1, d0, d1, e0, e1, -, -⟩ := idx_facts ⟨s.val, s.isLt⟩
    dsimp only at a0 b0 c0 d0 e0
  · show m ((c : Thread nD τ).loc main_arg0) ((win0_0.rect _).emb _) = m ((c : Thread nD τ).loc main_arg0) _
    refine congrArg _ (ext2 ?_ (emb_fixed win0_0 _ _ 1 a1))
    exact ((win0_0.rect_emb_val _ _ 0).trans (congrArg (· * 1088 + k.val) a0)).trans hr.symm
  · refine join_four (T := 2560) (a := 512) (b := 1024) (c := 512) (d := 512) _ _ _ _ _ _ _ _
      concatenates_S1088x512_S1088x1024_S1088x512_S1088x512_S1088x2560_d1
      (by decide) rfl k r (fun j => ?_) (fun j => ?_) (fun j => ?_) (fun j => ?_) q
    · show m ((c : Thread nD τ).loc main_arg2) ((win0_1.rect _).emb _) = m ((c : Thread nD τ).loc main_arg2) _
      refine congrArg _ (ext2 ?_ (emb_fixed win0_1 _ _ 1 b1))
      exact ((win0_1.rect_emb_val _ _ 0).trans (congrArg (· * 1088 + k.val) b0)).trans hr.symm
    · show m ((c : Thread nD τ).loc main_arg3) ((win0_2.rect _).emb _) = m ((c : Thread nD τ).loc main_arg3) _
      refine congrArg _ (ext2 ?_ (emb_fixed win0_2 _ _ 1 c1))
      exact ((win0_2.rect_emb_val _ _ 0).trans (congrArg (· * 1088 + k.val) c0)).trans hr.symm
    · show m ((c : Thread nD τ).loc main_arg4) ((win0_3.rect _).emb _) = m ((c : Thread nD τ).loc main_arg4) _
      refine congrArg _ (ext2 ?_ (emb_fixed win0_3 _ _ 1 d1))
      exact ((win0_3.rect_emb_val _ _ 0).trans (congrArg (· * 1088 + k.val) d0)).trans hr.symm
    · show m ((c : Thread nD τ).loc main_arg5) ((win0_4.rect _).emb _) = m ((c : Thread nD τ).loc main_arg5) _
      refine congrArg _ (ext2 ?_ (emb_fixed win0_4 _ _ 1 e1))
      exact ((win0_4.rect_emb_val _ _ 0).trans (congrArg (· * 1088 + k.val) e0)).trans hr.symm

end Cert.InDwIdeal.Product
-- ==== Proof.Products.MmQkv.lean ====
module

public import proofs.«01_k».proof.Proof.Gen.MmQkvIdeal.Value
public import proofs.«01_k».proof.Proof.Gen.MmQkvRefIdeal.Read
public import Idealize.ShloMosaic.Lib.Pipeline.ValueKit
public import proofs.«01_k».proof.Proof.Products.Sums

@[expose] public section

noncomputable section

namespace Cert.MmQkvIdeal.Product

open Cert.MmQkvIdeal Cert.MmQkvIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S2176x1024 .bf16) (x1 : Vec Ideal S1024x512 .bf16) (p : Fin 2176) (q : Fin 512) :
    out0_2 (F := Ideal) x0 x1 (at2 p q) = ∑ k : Fin 1024, x0 (at2 p k) * x1 (at2 k q) := by
  unfold out0_2
  rw [View.canon_unit_zero (by decide), View.ld_unit_zero (S := S2176x1024) (by decide), View.ld_unit_zero (S := S1024x512) (by decide)]
  exact nn_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = Cert.MmQkvRefIdeal.Read.val_main_v4 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx_facts t
  blk_simp
  rw [after0_2]
  obtain ⟨p, q, rfl⟩ : ∃ (p : Fin 2176) (q : Fin 512), y = at2 p q := ⟨_, _, eq_at2 y⟩
  refine (out_eq _ _ _ _).trans ?_
  refine Eq.trans ?_ ((Cert.MmQkvRefIdeal.Read.val_main_v3_apply _ _ _).trans
    (Cert.MmQkvRefIdeal.Read.val_main_v2_apply _ _ _)).symm
  refine Finset.sum_congr rfl fun k _ => congrArg₂ (· * ·) ?_ ?_
  · show m ((c : Thread nD τ).loc main_arg0) ((win0_0.rect t).emb _) = m ((c : Thread nD τ).loc main_arg0) _
    exact congrArg _ (ext2 (emb_at win0_0 win0_2 t t _ _ 0 0 rfl rfl e0 rfl rfl) (emb_fixed win0_0 t _ 1 e1))
  · show m ((c : Thread nD τ).loc main_arg1) ((win0_1.rect t).emb _) = m ((c : Thread nD τ).loc main_arg1) _
    exact congrArg _ (ext2 (emb_fixed win0_1 t _ 0 e2) (emb_at win0_1 win0_2 t t _ _ 1 1 rfl rfl e3 rfl rfl))

end Cert.MmQkvIdeal.Product
-- ==== Proof.Products.MmAg.lean ====
module

public import proofs.«01_k».proof.Proof.Gen.MmAgIdeal.Value
public import proofs.«01_k».proof.Proof.Gen.MmAgRefIdeal.Read
public import Idealize.ShloMosaic.Lib.Pipeline.ValueKit
public import proofs.«01_k».proof.Proof.Products.Sums

@[expose] public section

noncomputable section

namespace Cert.MmAgIdeal.Product

open Cert.MmAgIdeal Cert.MmAgIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (c : Dev nD) (t : Fin cfg0.N) (x0 : Vec Ideal S2048x1024 .bf16) (x1 : Vec Ideal S1024x512 .bf16) (p : Fin 2048) (q : Fin 512) :
    out0_A_2 (F := Ideal) c (grid0.coords t) (ms0_0 t) (hs0_0 t) (ms0_1 t) (hs0_1 t) (ms0_2 t) (hs0_2 t) x0 x1 (at2 p q)
      = ∑ k : Fin 1024, x0 (at2 p k) * x1 (at2 k q) := by
  unfold out0_A_2
  rw [View.read_writes_eq_canon _ _ _ (cover0_A_2 c _ _ _ _ _ _ _ _ _)]
  unfold kernelRun0_A
  dsimp only
  sl_unfold_words
  rw [View.canon_unit_zero (by decide)]
  simp only [View.readAt_eq_ld, (hs0_0 t).read_unread, (hs0_1 t).read_unread]
  rw [View.ld_unit_zero (S := S2048x1024) (by decide), View.ld_unit_zero (S := S1024x512) (by decide)]
  exact nn_apply (φ₁ := .bf16) (φ₂ := .bf16) none x0 x1 p q

/-- The left operand's buffer holds a block of its array at every point: the two blocks of `2048` rows that the points read
    end inside the array's `4352` rows. -/
theorem left_eq (c : Dev nD) (t : Fin cfg0.N) (y : S2048x1024.Idx) :
    X0_0 (F := Ideal) m c t y
      = iblk (F := Ideal) m c 0 t (fun a => ⟨(y a).val, ((cfg0.win 0).moved_iff _ y).mp (moved0_0 t y) a⟩) := by
  unfold X0_0 Pipeline.Window.fill
  rw [dif_pos (moved0_0 t y)]

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) + 3 :=
  (by decide +kernel : ∀ t : Fin grid0.N, _)

theorem final (c : Dev nD) : (dats m 0 c).arrAt 2 cfg0.N
    = Cert.MmAgRefIdeal.Read.val_main_v3 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx_facts t
  blk_simp
  rw [after0_2]
  obtain ⟨p, q, rfl⟩ : ∃ (p : Fin 2048) (q : Fin 512), y = at2 p q := ⟨_, _, eq_at2 y⟩
  refine (out_eq c t (X0_0 m c t) (iblk m c 1 t) p q).trans ?_
  refine Eq.trans ?_ ((Cert.MmAgRefIdeal.Read.val_main_v3_apply _ _ _).trans (Cert.MmAgRefIdeal.Read.val_main_v2_apply _ _ _)).symm
  refine Finset.sum_congr rfl fun k _ => congrArg₂ (· * ·) ?_ ?_
  · refine (left_eq m c t (at2 p k)).trans ?_
    show m ((c : Thread nD τ).loc main_arg0) ((win0_0.rect t).emb _) = m ((c : Thread nD τ).loc main_arg0) _
    exact congrArg _ (ext2 (emb_at win0_0 win0_2 t t _ (at2 p q) 0 0 rfl rfl e0 rfl rfl) (emb_fixed win0_0 t _ 1 e1))
  · show m ((c : Thread nD τ).loc main_arg1) ((win0_1.rect t).emb _) = m ((c : Thread nD τ).loc main_arg1) _
    refine congrArg _ (ext2 (emb_fixed win0_1 t _ 0 e2) ?_)
    refine (win0_1.rect_emb_val t _ 1).trans ((congrArg (· * 512 + q.val) e3).trans ?_)
    refine Eq.trans ?_ (congrArg (1536 + ·) (win0_2.rect_emb_val t (at2 p q) 1)).symm
    show (win0_2.index t (1 : Fin 2) + 3) * 512 + q.val = 1536 + (win0_2.index t (1 : Fin 2) * 512 + q.val)
    omega

end Cert.MmAgIdeal.Product
-- ==== Proof.Products.MmOut.lean ====
module

public import proofs.«01_k».proof.Proof.Gen.MmOutIdeal.Value
public import proofs.«01_k».proof.Proof.Gen.MmOutRefIdeal.Read
public import Idealize.ShloMosaic.Lib.Pipeline.ValueKit
public import proofs.«01_k».proof.Proof.Products.Sums

@[expose] public section

noncomputable section

namespace Cert.MmOutIdeal.Product

open Cert.MmOutIdeal Cert.MmOutIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S2048x1024 .bf16) (x1 : Vec Ideal S1024x512 .bf16) (p : Fin 2048) (q : Fin 512) :
    out0_2 (F := Ideal) x0 x1 (at2 p q) = ∑ k : Fin 1024, x0 (at2 p k) * x1 (at2 k q) := by
  unfold out0_2
  rw [View.canon_unit_zero (by decide), View.ld_unit_zero (S := S2048x1024) (by decide), View.ld_unit_zero (S := S1024x512) (by decide)]
  exact nn_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = Cert.MmOutRefIdeal.Read.val_main_v2 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx_facts t
  blk_simp
  rw [after0_2]
  obtain ⟨p, q, rfl⟩ : ∃ (p : Fin 2048) (q : Fin 512), y = at2 p q := ⟨_, _, eq_at2 y⟩
  refine (out_eq _ _ _ _).trans ?_
  refine Eq.trans ?_ (Cert.MmOutRefIdeal.Read.val_main_v2_apply _ _ _).symm
  refine Finset.sum_congr rfl fun k _ => congrArg₂ (· * ·) ?_ ?_
  · show m ((c : Thread nD τ).loc main_arg0) ((win0_0.rect t).emb _) = m ((c : Thread nD τ).loc main_arg0) _
    exact congrArg _ (ext2 (emb_at win0_0 win0_2 t t _ _ 0 0 rfl rfl e0 rfl rfl) (emb_fixed win0_0 t _ 1 e1))
  · show m ((c : Thread nD τ).loc main_arg1) ((win0_1.rect t).emb _) = m ((c : Thread nD τ).loc main_arg1) _
    exact congrArg _ (ext2 (emb_fixed win0_1 t _ 0 e2) (emb_at win0_1 win0_2 t t _ _ 1 1 rfl rfl e3 rfl rfl))

end Cert.MmOutIdeal.Product
-- ==== Proof.Products.MmUp.lean ====
module

public import proofs.«01_k».proof.Proof.Gen.MmUpIdeal.Value
public import proofs.«01_k».proof.Proof.Gen.MmUpRefIdeal.Read
public import Idealize.ShloMosaic.Lib.Pipeline.ValueKit
public import proofs.«01_k».proof.Proof.Products.Sums

@[expose] public section

noncomputable section

namespace Cert.MmUpIdeal.Product

open Cert.MmUpIdeal Cert.MmUpIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S2048x1024 .bf16) (x1 : Vec Ideal S1024x512 .bf16) (p : Fin 2048) (q : Fin 512) :
    out0_2 (F := Ideal) x0 x1 (at2 p q) = ∑ k : Fin 1024, x0 (at2 p k) * x1 (at2 k q) := by
  unfold out0_2
  rw [View.canon_unit_zero (by decide), View.ld_unit_zero (S := S2048x1024) (by decide), View.ld_unit_zero (S := S1024x512) (by decide)]
  exact nn_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = Cert.MmUpRefIdeal.Read.val_main_v3 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx_facts t
  blk_simp
  rw [after0_2]
  obtain ⟨p, q, rfl⟩ : ∃ (p : Fin 2048) (q : Fin 512), y = at2 p q := ⟨_, _, eq_at2 y⟩
  refine (out_eq _ _ _ _).trans ?_
  refine Eq.trans ?_ (Cert.MmUpRefIdeal.Read.val_main_v2_apply _ _ _).symm
  refine Finset.sum_congr rfl fun k _ => congrArg₂ (· * ·) ?_ ?_
  · show m ((c : Thread nD τ).loc main_arg0) ((win0_0.rect t).emb _) = m ((c : Thread nD τ).loc main_arg0) _
    exact congrArg _ (ext2 (emb_at win0_0 win0_2 t t _ _ 0 0 rfl rfl e0 rfl rfl) (emb_fixed win0_0 t _ 1 e1))
  · show m ((c : Thread nD τ).loc main_arg1) ((win0_1.rect t).emb _) = m ((c : Thread nD τ).loc main_arg1) _
    exact congrArg _ (ext2 (emb_fixed win0_1 t _ 0 e2) (emb_at win0_1 win0_2 t t _ _ 1 1 rfl rfl e3 rfl rfl))

end Cert.MmUpIdeal.Product
-- ==== Proof.Products.MmDown.lean ====
module

public import proofs.«01_k».proof.Proof.Gen.MmDownIdeal.Value
public import proofs.«01_k».proof.Proof.Gen.MmDownRefIdeal.Read
public import Idealize.ShloMosaic.Lib.Pipeline.ValueKit
public import proofs.«01_k».proof.Proof.Products.Sums

@[expose] public section

noncomputable section

namespace Cert.MmDownIdeal.Product

open Cert.MmDownIdeal Cert.MmDownIdeal.Gen Cert.Products Idealize.ShloMosaic Idealize.ShloMosaic.TcCoe Idealize.SL.Sem
open Idealize.ShloMosaic.Pipeline (Dat)

variable (m : (ℓ : Loc nD τ sig) → Buf (Elt Ideal) ℓ)

theorem out_eq (x0 : Vec Ideal S1024x2816 .bf16) (x1 : Vec Ideal S2816x1024 .bf16) (p : Fin 1024) (q : Fin 1024) :
    out0_2 (F := Ideal) x0 x1 (at2 p q) = ∑ k : Fin 2816, x0 (at2 p k) * x1 (at2 k q) := by
  unfold out0_2
  rw [View.canon_unit_zero (by decide), View.ld_unit_zero (S := S1024x2816) (by decide), View.ld_unit_zero (S := S2816x1024) (by decide)]
  exact nn_apply (φ₁ := .bf16) (φ₂ := .bf16) none x0 x1 p q

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem final (c : Dev nD) : (dats m 0 c).arrAt 2 cfg0.N
    = Cert.MmDownRefIdeal.Read.val_main_v2 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx_facts t
  blk_simp
  rw [after0_2]
  obtain ⟨p, q, rfl⟩ : ∃ (p : Fin 1024) (q : Fin 1024), y = at2 p q := ⟨_, _, eq_at2 y⟩
  refine (out_eq _ _ _ _).trans ?_
  refine Eq.trans ?_ (Cert.MmDownRefIdeal.Read.val_main_v2_apply _ _ _).symm
  refine Finset.sum_congr rfl fun k _ => congrArg₂ (· * ·) ?_ ?_
  · show m ((c : Thread nD τ).loc main_arg0) ((win0_0.rect t).emb _) = m ((c : Thread nD τ).loc main_arg0) _
    exact congrArg _ (ext2 (emb_at win0_0 win0_2 t t _ _ 0 0 rfl rfl e0 rfl rfl) (emb_fixed win0_0 t _ 1 e1))
  · show m ((c : Thread nD τ).loc main_arg1) ((win0_1.rect t).emb _) = m ((c : Thread nD τ).loc main_arg1) _
    exact congrArg _ (ext2 (emb_fixed win0_1 t _ 0 e2) (emb_at win0_1 win0_2 t t _ _ 1 1 rfl rfl e3 rfl rfl))

end Cert.MmDownIdeal.Product
-- ==== Proof.Norms.Rows.lean ====
/- The norm at the ideal instance, read at an element: sums along a row and down the rows of a block, and the identity
   that makes the kernel's gradient of `x / rms(x)` the reference's. -/
module

public import proofs.«01_k».proof.Proof.Products.Sums

@[expose] public section

noncomputable section

namespace Cert.Norms

open Idealize.ShloMosaic Cert.Products
open scoped BigOperators

/-! ### Constants -/

/-- The length of a row, `1024`. -/
abbrev len : EReal := Ideal.ofBits .f32 0x44800000#32
/-- The norm's epsilon. -/
abbrev eps : EReal := Ideal.ofBits .f32 0x358637BD#32
/-- `-1/2`, the exponent of the reciprocal root. -/
abbrev half : EReal := Ideal.ofBits .f32 0xBF000000#32
/-- `1`, added to the scale. -/
abbrev one : EReal := Ideal.ofBits .f32 0x3F800000#32

theorem len_eq : len = ((1024 : ℝ) : EReal) := by simp [len, Ideal.ofBits, Ideal.ieee, -EReal.coe_mul]; norm_num
theorem half_eq : half = ((-(1 / 2) : ℝ) : EReal) := by simp [half, Ideal.ofBits, Ideal.ieee, -EReal.coe_mul]; norm_num
theorem eps_pos : ∃ e : ℝ, 0 < e ∧ eps = (e : EReal) := by
  refine ⟨_, ?_, by simp [eps, Ideal.ofBits, Ideal.ieee, -EReal.coe_mul]; rfl⟩
  positivity

/-! ### The gradient -/

/-- A division by the length is a product with its reciprocal. -/
theorem div_len (y : EReal) : Ideal.div y len = y * ((1 / 1024 : ℝ) : EReal) := by
  rw [len_eq]
  exact Ideal.div_coe (by norm_num) y

/-- A square is not negative. -/
theorem sq_nonneg (y : EReal) : 0 ≤ y * y := by
  rcases le_total 0 y with h | h
  · exact mul_nonneg h h
  · rw [← neg_mul_neg]
    exact mul_nonneg (EReal.neg_nonneg.mpr h) (EReal.neg_nonneg.mpr h)

/-- The reciprocal root over its argument is the cube of the reciprocal root. -/
theorem rsqrt_div {v : EReal} (h : 0 < v) : Ideal.div (Ideal.rsqrt v) v = Ideal.rsqrt v * (Ideal.rsqrt v * Ideal.rsqrt v) := by
  induction v with
  | bot => exact absurd h (by simp)
  | top => simp [Ideal.div]
  | coe r =>
    have hr : 0 < r := by exact_mod_cast h
    rw [Ideal.div_coe hr.ne', Ideal.rsqrt_coe, if_neg (not_lt.mpr hr.le), if_neg hr.ne', ← EReal.coe_mul, ← EReal.coe_mul, ← EReal.coe_mul]
    refine congrArg _ (congrArg₂ (· * ·) rfl ?_)
    rw [← mul_inv, Real.mul_self_sqrt hr.le, one_div]

/-- Twice minus a half of a value is its negation. -/
theorem half_add_half (y : EReal) : half * y + half * y = -y := by
  rw [half_eq]
  induction y with
  | bot =>
    rw [EReal.coe_mul_bot_of_neg (by norm_num)]; rfl
  | top =>
    rw [EReal.coe_mul_top_of_neg (by norm_num)]; rfl
  | coe r =>
    rw [← EReal.coe_mul, ← EReal.coe_add, ← EReal.coe_neg]
    exact congrArg _ (by ring)

/-- The reciprocal of a row's root mean square. -/
def inv (x : Fin 1024 → EReal) : EReal := Ideal.rsqrt (Ideal.div (∑ k, x k * x k) len + eps)

theorem inv_div (x : Fin 1024 → EReal) :
    Ideal.div (inv x) (Ideal.div (∑ k, x k * x k) len + eps) = inv x * (inv x * inv x) := by
  refine rsqrt_div ?_
  obtain ⟨e, he, hE⟩ := eps_pos
  rw [hE, div_len]
  have h1 : (0 : EReal) ≤ (∑ k, x k * x k) * ((1 / 1024 : ℝ) : EReal) :=
    mul_nonneg (Finset.sum_nonneg fun k _ => sq_nonneg _) (by exact_mod_cast (by norm_num : (0 : ℝ) ≤ 1 / 1024))
  calc (0 : EReal) < (e : EReal) := by exact_mod_cast he
    _ = 0 + (e : EReal) := (zero_add _).symm
    _ ≤ _ := add_le_add h1 le_rfl

/-- The kernel's gradient at an element of a row — `a + r g - (x r) r² (M / 1024)` — is the reference's, which adds the
    square's two equal parts. -/
theorem grad_eq (x : Fin 1024 → EReal) (a g y M : EReal) :
    a + inv x * g - (y * inv x) * (inv x * inv x) * Ideal.div M len
      = a + ((g * inv x + y * Ideal.div (M * (half * Ideal.div (inv x) (Ideal.div (∑ k, x k * x k) len + eps))) len)
          + Ideal.div (M * (half * Ideal.div (inv x) (Ideal.div (∑ k, x k * x k) len + eps))) len * y) := by
  rw [inv_div, div_len, div_len, sub_eq_add_neg, ← half_add_half, mul_comm (inv x) g]
  generalize inv x = r
  generalize ((1 / 1024 : ℝ) : EReal) = s
  have e : y * (M * (half * (r * (r * r))) * s) = half * (y * r * (r * r) * (M * s)) := by ac_rfl
  rw [mul_comm (M * (half * (r * (r * r))) * s) y, e, add_assoc, add_assoc]

/-- One row's term of the gradient of the scale: the output's gradient times the normed row with its gain. -/
def scaleTerm (x dh g : Fin 1024 → EReal) (q : Fin 1024) : EReal := dh q * ((x q * inv x) * g q)

/-- One row's term of the gradient of the gain. -/
def gainTerm (x dh sc : Fin 1024 → EReal) (q : Fin 1024) : EReal := (dh q * (one + sc q)) * (x q * inv x)

/-- The kernel's gradient of a row at a column, added to what else reaches the row. -/
def gradRow (x dh g sc : Fin 1024 → EReal) (a : EReal) (q : Fin 1024) : EReal :=
  a + inv x * (g q * (dh q * (one + sc q)))
    - (x q * inv x) * (inv x * inv x) * Ideal.div (∑ k, x k * (g k * (dh k * (one + sc k)))) len

/-- … is the reference's, in its order: the product rule through `x` times the reciprocal root, whose own gradient is
    spread over the row. -/
theorem gradRow_eq (x dh g sc : Fin 1024 → EReal) (a : EReal) (q : Fin 1024) :
    gradRow x dh g sc a q
      = a + ((((dh q * (one + sc q)) * g q) * inv x
            + x q * Ideal.div ((∑ k, x k * ((dh k * (one + sc k)) * g k)) * (half * Ideal.div (inv x) (Ideal.div (∑ k, x k * x k) len + eps))) len)
          + Ideal.div ((∑ k, x k * ((dh k * (one + sc k)) * g k)) * (half * Ideal.div (inv x) (Ideal.div (∑ k, x k * x k) len + eps))) len * x q) := by
  unfold gradRow
  simp only [mul_comm (g _)]
  exact grad_eq x a _ (x q) _

/-! ### Sums along and down a block -/

variable {T N s : ℕ}

/-- A sum along the rows, kept as a column. -/
theorem rowsum_at (x : FVec Ideal ⟨2, ![T, N]⟩ .f32) (acc : BitVec 32) (h : (⟨2, ![T, N]⟩ : Shape).Reduces [1] ⟨1, ![T]⟩) (hφ hacc)
    (hc : (⟨1, ![T]⟩ : Shape).ShapeCasts ⟨2, ![T, 1]⟩) (p : Fin T) (u : Fin 1) :
    shapeCast ⟨2, ![T, 1]⟩ (multiReduction .add [1] ⟨1, ![T]⟩ x acc h hφ hacc) hc (at2 p u) = ∑ k : Fin N, x (at2 p k) := by
  refine (shapeCast_apply _ hc (at2 p u) (ValueIdx.ix1 p) ?_).trans ?_
  · rw [Shape.rowMajor_val_one, Shape.rowMajor_val_two]
    show p.val = p.val * 1 + u.val
    omega
  · refine (Ideal.multiReduction_add_single x acc h hφ hacc _).trans (Finset.sum_congr rfl fun k _ => congrArg x (ext2 rfl rfl))

/-- A sum down the rows, kept as a row. -/
theorem colsum_at (x : FVec Ideal ⟨2, ![T, N]⟩ .f32) (acc : BitVec 32) (h : (⟨2, ![T, N]⟩ : Shape).Reduces [0] ⟨1, ![N]⟩) (hφ hacc)
    (hc : (⟨1, ![N]⟩ : Shape).ShapeCasts ⟨2, ![1, N]⟩) (u : Fin 1) (q : Fin N) :
    shapeCast ⟨2, ![1, N]⟩ (multiReduction .add [0] ⟨1, ![N]⟩ x acc h hφ hacc) hc (at2 u q) = ∑ k : Fin T, x (at2 k q) := by
  refine (shapeCast_apply _ hc (at2 u q) (ValueIdx.ix1 q) ?_).trans ?_
  · rw [Shape.rowMajor_val_one, Shape.rowMajor_val_two]
    show q.val = u.val * N + q.val
    have := u.isLt
    rw [show u.val = 0 by omega]; omega
  · refine (Ideal.multiReduction_add_single x acc h hφ hacc _).trans (Finset.sum_congr rfl fun k _ => congrArg x (ext2 rfl rfl))

/-- A sum down the rows of a block eight at a time: what remains of row `a` is the sum of every eighth row from it. -/
theorem col8_at (x : FVec Ideal ⟨2, ![T, N]⟩ .f32) (acc : BitVec 32) (h : (⟨3, ![s, 8, N]⟩ : Shape).Reduces [0] ⟨2, ![8, N]⟩) (hφ hacc)
    (hc : (⟨2, ![T, N]⟩ : Shape).ShapeCasts ⟨3, ![s, 8, N]⟩) (hT : T = s * 8) (a : Fin 8) (q : Fin N) :
    multiReduction .add [0] ⟨2, ![8, N]⟩ (shapeCast ⟨3, ![s, 8, N]⟩ x hc) acc h hφ hacc (at2 a q)
      = ∑ i : Fin s, x (at2 ⟨i.val * 8 + a.val, by have := i.isLt; have := a.isLt; omega⟩ q) := by
  refine (Ideal.multiReduction_add_single (shapeCast ⟨3, ![s, 8, N]⟩ x hc) acc h hφ hacc _).trans (Finset.sum_congr rfl fun i _ => ?_)
  refine shapeCast_apply x hc _ (at2 ⟨i.val * 8 + a.val, by have := i.isLt; have := a.isLt; simp at *; omega⟩ q) ?_
  rw [Shape.rowMajor_val_three, Shape.rowMajor_val_two]
  show (i.val * 8 + a.val) * N + q.val = _
  rfl

/-- A column stretched along the rows. -/
theorem bcol_at {A : Type} (v : (⟨2, ![T, 1]⟩ : Shape).Idx → A) (h : (⟨2, ![T, 1]⟩ : Shape).Broadcasts ⟨2, ![T, N]⟩) (p : Fin T) (q : Fin N) :
    broadcastTo ⟨2, ![T, N]⟩ v h (at2 p q) = v (at2 p 0) := by
  refine broadcastTo_apply v h _ _ fun a => ?_
  match a with
  | ⟨0, _⟩ =>
    show p.val = if T = 1 then 0 else p.val
    have := p.isLt
    split <;> omega
  | ⟨1, _⟩ => rfl

/-- A row stretched down the rows. -/
theorem brow_at {A : Type} (v : (⟨2, ![1, N]⟩ : Shape).Idx → A) (h : (⟨2, ![1, N]⟩ : Shape).Broadcasts ⟨2, ![T, N]⟩) (p : Fin T) (q : Fin N) :
    broadcastTo ⟨2, ![T, N]⟩ v h (at2 p q) = v (at2 0 q) := by
  refine broadcastTo_apply v h _ _ fun a => ?_
  match a with
  | ⟨0, _⟩ => rfl
  | ⟨1, _⟩ =>
    show q.val = if N = 1 then 0 else q.val
    have := q.isLt
    split <;> omega

/-- All rows, summed block by block, every eighth row of a block together. -/
theorem sum_rows {L : ℕ} (n w : ℕ) (hL : L = n * (w * 8)) (F : Fin L → EReal)
    (G : Fin 8 → Fin n → Fin w → EReal)
    (hG : ∀ (a : Fin 8) (t : Fin n) (i : Fin w) (r : Fin L), r.val = t.val * (w * 8) + (i.val * 8 + a.val) → G a t i = F r) :
    ∑ a : Fin 8, ∑ t : Fin n, ∑ i : Fin w, G a t i = ∑ r, F r := by
  rw [sum_runs n (w * 8) hL F, Finset.sum_comm]
  refine Finset.sum_congr rfl fun t _ => ?_
  rw [sum_runs w 8 rfl, Finset.sum_comm]
  refine Finset.sum_congr rfl fun i _ => Finset.sum_congr rfl fun a _ => hG a t i _ ?_
  first | rfl | (simp only [])

/-- Sums carried from point to point, eight rows wide, and summed at the last one: the sum down all rows. -/
theorem total {L : ℕ} (n w : ℕ) (hL : L = n * (w * 8)) (acc : (t : ℕ) → t < n → Fin 8 → EReal) (blk : Fin n → Fin (w * 8) → EReal) (F : Fin L → EReal)
    (h0 : ∀ h a, acc 0 h a = ∑ i : Fin w, blk ⟨0, h⟩ ⟨i.val * 8 + a.val, by have := i.isLt; have := a.isLt; omega⟩)
    (hs : ∀ t (h : t + 1 < n) a, acc (t + 1) h a
      = acc t (Nat.lt_of_succ_lt h) a + ∑ i : Fin w, blk ⟨t + 1, h⟩ ⟨i.val * 8 + a.val, by have := i.isLt; have := a.isLt; omega⟩)
    (hb : ∀ t (k : Fin (w * 8)) (r : Fin L), r.val = t.val * (w * 8) + k.val → blk t k = F r)
    (t : ℕ) (ht : t < n) (hn : t + 1 = n) : ∑ a, acc t ht a = ∑ r, F r := by
  subst hn
  refine Eq.trans (Finset.sum_congr rfl fun a _ => acc_sum (fun t h => acc t h a)
    (fun t => ∑ i : Fin w, blk t ⟨i.val * 8 + a.val, by have := i.isLt; have := a.isLt; omega⟩) (fun h => h0 h a) (fun t h => hs t h a) t ht) ?_
  refine sum_rows (t + 1) w hL F (fun a s i => blk s ⟨i.val * 8 + a.val, by have := i.isLt; have := a.isLt; omega⟩) fun a s i r hr => hb s _ r hr

end Cert.Norms
-- ==== Proof.Norms.NormCtxBwd.lean ====
/- The gradients of the first norm's gain, scale and shift over the context rows: one point takes them all. -/
module

public import proofs.«01_k».proof.Proof.Gen.NormCtxBwdIdeal.Value
public import proofs.«01_k».proof.Proof.Gen.NormCtxBwdRefIdeal.Read
public import Idealize.ShloMosaic.Lib.Pipeline.ValueKit
public import proofs.«01_k».proof.Proof.Norms.Rows

@[expose] public section

noncomputable section

namespace Cert.NormCtxBwdIdeal.Norm

open Cert.NormCtxBwdIdeal Cert.NormCtxBwdIdeal.Gen Cert.Products Cert.Norms Idealize.ShloMosaic Idealize.ShloMosaic.TcCoe Idealize.SL.Sem
open Idealize.ShloMosaic.Pipeline (Dat)

variable (m : (ℓ : Loc nD τ sig) → Buf (Elt Ideal) ℓ)

/-- The one point zeroes the three scratches, adds its rows to them and sums each down its eight rows. -/
theorem point_out (c : Dev nD) (t : Fin cfg0.N) :
    outsAt0 (F := Ideal) m c t
      = (k0_pay2 (F := Ideal) (k0_pay9 (F := Ideal) (iblk m c 1 t) (k0_pay5 (F := Ideal))),
          k0_pay3 (F := Ideal) (k0_pay10 (F := Ideal) (iblk m c 0 t) (iblk m c 1 t) (iblk m c 2 t) (k0_pay6 (F := Ideal))),
          k0_pay4 (F := Ideal) (k0_pay1 (F := Ideal) (iblk m c 1 t) (k0_pay8 (F := Ideal) (iblk m c 0 t)) (iblk m c 3 t) (k0_pay7 (F := Ideal)))) := by
  unfold outsAt0
  refine Prod.ext ?_ (Prod.ext ?_ ?_) <;> frame_out

/-! ### The payloads at an element -/

theorem pay8_at (x : Vec Ideal S256x1024 .f32) (p : Fin 256) (q : Fin 1024) :
    k0_pay8 (F := Ideal) x (at2 p q) = x (at2 p q) * inv fun k => x (at2 p k) := by
  unfold k0_pay8
  exact congrArg (x (at2 p q) * ·) ((bcol_at (T := 256) (N := 1024) _ _ p q).trans
    (congrArg (fun s => Ideal.rsqrt (Ideal.div s len + eps)) (rowsum_at (T := 256) (N := 1024) (mulf x x) _ _ _ _ _ p 0)))

theorem pay9_at (dh : Vec Ideal S256x1024 .f32) (s : Vec Ideal S8x1024 .f32) (a : Fin 8) (q : Fin 1024) :
    k0_pay9 (F := Ideal) dh s (at2 a q) = s (at2 a q) + ∑ i : Fin 32, dh (at2 ⟨i.val * 8 + a.val, by omega⟩ q) := by
  unfold k0_pay9
  rw [shapeCast_self]
  exact congrArg (s (at2 a q) + ·) (col8_at (T := 256) (N := 1024) (s := 32) dh _ _ _ _ _ rfl a q)

theorem pay10_at (x dh : Vec Ideal S256x1024 .f32) (g : Vec Ideal S1x1024 .f32) (s : Vec Ideal S8x1024 .f32) (a : Fin 8) (q : Fin 1024) :
    k0_pay10 (F := Ideal) x dh g s (at2 a q)
      = s (at2 a q) + ∑ i : Fin 32, scaleTerm (fun k => x (at2 ⟨i.val * 8 + a.val, by omega⟩ k)) (fun k => dh (at2 ⟨i.val * 8 + a.val, by omega⟩ k))
          (fun k => g (at2 0 k)) q := by
  unfold k0_pay10
  rw [shapeCast_self]
  refine congrArg (s (at2 a q) + ·) ((col8_at (T := 256) (N := 1024) (s := 32) _ _ _ _ _ _ rfl a q).trans (Finset.sum_congr rfl fun i _ => ?_))
  exact congrArg (dh _ * ·) (congrArg₂ (· * ·) (pay8_at x _ q) (brow_at (T := 256) (N := 1024) g _ _ q))

theorem pay1_at (x dh : Vec Ideal S256x1024 .f32) (sc : Vec Ideal S1x1024 .f32) (s : Vec Ideal S8x1024 .f32) (a : Fin 8) (q : Fin 1024) :
    k0_pay1 (F := Ideal) dh (k0_pay8 (F := Ideal) x) sc s (at2 a q)
      = s (at2 a q) + ∑ i : Fin 32, gainTerm (fun k => x (at2 ⟨i.val * 8 + a.val, by omega⟩ k)) (fun k => dh (at2 ⟨i.val * 8 + a.val, by omega⟩ k))
          (fun k => sc (at2 0 k)) q := by
  unfold k0_pay1
  rw [shapeCast_self]
  refine congrArg (s (at2 a q) + ·) ((col8_at (T := 256) (N := 1024) (s := 32) _ _ _ _ _ _ rfl a q).trans (Finset.sum_congr rfl fun i _ => ?_))
  exact congrArg₂ (· * ·) (congrArg (dh _ * ·) (brow_at (T := 256) (N := 1024) _ _ _ q)) (pay8_at x _ q)

theorem pay2_at (s : Vec Ideal S8x1024 .f32) (u : Fin 1) (q : Fin 1024) : k0_pay2 s (at2 u q) = ∑ a : Fin 8, s (at2 a q) := by
  unfold k0_pay2
  exact colsum_at (T := 8) (N := 1024) _ _ _ _ _ _ u q

theorem pay3_at (s : Vec Ideal S8x1024 .f32) (u : Fin 1) (q : Fin 1024) : k0_pay3 s (at2 u q) = ∑ a : Fin 8, s (at2 a q) := by
  unfold k0_pay3
  exact colsum_at (T := 8) (N := 1024) _ _ _ _ _ _ u q

theorem pay4_at (s : Vec Ideal S8x1024 .f32) (u : Fin 1) (q : Fin 1024) : k0_pay4 s (at2 u q) = ∑ a : Fin 8, s (at2 a q) := by
  unfold k0_pay4
  exact colsum_at (T := 8) (N := 1024) _ _ _ _ _ _ u q

theorem zero5 (a : Fin 8) (q : Fin 1024) : k0_pay5 (F := Ideal) (at2 a q) = 0 := by
  unfold k0_pay5; rw [shapeCast_self]; exact Ideal.ofBits_zero_f32
theorem zero6 (a : Fin 8) (q : Fin 1024) : k0_pay6 (F := Ideal) (at2 a q) = 0 := by
  unfold k0_pay6; rw [shapeCast_self]; exact Ideal.ofBits_zero_f32
theorem zero7 (a : Fin 8) (q : Fin 1024) : k0_pay7 (F := Ideal) (at2 a q) = 0 := by
  unfold k0_pay7; rw [shapeCast_self]; exact Ideal.ofBits_zero_f32

/-- The eight rows of a scratch that starts at nothing hold all 256 rows' terms. -/
theorem rows_total (F : Fin 256 → EReal) : ∑ a : Fin 8, (0 + ∑ i : Fin 32, F ⟨i.val * 8 + a.val, by omega⟩) = ∑ r, F r :=
  total 1 32 rfl (fun _ _ a => 0 + ∑ i : Fin 32, F ⟨i.val * 8 + a.val, by omega⟩) (fun _ => F) F (fun _ _ => zero_add _)
    (fun t h _ => absurd h (by omega)) (fun t k r h => congrArg F (Fin.ext (by omega))) 0 (by omega) rfl

/-! ### The blocks -/

theorem idx_facts : ∀ t : Fin cfg0.N, (win0_0.index t (0 : Fin 2) = 0 ∧ win0_0.index t (1 : Fin 2) = 0)
    ∧ (win0_1.index t (0 : Fin 2) = 16 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

theorem x_at (c : Dev nD) (t : Fin cfg0.N) (p : Fin 256) (k : Fin 1024) : iblk m c 0 t (at2 p k) = m ((c : Thread nD τ).loc main_arg0) (at2 p k) := by
  show m ((c : Thread nD τ).loc main_arg0) ((win0_0.rect t).emb (at2 p k)) = _
  exact congrArg _ (ext2 (emb_fixed win0_0 t _ 0 (idx_facts t).1.1) (emb_fixed win0_0 t _ 1 (idx_facts t).1.2))

theorem dh_at (c : Dev nD) (t : Fin cfg0.N) (p : Fin 256) (k : Fin 1024) :
    iblk m c 1 t (at2 p k) = m ((c : Thread nD τ).loc main_arg4) (at2 ⟨4096 + p.val, by omega⟩ k) := by
  show m ((c : Thread nD τ).loc main_arg4) ((win0_1.rect t).emb (at2 p k)) = _
  refine congrArg _ (ext2 ((win0_1.rect_emb_val t _ 0).trans ?_) (emb_fixed win0_1 t _ 1 (idx_facts t).2.1.2))
  exact congrArg (· * 256 + p.val) (idx_facts t).2.1.1

theorem g_at (c : Dev nD) (t : Fin cfg0.N) (k : Fin 1024) : iblk m c 2 t (at2 0 k) = m ((c : Thread nD τ).loc main_arg1) (at2 0 k) := by
  show m ((c : Thread nD τ).loc main_arg1) ((win0_2.rect t).emb (at2 0 k)) = _
  exact congrArg _ (ext2 (emb_fixed win0_2 t _ 0 (idx_facts t).2.2.1.1) (emb_fixed win0_2 t _ 1 (idx_facts t).2.2.1.2))

theorem sc_at (c : Dev nD) (t : Fin cfg0.N) (k : Fin 1024) : iblk m c 3 t (at2 0 k) = m ((c : Thread nD τ).loc main_arg2) (at2 0 k) := by
  show m ((c : Thread nD τ).loc main_arg2) ((win0_3.rect t).emb (at2 0 k)) = _
  exact congrArg _ (ext2 (emb_fixed win0_3 t _ 0 (idx_facts t).2.2.2.1.1) (emb_fixed win0_3 t _ 1 (idx_facts t).2.2.2.1.2))

/-! ### The reference at an element -/

section Reference
open Cert.NormCtxBwdRefIdeal.Read

variable (x0 : Vec Ideal S256x1024 .f32) (x1 x2 : Vec Ideal S1x1024 .f32) (x4 : Vec Ideal S4352x1024 .f32)

theorem ref6 (i : Cert.NormCtxBwdRefIdeal.S256x1.Idx) (r : Fin 256) (hi : (i 0).val = r.val) :
    val_main_v6 (F := Ideal) x0 i = Ideal.div (∑ k, x0 (at2 r k) * x0 (at2 r k)) len + eps := by
  refine congrArg₂ (· + ·) (congrArg₂ Ideal.div ((val_main_v2_apply x0 i).trans ((val_main_v1_apply x0 _).trans ?_)) (val_main_v3_apply i)) (val_main_v5_apply i)
  refine (congrArg₂ (· + ·) Ideal.ofBits_zero_f32 (Finset.sum_congr rfl fun k _ => ?_)).trans (zero_add _)
  refine (val_main_v0_apply x0 _).trans ?_
  rw [show idx_main_v1 (idx_main_v2 i) k = at2 r k from ext2 hi rfl]
  rfl

theorem ref7 (i : Cert.NormCtxBwdRefIdeal.S256x1.Idx) (r : Fin 256) (hi : (i 0).val = r.val) : val_main_v7 (F := Ideal) x0 i = Norms.inv fun k => x0 (at2 r k) :=
  congrArg Ideal.rsqrt (ref6 x0 i r hi)

theorem ref9 (r : Fin 256) (q : Fin 1024) : val_main_v9 (F := Ideal) x0 (at2 r q) = x0 (at2 r q) * Norms.inv fun k => x0 (at2 r k) :=
  congrArg (x0 (at2 r q) * ·) ((val_main_v8_apply x0 _).trans (ref7 x0 _ r rfl))

theorem ref18 (r : Fin 256) (q : Fin 1024) : val_main_v18 (F := Ideal) x4 (at2 r q) = x4 (at2 ⟨4096 + r.val, by omega⟩ q) :=
  (val_main_v18_apply x4 _).trans (congrArg x4 (ext2 rfl rfl))

theorem ref25 (r : Fin 256) (q : Fin 1024) :
    val_main_v25 (F := Ideal) x2 x4 (at2 r q) = x4 (at2 ⟨4096 + r.val, by omega⟩ q) * (one + x2 (at2 0 q)) := by
  refine congrArg₂ (· * ·) (ref18 x4 r q) ((val_main_v24_apply x2 _).trans ?_)
  exact congrArg₂ (· + ·) (val_main_v12_apply _) (congrArg x2 (ext2 rfl rfl))

theorem ref20 (q : Fin 1024) : val_main_v20 (F := Ideal) x4 (at2 0 q) = ∑ r : Fin 256, x4 (at2 ⟨4096 + r.val, by omega⟩ q) := by
  refine (val_main_v20_apply x4 _).trans ((val_main_v19_apply x4 _).trans ?_)
  refine (congrArg₂ (· + ·) Ideal.ofBits_zero_f32 (Finset.sum_congr rfl fun r _ => ?_)).trans (zero_add _)
  rw [show idx_main_v19 (idx_main_v20 (at2 0 q)) r = at2 r q from ext2 rfl (by show 0 * 1024 + q.val = q.val; omega)]
  exact ref18 x4 r q

theorem ref23 (q : Fin 1024) : val_main_v23 (F := Ideal) x0 x1 x4 (at2 0 q)
    = ∑ r : Fin 256, scaleTerm (fun k => x0 (at2 r k)) (fun k => x4 (at2 ⟨4096 + r.val, by omega⟩ k)) (fun k => x1 (at2 0 k)) q := by
  refine (val_main_v23_apply x0 x1 x4 _).trans ((val_main_v22_apply x0 x1 x4 _).trans ?_)
  refine (congrArg₂ (· + ·) Ideal.ofBits_zero_f32 (Finset.sum_congr rfl fun r _ => ?_)).trans (zero_add _)
  rw [show idx_main_v22 (idx_main_v23 (at2 0 q)) r = at2 r q from ext2 rfl (by show 0 * 1024 + q.val = q.val; omega)]
  refine Eq.trans ?_ (mul_comm _ _)
  exact congrArg₂ (· * ·) (congrArg₂ (· * ·) (ref9 x0 r q) ((val_main_v10_apply x1 _).trans (congrArg x1 (ext2 rfl rfl)))) (ref18 x4 r q)

theorem ref28 (q : Fin 1024) : val_main_v28 (F := Ideal) x0 x2 x4 (at2 0 q)
    = ∑ r : Fin 256, gainTerm (fun k => x0 (at2 r k)) (fun k => x4 (at2 ⟨4096 + r.val, by omega⟩ k)) (fun k => x2 (at2 0 k)) q := by
  refine (val_main_v28_apply x0 x2 x4 _).trans ((val_main_v27_apply x0 x2 x4 _).trans ?_)
  refine (congrArg₂ (· + ·) Ideal.ofBits_zero_f32 (Finset.sum_congr rfl fun r _ => ?_)).trans (zero_add _)
  rw [show idx_main_v27 (idx_main_v28 (at2 0 q)) r = at2 r q from ext2 rfl (by show 0 * 1024 + q.val = q.val; omega)]
  refine Eq.trans ?_ (mul_comm _ _)
  exact congrArg₂ (· * ·) (ref9 x0 r q) (ref25 x2 x4 r q)

end Reference

/-! ### The results -/

theorem final4 (c : Dev nD) : (dats m 0 c).arrAt 4 cfg0.N = Cert.NormCtxBwdRefIdeal.Read.val_main_v20 (m ((c : Thread nD τ).loc main_arg4)) := by
  refine (dats m 0 c).arrAt_eq_of_covers 4 _ (by decide +kernel) fun t hf y => ?_
  blk_simp
  rw [after0_4, point_out]
  obtain ⟨p, q, rfl⟩ : ∃ (p : Fin 1) (q : Fin 1024), y = at2 p q := ⟨_, _, eq_at2 y⟩
  rw [show ((win0_4.blk t).view.emb (at2 p q)) = at2 0 q from ext2 ((emb_fixed win0_4 t _ 0 (idx_facts t).2.2.2.2.1.1).trans (by show p.val = 0; omega))
    (emb_fixed win0_4 t _ 1 (idx_facts t).2.2.2.2.1.2), ref20]
  refine (pay2_at _ p q).trans ((Finset.sum_congr rfl fun a _ => ?_).trans (rows_total _))
  refine (pay9_at _ _ a q).trans ?_
  rw [zero5]
  exact congrArg (0 + ·) (Finset.sum_congr rfl fun i _ => dh_at m c t _ q)

theorem final5 (c : Dev nD) : (dats m 0 c).arrAt 5 cfg0.N = Cert.NormCtxBwdRefIdeal.Read.val_main_v23 (m ((c : Thread nD τ).loc main_arg0)) (m ((c : Thread nD τ).loc main_arg1)) (m ((c : Thread nD τ).loc main_arg4)) := by
  refine (dats m 0 c).arrAt_eq_of_covers 5 _ (by decide +kernel) fun t hf y => ?_
  blk_simp
  rw [after0_5, point_out]
  obtain ⟨p, q, rfl⟩ : ∃ (p : Fin 1) (q : Fin 1024), y = at2 p q := ⟨_, _, eq_at2 y⟩
  rw [show ((win0_5.blk t).view.emb (at2 p q)) = at2 0 q from ext2 ((emb_fixed win0_5 t _ 0 (idx_facts t).2.2.2.2.2.1.1).trans (by show p.val = 0; omega))
    (emb_fixed win0_5 t _ 1 (idx_facts t).2.2.2.2.2.1.2), ref23]
  refine (pay3_at _ p q).trans ((Finset.sum_congr rfl fun a _ => ?_).trans (rows_total _))
  refine (pay10_at _ _ _ _ a q).trans ?_
  rw [zero6]
  refine congrArg (0 + ·) (Finset.sum_congr rfl fun i _ => ?_)
  rw [funext fun j => x_at m c t _ j, funext fun j => dh_at m c t _ j, funext fun j => g_at m c t j]

theorem final6 (c : Dev nD) : (dats m 0 c).arrAt 6 cfg0.N = Cert.NormCtxBwdRefIdeal.Read.val_main_v28 (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6, point_out]
  obtain ⟨p, q, rfl⟩ : ∃ (p : Fin 1) (q : Fin 1024), y = at2 p q := ⟨_, _, eq_at2 y⟩
  rw [show ((win0_6.blk t).view.emb (at2 p q)) = at2 0 q from ext2 ((emb_fixed win0_6 t _ 0 (idx_facts t).2.2.2.2.2.2.1).trans (by show p.val = 0; omega))
    (emb_fixed win0_6 t _ 1 (idx_facts t).2.2.2.2.2.2.2), ref28]
  refine (pay4_at _ p q).trans ((Finset.sum_congr rfl fun a _ => ?_).trans (rows_total _))
  refine (pay1_at _ _ _ _ a q).trans ?_
  rw [zero7]
  refine congrArg (0 + ·) (Finset.sum_congr rfl fun i _ => ?_)
  rw [funext fun j => x_at m c t _ j, funext fun j => dh_at m c t _ j, funext fun j => sc_at m c t j]

end Cert.NormCtxBwdIdeal.Norm

end
-- ==== Proof.Norms.Norm1Bwd.lean ====
/- The first norm's gradients: what a point leaves in its outputs and in the scratches that carry the sums. -/
module

public import proofs.«01_k».proof.Proof.Gen.Norm1BwdIdeal.Value
public import proofs.«01_k».proof.Proof.Gen.Norm1BwdRefIdeal.Read
public import Idealize.ShloMosaic.Lib.Pipeline.ValueKit
public import Idealize.ShloMosaic.Lib.Pipeline.ReadBack
public import proofs.«01_k».proof.Proof.Norms.Rows

@[expose] public section

noncomputable section

namespace Cert.Norm1BwdIdeal.Norm

open Cert.Norm1BwdIdeal Cert.Norm1BwdIdeal.Gen Cert.Products Cert.Norms Idealize.ShloMosaic Idealize.ShloMosaic.TcCoe Idealize.SL.Sem
open Idealize.ShloMosaic.Pipeline (Dat)

variable (m : (ℓ : Loc nD τ sig) → Buf (Elt Ideal) ℓ)

/-- What a point leaves in the gradient's block and in the three scratches, from its input blocks and the scratches before. -/
def point (x dh : Vec Ideal S512x1024 .f32) (g sc : Vec Ideal S1x1024 .f32) (add : Vec Ideal S512x1024 .f32)
    (s : Vec Ideal S8x1024 .f32 × Vec Ideal S8x1024 .f32 × Vec Ideal S8x1024 .f32) :
    Vec Ideal S512x1024 .f32 × Vec Ideal S8x1024 .f32 × Vec Ideal S8x1024 .f32 × Vec Ideal S8x1024 .f32 :=
  (k0_pay3 (F := Ideal) x dh g (k0_pay10 (F := Ideal) x) (k0_pay11 (F := Ideal) x) sc add, k0_pay12 (F := Ideal) dh s.1,
    k0_pay13 (F := Ideal) x dh g s.2.1, k0_pay2 (F := Ideal) dh (k0_pay11 (F := Ideal) x) sc s.2.2)

/-- At the first point the scratches are zeroed first, … -/
theorem point_first (c : Dev nD) (t : Fin cfg0.N) (h0 : t.val % 8 = 0) :
    (outsAt0 (F := Ideal) m c t.val t.isLt).2.2.2
      = point (iblk m c 0 t) (X0_1 m c t) (iblk m c 2 t) (iblk m c 3 t) (iblk m c 4 t)
          (k0_pay7 (F := Ideal), k0_pay8 (F := Ideal), k0_pay9 (F := Ideal)) := by
  rw [outsAt0_A m c t h0 (by omega)]
  refine Prod.ext ?_ (Prod.ext ?_ (Prod.ext ?_ ?_)) <;> frame_out

/-- … at every other one they carry on; … -/
theorem point_next (c : Dev nD) (t : Fin cfg0.N) (h0 : ¬t.val % 8 = 0) :
    (outsAt0 (F := Ideal) m c t.val t.isLt).2.2.2
      = point (iblk m c 0 t) (X0_1 m c t) (iblk m c 2 t) (iblk m c 3 t) (iblk m c 4 t)
          (outsAt0 (F := Ideal) m c (t.val - 1) (Nat.lt_of_le_of_lt (Nat.sub_le _ _) t.isLt)).2.2.2.2 := by
  by_cases h1 : t.val % 8 = 7
  · rw [outsAt0_C m c t h0 h1]
    refine Prod.ext ?_ (Prod.ext ?_ (Prod.ext ?_ ?_)) <;> (frame_out; all_goals rw [read_unread_whole])
  · rw [outsAt0_B m c t h0 h1]
    refine Prod.ext ?_ (Prod.ext ?_ (Prod.ext ?_ ?_)) <;> (frame_out; all_goals rw [read_unread_whole])

/-- … and the last one sums each down its eight rows. -/
theorem point_last (c : Dev nD) (t : Fin cfg0.N) (h1 : t.val % 8 = 7) :
    ((outsAt0 (F := Ideal) m c t.val t.isLt).1, (outsAt0 (F := Ideal) m c t.val t.isLt).2.1, (outsAt0 (F := Ideal) m c t.val t.isLt).2.2.1)
      = (k0_pay4 (F := Ideal) (outsAt0 (F := Ideal) m c t.val t.isLt).2.2.2.2.1,
          k0_pay5 (F := Ideal) (outsAt0 (F := Ideal) m c t.val t.isLt).2.2.2.2.2.1,
          k0_pay6 (F := Ideal) (outsAt0 (F := Ideal) m c t.val t.isLt).2.2.2.2.2.2) := by
  rw [point_next m c t (by omega), outsAt0_C m c t (by omega) h1]
  refine Prod.ext ?_ (Prod.ext ?_ ?_) <;> (frame_out; all_goals rw [read_unread_whole])

/-! ### The payloads at an element -/

theorem pay10_at (x : Vec Ideal S512x1024 .f32) (p : Fin 512) (u : Fin 1) : k0_pay10 (F := Ideal) x (at2 p u) = inv fun k => x (at2 p k) := by
  unfold k0_pay10
  exact congrArg (fun s => Ideal.rsqrt (Ideal.div s len + eps)) (rowsum_at (T := 512) (N := 1024) (mulf x x) _ _ _ _ _ p u)

theorem pay11_at (x : Vec Ideal S512x1024 .f32) (p : Fin 512) (q : Fin 1024) :
    k0_pay11 (F := Ideal) x (at2 p q) = x (at2 p q) * inv fun k => x (at2 p k) := by
  unfold k0_pay11
  exact congrArg (x (at2 p q) * ·) ((bcol_at (T := 512) (N := 1024) _ _ p q).trans (pay10_at x p 0))

theorem pay1_at (dh : Vec Ideal S512x1024 .f32) (sc : Vec Ideal S1x1024 .f32) (p : Fin 512) (q : Fin 1024) :
    k0_pay1 (F := Ideal) dh sc (at2 p q) = dh (at2 p q) * (one + sc (at2 0 q)) := by
  unfold k0_pay1
  exact congrArg (dh (at2 p q) * ·) (brow_at (T := 512) (N := 1024) _ _ p q)

theorem pay12_at (dh : Vec Ideal S512x1024 .f32) (s : Vec Ideal S8x1024 .f32) (a : Fin 8) (q : Fin 1024) :
    k0_pay12 (F := Ideal) dh s (at2 a q) = s (at2 a q) + ∑ i : Fin 64, dh (at2 ⟨i.val * 8 + a.val, by omega⟩ q) := by
  unfold k0_pay12
  rw [shapeCast_self]
  exact congrArg (s (at2 a q) + ·) (col8_at (T := 512) (N := 1024) (s := 64) dh _ _ _ _ _ rfl a q)

theorem pay13_at (x dh : Vec Ideal S512x1024 .f32) (g : Vec Ideal S1x1024 .f32) (s : Vec Ideal S8x1024 .f32) (a : Fin 8) (q : Fin 1024) :
    k0_pay13 (F := Ideal) x dh g s (at2 a q)
      = s (at2 a q) + ∑ i : Fin 64, scaleTerm (fun k => x (at2 ⟨i.val * 8 + a.val, by omega⟩ k)) (fun k => dh (at2 ⟨i.val * 8 + a.val, by omega⟩ k))
          (fun k => g (at2 0 k)) q := by
  unfold k0_pay13
  rw [shapeCast_self]
  refine congrArg (s (at2 a q) + ·) ((col8_at (T := 512) (N := 1024) (s := 64) _ _ _ _ _ _ rfl a q).trans (Finset.sum_congr rfl fun i _ => ?_))
  exact congrArg (dh _ * ·) (congrArg₂ (· * ·) (pay11_at x _ q) (brow_at (T := 512) (N := 1024) g _ _ q))

theorem pay2_at (x dh : Vec Ideal S512x1024 .f32) (sc : Vec Ideal S1x1024 .f32) (s : Vec Ideal S8x1024 .f32) (a : Fin 8) (q : Fin 1024) :
    k0_pay2 (F := Ideal) dh (k0_pay11 (F := Ideal) x) sc s (at2 a q)
      = s (at2 a q) + ∑ i : Fin 64, gainTerm (fun k => x (at2 ⟨i.val * 8 + a.val, by omega⟩ k)) (fun k => dh (at2 ⟨i.val * 8 + a.val, by omega⟩ k))
          (fun k => sc (at2 0 k)) q := by
  unfold k0_pay2
  rw [shapeCast_self]
  refine congrArg (s (at2 a q) + ·) ((col8_at (T := 512) (N := 1024) (s := 64) _ _ _ _ _ _ rfl a q).trans (Finset.sum_congr rfl fun i _ => ?_))
  exact congrArg₂ (· * ·) (pay1_at dh sc _ q) (pay11_at x _ q)

theorem pay3_at (x dh : Vec Ideal S512x1024 .f32) (g sc : Vec Ideal S1x1024 .f32) (add : Vec Ideal S512x1024 .f32) (p : Fin 512) (q : Fin 1024) :
    k0_pay3 (F := Ideal) x dh g (k0_pay10 (F := Ideal) x) (k0_pay11 (F := Ideal) x) sc add (at2 p q)
      = gradRow (fun k => x (at2 p k)) (fun k => dh (at2 p k)) (fun k => g (at2 0 k)) (fun k => sc (at2 0 k)) (add (at2 p q)) q := by
  have hg : ∀ k : Fin 1024, mulf (broadcastTo S512x1024 g broadcasts_S1x1024_S512x1024) (k0_pay1 (F := Ideal) dh sc) (at2 p k)
      = g (at2 0 k) * (dh (at2 p k) * (one + sc (at2 0 k))) := fun k =>
    congrArg₂ (· * ·) (brow_at (T := 512) (N := 1024) g _ p k) (pay1_at dh sc p k)
  unfold k0_pay3
  refine congrArg₂ (· - ·) (congrArg (add (at2 p q) + ·) (congrArg₂ (· * ·) ((bcol_at (T := 512) (N := 1024) _ _ p q).trans (pay10_at x p 0)) (hg q)))
    (congrArg₂ (· * ·) (congrArg₂ (· * ·) (pay11_at x p q) ((bcol_at (T := 512) (N := 1024) _ _ p q).trans
      (congrArg₂ (· * ·) (pay10_at x p 0) (pay10_at x p 0)))) ((bcol_at (T := 512) (N := 1024) _ _ p q).trans (congrArg (Ideal.div · len) ?_)))
  exact (rowsum_at (T := 512) (N := 1024) _ _ _ _ _ _ p 0).trans (Finset.sum_congr rfl fun k _ => congrArg (x (at2 p k) * ·) (hg k))

/-! ### The blocks -/

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = t.val ∧ win0_8.index t (1 : Fin 2) = 0) :=
  (by decide +kernel : ∀ t : Fin grid0.N, _)

theorem x_at (c : Dev nD) (t : Fin cfg0.N) (p : Fin 512) (k : Fin 1024) (r : Fin 4096) (hr : r.val = t.val * 512 + p.val) :
    iblk m c 0 t (at2 p k) = m ((c : Thread nD τ).loc main_arg0) (at2 r k) := by
  show m ((c : Thread nD τ).loc main_arg0) ((win0_0.rect t).emb (at2 p k)) = _
  refine congrArg _ (ext2 ((win0_0.rect_emb_val t _ 0).trans ?_) (emb_fixed win0_0 t _ 1 (idx_facts t).1.2))
  exact (congrArg (· * 512 + p.val) (idx_facts t).1.1).trans hr.symm

theorem dh_at (c : Dev nD) (t : Fin cfg0.N) (p : Fin 512) (k : Fin 1024) (r : Fin 4096) (hr : r.val = t.val * 512 + p.val) :
    X0_1 m c t (at2 p k) = m ((c : Thread nD τ).loc main_arg4) (at2 ⟨r.val, by omega⟩ k) := by
  have e : X0_1 m c t (at2 p k)
      = iblk m c 1 t (fun a => ⟨(at2 p k a).val, ((cfg0.win 1).moved_iff _ (at2 p k)).mp (moved0_1 t (at2 p k)) a⟩) := by
    unfold X0_1 Pipeline.Window.fill
    rw [dif_pos (moved0_1 t (at2 p k))]
  refine e.trans ?_
  show m ((c : Thread nD τ).loc main_arg4) ((win0_1.rect t).emb _) = _
  refine congrArg _ (ext2 ((win0_1.rect_emb_val t _ 0).trans ?_) (emb_fixed win0_1 t _ 1 (idx_facts t).2.1.2))
  exact (congrArg (· * 512 + p.val) (idx_facts t).2.1.1).trans hr.symm

theorem g_at (c : Dev nD) (t : Fin cfg0.N) (k : Fin 1024) : iblk m c 2 t (at2 0 k) = m ((c : Thread nD τ).loc main_arg1) (at2 0 k) := by
  show m ((c : Thread nD τ).loc main_arg1) ((win0_2.rect t).emb (at2 0 k)) = _
  exact congrArg _ (ext2 (emb_fixed win0_2 t _ 0 (idx_facts t).2.2.1.1) (emb_fixed win0_2 t _ 1 (idx_facts t).2.2.1.2))

theorem sc_at (c : Dev nD) (t : Fin cfg0.N) (k : Fin 1024) : iblk m c 3 t (at2 0 k) = m ((c : Thread nD τ).loc main_arg2) (at2 0 k) := by
  show m ((c : Thread nD τ).loc main_arg2) ((win0_3.rect t).emb (at2 0 k)) = _
  exact congrArg _ (ext2 (emb_fixed win0_3 t _ 0 (idx_facts t).2.2.2.1.1) (emb_fixed win0_3 t _ 1 (idx_facts t).2.2.2.1.2))

theorem add_at (c : Dev nD) (t : Fin cfg0.N) (p : Fin 512) (k : Fin 1024) (r : Fin 4096) (hr : r.val = t.val * 512 + p.val) :
    iblk m c 4 t (at2 p k) = m ((c : Thread nD τ).loc main_arg5) (at2 r k) := by
  show m ((c : Thread nD τ).loc main_arg5) ((win0_4.rect t).emb (at2 p k)) = _
  refine congrArg _ (ext2 ((win0_4.rect_emb_val t _ 0).trans ?_) (emb_fixed win0_4 t _ 1 (idx_facts t).2.2.2.2.1.2))
  exact (congrArg (· * 512 + p.val) (idx_facts t).2.2.2.2.1.1).trans hr.symm

theorem pay4_at (s : Vec Ideal S8x1024 .f32) (u : Fin 1) (q : Fin 1024) : k0_pay4 s (at2 u q) = ∑ a : Fin 8, s (at2 a q) := by
  unfold k0_pay4
  exact colsum_at (T := 8) (N := 1024) _ _ _ _ _ _ u q

theorem pay5_at (s : Vec Ideal S8x1024 .f32) (u : Fin 1) (q : Fin 1024) : k0_pay5 s (at2 u q) = ∑ a : Fin 8, s (at2 a q) := by
  unfold k0_pay5
  exact colsum_at (T := 8) (N := 1024) _ _ _ _ _ _ u q

theorem pay6_at (s : Vec Ideal S8x1024 .f32) (u : Fin 1) (q : Fin 1024) : k0_pay6 s (at2 u q) = ∑ a : Fin 8, s (at2 a q) := by
  unfold k0_pay6
  exact colsum_at (T := 8) (N := 1024) _ _ _ _ _ _ u q

/-! ### The sums over the points -/

/-- One of the three scratches, by what a point adds to it: at the last point its eight rows sum to the sum over all rows. -/
theorem carried (c : Dev nD) (q : Fin 1024) (π : Vec Ideal S8x1024 .f32 × Vec Ideal S8x1024 .f32 × Vec Ideal S8x1024 .f32 → Vec Ideal S8x1024 .f32)
    (blk : Fin cfg0.N → Fin 512 → EReal) (F : Fin 4096 → EReal)
    (hz : ∀ a : Fin 8, π (k0_pay7 (F := Ideal), k0_pay8 (F := Ideal), k0_pay9 (F := Ideal)) (at2 a q) = 0)
    (hp : ∀ (t : Fin cfg0.N) s (a : Fin 8), π (point (iblk m c 0 t) (X0_1 m c t) (iblk m c 2 t) (iblk m c 3 t) (iblk m c 4 t) s).2 (at2 a q)
      = π s (at2 a q) + ∑ i : Fin 64, blk t ⟨i.val * 8 + a.val, by omega⟩)
    (hb : ∀ t (k : Fin 512) (r : Fin 4096), r.val = t.val * 512 + k.val → blk t k = F r)
    (t : Fin cfg0.N) (h1 : t.val % 8 = 7) :
    ∑ a : Fin 8, π (outsAt0 (F := Ideal) m c t.val t.isLt).2.2.2.2 (at2 a q) = ∑ r, F r := by
  have hN : cfg0.N = 8 := N_0
  refine total cfg0.N 64 rfl (fun t h a => π (outsAt0 (F := Ideal) m c t h).2.2.2.2 (at2 a q)) blk F (fun h a => ?_) (fun t h a => ?_) hb t.val t.isLt
    (by have := t.isLt; omega)
  · refine (congrArg (fun s => π s.2 (at2 a q)) (point_first m c ⟨0, h⟩ rfl)).trans ((hp _ _ a).trans ?_)
    rw [hz, zero_add]
  · exact (congrArg (fun s => π s.2 (at2 a q)) (point_next m c ⟨t + 1, h⟩ (by dsimp only; omega))).trans (hp _ _ a)

theorem zero7 (a : Fin 8) (q : Fin 1024) : k0_pay7 (F := Ideal) (at2 a q) = 0 := by
  unfold k0_pay7; rw [shapeCast_self]; exact Ideal.ofBits_zero_f32
theorem zero8 (a : Fin 8) (q : Fin 1024) : k0_pay8 (F := Ideal) (at2 a q) = 0 := by
  unfold k0_pay8; rw [shapeCast_self]; exact Ideal.ofBits_zero_f32
theorem zero9 (a : Fin 8) (q : Fin 1024) : k0_pay9 (F := Ideal) (at2 a q) = 0 := by
  unfold k0_pay9; rw [shapeCast_self]; exact Ideal.ofBits_zero_f32

/-! ### The reference at an element -/

section Reference
open Cert.Norm1BwdRefIdeal.Read

variable (x0 : Vec Ideal S4096x1024 .f32) (x1 x2 : Vec Ideal S1x1024 .f32) (x4 : Vec Ideal S4352x1024 .f32) (x5 : Vec Ideal S4096x1024 .f32)

theorem ref6 (i : Cert.Norm1BwdRefIdeal.S4096x1.Idx) (r : Fin 4096) (hi : (i 0).val = r.val) :
    val_main_v6 (F := Ideal) x0 i = Ideal.div (∑ k, x0 (at2 r k) * x0 (at2 r k)) len + eps := by
  refine congrArg₂ (· + ·) (congrArg₂ Ideal.div ((val_main_v2_apply x0 i).trans ((val_main_v1_apply x0 _).trans ?_)) (val_main_v3_apply i)) (val_main_v5_apply i)
  refine (congrArg₂ (· + ·) Ideal.ofBits_zero_f32 (Finset.sum_congr rfl fun k _ => ?_)).trans (zero_add _)
  refine (val_main_v0_apply x0 _).trans ?_
  rw [show idx_main_v1 (idx_main_v2 i) k = at2 r k from ext2 hi rfl]
  rfl

theorem ref7 (i : Cert.Norm1BwdRefIdeal.S4096x1.Idx) (r : Fin 4096) (hi : (i 0).val = r.val) : val_main_v7 (F := Ideal) x0 i = Norms.inv fun k => x0 (at2 r k) :=
  congrArg Ideal.rsqrt (ref6 x0 i r hi)

theorem ref12 (r : Fin 4096) (q : Fin 1024) : val_main_v12 (F := Ideal) x0 (at2 r q) = x0 (at2 r q) * Norms.inv fun k => x0 (at2 r k) :=
  congrArg (x0 (at2 r q) * ·) ((val_main_v11_apply x0 _).trans (ref7 x0 _ r rfl))

theorem ref21 (r : Fin 4096) (q : Fin 1024) : val_main_v21 (F := Ideal) x4 (at2 r q) = x4 (at2 ⟨r.val, by omega⟩ q) :=
  (val_main_v21_apply x4 _).trans (congrArg x4 (ext2 rfl rfl))

theorem ref28 (r : Fin 4096) (q : Fin 1024) :
    val_main_v28 (F := Ideal) x2 x4 (at2 r q) = x4 (at2 ⟨r.val, by omega⟩ q) * (one + x2 (at2 0 q)) := by
  refine congrArg₂ (· * ·) (ref21 x4 r q) ((val_main_v27_apply x2 _).trans ?_)
  exact congrArg₂ (· + ·) (val_main_v15_apply _) (congrArg x2 (ext2 rfl rfl))

theorem ref23 (q : Fin 1024) : val_main_v23 (F := Ideal) x4 (at2 0 q) = ∑ r : Fin 4096, x4 (at2 ⟨r.val, by omega⟩ q) := by
  refine (val_main_v23_apply x4 _).trans ((val_main_v22_apply x4 _).trans ?_)
  refine (congrArg₂ (· + ·) Ideal.ofBits_zero_f32 (Finset.sum_congr rfl fun r _ => ?_)).trans (zero_add _)
  rw [show idx_main_v22 (idx_main_v23 (at2 0 q)) r = at2 r q from ext2 rfl (by show 0 * 1024 + q.val = q.val; omega)]
  exact ref21 x4 r q

theorem ref26 (q : Fin 1024) : val_main_v26 (F := Ideal) x0 x1 x4 (at2 0 q)
    = ∑ r : Fin 4096, scaleTerm (fun k => x0 (at2 r k)) (fun k => x4 (at2 ⟨r.val, by omega⟩ k)) (fun k => x1 (at2 0 k)) q := by
  refine (val_main_v26_apply x0 x1 x4 _).trans ((val_main_v25_apply x0 x1 x4 _).trans ?_)
  refine (congrArg₂ (· + ·) Ideal.ofBits_zero_f32 (Finset.sum_congr rfl fun r _ => ?_)).trans (zero_add _)
  rw [show idx_main_v25 (idx_main_v26 (at2 0 q)) r = at2 r q from ext2 rfl (by show 0 * 1024 + q.val = q.val; omega)]
  refine Eq.trans ?_ (mul_comm _ _)
  exact congrArg₂ (· * ·) (congrArg₂ (· * ·) (ref12 x0 r q) ((val_main_v13_apply x1 _).trans (congrArg x1 (ext2 rfl rfl)))) (ref21 x4 r q)

theorem ref31 (q : Fin 1024) : val_main_v31 (F := Ideal) x0 x2 x4 (at2 0 q)
    = ∑ r : Fin 4096, gainTerm (fun k => x0 (at2 r k)) (fun k => x4 (at2 ⟨r.val, by omega⟩ k)) (fun k => x2 (at2 0 k)) q := by
  refine (val_main_v31_apply x0 x2 x4 _).trans ((val_main_v30_apply x0 x2 x4 _).trans ?_)
  refine (congrArg₂ (· + ·) Ideal.ofBits_zero_f32 (Finset.sum_congr rfl fun r _ => ?_)).trans (zero_add _)
  rw [show idx_main_v30 (idx_main_v31 (at2 0 q)) r = at2 r q from ext2 rfl (by show 0 * 1024 + q.val = q.val; omega)]
  refine Eq.trans ?_ (mul_comm _ _)
  exact congrArg₂ (· * ·) (ref12 x0 r q) (ref28 x2 x4 r q)

theorem ref33 (r : Fin 4096) (q : Fin 1024) : val_main_v33 (F := Ideal) x1 x2 x4 (at2 r q)
    = (x4 (at2 ⟨r.val, by omega⟩ q) * (one + x2 (at2 0 q))) * x1 (at2 0 q) :=
  congrArg₂ (· * ·) (ref28 x2 x4 r q) ((val_main_v32_apply x1 _).trans (congrArg x1 (ext2 rfl rfl)))

/-- What the mean square's gradient spreads over a row. -/
theorem ref43 (r : Fin 4096) (q : Fin 1024) : val_main_v43 (F := Ideal) x0 x1 x2 x4 (at2 r q)
    = Ideal.div ((∑ k, x0 (at2 r k) * ((x4 (at2 ⟨r.val, by omega⟩ k) * (one + x2 (at2 0 k))) * x1 (at2 0 k)))
        * (half * Ideal.div (Norms.inv fun k => x0 (at2 r k)) (Ideal.div (∑ k, x0 (at2 r k) * x0 (at2 r k)) len + eps))) len := by
  refine (val_main_v43_apply x0 x1 x2 x4 _).trans ((val_main_v42_apply x0 x1 x2 x4 _).trans ?_)
  rw [Fin.sum_univ_one]
  refine (congrArg₂ (· + ·) Ideal.ofBits_zero_f32 ?_).trans (zero_add _)
  refine congrArg₂ Ideal.div (congrArg₂ (· * ·) ?_ ?_) (val_main_v40_apply _)
  · refine (val_main_v36_apply x0 x1 x2 x4 _).trans ((val_main_v35_apply x0 x1 x2 x4 _).trans ?_)
    refine (congrArg₂ (· + ·) Ideal.ofBits_zero_f32 (Finset.sum_congr rfl fun k _ => ?_)).trans (zero_add _)
    rw [show idx_main_v35 (idx_main_v36 (idx_main_v42 (idx_main_v43 (at2 r q)) 0)) k = at2 r k from ext2 (by show r.val * 1 + 0 = r.val; omega) rfl]
    exact congrArg (x0 (at2 r k) * ·) (ref33 x1 x2 x4 r k)
  · have e := ref6 x0 (idx_main_v42 (idx_main_v43 (at2 r q)) 0) r rfl
    have e7 := ref7 x0 (idx_main_v42 (idx_main_v43 (at2 r q)) 0) r rfl
    refine (val_main_v10_apply x0 _).trans (congrArg₂ (· * ·) (val_main_v9_apply _) ((val_main_v8_apply x0 _).trans ?_))
    rw [e, e7]
    rfl

theorem ref48 (r : Fin 4096) (q : Fin 1024) : val_main_v48 (F := Ideal) x0 x1 x2 x4 x5 (at2 r q)
    = gradRow (fun k => x0 (at2 r k)) (fun k => x4 (at2 ⟨r.val, by omega⟩ k)) (fun k => x1 (at2 0 k)) (fun k => x2 (at2 0 k)) (x5 (at2 r q)) q := by
  rw [gradRow_eq]
  refine congrArg (x5 (at2 r q) + ·) (congrArg₂ (· + ·) (congrArg₂ (· + ·) (congrArg₂ (· * ·) (ref33 x1 x2 x4 r q)
    ((val_main_v37_apply x0 _).trans (ref7 x0 _ r rfl))) (congrArg (x0 (at2 r q) * ·) (ref43 x0 x1 x2 x4 r q))) (congrArg (· * x0 (at2 r q)) (ref43 x0 x1 x2 x4 r q)))

end Reference

/-! ### The results -/

theorem final5 (c : Dev nD) : (dats m 0 c).arrAt 5 cfg0.N = Cert.Norm1BwdRefIdeal.Read.val_main_v23 (m ((c : Thread nD τ).loc main_arg4)) := by
  refine (dats m 0 c).arrAt_eq_of_covers 5 _ (by decide +kernel) fun t hf y => ?_
  have h1 : t.val % 8 = 7 := (flush0_5 t).mp hf
  blk_simp
  rw [after0_5]
  obtain ⟨p, q, rfl⟩ : ∃ (p : Fin 1) (q : Fin 1024), y = at2 p q := ⟨_, _, eq_at2 y⟩
  rw [show ((win0_5.blk t).view.emb (at2 p q)) = at2 0 q from ext2 ((emb_fixed win0_5 t _ 0 (idx_facts t).2.2.2.2.2.1.1).trans (by show p.val = 0; omega))
    (emb_fixed win0_5 t _ 1 (idx_facts t).2.2.2.2.2.1.2), ref23]
  refine (congrFun (congrArg Prod.fst (point_last m c t h1)) (at2 p q)).trans ((pay4_at _ p q).trans ?_)
  exact carried m c q (fun s => s.1) (fun t k => X0_1 m c t (at2 k q)) _ (fun a => zero7 a q) (fun t s a => pay12_at _ s.1 a q)
    (fun t k r hr => dh_at m c t k q r hr) t h1

theorem final6 (c : Dev nD) : (dats m 0 c).arrAt 6 cfg0.N = Cert.Norm1BwdRefIdeal.Read.val_main_v26 (m ((c : Thread nD τ).loc main_arg0))
    (m ((c : Thread nD τ).loc main_arg1)) (m ((c : Thread nD τ).loc main_arg4)) := by
  refine (dats m 0 c).arrAt_eq_of_covers 6 _ (by decide +kernel) fun t hf y => ?_
  have h1 : t.val % 8 = 7 := (flush0_6 t).mp hf
  blk_simp
  rw [after0_6]
  obtain ⟨p, q, rfl⟩ : ∃ (p : Fin 1) (q : Fin 1024), y = at2 p q := ⟨_, _, eq_at2 y⟩
  rw [show ((win0_6.blk t).view.emb (at2 p q)) = at2 0 q from ext2 ((emb_fixed win0_6 t _ 0 (idx_facts t).2.2.2.2.2.2.1.1).trans (by show p.val = 0; omega))
    (emb_fixed win0_6 t _ 1 (idx_facts t).2.2.2.2.2.2.1.2), ref26]
  refine (congrFun (congrArg (fun s => s.2.1) (point_last m c t h1)) (at2 p q)).trans ((pay5_at _ p q).trans ?_)
  refine carried m c q (fun s => s.2.1) (fun t k => scaleTerm (fun j => iblk m c 0 t (at2 k j)) (fun j => X0_1 m c t (at2 k j)) (fun j => iblk m c 2 t (at2 0 j)) q) _
    (fun a => zero8 a q) (fun t s a => pay13_at _ _ _ s.2.1 a q) (fun t k r hr => ?_) t h1
  rw [funext fun j => x_at m c t k j r hr, funext fun j => dh_at m c t k j r hr, funext fun j => g_at m c t j]

theorem final7 (c : Dev nD) : (dats m 0 c).arrAt 7 cfg0.N = Cert.Norm1BwdRefIdeal.Read.val_main_v31 (m ((c : Thread nD τ).loc main_arg0))
    (m ((c : Thread nD τ).loc main_arg2)) (m ((c : Thread nD τ).loc main_arg4)) := by
  refine (dats m 0 c).arrAt_eq_of_covers 7 _ (by decide +kernel) fun t hf y => ?_
  have h1 : t.val % 8 = 7 := (flush0_7 t).mp hf
  blk_simp
  rw [after0_7]
  obtain ⟨p, q, rfl⟩ : ∃ (p : Fin 1) (q : Fin 1024), y = at2 p q := ⟨_, _, eq_at2 y⟩
  rw [show ((win0_7.blk t).view.emb (at2 p q)) = at2 0 q from ext2 ((emb_fixed win0_7 t _ 0 (idx_facts t).2.2.2.2.2.2.2.1.1).trans (by show p.val = 0; omega))
    (emb_fixed win0_7 t _ 1 (idx_facts t).2.2.2.2.2.2.2.1.2), ref31]
  refine (congrFun (congrArg (fun s => s.2.2) (point_last m c t h1)) (at2 p q)).trans ((pay6_at _ p q).trans ?_)
  refine carried m c q (fun s => s.2.2) (fun t k => gainTerm (fun j => iblk m c 0 t (at2 k j)) (fun j => X0_1 m c t (at2 k j)) (fun j => iblk m c 3 t (at2 0 j)) q) _
    (fun a => zero9 a q) (fun t s a => pay2_at _ _ _ s.2.2 a q) (fun t k r hr => ?_) t h1
  rw [funext fun j => x_at m c t k j r hr, funext fun j => dh_at m c t k j r hr, funext fun j => sc_at m c t j]

theorem final8 (c : Dev nD) : (dats m 0 c).arrAt 8 cfg0.N = Cert.Norm1BwdRefIdeal.Read.val_main_v48 (m ((c : Thread nD τ).loc main_arg0))
    (m ((c : Thread nD τ).loc main_arg1)) (m ((c : Thread nD τ).loc main_arg2)) (m ((c : Thread nD τ).loc main_arg4)) (m ((c : Thread nD τ).loc main_arg5)) := by
  refine (dats m 0 c).arrAt_eq_of_covers 8 _ (by decide +kernel) fun t hf y => ?_
  blk_simp
  rw [after0_8]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_8.blk t).view.emb (at2 p q)) = at2 r q from ext2 ((win0_8.rect_emb_val t _ 0).trans
    ((congrArg (· * 512 + p.val) (idx_facts t).2.2.2.2.2.2.2.2.1).trans hr.symm)) (emb_fixed win0_8 t _ 1 (idx_facts t).2.2.2.2.2.2.2.2.2), ref48,
    ← funext fun j => x_at m c t p j r hr, ← funext fun j => dh_at m c t p j r hr, ← funext fun j => g_at m c t j, ← funext fun j => sc_at m c t j,
    ← add_at m c t p q r hr]
  by_cases h0 : t.val % 8 = 0
  · exact (congrFun (congrArg Prod.fst (point_first m c t h0)) (at2 p q)).trans (pay3_at _ _ _ _ _ p q)
  · exact (congrFun (congrArg Prod.fst (point_next m c t h0)) (at2 p q)).trans (pay3_at _ _ _ _ _ p q)

end Cert.Norm1BwdIdeal.Norm
-- ==== Proof.Norms.Norm2Bwd.lean ====
/- The second norm's gradients, with those of the gate and of the gated product the residual adds: what a point leaves in its
   outputs and in the scratches that carry the sums, and the arrays after the run. -/
module

public import proofs.«01_k».proof.Proof.Gen.Norm2BwdIdeal.Value
public import proofs.«01_k».proof.Proof.Gen.Norm2BwdRefIdeal.Read
public import Idealize.ShloMosaic.Lib.Pipeline.ValueKit
public import Idealize.ShloMosaic.Lib.Pipeline.ReadBack
public import proofs.«01_k».proof.Proof.Norms.Rows

@[expose] public section

noncomputable section

namespace Cert.Norm2BwdIdeal.Norm

open Cert.Norm2BwdIdeal Cert.Norm2BwdIdeal.Gen Cert.Products Cert.Norms Idealize.ShloMosaic Idealize.ShloMosaic.TcCoe Idealize.SL.Sem
open Idealize.ShloMosaic.Pipeline (Dat)

variable (m : (ℓ : Loc nD τ sig) → Buf (Elt Ideal) ℓ)

/-- What the four scratches hold: the sums for the shift, the scale, the gain and the gate. -/
abbrev Scratches : Type := Vec Ideal S8x1024 .f32 × Vec Ideal S8x1024 .f32 × Vec Ideal S8x1024 .f32 × Vec Ideal S8x1024 .f32

/-- A point's block of the stream's gradient. -/
def gradient (x dh : Vec Ideal S512x1024 .f32) (g sc : Vec Ideal S1x1024 .f32) (add : Vec Ideal S512x1024 .f32) : Vec Ideal S512x1024 .f32 :=
  k0_pay17 (F := Ideal) (k0_pay10 (F := Ideal) x) dh g (k0_pay11 (F := Ideal) x) (k0_pay12 (F := Ideal) x) sc add

/-- What a point leaves in the two gradients' blocks and in the scratches, from its input blocks and the scratches before. -/
def point (x dh : Vec Ideal S512x1024 .f32) (g sc : Vec Ideal S1x1024 .f32) (add : Vec Ideal S512x1024 .f32) (gt : Vec Ideal S1x1024 .f32)
    (v : Vec Ideal S512x1024 .f32) (s : Scratches) : Vec Ideal S512x1024 .f32 × Vec Ideal S512x1024 .bf16 × Scratches :=
  (gradient x dh g sc add,
    k0_pay18 (F := Ideal) (k0_pay10 (F := Ideal) x) dh g (k0_pay11 (F := Ideal) x) (k0_pay12 (F := Ideal) x) sc add gt,
    k0_pay13 (F := Ideal) dh s.1, k0_pay14 (F := Ideal) x dh g s.2.1, k0_pay16 (F := Ideal) dh (k0_pay12 (F := Ideal) x) sc s.2.2.1,
    k0_pay1 (F := Ideal) (gradient x dh g sc add) s.2.2.2 v)

/-- The same, read off the run. -/
def left (c : Dev nD) (n : ℕ) (hn : n < cfg0.N) : Vec Ideal S512x1024 .f32 × Vec Ideal S512x1024 .bf16 × Scratches :=
  ((outsAt0 (F := Ideal) m c n hn).2.2.2.1, (outsAt0 (F := Ideal) m c n hn).2.2.2.2.1, (outsAt0 (F := Ideal) m c n hn).2.2.2.2.2.2)

/-- At the first point the scratches are zeroed first, … -/
theorem point_first (c : Dev nD) (t : Fin cfg0.N) (h0 : t.val % 8 = 0) :
    left m c t.val t.isLt
      = point (iblk m c 0 t) (iblk m c 1 t) (iblk m c 2 t) (iblk m c 3 t) (iblk m c 4 t) (iblk m c 5 t) (iblk m c 6 t)
          (k0_pay6 (F := Ideal), k0_pay7 (F := Ideal), k0_pay8 (F := Ideal), k0_pay9 (F := Ideal)) := by
  unfold left point gradient
  rw [outsAt0_A m c t h0 (by omega)]
  refine Prod.ext ?_ (Prod.ext ?_ (Prod.ext ?_ (Prod.ext ?_ (Prod.ext ?_ ?_)))) <;> frame_out

/-- … at every other one they carry on; … -/
theorem point_next (c : Dev nD) (t : Fin cfg0.N) (h0 : ¬t.val % 8 = 0) :
    left m c t.val t.isLt
      = point (iblk m c 0 t) (iblk m c 1 t) (iblk m c 2 t) (iblk m c 3 t) (iblk m c 4 t) (iblk m c 5 t) (iblk m c 6 t)
          (left m c (t.val - 1) (Nat.lt_of_le_of_lt (Nat.sub_le _ _) t.isLt)).2.2 := by
  unfold left point gradient
  by_cases h1 : t.val % 8 = 7
  · rw [outsAt0_C m c t h0 h1]
    refine Prod.ext ?_ (Prod.ext ?_ (Prod.ext ?_ (Prod.ext ?_ (Prod.ext ?_ ?_)))) <;> (frame_out; all_goals rw [read_unread_whole])
  · rw [outsAt0_B m c t h0 h1]
    refine Prod.ext ?_ (Prod.ext ?_ (Prod.ext ?_ (Prod.ext ?_ (Prod.ext ?_ ?_)))) <;> (frame_out; all_goals rw [read_unread_whole])

/-- … and the last one sums each down its eight rows. -/
theorem point_last (c : Dev nD) (t : Fin cfg0.N) (h1 : t.val % 8 = 7) :
    ((outsAt0 (F := Ideal) m c t.val t.isLt).1, (outsAt0 (F := Ideal) m c t.val t.isLt).2.1, (outsAt0 (F := Ideal) m c t.val t.isLt).2.2.1,
        (outsAt0 (F := Ideal) m c t.val t.isLt).2.2.2.2.2.1)
      = (k0_pay2 (F := Ideal) (left m c t.val t.isLt).2.2.1, k0_pay3 (F := Ideal) (left m c t.val t.isLt).2.2.2.1,
          k0_pay4 (F := Ideal) (left m c t.val t.isLt).2.2.2.2.1, k0_pay5 (F := Ideal) (left m c t.val t.isLt).2.2.2.2.2) := by
  rw [point_next m c t (by omega), outsAt0_C m c t (by omega) h1]
  unfold point gradient left
  refine Prod.ext ?_ (Prod.ext ?_ (Prod.ext ?_ ?_)) <;> (frame_out; all_goals rw [read_unread_whole])

/-! ### The payloads at an element -/

theorem pay10_eq (x : Vec Ideal S512x1024 .f32) : k0_pay10 (F := Ideal) x = x := by unfold k0_pay10; rw [shapeCast_self]

theorem pay11_at (x : Vec Ideal S512x1024 .f32) (p : Fin 512) (u : Fin 1) : k0_pay11 (F := Ideal) x (at2 p u) = inv fun k => x (at2 p k) := by
  unfold k0_pay11
  rw [pay10_eq]
  exact congrArg (fun s => Ideal.rsqrt (Ideal.div s len + eps)) (rowsum_at (T := 512) (N := 1024) (mulf x x) _ _ _ _ _ p u)

theorem pay12_at (x : Vec Ideal S512x1024 .f32) (p : Fin 512) (q : Fin 1024) :
    k0_pay12 (F := Ideal) x (at2 p q) = x (at2 p q) * inv fun k => x (at2 p k) := by
  unfold k0_pay12
  rw [pay10_eq]
  exact congrArg (x (at2 p q) * ·) ((bcol_at (T := 512) (N := 1024) _ _ p q).trans (pay11_at x p 0))

theorem pay15_at (dh : Vec Ideal S512x1024 .f32) (sc : Vec Ideal S1x1024 .f32) (p : Fin 512) (q : Fin 1024) :
    k0_pay15 (F := Ideal) dh sc (at2 p q) = dh (at2 p q) * (one + sc (at2 0 q)) := by
  unfold k0_pay15
  exact congrArg (dh (at2 p q) * ·) (brow_at (T := 512) (N := 1024) _ _ p q)

theorem pay13_at (dh : Vec Ideal S512x1024 .f32) (s : Vec Ideal S8x1024 .f32) (a : Fin 8) (q : Fin 1024) :
    k0_pay13 (F := Ideal) dh s (at2 a q) = s (at2 a q) + ∑ i : Fin 64, dh (at2 ⟨i.val * 8 + a.val, by omega⟩ q) := by
  unfold k0_pay13
  rw [shapeCast_self]
  exact congrArg (s (at2 a q) + ·) (col8_at (T := 512) (N := 1024) (s := 64) dh _ _ _ _ _ rfl a q)

theorem pay14_at (x dh : Vec Ideal S512x1024 .f32) (g : Vec Ideal S1x1024 .f32) (s : Vec Ideal S8x1024 .f32) (a : Fin 8) (q : Fin 1024) :
    k0_pay14 (F := Ideal) x dh g s (at2 a q)
      = s (at2 a q) + ∑ i : Fin 64, scaleTerm (fun k => x (at2 ⟨i.val * 8 + a.val, by omega⟩ k)) (fun k => dh (at2 ⟨i.val * 8 + a.val, by omega⟩ k))
          (fun k => g (at2 0 k)) q := by
  unfold k0_pay14
  rw [shapeCast_self]
  refine congrArg (s (at2 a q) + ·) ((col8_at (T := 512) (N := 1024) (s := 64) _ _ _ _ _ _ rfl a q).trans (Finset.sum_congr rfl fun i _ => ?_))
  exact congrArg (dh _ * ·) (congrArg₂ (· * ·) (pay12_at x _ q) (brow_at (T := 512) (N := 1024) g _ _ q))

theorem pay16_at (x dh : Vec Ideal S512x1024 .f32) (sc : Vec Ideal S1x1024 .f32) (s : Vec Ideal S8x1024 .f32) (a : Fin 8) (q : Fin 1024) :
    k0_pay16 (F := Ideal) dh (k0_pay12 (F := Ideal) x) sc s (at2 a q)
      = s (at2 a q) + ∑ i : Fin 64, gainTerm (fun k => x (at2 ⟨i.val * 8 + a.val, by omega⟩ k)) (fun k => dh (at2 ⟨i.val * 8 + a.val, by omega⟩ k))
          (fun k => sc (at2 0 k)) q := by
  unfold k0_pay16
  rw [shapeCast_self]
  refine congrArg (s (at2 a q) + ·) ((col8_at (T := 512) (N := 1024) (s := 64) _ _ _ _ _ _ rfl a q).trans (Finset.sum_congr rfl fun i _ => ?_))
  exact congrArg₂ (· * ·) (pay15_at dh sc _ q) (pay12_at x _ q)

theorem gradient_at (x dh : Vec Ideal S512x1024 .f32) (g sc : Vec Ideal S1x1024 .f32) (add : Vec Ideal S512x1024 .f32) (p : Fin 512) (q : Fin 1024) :
    gradient x dh g sc add (at2 p q)
      = gradRow (fun k => x (at2 p k)) (fun k => dh (at2 p k)) (fun k => g (at2 0 k)) (fun k => sc (at2 0 k)) (add (at2 p q)) q := by
  have hg : ∀ k : Fin 1024, mulf (broadcastTo S512x1024 g broadcasts_S1x1024_S512x1024) (k0_pay15 (F := Ideal) dh sc) (at2 p k)
      = g (at2 0 k) * (dh (at2 p k) * (one + sc (at2 0 k))) := fun k =>
    congrArg₂ (· * ·) (brow_at (T := 512) (N := 1024) g _ p k) (pay15_at dh sc p k)
  unfold gradient k0_pay17
  rw [pay10_eq]
  refine congrArg₂ (· - ·) (congrArg (add (at2 p q) + ·) (congrArg₂ (· * ·) ((bcol_at (T := 512) (N := 1024) _ _ p q).trans (pay11_at x p 0)) (hg q)))
    (congrArg₂ (· * ·) (congrArg₂ (· * ·) (pay12_at x p q) ((bcol_at (T := 512) (N := 1024) _ _ p q).trans
      (congrArg₂ (· * ·) (pay11_at x p 0) (pay11_at x p 0)))) ((bcol_at (T := 512) (N := 1024) _ _ p q).trans (congrArg (Ideal.div · len) ?_)))
  exact (rowsum_at (T := 512) (N := 1024) _ _ _ _ _ _ p 0).trans (Finset.sum_congr rfl fun k _ => congrArg (x (at2 p k) * ·) (hg k))

theorem pay18_at (x dh : Vec Ideal S512x1024 .f32) (g sc : Vec Ideal S1x1024 .f32) (add : Vec Ideal S512x1024 .f32) (gt : Vec Ideal S1x1024 .f32)
    (p : Fin 512) (q : Fin 1024) :
    k0_pay18 (F := Ideal) (k0_pay10 (F := Ideal) x) dh g (k0_pay11 (F := Ideal) x) (k0_pay12 (F := Ideal) x) sc add gt (at2 p q)
      = gt (at2 0 q) * gradRow (fun k => x (at2 p k)) (fun k => dh (at2 p k)) (fun k => g (at2 0 k)) (fun k => sc (at2 0 k)) (add (at2 p q)) q := by
  unfold k0_pay18
  exact congrArg₂ (· * ·) (brow_at (T := 512) (N := 1024) gt _ p q) (gradient_at x dh g sc add p q)

theorem pay1_at (dx : Vec Ideal S512x1024 .f32) (s : Vec Ideal S8x1024 .f32) (v : Vec Ideal S512x1024 .f32) (a : Fin 8) (q : Fin 1024) :
    k0_pay1 (F := Ideal) dx s v (at2 a q)
      = s (at2 a q) + ∑ i : Fin 64, dx (at2 ⟨i.val * 8 + a.val, by omega⟩ q) * v (at2 ⟨i.val * 8 + a.val, by omega⟩ q) := by
  unfold k0_pay1
  rw [shapeCast_self]
  exact congrArg (s (at2 a q) + ·) (col8_at (T := 512) (N := 1024) (s := 64) (mulf dx v) _ _ _ _ _ rfl a q)

theorem pay2_at (s : Vec Ideal S8x1024 .f32) (u : Fin 1) (q : Fin 1024) : k0_pay2 s (at2 u q) = ∑ a : Fin 8, s (at2 a q) := by
  unfold k0_pay2
  exact colsum_at (T := 8) (N := 1024) _ _ _ _ _ _ u q

theorem pay3_at (s : Vec Ideal S8x1024 .f32) (u : Fin 1) (q : Fin 1024) : k0_pay3 s (at2 u q) = ∑ a : Fin 8, s (at2 a q) := by
  unfold k0_pay3
  exact colsum_at (T := 8) (N := 1024) _ _ _ _ _ _ u q

theorem pay4_at (s : Vec Ideal S8x1024 .f32) (u : Fin 1) (q : Fin 1024) : k0_pay4 s (at2 u q) = ∑ a : Fin 8, s (at2 a q) := by
  unfold k0_pay4
  exact colsum_at (T := 8) (N := 1024) _ _ _ _ _ _ u q

theorem pay5_at (s : Vec Ideal S8x1024 .f32) (u : Fin 1) (q : Fin 1024) : k0_pay5 s (at2 u q) = ∑ a : Fin 8, s (at2 a q) := by
  unfold k0_pay5
  exact colsum_at (T := 8) (N := 1024) _ _ _ _ _ _ u q

theorem zero6 (a : Fin 8) (q : Fin 1024) : k0_pay6 (F := Ideal) (at2 a q) = 0 := by
  unfold k0_pay6; rw [shapeCast_self]; exact Ideal.ofBits_zero_f32
theorem zero7 (a : Fin 8) (q : Fin 1024) : k0_pay7 (F := Ideal) (at2 a q) = 0 := by
  unfold k0_pay7; rw [shapeCast_self]; exact Ideal.ofBits_zero_f32
theorem zero8 (a : Fin 8) (q : Fin 1024) : k0_pay8 (F := Ideal) (at2 a q) = 0 := by
  unfold k0_pay8; rw [shapeCast_self]; exact Ideal.ofBits_zero_f32
theorem zero9 (a : Fin 8) (q : Fin 1024) : k0_pay9 (F := Ideal) (at2 a q) = 0 := by
  unfold k0_pay9; rw [shapeCast_self]; exact Ideal.ofBits_zero_f32

/-! ### The blocks -/

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = 0) :=
  (by decide +kernel : ∀ t : Fin grid0.N, _)

/-- The stream after the attention's residual, as the host hands it to the kernel. -/
theorem entry (c : Dev nD) : V m c main_v2 = Cert.Norm2BwdRefIdeal.Read.val_main_v2 (m ((c : Thread nD τ).loc main_arg0))
    (m ((c : Thread nD τ).loc main_arg1)) (m ((c : Thread nD τ).loc main_arg2)) := by
  show StableHlo.after hostOps0 (fun b => m (c, b)) main_v2 = _
  after_results
  rfl

theorem x_at (c : Dev nD) (t : Fin cfg0.N) (p : Fin 512) (k : Fin 1024) (r : Fin 4096) (hr : r.val = t.val * 512 + p.val) :
    iblk m c 0 t (at2 p k) = Cert.Norm2BwdRefIdeal.Read.val_main_v2 (m ((c : Thread nD τ).loc main_arg0))
      (m ((c : Thread nD τ).loc main_arg1)) (m ((c : Thread nD τ).loc main_arg2)) (at2 r k) := by
  show V m c main_v2 ((win0_0.rect t).emb (at2 p k)) = _
  rw [entry m c]
  refine congrArg _ (ext2 ((win0_0.rect_emb_val t _ 0).trans ?_) (emb_fixed win0_0 t _ 1 (idx_facts t).1.2))
  exact (congrArg (· * 512 + p.val) (idx_facts t).1.1).trans hr.symm

theorem dh_at (c : Dev nD) (t : Fin cfg0.N) (p : Fin 512) (k : Fin 1024) (r : Fin 4096) (hr : r.val = t.val * 512 + p.val) :
    iblk m c 1 t (at2 p k) = m ((c : Thread nD τ).loc main_arg7) (at2 r k) := by
  show V m c main_arg7 ((win0_1.rect t).emb (at2 p k)) = _
  refine congrArg (m ((c : Thread nD τ).loc main_arg7)) (ext2 ((win0_1.rect_emb_val t _ 0).trans ?_) (emb_fixed win0_1 t _ 1 (idx_facts t).2.1.2))
  exact (congrArg (· * 512 + p.val) (idx_facts t).2.1.1).trans hr.symm

theorem add_at (c : Dev nD) (t : Fin cfg0.N) (p : Fin 512) (k : Fin 1024) (r : Fin 4096) (hr : r.val = t.val * 512 + p.val) :
    iblk m c 4 t (at2 p k) = m ((c : Thread nD τ).loc main_arg6) (at2 r k) := by
  show V m c main_arg6 ((win0_4.rect t).emb (at2 p k)) = _
  refine congrArg (m ((c : Thread nD τ).loc main_arg6)) (ext2 ((win0_4.rect_emb_val t _ 0).trans ?_) (emb_fixed win0_4 t _ 1 (idx_facts t).2.2.2.2.1.2))
  exact (congrArg (· * 512 + p.val) (idx_facts t).2.2.2.2.1.1).trans hr.symm

theorem v_at (c : Dev nD) (t : Fin cfg0.N) (p : Fin 512) (k : Fin 1024) (r : Fin 4096) (hr : r.val = t.val * 512 + p.val) :
    iblk m c 6 t (at2 p k) = m ((c : Thread nD τ).loc main_arg2) (at2 r k) := by
  show V m c main_arg2 ((win0_6.rect t).emb (at2 p k)) = _
  refine congrArg (m ((c : Thread nD τ).loc main_arg2)) (ext2 ((win0_6.rect_emb_val t _ 0).trans ?_) (emb_fixed win0_6 t _ 1 (idx_facts t).2.2.2.2.2.2.1.2))
  exact (congrArg (· * 512 + p.val) (idx_facts t).2.2.2.2.2.2.1.1).trans hr.symm

theorem g_at (c : Dev nD) (t : Fin cfg0.N) (k : Fin 1024) : iblk m c 2 t (at2 0 k) = m ((c : Thread nD τ).loc main_arg3) (at2 0 k) := by
  show V m c main_arg3 ((win0_2.rect t).emb (at2 0 k)) = _
  exact congrArg (m ((c : Thread nD τ).loc main_arg3)) (ext2 (emb_fixed win0_2 t _ 0 (idx_facts t).2.2.1.1) (emb_fixed win0_2 t _ 1 (idx_facts t).2.2.1.2))

theorem sc_at (c : Dev nD) (t : Fin cfg0.N) (k : Fin 1024) : iblk m c 3 t (at2 0 k) = m ((c : Thread nD τ).loc main_arg4) (at2 0 k) := by
  show V m c main_arg4 ((win0_3.rect t).emb (at2 0 k)) = _
  exact congrArg (m ((c : Thread nD τ).loc main_arg4)) (ext2 (emb_fixed win0_3 t _ 0 (idx_facts t).2.2.2.1.1) (emb_fixed win0_3 t _ 1 (idx_facts t).2.2.2.1.2))

theorem gt_at (c : Dev nD) (t : Fin cfg0.N) (k : Fin 1024) : iblk m c 5 t (at2 0 k) = m ((c : Thread nD τ).loc main_arg1) (at2 0 k) := by
  show V m c main_arg1 ((win0_5.rect t).emb (at2 0 k)) = _
  exact congrArg (m ((c : Thread nD τ).loc main_arg1)) (ext2 (emb_fixed win0_5 t _ 0 (idx_facts t).2.2.2.2.2.1.1) (emb_fixed win0_5 t _ 1 (idx_facts t).2.2.2.2.2.1.2))

/-! ### The sums over the points -/

/-- One of the four scratches, by what a point adds to it: at the last point its eight rows sum to the sum over all rows. -/
theorem carried (c : Dev nD) (q : Fin 1024) (π : Scratches → Vec Ideal S8x1024 .f32) (blk : Fin cfg0.N → Fin 512 → EReal) (F : Fin 4096 → EReal)
    (hz : ∀ a : Fin 8, π (k0_pay6 (F := Ideal), k0_pay7 (F := Ideal), k0_pay8 (F := Ideal), k0_pay9 (F := Ideal)) (at2 a q) = 0)
    (hp : ∀ (t : Fin cfg0.N) s (a : Fin 8), π (point (iblk m c 0 t) (iblk m c 1 t) (iblk m c 2 t) (iblk m c 3 t) (iblk m c 4 t) (iblk m c 5 t)
        (iblk m c 6 t) s).2.2 (at2 a q) = π s (at2 a q) + ∑ i : Fin 64, blk t ⟨i.val * 8 + a.val, by omega⟩)
    (hb : ∀ t (k : Fin 512) (r : Fin 4096), r.val = t.val * 512 + k.val → blk t k = F r)
    (t : Fin cfg0.N) (h1 : t.val % 8 = 7) :
    ∑ a : Fin 8, π (left m c t.val t.isLt).2.2 (at2 a q) = ∑ r, F r := by
  have hN : cfg0.N = 8 := N_0
  refine total cfg0.N 64 rfl (fun t h a => π (left m c t h).2.2 (at2 a q)) blk F (fun h a => ?_) (fun t h a => ?_) hb t.val t.isLt
    (by have := t.isLt; omega)
  · refine (congrArg (fun s => π s.2.2 (at2 a q)) (point_first m c ⟨0, h⟩ rfl)).trans ((hp _ _ a).trans ?_)
    rw [hz, zero_add]
  · exact (congrArg (fun s => π s.2.2 (at2 a q)) (point_next m c ⟨t + 1, h⟩ (by dsimp only; omega))).trans (hp _ _ a)

/-! ### The reference at an element -/

section Reference
open Cert.Norm2BwdRefIdeal.Read

variable (x0 : Vec Ideal S4096x1024 .f32) (x1 : Vec Ideal S1x1024 .f32) (x2 : Vec Ideal S4096x1024 .f32) (x3 x4 : Vec Ideal S1x1024 .f32)
  (x6 x7 : Vec Ideal S4096x1024 .f32)

theorem ref9 (i : Cert.Norm2BwdRefIdeal.S4096x1.Idx) (r : Fin 4096) (hi : (i 0).val = r.val) :
    val_main_v9 (F := Ideal) x0 x1 x2 i = Ideal.div (∑ k, val_main_v2 (F := Ideal) x0 x1 x2 (at2 r k) * val_main_v2 (F := Ideal) x0 x1 x2 (at2 r k)) len + eps := by
  refine congrArg₂ (· + ·) (congrArg₂ Ideal.div ((val_main_v5_apply x0 x1 x2 i).trans ((val_main_v4_apply x0 x1 x2 _).trans ?_)) (val_main_v6_apply i)) (val_main_v8_apply i)
  refine (congrArg₂ (· + ·) Ideal.ofBits_zero_f32 (Finset.sum_congr rfl fun k _ => ?_)).trans (zero_add _)
  refine (val_main_v3_apply x0 x1 x2 _).trans ?_
  rw [show idx_main_v4 (idx_main_v5 i) k = at2 r k from ext2 hi rfl]
  rfl

theorem ref10 (i : Cert.Norm2BwdRefIdeal.S4096x1.Idx) (r : Fin 4096) (hi : (i 0).val = r.val) : val_main_v10 (F := Ideal) x0 x1 x2 i = Norms.inv fun k => val_main_v2 (F := Ideal) x0 x1 x2 (at2 r k) :=
  congrArg Ideal.rsqrt (ref9 x0 x1 x2 i r hi)

theorem ref15 (r : Fin 4096) (q : Fin 1024) : val_main_v15 (F := Ideal) x0 x1 x2 (at2 r q) = val_main_v2 (F := Ideal) x0 x1 x2 (at2 r q) * Norms.inv fun k => val_main_v2 (F := Ideal) x0 x1 x2 (at2 r k) :=
  congrArg (val_main_v2 (F := Ideal) x0 x1 x2 (at2 r q) * ·) ((val_main_v14_apply x0 x1 x2 _).trans (ref10 x0 x1 x2 _ r rfl))

theorem ref24 (r : Fin 4096) (q : Fin 1024) : val_main_v24 (F := Ideal) x7 (at2 r q) = x7 (at2 r q) :=
  (val_main_v24_apply x7 _).trans (congrArg x7 (ext2 (by show (r.val * 1024 + q.val) / 1024 = r.val; omega)
    (by show (r.val * 1024 + q.val) % 1024 = q.val; omega)))

theorem ref31 (r : Fin 4096) (q : Fin 1024) :
    val_main_v31 (F := Ideal) x4 x7 (at2 r q) = x7 (at2 r q) * (one + x4 (at2 0 q)) := by
  refine congrArg₂ (· * ·) (ref24 x7 r q) ((val_main_v30_apply x4 _).trans ?_)
  exact congrArg₂ (· + ·) (val_main_v18_apply _) (congrArg x4 (ext2 rfl rfl))

theorem ref26 (q : Fin 1024) : val_main_v26 (F := Ideal) x7 (at2 0 q) = ∑ r : Fin 4096, x7 (at2 r q) := by
  refine (val_main_v26_apply x7 _).trans ((val_main_v25_apply x7 _).trans ?_)
  refine (congrArg₂ (· + ·) Ideal.ofBits_zero_f32 (Finset.sum_congr rfl fun r _ => ?_)).trans (zero_add _)
  exact congrArg x7 (ext2 rfl (by show 0 * 1024 + q.val = q.val; omega))

theorem ref29 (q : Fin 1024) : val_main_v29 (F := Ideal) x0 x1 x2 x3 x7 (at2 0 q)
    = ∑ r : Fin 4096, scaleTerm (fun k => val_main_v2 (F := Ideal) x0 x1 x2 (at2 r k)) (fun k => x7 (at2 r k)) (fun k => x3 (at2 0 k)) q := by
  refine (val_main_v29_apply x0 x1 x2 x3 x7 _).trans ((val_main_v28_apply x0 x1 x2 x3 x7 _).trans ?_)
  refine (congrArg₂ (· + ·) Ideal.ofBits_zero_f32 (Finset.sum_congr rfl fun r _ => ?_)).trans (zero_add _)
  rw [show idx_main_v28 (idx_main_v29 (at2 0 q)) r = at2 r q from ext2 rfl (by show 0 * 1024 + q.val = q.val; omega)]
  refine Eq.trans ?_ (mul_comm _ _)
  exact congrArg₂ (· * ·) (congrArg₂ (· * ·) (ref15 x0 x1 x2 r q) ((val_main_v16_apply x3 _).trans (congrArg x3 (ext2 rfl rfl)))) (ref24 x7 r q)

theorem ref34 (q : Fin 1024) : val_main_v34 (F := Ideal) x0 x1 x2 x4 x7 (at2 0 q)
    = ∑ r : Fin 4096, gainTerm (fun k => val_main_v2 (F := Ideal) x0 x1 x2 (at2 r k)) (fun k => x7 (at2 r k)) (fun k => x4 (at2 0 k)) q := by
  refine (val_main_v34_apply x0 x1 x2 x4 x7 _).trans ((val_main_v33_apply x0 x1 x2 x4 x7 _).trans ?_)
  refine (congrArg₂ (· + ·) Ideal.ofBits_zero_f32 (Finset.sum_congr rfl fun r _ => ?_)).trans (zero_add _)
  rw [show idx_main_v33 (idx_main_v34 (at2 0 q)) r = at2 r q from ext2 rfl (by show 0 * 1024 + q.val = q.val; omega)]
  refine Eq.trans ?_ (mul_comm _ _)
  exact congrArg₂ (· * ·) (ref15 x0 x1 x2 r q) (ref31 x4 x7 r q)

theorem ref36 (r : Fin 4096) (q : Fin 1024) : val_main_v36 (F := Ideal) x3 x4 x7 (at2 r q)
    = (x7 (at2 r q) * (one + x4 (at2 0 q))) * x3 (at2 0 q) :=
  congrArg₂ (· * ·) (ref31 x4 x7 r q) ((val_main_v35_apply x3 _).trans (congrArg x3 (ext2 rfl rfl)))

/-- What the mean square's gradient spreads over a row. -/
theorem ref47 (r : Fin 4096) (q : Fin 1024) : val_main_v47 (F := Ideal) x0 x1 x2 x3 x4 x7 (at2 r q)
    = Ideal.div ((∑ k, val_main_v2 (F := Ideal) x0 x1 x2 (at2 r k) * ((x7 (at2 r k) * (one + x4 (at2 0 k))) * x3 (at2 0 k)))
        * (half * Ideal.div (Norms.inv fun k => val_main_v2 (F := Ideal) x0 x1 x2 (at2 r k)) (Ideal.div (∑ k, val_main_v2 (F := Ideal) x0 x1 x2 (at2 r k) * val_main_v2 (F := Ideal) x0 x1 x2 (at2 r k)) len + eps))) len := by
  refine (val_main_v47_apply x0 x1 x2 x3 x4 x7 _).trans ((val_main_v46_apply x0 x1 x2 x3 x4 x7 _).trans ?_)
  rw [Fin.sum_univ_one]
  refine (congrArg₂ (· + ·) Ideal.ofBits_zero_f32 ?_).trans (zero_add _)
  refine congrArg₂ Ideal.div (congrArg₂ (· * ·) ?_ ?_) (val_main_v44_apply _)
  · refine (val_main_v39_apply x0 x1 x2 x3 x4 x7 _).trans ((val_main_v38_apply x0 x1 x2 x3 x4 x7 _).trans ?_)
    refine (congrArg₂ (· + ·) Ideal.ofBits_zero_f32 (Finset.sum_congr rfl fun k _ => ?_)).trans (zero_add _)
    rw [show idx_main_v38 (idx_main_v39 (idx_main_v46 (idx_main_v47 (at2 r q)) 0)) k = at2 r k from ext2 (by show r.val * 1 + 0 = r.val; omega) rfl]
    exact congrArg (val_main_v2 (F := Ideal) x0 x1 x2 (at2 r k) * ·) (ref36 x3 x4 x7 r k)
  · have e := ref9 x0 x1 x2 (idx_main_v46 (idx_main_v47 (at2 r q)) 0) r rfl
    have e7 := ref10 x0 x1 x2 (idx_main_v46 (idx_main_v47 (at2 r q)) 0) r rfl
    refine (val_main_v13_apply x0 x1 x2 _).trans (congrArg₂ (· * ·) (val_main_v12_apply _) ((val_main_v11_apply x0 x1 x2 _).trans ?_))
    rw [e, e7]
    rfl

theorem ref51 (r : Fin 4096) (q : Fin 1024) : val_main_v51 (F := Ideal) x0 x1 x2 x3 x4 x6 x7 (at2 r q)
    = gradRow (fun k => val_main_v2 (F := Ideal) x0 x1 x2 (at2 r k)) (fun k => x7 (at2 r k)) (fun k => x3 (at2 0 k)) (fun k => x4 (at2 0 k)) (x6 (at2 r q)) q := by
  rw [gradRow_eq, ← add_assoc, ← add_assoc]
  refine congrArg₂ (· + ·) (congrArg₂ (· + ·) (congrArg (x6 (at2 r q) + ·) (congrArg₂ (· * ·) (ref36 x3 x4 x7 r q)
    ((val_main_v40_apply x0 x1 x2 _).trans (ref10 x0 x1 x2 _ r rfl)))) (congrArg (val_main_v2 (F := Ideal) x0 x1 x2 (at2 r q) * ·) (ref47 x0 x1 x2 x3 x4 x7 r q)))
    (congrArg (· * val_main_v2 (F := Ideal) x0 x1 x2 (at2 r q)) (ref47 x0 x1 x2 x3 x4 x7 r q))

theorem ref52 (r : Fin 4096) (q : Fin 1024) :
    val_main_v52 (F := Ideal) x0 x1 x2 x3 x4 x6 x7 (at2 r q) = val_main_v51 (F := Ideal) x0 x1 x2 x3 x4 x6 x7 (at2 r q) :=
  (val_main_v52_apply x0 x1 x2 x3 x4 x6 x7 _).trans (congrArg _ (ext2 (by show (r.val * 1024 + q.val) / 1024 = r.val; omega)
    (by show (r.val * 1024 + q.val) % 1024 = q.val; omega)))

theorem ref58 (r : Fin 4096) (q : Fin 1024) : val_main_v58 (F := Ideal) x0 x1 x2 x3 x4 x6 x7 (at2 r q)
    = x1 (at2 0 q) * gradRow (fun k => val_main_v2 (F := Ideal) x0 x1 x2 (at2 r k)) (fun k => x7 (at2 r k)) (fun k => x3 (at2 0 k)) (fun k => x4 (at2 0 k)) (x6 (at2 r q)) q := by
  have e : val_main_v53 (F := Ideal) x1 (at2 r q) = x1 (at2 0 q) := (val_main_v53_apply x1 _).trans (congrArg x1 (ext2 rfl rfl))
  rw [← ref51, ← ref52, ← e]
  rfl

theorem ref57 (q : Fin 1024) : val_main_v57 (F := Ideal) x0 x1 x2 x3 x4 x6 x7 (at2 0 q)
    = ∑ r : Fin 4096, gradRow (fun k => val_main_v2 (F := Ideal) x0 x1 x2 (at2 r k)) (fun k => x7 (at2 r k)) (fun k => x3 (at2 0 k)) (fun k => x4 (at2 0 k)) (x6 (at2 r q)) q
        * x2 (at2 r q) := by
  refine (val_main_v57_apply x0 x1 x2 x3 x4 x6 x7 _).trans ((val_main_v56_apply x0 x1 x2 x3 x4 x6 x7 _).trans ?_)
  refine (congrArg₂ (· + ·) Ideal.ofBits_zero_f32 (Finset.sum_congr rfl fun r _ => ?_)).trans (zero_add _)
  rw [show idx_main_v56 (idx_main_v57 (at2 0 q)) r = at2 r q from ext2 rfl (by show 0 * 1024 + q.val = q.val; omega)]
  exact congrArg (· * x2 (at2 r q)) ((ref52 x0 x1 x2 x3 x4 x6 x7 r q).trans (ref51 x0 x1 x2 x3 x4 x6 x7 r q))

end Reference

/-! ### The results -/

theorem final7 (c : Dev nD) : (dats m 0 c).arrAt 7 cfg0.N = Cert.Norm2BwdRefIdeal.Read.val_main_v26 (m ((c : Thread nD τ).loc main_arg7)) := by
  refine (dats m 0 c).arrAt_eq_of_covers 7 _ (by decide +kernel) fun t hf y => ?_
  have h1 : t.val % 8 = 7 := (flush0_7 t).mp hf
  blk_simp
  rw [after0_7]
  obtain ⟨p, q, rfl⟩ : ∃ (p : Fin 1) (q : Fin 1024), y = at2 p q := ⟨_, _, eq_at2 y⟩
  rw [show ((win0_7.blk t).view.emb (at2 p q)) = at2 0 q from ext2 ((emb_fixed win0_7 t _ 0 (idx_facts t).2.2.2.2.2.2.2.1.1).trans (by show p.val = 0; omega))
    (emb_fixed win0_7 t _ 1 (idx_facts t).2.2.2.2.2.2.2.1.2), ref26]
  refine (congrFun (congrArg (fun s => s.1) (point_last m c t h1)) (at2 p q)).trans ((pay2_at _ p q).trans ?_)
  refine carried m c q (fun s => s.1) (fun t k => iblk m c 1 t (at2 k q)) _ (fun a => zero6 a q) (fun t s a => pay13_at _ s.1 a q) (fun t k r hr => ?_) t h1
  exact dh_at m c t k q r hr

theorem final8 (c : Dev nD) : (dats m 0 c).arrAt 8 cfg0.N = Cert.Norm2BwdRefIdeal.Read.val_main_v29 (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 8 _ (by decide +kernel) fun t hf y => ?_
  have h1 : t.val % 8 = 7 := (flush0_8 t).mp hf
  blk_simp
  rw [after0_8]
  obtain ⟨p, q, rfl⟩ : ∃ (p : Fin 1) (q : Fin 1024), y = at2 p q := ⟨_, _, eq_at2 y⟩
  rw [show ((win0_8.blk t).view.emb (at2 p q)) = at2 0 q from ext2 ((emb_fixed win0_8 t _ 0 (idx_facts t).2.2.2.2.2.2.2.2.1.1).trans (by show p.val = 0; omega))
    (emb_fixed win0_8 t _ 1 (idx_facts t).2.2.2.2.2.2.2.2.1.2), ref29]
  refine (congrFun (congrArg (fun s => s.2.1) (point_last m c t h1)) (at2 p q)).trans ((pay3_at _ p q).trans ?_)
  refine carried m c q (fun s => s.2.1) (fun t k => scaleTerm (fun j => iblk m c 0 t (at2 k j)) (fun j => iblk m c 1 t (at2 k j)) (fun j => iblk m c 2 t (at2 0 j)) q) _ (fun a => zero7 a q) (fun t s a => pay14_at _ _ _ s.2.1 a q) (fun t k r hr => ?_) t h1
  rw [funext fun j => x_at m c t k j r hr, funext fun j => dh_at m c t k j r hr, funext fun j => g_at m c t j]

theorem final9 (c : Dev nD) : (dats m 0 c).arrAt 9 cfg0.N = Cert.Norm2BwdRefIdeal.Read.val_main_v34 (m ((c : Thread nD τ).loc main_arg0)) (m ((c : Thread nD τ).loc main_arg1)) (m ((c : Thread nD τ).loc main_arg2)) (m ((c : Thread nD τ).loc main_arg4)) (m ((c : Thread nD τ).loc main_arg7)) := by
  refine (dats m 0 c).arrAt_eq_of_covers 9 _ (by decide +kernel) fun t hf y => ?_
  have h1 : t.val % 8 = 7 := (flush0_9 t).mp hf
  blk_simp
  rw [after0_9]
  obtain ⟨p, q, rfl⟩ : ∃ (p : Fin 1) (q : Fin 1024), y = at2 p q := ⟨_, _, eq_at2 y⟩
  rw [show ((win0_9.blk t).view.emb (at2 p q)) = at2 0 q from ext2 ((emb_fixed win0_9 t _ 0 (idx_facts t).2.2.2.2.2.2.2.2.2.1.1).trans (by show p.val = 0; omega))
    (emb_fixed win0_9 t _ 1 (idx_facts t).2.2.2.2.2.2.2.2.2.1.2), ref34]
  refine (congrFun (congrArg (fun s => s.2.2.1) (point_last m c t h1)) (at2 p q)).trans ((pay4_at _ p q).trans ?_)
  refine carried m c q (fun s => s.2.2.1) (fun t k => gainTerm (fun j => iblk m c 0 t (at2 k j)) (fun j => iblk m c 1 t (at2 k j)) (fun j => iblk m c 3 t (at2 0 j)) q) _ (fun a => zero8 a q) (fun t s a => pay16_at _ _ _ s.2.2.1 a q) (fun t k r hr => ?_) t h1
  rw [funext fun j => x_at m c t k j r hr, funext fun j => dh_at m c t k j r hr, funext fun j => sc_at m c t j]

theorem final12 (c : Dev nD) : (dats m 0 c).arrAt 12 cfg0.N = Cert.Norm2BwdRefIdeal.Read.val_main_v57 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 12 _ (by decide +kernel) fun t hf y => ?_
  have h1 : t.val % 8 = 7 := (flush0_12 t).mp hf
  blk_simp
  rw [after0_12]
  obtain ⟨p, q, rfl⟩ : ∃ (p : Fin 1) (q : Fin 1024), y = at2 p q := ⟨_, _, eq_at2 y⟩
  rw [show ((win0_12.blk t).view.emb (at2 p q)) = at2 0 q from ext2 ((emb_fixed win0_12 t _ 0 (idx_facts t).2.2.2.2.2.2.2.2.2.2.2.2.1).trans (by show p.val = 0; omega))
    (emb_fixed win0_12 t _ 1 (idx_facts t).2.2.2.2.2.2.2.2.2.2.2.2.2), ref57]
  refine (congrFun (congrArg (fun s => s.2.2.2) (point_last m c t h1)) (at2 p q)).trans ((pay5_at _ p q).trans ?_)
  refine carried m c q (fun s => s.2.2.2) (fun t k => gradRow (fun j => iblk m c 0 t (at2 k j)) (fun j => iblk m c 1 t (at2 k j)) (fun j => iblk m c 2 t (at2 0 j)) (fun j => iblk m c 3 t (at2 0 j)) (iblk m c 4 t (at2 k q)) q
      * iblk m c 6 t (at2 k q)) _ (fun a => zero9 a q) (fun t s a => (pay1_at _ s.2.2.2 _ a q).trans (congrArg (s.2.2.2 (at2 a q) + ·) (Finset.sum_congr rfl fun i _ => congrArg (· * _) (gradient_at _ _ _ _ _ _ q)))) (fun t k r hr => ?_) t h1
  rw [funext fun j => x_at m c t k j r hr, funext fun j => dh_at m c t k j r hr, funext fun j => g_at m c t j, funext fun j => sc_at m c t j,
    add_at m c t k q r hr, v_at m c t k q r hr]

theorem final10 (c : Dev nD) : (dats m 0 c).arrAt 10 cfg0.N = Cert.Norm2BwdRefIdeal.Read.val_main_v51 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 10 _ (by decide +kernel) fun t hf y => ?_
  blk_simp
  rw [after0_10]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_10.blk t).view.emb (at2 p q)) = at2 r q from ext2 ((win0_10.rect_emb_val t _ 0).trans
    ((congrArg (· * 512 + p.val) (idx_facts t).2.2.2.2.2.2.2.2.2.2.1.1).trans hr.symm)) (emb_fixed win0_10 t _ 1 (idx_facts t).2.2.2.2.2.2.2.2.2.2.1.2), ref51,
    ← funext fun j => x_at m c t p j r hr, ← funext fun j => dh_at m c t p j r hr, ← funext fun j => g_at m c t j, ← funext fun j => sc_at m c t j,
    ← add_at m c t p q r hr]
  by_cases h0 : t.val % 8 = 0
  · exact (congrFun (congrArg (fun s => s.1) (point_first m c t h0)) (at2 p q)).trans (gradient_at _ _ _ _ _ p q)
  · exact (congrFun (congrArg (fun s => s.1) (point_next m c t h0)) (at2 p q)).trans (gradient_at _ _ _ _ _ p q)

theorem final11 (c : Dev nD) : (dats m 0 c).arrAt 11 cfg0.N = Cert.Norm2BwdRefIdeal.Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 11 _ (by decide +kernel) fun t hf y => ?_
  blk_simp
  rw [after0_11]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_11.blk t).view.emb (at2 p q)) = at2 r q from ext2 ((win0_11.rect_emb_val t _ 0).trans
    ((congrArg (· * 512 + p.val) (idx_facts t).2.2.2.2.2.2.2.2.2.2.2.1.1).trans hr.symm)) (emb_fixed win0_11 t _ 1 (idx_facts t).2.2.2.2.2.2.2.2.2.2.2.1.2), ref58,
    ← funext fun j => x_at m c t p j r hr, ← funext fun j => dh_at m c t p j r hr, ← funext fun j => g_at m c t j, ← funext fun j => sc_at m c t j,
    ← add_at m c t p q r hr, ← gt_at m c t q]
  by_cases h0 : t.val % 8 = 0
  · exact (congrFun (congrArg (fun s => s.2.1) (point_first m c t h0)) (at2 p q)).trans (pay18_at _ _ _ _ _ _ p q)
  · exact (congrFun (congrArg (fun s => s.2.1) (point_next m c t h0)) (at2 p q)).trans (pay18_at _ _ _ _ _ _ p q)

end Cert.Norm2BwdIdeal.Norm

end
-- ==== Proof.Norms.Forward.lean ====
/- The norm with its gain and modulation, read at an element: of a block, as a kernel computes it, and of a whole array, as
   the reference does. -/
module

public import proofs.«01_k».proof.Proof.Norms.Rows

@[expose] public section

noncomputable section

namespace Cert.Norms

open Idealize.ShloMosaic Cert.Products
open scoped BigOperators

/-- A row's norm with its gain, scaled and shifted, at a column. -/
def modulated (x g sc sh : Fin 1024 → EReal) (q : Fin 1024) : EReal := ((x q * inv x) * g q) * (one + sc q) + sh q

variable {T : ℕ}

/-- A block's. -/
theorem block_modulated (x : FVec Ideal ⟨2, ![T, 1024]⟩ .f32) (g sc sh : FVec Ideal ⟨2, ![1, 1024]⟩ .f32)
    (hr : (⟨2, ![T, 1024]⟩ : Shape).Reduces [1] ⟨1, ![T]⟩) (hφ ha) (hc : (⟨1, ![T]⟩ : Shape).ShapeCasts ⟨2, ![T, 1]⟩)
    (hb : (⟨2, ![T, 1]⟩ : Shape).Broadcasts ⟨2, ![T, 1024]⟩) (hg hs hh : (⟨2, ![1, 1024]⟩ : Shape).Broadcasts ⟨2, ![T, 1024]⟩)
    (p : Fin T) (q : Fin 1024) :
    addf (mulf (mulf (mulf x (broadcastTo ⟨2, ![T, 1024]⟩ (rsqrt (addf (divf (shapeCast ⟨2, ![T, 1]⟩
          (multiReduction .add [1] ⟨1, ![T]⟩ (mulf x x) 0x00000000#32 hr hφ ha) hc) (broadcast ⟨2, ![T, 1]⟩ len)) (broadcast ⟨2, ![T, 1]⟩ eps))) hb))
        (broadcastTo ⟨2, ![T, 1024]⟩ g hg)) (broadcastTo ⟨2, ![T, 1024]⟩ (addf (broadcast ⟨2, ![1, 1024]⟩ one) sc) hs))
        (broadcastTo ⟨2, ![T, 1024]⟩ sh hh) (at2 p q)
      = modulated (fun k => x (at2 p k)) (fun k => g (at2 0 k)) (fun k => sc (at2 0 k)) (fun k => sh (at2 0 k)) q :=
  congrArg₂ (· + ·) (congrArg₂ (· * ·) (congrArg₂ (· * ·) (congrArg (x (at2 p q) * ·) ((bcol_at _ hb p q).trans
    (congrArg (fun s => Ideal.rsqrt (Ideal.div s len + eps)) (rowsum_at (mulf x x) _ hr hφ ha hc p 0)))) (brow_at g hg p q))
    (brow_at _ hs p q)) (brow_at sh hh p q)

/-- A row stretched down the rows of an array. -/
theorem hrow_at {A : Type} (v : (⟨2, ![1, 1024]⟩ : Shape).Idx → A)
    (h : (⟨2, ![1, 1024]⟩ : Shape).BroadcastsInDim ⟨2, ![T, 1024]⟩ (![0, 1] : Fin 2 → Fin 2)) (p : Fin T) (q : Fin 1024) :
    broadcastInDim ⟨2, ![T, 1024]⟩ ![0, 1] h v (at2 p q) = v (at2 0 q) :=
  broadcastInDim_apply _ h v _ _ fun a => match a with
    | ⟨0, _⟩ => by show 0 = if (1 : ℕ) = 1 then 0 else p.val; rw [if_pos rfl]
    | ⟨1, _⟩ => by show q.val = if (1024 : ℕ) = 1 then 0 else q.val; rw [if_neg (by decide)]

/-- A column stretched along them. -/
theorem hcol_at {A : Type} (v : (⟨2, ![T, 1]⟩ : Shape).Idx → A)
    (h : (⟨2, ![T, 1]⟩ : Shape).BroadcastsInDim ⟨2, ![T, 1024]⟩ (![0, 1] : Fin 2 → Fin 2)) (p : Fin T) (q : Fin 1024) :
    broadcastInDim ⟨2, ![T, 1024]⟩ ![0, 1] h v (at2 p q) = v (at2 p 0) :=
  broadcastInDim_apply _ h v _ _ fun a => match a with
    | ⟨0, _⟩ => by
      show p.val = if T = 1 then 0 else p.val
      have := p.isLt
      split <;> omega
    | ⟨1, _⟩ => by show 0 = if (1 : ℕ) = 1 then 0 else q.val; rw [if_pos rfl]

/-- An array's row sums, kept as a column. -/
theorem hsum_at (x : FVec Ideal ⟨2, ![T, 1024]⟩ .f32) (hr : (⟨2, ![T, 1024]⟩ : Shape).ReducesTo [1] ⟨1, ![T]⟩) (h0)
    (hr' : (⟨2, ![T, 1024]⟩ : Shape).Reduces [1] ⟨1, ![T]⟩)
    (hc : (⟨1, ![T]⟩ : Shape).BroadcastsInDim ⟨2, ![T, 1]⟩ (![0] : Fin 1 → Fin 2)) (p : Fin T) :
    broadcastInDim ⟨2, ![T, 1]⟩ ![0] hc (Host.reduceAdd x (constant ⟨0, ![]⟩ .f32 0x00000000#32) hr h0) (at2 p 0) = ∑ k, x (at2 p k) := by
  refine (broadcastInDim_apply _ hc _ _ (ValueIdx.ix1 p) fun a => match a with
    | ⟨0, _⟩ => by
      show p.val = if T = 1 then 0 else p.val
      have := p.isLt
      split <;> omega).trans ?_
  simp only [Host.reduceAdd, Ideal.hostReduceAdd_def]
  rw [Ideal.hostReduceAdd_single hr hr']
  have e : ∀ k : Fin 1024, x (hr'.lift (ValueIdx.ix1 p) k) = x (at2 p k) := fun k => congrArg x (ext2 rfl rfl)
  exact (congrArg₂ (· + ·) Ideal.ofBits_zero_f32 (Finset.sum_congr rfl fun k _ => e k)).trans (zero_add (∑ k : Fin 1024, x (at2 p k)))

/-- An array's. -/
theorem host_modulated (x : FVec Ideal ⟨2, ![T, 1024]⟩ .f32) (g sc sh : FVec Ideal ⟨2, ![1, 1024]⟩ .f32)
    (hr : (⟨2, ![T, 1024]⟩ : Shape).ReducesTo [1] ⟨1, ![T]⟩) (h0)
    (hr' : (⟨2, ![T, 1024]⟩ : Shape).Reduces [1] ⟨1, ![T]⟩)
    (hc : (⟨1, ![T]⟩ : Shape).BroadcastsInDim ⟨2, ![T, 1]⟩ (![0] : Fin 1 → Fin 2))
    (hl : (⟨0, ![]⟩ : Shape).BroadcastsInDim ⟨2, ![T, 1]⟩ (![] : Fin 0 → Fin 2))
    (ho : (⟨0, ![]⟩ : Shape).BroadcastsInDim ⟨2, ![1, 1024]⟩ (![] : Fin 0 → Fin 2))
    (hb : (⟨2, ![T, 1]⟩ : Shape).BroadcastsInDim ⟨2, ![T, 1024]⟩ (![0, 1] : Fin 2 → Fin 2))
    (hg : (⟨2, ![1, 1024]⟩ : Shape).BroadcastsInDim ⟨2, ![T, 1024]⟩ (![0, 1] : Fin 2 → Fin 2)) (p : Fin T) (q : Fin 1024) :
    addf (mulf (mulf (mulf x (broadcastInDim ⟨2, ![T, 1024]⟩ ![0, 1] hb (Host.rsqrt (addf (Host.divf (broadcastInDim ⟨2, ![T, 1]⟩ ![0] hc
          (Host.reduceAdd (mulf x x) (constant ⟨0, ![]⟩ .f32 0x00000000#32) hr h0)) (broadcastInDim ⟨2, ![T, 1]⟩ ![] hl (constant ⟨0, ![]⟩ .f32 0x44800000#32)))
          (broadcastInDim ⟨2, ![T, 1]⟩ ![] hl (constant ⟨0, ![]⟩ .f32 0x358637BD#32))))))
        (broadcastInDim ⟨2, ![T, 1024]⟩ ![0, 1] hg g))
        (broadcastInDim ⟨2, ![T, 1024]⟩ ![0, 1] hg (addf (broadcastInDim ⟨2, ![1, 1024]⟩ ![] ho (constant ⟨0, ![]⟩ .f32 0x3F800000#32)) sc)))
        (broadcastInDim ⟨2, ![T, 1024]⟩ ![0, 1] hg sh) (at2 p q)
      = modulated (fun k => x (at2 p k)) (fun k => g (at2 0 k)) (fun k => sc (at2 0 k)) (fun k => sh (at2 0 k)) q :=
  congrArg₂ (· + ·) (congrArg₂ (· * ·) (congrArg₂ (· * ·) (congrArg (x (at2 p q) * ·) ((hcol_at _ hb p q).trans
    (congrArg (fun s => Ideal.rsqrt (Ideal.div s len + eps)) (hsum_at (mulf x x) hr h0 hr' hc p)))) (hrow_at g hg p q))
    (hrow_at _ hg p q)) (hrow_at sh hg p q)

/-- Two arrays one above the other, read above … -/
theorem stack_upper {A : Type} {a b n : ℕ} (x : (⟨2, ![a, n]⟩ : Shape).Idx → A) (y : (⟨2, ![b, n]⟩ : Shape).Idx → A)
    (h : Shape.Concatenates [⟨2, ![a, n]⟩, ⟨2, ![b, n]⟩] ⟨2, ![T, n]⟩ 0) (p : Fin T) (q : Fin n) (r : Fin a) (hr : r.val = p.val) :
    concatenate ⟨2, ![T, n]⟩ 0 [⟨_, x⟩, ⟨_, y⟩] h (at2 p q) = x (at2 r q) := by
  let xs : List ((s : Shape) × (s.Idx → A)) := [⟨⟨2, ![a, n]⟩, x⟩, ⟨⟨2, ![b, n]⟩, y⟩]
  exact concatenate_apply_piece (0 : Fin (⟨2, ![T, n]⟩ : Shape).rank) xs h (at2 p q) 0 (by simp [xs]) _ x rfl rfl 0 rfl (at2 r q)
    (fun b hb => match b with
      | ⟨0, _⟩ => absurd rfl hb
      | ⟨1, _⟩ => rfl) ((Nat.zero_add _).trans hr)

/-- … and below. -/
theorem stack_lower {A : Type} {a b n : ℕ} (x : (⟨2, ![a, n]⟩ : Shape).Idx → A) (y : (⟨2, ![b, n]⟩ : Shape).Idx → A)
    (h : Shape.Concatenates [⟨2, ![a, n]⟩, ⟨2, ![b, n]⟩] ⟨2, ![T, n]⟩ 0) (p : Fin T) (q : Fin n) (r : Fin b) (hr : a + r.val = p.val) :
    concatenate ⟨2, ![T, n]⟩ 0 [⟨_, x⟩, ⟨_, y⟩] h (at2 p q) = y (at2 r q) := by
  let xs : List ((s : Shape) × (s.Idx → A)) := [⟨⟨2, ![a, n]⟩, x⟩, ⟨⟨2, ![b, n]⟩, y⟩]
  exact concatenate_apply_piece (0 : Fin (⟨2, ![T, n]⟩ : Shape).rank) xs h (at2 p q) 1 (by simp [xs]) _ y rfl rfl a (Nat.add_zero _) (at2 r q)
    (fun b hb => match b with
      | ⟨0, _⟩ => absurd rfl hb
      | ⟨1, _⟩ => rfl) hr

end Cert.Norms
-- ==== Proof.Norms.Norm2Fwd.lean ====
/- The second norm's forward pass: the stream with the gated product, and its norm with gain and modulation, after the run. -/
module

public import proofs.«01_k».proof.Proof.Gen.Norm2FwdIdeal.Value
public import proofs.«01_k».proof.Proof.Gen.Norm2FwdRefIdeal.Read
public import Idealize.ShloMosaic.Lib.Pipeline.ValueKit
public import proofs.«01_k».proof.Proof.Norms.Forward

@[expose] public section

noncomputable section

namespace Cert.Norm2FwdIdeal.Norm

open Cert.Norm2FwdIdeal Cert.Norm2FwdIdeal.Gen Cert.Products Cert.Norms Idealize.ShloMosaic Idealize.ShloMosaic.TcCoe Idealize.SL.Sem
open Idealize.ShloMosaic.Pipeline (Dat)

variable (m : (ℓ : Loc nD τ sig) → Buf (Elt Ideal) ℓ)

/-- A block of the stream with the gated product, … -/
theorem out6_at (x y : Vec Ideal S512x1024 .f32) (gt g sc sh : Vec Ideal S1x1024 .f32) (p : Fin 512) (q : Fin 1024) :
    out0_6 (F := Ideal) x y gt g sc sh (at2 p q) = x (at2 p q) + gt (at2 0 q) * y (at2 p q) := by
  unfold out0_6 k0_pay1
  rw [View.canon_unit_zero (by decide), View.ld_unit_zero (S := S512x1024) (by decide), View.ld_unit_zero (S := S512x1024) (by decide), View.ld_unit_zero (S := S1x1024) (by decide)]
  exact congrArg (x (at2 p q) + ·) (congrArg (· * y (at2 p q)) (brow_at (T := 512) (N := 1024) gt _ p q))

/-- … and of its norm, with gain and modulation. -/
theorem out7_at (x y : Vec Ideal S512x1024 .f32) (gt g sc sh : Vec Ideal S1x1024 .f32) (p : Fin 512) (q : Fin 1024) :
    out0_7 (F := Ideal) x y gt g sc sh (at2 p q)
      = modulated (fun k => x (at2 p k) + gt (at2 0 k) * y (at2 p k)) (fun k => g (at2 0 k)) (fun k => sc (at2 0 k)) (fun k => sh (at2 0 k)) q := by
  have e : ∀ k, k0_pay1 (F := Ideal) x gt y (at2 p k) = x (at2 p k) + gt (at2 0 k) * y (at2 p k) := fun k =>
    congrArg (x (at2 p k) + ·) (congrArg (· * y (at2 p k)) (brow_at (T := 512) (N := 1024) gt _ p k))
  unfold out0_7
  rw [View.canon_unit_zero (by decide), View.ld_unit_zero (S := S512x1024) (by decide), View.ld_unit_zero (S := S512x1024) (by decide), View.ld_unit_zero (S := S1x1024) (by decide), View.ld_unit_zero (S := S1x1024) (by decide), View.ld_unit_zero (S := S1x1024) (by decide), View.ld_unit_zero (S := S1x1024) (by decide)]
  rw [← funext e]
  exact block_modulated (k0_pay1 (F := Ideal) x gt y) g sc sh _ _ _ _ _ _ _ _ p q

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem x_at (c : Dev nD) (t : Fin cfg0.N) (p : Fin 512) (k : Fin 1024) (r : Fin 4096) (hr : r.val = t.val * 512 + p.val) :
    iblk m c 0 t (at2 p k) = m ((c : Thread nD τ).loc main_arg0) (at2 r k) := by
  show V m c main_arg0 ((win0_0.rect t).emb (at2 p k)) = _
  refine congrArg (m ((c : Thread nD τ).loc main_arg0)) (ext2 ((win0_0.rect_emb_val t _ 0).trans ?_) (emb_fixed win0_0 t _ 1 (idx_facts t).1.2))
  exact (congrArg (· * 512 + p.val) (idx_facts t).1.1).trans hr.symm

theorem y_at (c : Dev nD) (t : Fin cfg0.N) (p : Fin 512) (k : Fin 1024) (r : Fin 4096) (hr : r.val = t.val * 512 + p.val) :
    iblk m c 1 t (at2 p k) = m ((c : Thread nD τ).loc main_arg1) (at2 r k) := by
  show V m c main_arg1 ((win0_1.rect t).emb (at2 p k)) = _
  refine congrArg (m ((c : Thread nD τ).loc main_arg1)) (ext2 ((win0_1.rect_emb_val t _ 0).trans ?_) (emb_fixed win0_1 t _ 1 (idx_facts t).2.1.2))
  exact (congrArg (· * 512 + p.val) (idx_facts t).2.1.1).trans hr.symm

theorem gt_at (c : Dev nD) (t : Fin cfg0.N) (k : Fin 1024) : iblk m c 2 t (at2 0 k) = m ((c : Thread nD τ).loc main_arg2) (at2 0 k) := by
  show V m c main_arg2 ((win0_2.rect t).emb (at2 0 k)) = _
  exact congrArg (m ((c : Thread nD τ).loc main_arg2)) (ext2 (emb_fixed win0_2 t _ 0 (idx_facts t).2.2.1.1) (emb_fixed win0_2 t _ 1 (idx_facts t).2.2.1.2))

theorem g_at (c : Dev nD) (t : Fin cfg0.N) (k : Fin 1024) : iblk m c 3 t (at2 0 k) = m ((c : Thread nD τ).loc main_arg3) (at2 0 k) := by
  show V m c main_arg3 ((win0_3.rect t).emb (at2 0 k)) = _
  exact congrArg (m ((c : Thread nD τ).loc main_arg3)) (ext2 (emb_fixed win0_3 t _ 0 (idx_facts t).2.2.2.1.1) (emb_fixed win0_3 t _ 1 (idx_facts t).2.2.2.1.2))

theorem sc_at (c : Dev nD) (t : Fin cfg0.N) (k : Fin 1024) : iblk m c 4 t (at2 0 k) = m ((c : Thread nD τ).loc main_arg4) (at2 0 k) := by
  show V m c main_arg4 ((win0_4.rect t).emb (at2 0 k)) = _
  exact congrArg (m ((c : Thread nD τ).loc main_arg4)) (ext2 (emb_fixed win0_4 t _ 0 (idx_facts t).2.2.2.2.1.1) (emb_fixed win0_4 t _ 1 (idx_facts t).2.2.2.2.1.2))

theorem sh_at (c : Dev nD) (t : Fin cfg0.N) (k : Fin 1024) : iblk m c 5 t (at2 0 k) = m ((c : Thread nD τ).loc main_arg5) (at2 0 k) := by
  show V m c main_arg5 ((win0_5.rect t).emb (at2 0 k)) = _
  exact congrArg (m ((c : Thread nD τ).loc main_arg5)) (ext2 (emb_fixed win0_5 t _ 0 (idx_facts t).2.2.2.2.2.1.1) (emb_fixed win0_5 t _ 1 (idx_facts t).2.2.2.2.2.1.2))

/-! ### The reference at an element -/

open Cert.Norm2FwdRefIdeal.Read in
theorem ref2 (x0 x1 : Vec Ideal S4096x1024 .f32) (x2 : Vec Ideal S1x1024 .f32) (r : Fin 4096) (q : Fin 1024) :
    val_main_v2 (F := Ideal) x0 x1 x2 (at2 r q) = x0 (at2 r q) + x2 (at2 0 q) * x1 (at2 r q) :=
  congrArg (x0 (at2 r q) + ·) (congrArg (· * x1 (at2 r q)) (hrow_at (T := 4096) x2 _ r q))

open Cert.Norm2FwdRefIdeal.Read in
theorem ref21 (x0 x1 : Vec Ideal S4096x1024 .f32) (x2 x3 x4 x5 : Vec Ideal S1x1024 .f32) (r : Fin 4096) (q : Fin 1024) :
    val_main_v21 (F := Ideal) x0 x1 x2 x3 x4 x5 (at2 r q)
      = modulated (fun k => x0 (at2 r k) + x2 (at2 0 k) * x1 (at2 r k)) (fun k => x3 (at2 0 k)) (fun k => x4 (at2 0 k)) (fun k => x5 (at2 0 k)) q := by
  rw [← funext (ref2 x0 x1 x2 r)]
  exact host_modulated (T := 4096) (val_main_v2 (F := Ideal) x0 x1 x2) x3 x4 x5 _ _ (by decide) _ _ _ _ _ r q

/-! ### The results -/

theorem final6 (c : Dev nD) : (dats m 0 c).arrAt 6 cfg0.N = Cert.Norm2FwdRefIdeal.Read.val_main_v2 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_6.blk t).view.emb (at2 p q)) = at2 r q from ext2 ((win0_6.rect_emb_val t _ 0).trans
    ((congrArg (· * 512 + p.val) (idx_facts t).2.2.2.2.2.2.1.1).trans hr.symm)) (emb_fixed win0_6 t _ 1 (idx_facts t).2.2.2.2.2.2.1.2), ref2,
    ← x_at m c t p q r hr, ← y_at m c t p q r hr, ← gt_at m c t q]
  exact out6_at _ _ _ _ _ _ p q

theorem final7 (c : Dev nD) : (dats m 0 c).arrAt 7 cfg0.N = Cert.Norm2FwdRefIdeal.Read.val_main_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_7.blk t).view.emb (at2 p q)) = at2 r q from ext2 ((win0_7.rect_emb_val t _ 0).trans
    ((congrArg (· * 512 + p.val) (idx_facts t).2.2.2.2.2.2.2.1).trans hr.symm)) (emb_fixed win0_7 t _ 1 (idx_facts t).2.2.2.2.2.2.2.2), ref21,
    ← funext fun j => g_at m c t j, ← funext fun j => sc_at m c t j, ← funext fun j => sh_at m c t j]
  refine (out7_at _ _ _ _ _ _ p q).trans (congrArg (fun f => modulated f _ _ _ q) (funext fun j => ?_))
  rw [x_at m c t p j r hr, y_at m c t p j r hr, gt_at m c t j]

end Cert.Norm2FwdIdeal.Norm

end
-- ==== Proof.Norms.Norm1Fwd.lean ====
/- The first norm's forward pass, the rows of the stream and then those of the context, each with its own modulation, after the run. -/
module

public import proofs.«01_k».proof.Proof.Gen.Norm1FwdIdeal.Value
public import proofs.«01_k».proof.Proof.Gen.Norm1FwdRefIdeal.Read
public import Idealize.ShloMosaic.Lib.Pipeline.ValueKit
public import proofs.«01_k».proof.Proof.Norms.Forward

@[expose] public section

noncomputable section

namespace Cert.Norm1FwdIdeal.Norm

open Cert.Norm1FwdIdeal Cert.Norm1FwdIdeal.Gen Cert.Products Cert.Norms Idealize.ShloMosaic Idealize.ShloMosaic.TcCoe Idealize.SL.Sem
open Idealize.ShloMosaic.Pipeline (Dat)

variable (m : (ℓ : Loc nD τ sig) → Buf (Elt Ideal) ℓ)

/-- What the kernel computes once it has chosen its rows and their modulation. -/
theorem pay_at (b : BitVec 1) (i : grid0.Coords) (hb : Scalar.cmpi .eq (BitVec.ofNat 32 (i 0).val) 16#32 = b) (xc x : Vec Ideal S256x1024 .f32) (scc sc shc sh g : Vec Ideal S1x1024 .f32)
    (p : Fin 256) (q : Fin 1024) :
    k0_pay1 (F := Ideal) i xc x scc sc shc sh g (at2 p q)
      = modulated (fun k => (if b = 1#1 then xc else x) (at2 p k)) (fun k => g (at2 0 k)) (fun k => (if b = 1#1 then scc else sc) (at2 0 k))
          (fun k => (if b = 1#1 then shc else sh) (at2 0 k)) q := by
  unfold k0_pay1
  simp only [hb, Scalar.select]
  exact block_modulated (T := 256) _ g _ _ _ _ _ _ _ _ _ _ p q

theorem choice : ∀ t : Fin cfg0.N, Scalar.cmpi .eq (BitVec.ofNat 32 ((grid0.coords t) 0).val) 16#32 = if t.val = 16 then 1#1 else 0#1 :=
  (by decide +kernel : ∀ t : Fin grid0.N, _)

/-- A block of the stream's rows, … -/
theorem upper_at (t : Fin cfg0.N) (h : t.val ≠ 16) (x xc : Vec Ideal S256x1024 .f32) (g sc sh scc shc : Vec Ideal S1x1024 .f32) (p : Fin 256) (q : Fin 1024) :
    out0_7 (F := Ideal) (grid0.coords t) x xc g sc sh scc shc (at2 p q)
      = modulated (fun k => x (at2 p k)) (fun k => g (at2 0 k)) (fun k => sc (at2 0 k)) (fun k => sh (at2 0 k)) q := by
  unfold out0_7
  rw [View.canon_unit_zero (by decide), View.ld_unit_zero (S := S256x1024) (by decide), View.ld_unit_zero (S := S256x1024) (by decide), View.ld_unit_zero (S := S1x1024) (by decide), View.ld_unit_zero (S := S1x1024) (by decide), View.ld_unit_zero (S := S1x1024) (by decide), View.ld_unit_zero (S := S1x1024) (by decide), View.ld_unit_zero (S := S1x1024) (by decide)]
  exact pay_at 0#1 _ ((choice t).trans (if_neg h)) xc x scc sc shc sh g p q

/-- … and the block of the context's. -/
theorem lower_at (t : Fin cfg0.N) (h : t.val = 16) (x xc : Vec Ideal S256x1024 .f32) (g sc sh scc shc : Vec Ideal S1x1024 .f32) (p : Fin 256) (q : Fin 1024) :
    out0_7 (F := Ideal) (grid0.coords t) x xc g sc sh scc shc (at2 p q)
      = modulated (fun k => xc (at2 p k)) (fun k => g (at2 0 k)) (fun k => scc (at2 0 k)) (fun k => shc (at2 0 k)) q := by
  unfold out0_7
  rw [View.canon_unit_zero (by decide), View.ld_unit_zero (S := S256x1024) (by decide), View.ld_unit_zero (S := S256x1024) (by decide), View.ld_unit_zero (S := S1x1024) (by decide), View.ld_unit_zero (S := S1x1024) (by decide), View.ld_unit_zero (S := S1x1024) (by decide), View.ld_unit_zero (S := S1x1024) (by decide), View.ld_unit_zero (S := S1x1024) (by decide)]
  exact pay_at 1#1 _ ((choice t).trans (if_pos h)) xc x scc sc shc sh g p q

theorem idx_facts : ∀ t : Fin cfg0.N, (win0_0.index t (0 : Fin 2) = min t.val 15 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem x_at (c : Dev nD) (t : Fin cfg0.N) (p : Fin 256) (k : Fin 1024) (r : Fin 4096) (h : t.val < 16) (hr : r.val = t.val * 256 + p.val) :
    iblk m c 0 t (at2 p k) = m ((c : Thread nD τ).loc main_arg0) (at2 r k) := by
  show V m c main_arg0 ((win0_0.rect t).emb (at2 p k)) = _
  refine congrArg (m ((c : Thread nD τ).loc main_arg0)) (ext2 ((win0_0.rect_emb_val t _ 0).trans ?_) (emb_fixed win0_0 t _ 1 (idx_facts t).1.2))
  exact (congrArg (· * 256 + p.val) ((idx_facts t).1.1.trans (by omega))).trans hr.symm

theorem ctx_at (c : Dev nD) (t : Fin cfg0.N) (p : Fin 256) (k : Fin 1024) : iblk m c 1 t (at2 p k) = m ((c : Thread nD τ).loc main_arg1) (at2 p k) := by
  show V m c main_arg1 ((win0_1.rect t).emb (at2 p k)) = _
  exact congrArg (m ((c : Thread nD τ).loc main_arg1)) (ext2 (emb_fixed win0_1 t _ 0 (idx_facts t).2.1.1) (emb_fixed win0_1 t _ 1 (idx_facts t).2.1.2))

theorem g_at (c : Dev nD) (t : Fin cfg0.N) (k : Fin 1024) : iblk m c 2 t (at2 0 k) = m ((c : Thread nD τ).loc main_arg2) (at2 0 k) := by
  show V m c main_arg2 ((win0_2.rect t).emb (at2 0 k)) = _
  exact congrArg (m ((c : Thread nD τ).loc main_arg2)) (ext2 (emb_fixed win0_2 t _ 0 (idx_facts t).2.2.1.1) (emb_fixed win0_2 t _ 1 (idx_facts t).2.2.1.2))

theorem sc_at (c : Dev nD) (t : Fin cfg0.N) (k : Fin 1024) : iblk m c 3 t (at2 0 k) = m ((c : Thread nD τ).loc main_arg3) (at2 0 k) := by
  show V m c main_arg3 ((win0_3.rect t).emb (at2 0 k)) = _
  exact congrArg (m ((c : Thread nD τ).loc main_arg3)) (ext2 (emb_fixed win0_3 t _ 0 (idx_facts t).2.2.2.1.1) (emb_fixed win0_3 t _ 1 (idx_facts t).2.2.2.1.2))

theorem sh_at (c : Dev nD) (t : Fin cfg0.N) (k : Fin 1024) : iblk m c 4 t (at2 0 k) = m ((c : Thread nD τ).loc main_arg4) (at2 0 k) := by
  show V m c main_arg4 ((win0_4.rect t).emb (at2 0 k)) = _
  exact congrArg (m ((c : Thread nD τ).loc main_arg4)) (ext2 (emb_fixed win0_4 t _ 0 (idx_facts t).2.2.2.2.1.1) (emb_fixed win0_4 t _ 1 (idx_facts t).2.2.2.2.1.2))

theorem csc_at (c : Dev nD) (t : Fin cfg0.N) (k : Fin 1024) : iblk m c 5 t (at2 0 k) = m ((c : Thread nD τ).loc main_arg5) (at2 0 k) := by
  show V m c main_arg5 ((win0_5.rect t).emb (at2 0 k)) = _
  exact congrArg (m ((c : Thread nD τ).loc main_arg5)) (ext2 (emb_fixed win0_5 t _ 0 (idx_facts t).2.2.2.2.2.1.1) (emb_fixed win0_5 t _ 1 (idx_facts t).2.2.2.2.2.1.2))

theorem csh_at (c : Dev nD) (t : Fin cfg0.N) (k : Fin 1024) : iblk m c 6 t (at2 0 k) = m ((c : Thread nD τ).loc main_arg6) (at2 0 k) := by
  show V m c main_arg6 ((win0_6.rect t).emb (at2 0 k)) = _
  exact congrArg (m ((c : Thread nD τ).loc main_arg6)) (ext2 (emb_fixed win0_6 t _ 0 (idx_facts t).2.2.2.2.2.2.1.1) (emb_fixed win0_6 t _ 1 (idx_facts t).2.2.2.2.2.2.1.2))

/-! ### The reference at an element -/

section Reference
open Cert.Norm1FwdRefIdeal.Read

variable (x0 : Vec Ideal S4096x1024 .f32) (x1 : Vec Ideal S256x1024 .f32) (x2 x3 x4 x5 x6 : Vec Ideal S1x1024 .f32)

theorem ref_upper (i : Fin 4352) (r : Fin 4096) (hr : r.val = i.val) (q : Fin 1024) :
    val_main_v37 (F := Ideal) x0 x1 x2 x3 x4 x5 x6 (at2 i q)
      = modulated (fun k => x0 (at2 r k)) (fun k => x2 (at2 0 k)) (fun k => x3 (at2 0 k)) (fun k => x4 (at2 0 k)) q :=
  (stack_upper (T := 4352) (val_main_v17 (F := Ideal) x0 x2 x3 x4) (val_main_v35 (F := Ideal) x1 x2 x5 x6)
    Cert.Norm1FwdRefIdeal.Gen.concatenates_S4096x1024_S256x1024_S4352x1024_d0 i q r hr).trans
    (host_modulated (T := 4096) x0 x2 x3 x4 _ _ (by decide) _ _ _ _ _ r q)

theorem ref_lower (i : Fin 4352) (r : Fin 256) (hr : 4096 + r.val = i.val) (q : Fin 1024) :
    val_main_v37 (F := Ideal) x0 x1 x2 x3 x4 x5 x6 (at2 i q)
      = modulated (fun k => x1 (at2 r k)) (fun k => x2 (at2 0 k)) (fun k => x5 (at2 0 k)) (fun k => x6 (at2 0 k)) q :=
  (stack_lower (T := 4352) (val_main_v17 (F := Ideal) x0 x2 x3 x4) (val_main_v35 (F := Ideal) x1 x2 x5 x6)
    Cert.Norm1FwdRefIdeal.Gen.concatenates_S4096x1024_S256x1024_S4352x1024_d0 i q r hr).trans
    (host_modulated (T := 256) x1 x2 x5 x6 _ _ (by decide) _ _ _ _ _ r q)

end Reference

/-! ### The result -/

theorem final7 (c : Dev nD) : (dats m 0 c).arrAt 7 cfg0.N = Cert.Norm1FwdRefIdeal.Read.val_main_v37 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  obtain ⟨p, q, rfl⟩ : ∃ (p : Fin 256) (q : Fin 1024), y = at2 p q := ⟨_, _, eq_at2 y⟩
  have ht : t.val < 17 := lt_of_lt_of_eq t.isLt N_0
  obtain ⟨i, hi⟩ : ∃ i : Fin 4352, i.val = t.val * 256 + p.val := ⟨⟨t.val * 256 + p.val, by omega⟩, rfl⟩
  rw [show ((win0_7.blk t).view.emb (at2 p q)) = at2 i q from ext2 ((win0_7.rect_emb_val t _ 0).trans
    ((congrArg (· * 256 + p.val) (idx_facts t).2.2.2.2.2.2.2.1).trans hi.symm)) (emb_fixed win0_7 t _ 1 (idx_facts t).2.2.2.2.2.2.2.2)]
  by_cases h : t.val = 16
  · rw [ref_lower _ _ _ _ _ _ _ i p (by omega), ← funext fun j => ctx_at m c t p j, ← funext fun j => g_at m c t j,
      ← funext fun j => csc_at m c t j, ← funext fun j => csh_at m c t j]
    exact lower_at t h _ _ _ _ _ _ _ p q
  · obtain ⟨r, hr⟩ : ∃ r : Fin 4096, r.val = t.val * 256 + p.val := ⟨⟨t.val * 256 + p.val, by omega⟩, rfl⟩
    rw [ref_upper _ _ _ _ _ _ _ i r (hr.trans hi.symm), ← funext fun j => x_at m c t p j r (by omega) hr, ← funext fun j => g_at m c t j,
      ← funext fun j => sc_at m c t j, ← funext fun j => sh_at m c t j]
    exact upper_at t h _ _ _ _ _ _ _ p q

end Cert.Norm1FwdIdeal.Norm

end
-- ==== Proof.Norms.NormLoss.lean ====
/- The last norm with the loss: the gradients at the stream, the gated product, the gate and the gain, and the loss itself — what
   a point leaves in its outputs and in the scratches that carry the sums, and the arrays after the run. -/
module

public import proofs.«01_k».proof.Proof.Gen.NormLossIdeal.Value
public import proofs.«01_k».proof.Proof.Gen.NormLossRefIdeal.Read
public import Idealize.ShloMosaic.Lib.Pipeline.ValueKit
public import Idealize.ShloMosaic.Lib.Pipeline.ReadBack
public import proofs.«01_k».proof.Proof.Norms.Rows

@[expose] public section

noncomputable section

namespace Cert.NormLossIdeal.Norm

open Cert.NormLossIdeal Cert.NormLossIdeal.Gen Cert.Products Cert.Norms Idealize.ShloMosaic Idealize.ShloMosaic.TcCoe Idealize.SL.Sem
open Idealize.ShloMosaic.Pipeline (Dat)
open scoped BigOperators

/-! ### Constants, and the two forms of each result -/

/-- `1/1024`, the mean's share of an element. -/
abbrev share : EReal := Ideal.ofBits .f32 0x3A800000#32
/-- `1/2048`, half of it. -/
abbrev halfShare : EReal := Ideal.ofBits .f32 0x3A000000#32
/-- `1/2`, the loss's factor. -/
abbrev factor : EReal := Ideal.ofBits .f32 0x3F000000#32
/-- `2`, from the square's derivative. -/
abbrev two : EReal := Ideal.ofBits .f32 0x40000000#32

theorem share_eq : share = ((1 / 1024 : ℝ) : EReal) := by simp [share, Ideal.ofBits, Ideal.ieee, -EReal.coe_mul]; norm_num
theorem halfShare_eq : halfShare = ((1 / 2048 : ℝ) : EReal) := by simp [halfShare, Ideal.ofBits, Ideal.ieee, -EReal.coe_mul]; norm_num
theorem factor_eq : factor = ((1 / 2 : ℝ) : EReal) := by simp [factor, Ideal.ofBits, Ideal.ieee, -EReal.coe_mul]; norm_num
theorem two_eq : two = ((2 : ℝ) : EReal) := by simp [two, Ideal.ofBits, Ideal.ieee, -EReal.coe_mul]; norm_num
theorem one_eq : one = ((1 : ℝ) : EReal) := by simp [one, Ideal.ofBits, Ideal.ieee, -EReal.coe_mul]; norm_num

/-- The loss's gradient at an output: half the mean's share of the square's derivative. -/
theorem share_two (e : EReal) : Ideal.div (factor * one) len * (two * e) = e * share := by
  rw [div_len, factor_eq, one_eq, two_eq, share_eq, ← mul_assoc, ← EReal.coe_mul, ← EReal.coe_mul, ← EReal.coe_mul, mul_comm]
  refine congrArg (fun s : ℝ => e * (s : EReal)) ?_
  norm_num

/-- A sum of values that are not negative, scaled. -/
theorem sum_scaled {ι : Type} (s : Finset ι) (f : ι → EReal) (hf : ∀ i, 0 ≤ f i) (y : EReal) : (∑ i ∈ s, f i) * y = ∑ i ∈ s, f i * y := by
  classical
  induction s using Finset.induction_on with
  | empty => simp
  | insert a s ha ih =>
    rw [Finset.sum_insert ha, Finset.sum_insert ha, ← ih]
    exact EReal.right_distrib_of_nonneg (hf a) (Finset.sum_nonneg fun i _ => hf i)

/-- The kernel's loss — all columns' sums of squares, scaled once — is half the sum of the rows' means. -/
theorem loss_eq (e : Fin 4096 → Fin 1024 → EReal) :
    (∑ q, ∑ r, e r q * e r q) * halfShare = factor * ∑ r, Ideal.div (∑ q, e r q * e r q) len := by
  rw [Finset.sum_comm]
  simp only [div_len]
  rw [← sum_scaled Finset.univ (fun r => ∑ q, e r q * e r q) (fun r => Finset.sum_nonneg fun q _ => sq_nonneg _), factor_eq, halfShare_eq,
    mul_comm ((1 / 2 : ℝ) : EReal), mul_assoc, ← EReal.coe_mul]
  refine congrArg (fun s : ℝ => (∑ r, ∑ q, e r q * e r q) * (s : EReal)) ?_
  norm_num

/-- What a row's output misses the target by. -/
def miss (x g t : Fin 1024 → EReal) (q : Fin 1024) : EReal := (x q * inv x) * g q - t q

/-- One row's term of the gradient of the gain. -/
def gain (x g t : Fin 1024 → EReal) (q : Fin 1024) : EReal := (miss x g t q * share) * (x q * inv x)

/-- The gradient of a row at a column, as the kernel computes it. -/
def grad (x g t : Fin 1024 → EReal) (q : Fin 1024) : EReal :=
  inv x * (g q * (miss x g t q * share))
    - (x q * inv x) * (inv x * inv x) * Ideal.div (∑ k, x k * (g k * (miss x g t k * share))) len

/-- … and as the reference does. -/
theorem grad_ref (x g t : Fin 1024 → EReal) (q : Fin 1024) :
    grad x g t q
      = (((miss x g t q * share) * g q) * inv x
          + x q * Ideal.div ((∑ k, x k * ((miss x g t k * share) * g k)) * (half * Ideal.div (inv x) (Ideal.div (∑ k, x k * x k) len + eps))) len)
        + Ideal.div ((∑ k, x k * ((miss x g t k * share) * g k)) * (half * Ideal.div (inv x) (Ideal.div (∑ k, x k * x k) len + eps))) len * x q := by
  unfold grad
  simp only [mul_comm (g _)]
  have e := grad_eq x 0 ((miss x g t q * share) * g q) (x q) (∑ k, x k * ((miss x g t k * share) * g k))
  rw [zero_add, zero_add] at e
  exact e

variable (m : (ℓ : Loc nD τ sig) → Buf (Elt Ideal) ℓ)

/-- What the three scratches hold: the sums for the loss, the gate and the gain. -/
abbrev Scratches : Type := Vec Ideal S8x1024 .f32 × Vec Ideal S8x1024 .f32 × Vec Ideal S8x1024 .f32

/-- A point's block of the stream's gradient. -/
def gradient (x z : Vec Ideal S512x1024 .f32) (gt g : Vec Ideal S1x1024 .f32) (t : Vec Ideal S512x1024 .f32) : Vec Ideal S512x1024 .f32 :=
  k0_pay11 (F := Ideal) g (k0_pay4 (F := Ideal) z gt x) (k0_pay5 (F := Ideal) z gt x) (k0_pay6 (F := Ideal) z gt x) (k0_pay9 (F := Ideal) z gt g x t)

/-- What a point leaves in the two gradients' blocks and in the scratches, from its input blocks and the scratches before. -/
def point (x z : Vec Ideal S512x1024 .f32) (gt g : Vec Ideal S1x1024 .f32) (t : Vec Ideal S512x1024 .f32) (s : Scratches) :
    Vec Ideal S512x1024 .f32 × Vec Ideal S512x1024 .bf16 × Scratches :=
  (gradient x z gt g t,
    k0_pay12 (F := Ideal) gt g (k0_pay4 (F := Ideal) z gt x) (k0_pay5 (F := Ideal) z gt x) (k0_pay6 (F := Ideal) z gt x) (k0_pay9 (F := Ideal) z gt g x t),
    k0_pay8 (F := Ideal) z gt g x t s.1,
    k0_pay13 (F := Ideal) z g (k0_pay4 (F := Ideal) z gt x) (k0_pay5 (F := Ideal) z gt x) (k0_pay6 (F := Ideal) z gt x) (k0_pay9 (F := Ideal) z gt g x t) s.2.1,
    k0_pay10 (F := Ideal) (k0_pay6 (F := Ideal) z gt x) (k0_pay9 (F := Ideal) z gt g x t) s.2.2)

/-- The same, read off the run. -/
def left (c : Dev nD) (n : ℕ) (hn : n < cfg0.N) : Vec Ideal S512x1024 .f32 × Vec Ideal S512x1024 .bf16 × Scratches :=
  ((outsAt0 (F := Ideal) m c n hn).1, (outsAt0 (F := Ideal) m c n hn).2.1, (outsAt0 (F := Ideal) m c n hn).2.2.2.2.2)

/-- At the first point the scratches are zeroed first, … -/
theorem point_first (c : Dev nD) (t : Fin cfg0.N) (h0 : t.val % 8 = 0) :
    left m c t.val t.isLt
      = point (iblk m c 0 t) (iblk m c 1 t) (iblk m c 2 t) (iblk m c 3 t) (iblk m c 4 t) (k0_pay1 (F := Ideal), k0_pay2 (F := Ideal), k0_pay3 (F := Ideal)) := by
  unfold left point gradient
  rw [outsAt0_A m c t h0 (by omega)]
  refine Prod.ext ?_ (Prod.ext ?_ (Prod.ext ?_ (Prod.ext ?_ ?_))) <;> frame_out

/-- … at every other one they carry on; … -/
theorem point_next (c : Dev nD) (t : Fin cfg0.N) (h0 : ¬t.val % 8 = 0) :
    left m c t.val t.isLt
      = point (iblk m c 0 t) (iblk m c 1 t) (iblk m c 2 t) (iblk m c 3 t) (iblk m c 4 t)
          (left m c (t.val - 1) (Nat.lt_of_le_of_lt (Nat.sub_le _ _) t.isLt)).2.2 := by
  unfold left point gradient
  by_cases h1 : t.val % 8 = 7
  · rw [outsAt0_C m c t h0 h1]
    refine Prod.ext ?_ (Prod.ext ?_ (Prod.ext ?_ (Prod.ext ?_ ?_))) <;> (frame_out; all_goals rw [read_unread_whole])
  · rw [outsAt0_B m c t h0 h1]
    refine Prod.ext ?_ (Prod.ext ?_ (Prod.ext ?_ (Prod.ext ?_ ?_))) <;> (frame_out; all_goals rw [read_unread_whole])

/-- … and the last one sums each down its eight rows, and the loss's along the row too. -/
theorem point_last (c : Dev nD) (t : Fin cfg0.N) (h1 : t.val % 8 = 7) :
    ((outsAt0 (F := Ideal) m c t.val t.isLt).2.2.1, (outsAt0 (F := Ideal) m c t.val t.isLt).2.2.2.1, (outsAt0 (F := Ideal) m c t.val t.isLt).2.2.2.2.1)
      = (k0_pay14 (F := Ideal) (left m c t.val t.isLt).2.2.1, k0_pay15 (F := Ideal) (left m c t.val t.isLt).2.2.2.1,
          k0_pay16 (F := Ideal) (left m c t.val t.isLt).2.2.2.2) := by
  rw [point_next m c t (by omega), outsAt0_C m c t (by omega) h1]
  unfold point gradient left
  refine Prod.ext ?_ (Prod.ext ?_ ?_) <;> (frame_out; all_goals rw [read_unread_whole])

/-! ### The payloads at an element -/

/-- A row of the stream after the feed-forward's residual, from a point's blocks. -/
abbrev row (x z : Vec Ideal S512x1024 .f32) (gt : Vec Ideal S1x1024 .f32) (p : Fin 512) (k : Fin 1024) : EReal := x (at2 p k) + gt (at2 0 k) * z (at2 p k)

section Payloads
variable (x z : Vec Ideal S512x1024 .f32) (gt g : Vec Ideal S1x1024 .f32) (t : Vec Ideal S512x1024 .f32)

theorem pay4_at (p : Fin 512) (q : Fin 1024) : k0_pay4 (F := Ideal) z gt x (at2 p q) = row x z gt p q := by
  unfold k0_pay4
  exact congrArg (fun v => x (at2 p q) + v * z (at2 p q)) (brow_at (T := 512) (N := 1024) gt _ p q)

theorem pay5_at (p : Fin 512) (u : Fin 1) : k0_pay5 (F := Ideal) z gt x (at2 p u) = inv (row x z gt p) := by
  unfold k0_pay5
  refine congrArg (fun s => Ideal.rsqrt (Ideal.div s len + eps)) ((rowsum_at (T := 512) (N := 1024) _ _ _ _ _ _ p u).trans
    (Finset.sum_congr rfl fun k _ => ?_))
  exact congrArg₂ (· * ·) (pay4_at x z gt p k) (pay4_at x z gt p k)

theorem pay6_at (p : Fin 512) (q : Fin 1024) : k0_pay6 (F := Ideal) z gt x (at2 p q) = row x z gt p q * inv (row x z gt p) := by
  unfold k0_pay6
  exact congrArg₂ (· * ·) (pay4_at x z gt p q) ((bcol_at (T := 512) (N := 1024) _ _ p q).trans (pay5_at x z gt p 0))

theorem pay7_at (p : Fin 512) (q : Fin 1024) :
    k0_pay7 (F := Ideal) z gt g x t (at2 p q) = miss (row x z gt p) (fun k => g (at2 0 k)) (fun k => t (at2 p k)) q := by
  unfold k0_pay7
  exact congrArg (· - t (at2 p q)) (congrArg₂ (· * ·) (pay6_at x z gt p q) (brow_at (T := 512) (N := 1024) g _ p q))

theorem pay9_at (p : Fin 512) (q : Fin 1024) :
    k0_pay9 (F := Ideal) z gt g x t (at2 p q) = miss (row x z gt p) (fun k => g (at2 0 k)) (fun k => t (at2 p k)) q * share := by
  unfold k0_pay9
  exact congrArg (· * share) (pay7_at x z gt g t p q)

theorem pay8_at (s : Vec Ideal S8x1024 .f32) (a : Fin 8) (q : Fin 1024) :
    k0_pay8 (F := Ideal) z gt g x t s (at2 a q) = s (at2 a q) + ∑ i : Fin 64,
      miss (row x z gt ⟨i.val * 8 + a.val, by omega⟩) (fun k => g (at2 0 k)) (fun k => t (at2 ⟨i.val * 8 + a.val, by omega⟩ k)) q
        * miss (row x z gt ⟨i.val * 8 + a.val, by omega⟩) (fun k => g (at2 0 k)) (fun k => t (at2 ⟨i.val * 8 + a.val, by omega⟩ k)) q := by
  unfold k0_pay8
  rw [shapeCast_self]
  refine congrArg (s (at2 a q) + ·) ((col8_at (T := 512) (N := 1024) (s := 64) _ _ _ _ _ _ rfl a q).trans (Finset.sum_congr rfl fun i _ => ?_))
  exact congrArg₂ (· * ·) (pay7_at x z gt g t _ q) (pay7_at x z gt g t _ q)

theorem pay10_at (s : Vec Ideal S8x1024 .f32) (a : Fin 8) (q : Fin 1024) :
    k0_pay10 (F := Ideal) (k0_pay6 (F := Ideal) z gt x) (k0_pay9 (F := Ideal) z gt g x t) s (at2 a q) = s (at2 a q) + ∑ i : Fin 64,
      gain (row x z gt ⟨i.val * 8 + a.val, by omega⟩) (fun k => g (at2 0 k)) (fun k => t (at2 ⟨i.val * 8 + a.val, by omega⟩ k)) q := by
  unfold k0_pay10
  rw [shapeCast_self]
  refine congrArg (s (at2 a q) + ·) ((col8_at (T := 512) (N := 1024) (s := 64) _ _ _ _ _ _ rfl a q).trans (Finset.sum_congr rfl fun i _ => ?_))
  exact congrArg₂ (· * ·) (pay9_at x z gt g t _ q) (pay6_at x z gt _ q)

theorem gradient_at (p : Fin 512) (q : Fin 1024) :
    gradient x z gt g t (at2 p q) = grad (row x z gt p) (fun k => g (at2 0 k)) (fun k => t (at2 p k)) q := by
  have hg : ∀ k : Fin 1024, mulf (broadcastTo S512x1024 g broadcasts_S1x1024_S512x1024) (k0_pay9 (F := Ideal) z gt g x t) (at2 p k)
      = g (at2 0 k) * (miss (row x z gt p) (fun k => g (at2 0 k)) (fun k => t (at2 p k)) k * share) := fun k =>
    congrArg₂ (· * ·) (brow_at (T := 512) (N := 1024) g _ p k) (pay9_at x z gt g t p k)
  unfold gradient k0_pay11
  refine congrArg₂ (· - ·) (congrArg₂ (· * ·) ((bcol_at (T := 512) (N := 1024) _ _ p q).trans (pay5_at x z gt p 0)) (hg q))
    (congrArg₂ (· * ·) (congrArg₂ (· * ·) (pay6_at x z gt p q) ((bcol_at (T := 512) (N := 1024) _ _ p q).trans
      (congrArg₂ (· * ·) (pay5_at x z gt p 0) (pay5_at x z gt p 0)))) ((bcol_at (T := 512) (N := 1024) _ _ p q).trans (congrArg (Ideal.div · len) ?_)))
  exact (rowsum_at (T := 512) (N := 1024) _ _ _ _ _ _ p 0).trans (Finset.sum_congr rfl fun k _ => congrArg₂ (· * ·) (pay4_at x z gt p k) (hg k))

theorem pay12_at (p : Fin 512) (q : Fin 1024) :
    k0_pay12 (F := Ideal) gt g (k0_pay4 (F := Ideal) z gt x) (k0_pay5 (F := Ideal) z gt x) (k0_pay6 (F := Ideal) z gt x)
        (k0_pay9 (F := Ideal) z gt g x t) (at2 p q)
      = gt (at2 0 q) * grad (row x z gt p) (fun k => g (at2 0 k)) (fun k => t (at2 p k)) q := by
  unfold k0_pay12
  exact congrArg₂ (· * ·) (brow_at (T := 512) (N := 1024) gt _ p q) (gradient_at x z gt g t p q)

theorem pay13_at (s : Vec Ideal S8x1024 .f32) (a : Fin 8) (q : Fin 1024) :
    k0_pay13 (F := Ideal) z g (k0_pay4 (F := Ideal) z gt x) (k0_pay5 (F := Ideal) z gt x) (k0_pay6 (F := Ideal) z gt x)
        (k0_pay9 (F := Ideal) z gt g x t) s (at2 a q) = s (at2 a q) + ∑ i : Fin 64,
      grad (row x z gt ⟨i.val * 8 + a.val, by omega⟩) (fun k => g (at2 0 k)) (fun k => t (at2 ⟨i.val * 8 + a.val, by omega⟩ k)) q
        * z (at2 ⟨i.val * 8 + a.val, by omega⟩ q) := by
  unfold k0_pay13
  rw [shapeCast_self]
  refine congrArg (s (at2 a q) + ·) ((col8_at (T := 512) (N := 1024) (s := 64) _ _ _ _ _ _ rfl a q).trans (Finset.sum_congr rfl fun i _ => ?_))
  exact congrArg (· * z (at2 _ q)) (gradient_at x z gt g t _ q)

end Payloads

theorem pay14_at (s : Vec Ideal S8x1024 .f32) (u : Fin 1) (j : Fin 128) :
    k0_pay14 (F := Ideal) s (at2 u j) = (∑ q : Fin 1024, ∑ a : Fin 8, s (at2 a q)) * halfShare := by
  unfold k0_pay14
  rw [shapeCast_self]
  refine (bcol_at (T := 1) (N := 128) _ _ u j).trans (congrArg (· * halfShare) ?_)
  exact (rowsum_at (T := 1) (N := 1024) _ _ _ _ _ _ u 0).trans (Finset.sum_congr rfl fun q _ => colsum_at (T := 8) (N := 1024) _ _ _ _ _ _ u q)

theorem pay15_at (s : Vec Ideal S8x1024 .f32) (u : Fin 1) (q : Fin 1024) : k0_pay15 (F := Ideal) s (at2 u q) = ∑ a : Fin 8, s (at2 a q) := by
  unfold k0_pay15
  exact colsum_at (T := 8) (N := 1024) _ _ _ _ _ _ u q

theorem pay16_at (s : Vec Ideal S8x1024 .f32) (u : Fin 1) (q : Fin 1024) : k0_pay16 (F := Ideal) s (at2 u q) = ∑ a : Fin 8, s (at2 a q) := by
  unfold k0_pay16
  exact colsum_at (T := 8) (N := 1024) _ _ _ _ _ _ u q

theorem zero1 (a : Fin 8) (q : Fin 1024) : k0_pay1 (F := Ideal) (at2 a q) = 0 := by
  unfold k0_pay1; rw [shapeCast_self]; exact Ideal.ofBits_zero_f32
theorem zero2 (a : Fin 8) (q : Fin 1024) : k0_pay2 (F := Ideal) (at2 a q) = 0 := by
  unfold k0_pay2; rw [shapeCast_self]; exact Ideal.ofBits_zero_f32
theorem zero3 (a : Fin 8) (q : Fin 1024) : k0_pay3 (F := Ideal) (at2 a q) = 0 := by
  unfold k0_pay3; rw [shapeCast_self]; exact Ideal.ofBits_zero_f32

/-! ### The blocks -/

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem x_at (c : Dev nD) (t : Fin cfg0.N) (p : Fin 512) (k : Fin 1024) (r : Fin 4096) (hr : r.val = t.val * 512 + p.val) :
    iblk m c 0 t (at2 p k) = m ((c : Thread nD τ).loc main_arg0) (at2 r k) := by
  show V m c main_arg0 ((win0_0.rect t).emb (at2 p k)) = _
  refine congrArg (m ((c : Thread nD τ).loc main_arg0)) (ext2 ((win0_0.rect_emb_val t _ 0).trans ?_) (emb_fixed win0_0 t _ 1 (idx_facts t).1.2))
  exact (congrArg (· * 512 + p.val) (idx_facts t).1.1).trans hr.symm

theorem z_at (c : Dev nD) (t : Fin cfg0.N) (p : Fin 512) (k : Fin 1024) (r : Fin 4096) (hr : r.val = t.val * 512 + p.val) :
    iblk m c 1 t (at2 p k) = m ((c : Thread nD τ).loc main_arg1) (at2 r k) := by
  show V m c main_arg1 ((win0_1.rect t).emb (at2 p k)) = _
  refine congrArg (m ((c : Thread nD τ).loc main_arg1)) (ext2 ((win0_1.rect_emb_val t _ 0).trans ?_) (emb_fixed win0_1 t _ 1 (idx_facts t).2.1.2))
  exact (congrArg (· * 512 + p.val) (idx_facts t).2.1.1).trans hr.symm

theorem t_at (c : Dev nD) (t : Fin cfg0.N) (p : Fin 512) (k : Fin 1024) (r : Fin 4096) (hr : r.val = t.val * 512 + p.val) :
    iblk m c 4 t (at2 p k) = m ((c : Thread nD τ).loc main_arg4) (at2 r k) := by
  show V m c main_arg4 ((win0_4.rect t).emb (at2 p k)) = _
  refine congrArg (m ((c : Thread nD τ).loc main_arg4)) (ext2 ((win0_4.rect_emb_val t _ 0).trans ?_) (emb_fixed win0_4 t _ 1 (idx_facts t).2.2.2.2.1.2))
  exact (congrArg (· * 512 + p.val) (idx_facts t).2.2.2.2.1.1).trans hr.symm

theorem gt_at (c : Dev nD) (t : Fin cfg0.N) (k : Fin 1024) : iblk m c 2 t (at2 0 k) = m ((c : Thread nD τ).loc main_arg2) (at2 0 k) := by
  show V m c main_arg2 ((win0_2.rect t).emb (at2 0 k)) = _
  exact congrArg (m ((c : Thread nD τ).loc main_arg2)) (ext2 (emb_fixed win0_2 t _ 0 (idx_facts t).2.2.1.1) (emb_fixed win0_2 t _ 1 (idx_facts t).2.2.1.2))

theorem g_at (c : Dev nD) (t : Fin cfg0.N) (k : Fin 1024) : iblk m c 3 t (at2 0 k) = m ((c : Thread nD τ).loc main_arg3) (at2 0 k) := by
  show V m c main_arg3 ((win0_3.rect t).emb (at2 0 k)) = _
  exact congrArg (m ((c : Thread nD τ).loc main_arg3)) (ext2 (emb_fixed win0_3 t _ 0 (idx_facts t).2.2.2.1.1) (emb_fixed win0_3 t _ 1 (idx_facts t).2.2.2.1.2))

/-- One row of all the stream, from the arguments. -/
abbrev stream (x0 x1 : Vec Ideal S4096x1024 .f32) (x2 : Vec Ideal S1x1024 .f32) (r : Fin 4096) (k : Fin 1024) : EReal := x0 (at2 r k) + x2 (at2 0 k) * x1 (at2 r k)

theorem row_at (c : Dev nD) (t : Fin cfg0.N) (p : Fin 512) (r : Fin 4096) (hr : r.val = t.val * 512 + p.val) :
    row (iblk m c 0 t) (iblk m c 1 t) (iblk m c 2 t) p = stream (m ((c : Thread nD τ).loc main_arg0)) (m ((c : Thread nD τ).loc main_arg1))
      (m ((c : Thread nD τ).loc main_arg2)) r :=
  funext fun k => congrArg₂ (· + ·) (x_at m c t p k r hr) (congrArg₂ (· * ·) (gt_at m c t k) (z_at m c t p k r hr))

/-! ### The sums over the points -/

/-- One of the three scratches, by what a point adds to it: at the last point its eight rows sum to the sum over all rows. -/
theorem carried (c : Dev nD) (q : Fin 1024) (π : Scratches → Vec Ideal S8x1024 .f32) (blk : Fin cfg0.N → Fin 512 → EReal) (F : Fin 4096 → EReal)
    (hz : ∀ a : Fin 8, π (k0_pay1 (F := Ideal), k0_pay2 (F := Ideal), k0_pay3 (F := Ideal)) (at2 a q) = 0)
    (hp : ∀ (t : Fin cfg0.N) s (a : Fin 8), π (point (iblk m c 0 t) (iblk m c 1 t) (iblk m c 2 t) (iblk m c 3 t) (iblk m c 4 t) s).2.2 (at2 a q)
      = π s (at2 a q) + ∑ i : Fin 64, blk t ⟨i.val * 8 + a.val, by omega⟩)
    (hb : ∀ t (k : Fin 512) (r : Fin 4096), r.val = t.val * 512 + k.val → blk t k = F r)
    (t : Fin cfg0.N) (h1 : t.val % 8 = 7) :
    ∑ a : Fin 8, π (left m c t.val t.isLt).2.2 (at2 a q) = ∑ r, F r := by
  have hN : cfg0.N = 8 := N_0
  refine total cfg0.N 64 rfl (fun t h a => π (left m c t h).2.2 (at2 a q)) blk F (fun h a => ?_) (fun t h a => ?_) hb t.val t.isLt
    (by have := t.isLt; omega)
  · refine (congrArg (fun s => π s.2.2 (at2 a q)) (point_first m c ⟨0, h⟩ rfl)).trans ((hp _ _ a).trans ?_)
    rw [hz, zero_add]
  · exact (congrArg (fun s => π s.2.2 (at2 a q)) (point_next m c ⟨t + 1, h⟩ (by dsimp only; omega))).trans (hp _ _ a)

/-! ### The reference at an element -/

section Reference
open Cert.NormLossRefIdeal.Read

variable (x0 x1 : Vec Ideal S4096x1024 .f32) (x2 x3 : Vec Ideal S1x1024 .f32) (x4 : Vec Ideal S4096x1024 .f32)

theorem ref2 (r : Fin 4096) (q : Fin 1024) : val_main_v2 (F := Ideal) x0 x1 x2 (at2 r q) = stream x0 x1 x2 r q :=
  congrArg (fun v => x0 (at2 r q) + v * x1 (at2 r q)) ((val_main_v0_apply x2 _).trans (congrArg x2 (ext2 rfl rfl)))

theorem ref9 (i : Cert.NormLossRefIdeal.S4096x1.Idx) (r : Fin 4096) (hi : (i 0).val = r.val) :
    val_main_v9 (F := Ideal) x0 x1 x2 i = Ideal.div (∑ k, stream x0 x1 x2 r k * stream x0 x1 x2 r k) len + eps := by
  refine congrArg₂ (· + ·) (congrArg₂ Ideal.div ((val_main_v5_apply x0 x1 x2 i).trans ((val_main_v4_apply x0 x1 x2 _).trans ?_)) (val_main_v6_apply i))
    (val_main_v8_apply i)
  refine (congrArg₂ (· + ·) Ideal.ofBits_zero_f32 (Finset.sum_congr rfl fun k _ => ?_)).trans (zero_add _)
  rw [show idx_main_v4 (idx_main_v5 i) k = at2 r k from ext2 hi rfl]
  exact congrArg₂ (· * ·) (ref2 x0 x1 x2 r k) (ref2 x0 x1 x2 r k)

theorem ref10 (i : Cert.NormLossRefIdeal.S4096x1.Idx) (r : Fin 4096) (hi : (i 0).val = r.val) :
    val_main_v10 (F := Ideal) x0 x1 x2 i = Norms.inv (stream x0 x1 x2 r) :=
  congrArg Ideal.rsqrt (ref9 x0 x1 x2 i r hi)

theorem ref15 (r : Fin 4096) (q : Fin 1024) : val_main_v15 (F := Ideal) x0 x1 x2 (at2 r q) = stream x0 x1 x2 r q * Norms.inv (stream x0 x1 x2 r) :=
  congrArg₂ (· * ·) (ref2 x0 x1 x2 r q) ((val_main_v14_apply x0 x1 x2 _).trans (ref10 x0 x1 x2 _ r rfl))

theorem ref18 (r : Fin 4096) (q : Fin 1024) : val_main_v18 (F := Ideal) x0 x1 x2 x3 x4 (at2 r q) = miss (stream x0 x1 x2 r) (fun k => x3 (at2 0 k)) (fun k => x4 (at2 r k)) q :=
  congrArg (· - x4 (at2 r q)) (congrArg₂ (· * ·) (ref15 x0 x1 x2 r q) ((val_main_v16_apply x3 _).trans (congrArg x3 (ext2 rfl rfl))))

theorem ref32 (r : Fin 4096) (q : Fin 1024) : val_main_v32 (F := Ideal) x0 x1 x2 x3 x4 (at2 r q) = miss (stream x0 x1 x2 r) (fun k => x3 (at2 0 k)) (fun k => x4 (at2 r k)) q * share := by
  rw [← share_two, ← ref18]
  refine congrArg₂ (· * ·) ((val_main_v31_apply _).trans (congrArg₂ Ideal.div (val_main_v28_apply _) (val_main_v29_apply _))) ?_
  exact congrArg (· * val_main_v18 (F := Ideal) x0 x1 x2 x3 x4 (at2 r q)) (val_main_v20_apply _)

theorem ref37 (r : Fin 4096) (q : Fin 1024) : val_main_v37 (F := Ideal) x0 x1 x2 x3 x4 (at2 r q)
    = (miss (stream x0 x1 x2 r) (fun k => x3 (at2 0 k)) (fun k => x4 (at2 r k)) q * share) * x3 (at2 0 q) :=
  congrArg₂ (· * ·) (ref32 x0 x1 x2 x3 x4 r q) ((val_main_v36_apply x3 _).trans (congrArg x3 (ext2 rfl rfl)))

theorem ref35 (q : Fin 1024) : val_main_v35 (F := Ideal) x0 x1 x2 x3 x4 (at2 0 q) = ∑ r : Fin 4096, gain (stream x0 x1 x2 r) (fun k => x3 (at2 0 k)) (fun k => x4 (at2 r k)) q := by
  refine (val_main_v35_apply x0 x1 x2 x3 x4 _).trans ((val_main_v34_apply x0 x1 x2 x3 x4 _).trans ?_)
  refine (congrArg₂ (· + ·) Ideal.ofBits_zero_f32 (Finset.sum_congr rfl fun r _ => ?_)).trans (zero_add _)
  rw [show idx_main_v34 (idx_main_v35 (at2 0 q)) r = at2 r q from ext2 rfl (by show 0 * 1024 + q.val = q.val; omega)]
  exact (congrArg₂ (· * ·) (ref15 x0 x1 x2 r q) (ref32 x0 x1 x2 x3 x4 r q)).trans (mul_comm _ _)

/-- What the mean square's gradient spreads over a row. -/
theorem ref47 (r : Fin 4096) (q : Fin 1024) : val_main_v47 (F := Ideal) x0 x1 x2 x3 x4 (at2 r q)
    = Ideal.div ((∑ k, stream x0 x1 x2 r k * ((miss (stream x0 x1 x2 r) (fun k => x3 (at2 0 k)) (fun k => x4 (at2 r k)) k * share) * x3 (at2 0 k)))
        * (half * Ideal.div (Norms.inv (stream x0 x1 x2 r)) (Ideal.div (∑ k, stream x0 x1 x2 r k * stream x0 x1 x2 r k) len + eps))) len := by
  refine (val_main_v47_apply x0 x1 x2 x3 x4 _).trans ((val_main_v46_apply x0 x1 x2 x3 x4 _).trans ?_)
  rw [Fin.sum_univ_one]
  refine (congrArg₂ (· + ·) Ideal.ofBits_zero_f32 ?_).trans (zero_add _)
  refine congrArg₂ Ideal.div (congrArg₂ (· * ·) ?_ ?_) (val_main_v44_apply _)
  · refine (val_main_v40_apply x0 x1 x2 x3 x4 _).trans ((val_main_v39_apply x0 x1 x2 x3 x4 _).trans ?_)
    refine (congrArg₂ (· + ·) Ideal.ofBits_zero_f32 (Finset.sum_congr rfl fun k _ => ?_)).trans (zero_add _)
    rw [show idx_main_v39 (idx_main_v40 (idx_main_v46 (idx_main_v47 (at2 r q)) 0)) k = at2 r k from ext2 (by show r.val * 1 + 0 = r.val; omega) rfl]
    exact congrArg₂ (· * ·) (ref2 x0 x1 x2 r k) (ref37 x0 x1 x2 x3 x4 r k)
  · have e := ref9 x0 x1 x2 (idx_main_v46 (idx_main_v47 (at2 r q)) 0) r rfl
    have e10 := ref10 x0 x1 x2 (idx_main_v46 (idx_main_v47 (at2 r q)) 0) r rfl
    refine (val_main_v13_apply x0 x1 x2 _).trans (congrArg₂ (· * ·) (val_main_v12_apply _) ((val_main_v11_apply x0 x1 x2 _).trans ?_))
    rw [e, e10]
    rfl

theorem ref51 (r : Fin 4096) (q : Fin 1024) : val_main_v51 (F := Ideal) x0 x1 x2 x3 x4 (at2 r q) = grad (stream x0 x1 x2 r) (fun k => x3 (at2 0 k)) (fun k => x4 (at2 r k)) q := by
  rw [grad_ref]
  exact congrArg₂ (· + ·) (congrArg₂ (· + ·) (congrArg₂ (· * ·) (ref37 x0 x1 x2 x3 x4 r q) ((val_main_v41_apply x0 x1 x2 _).trans (ref10 x0 x1 x2 _ r rfl)))
    (congrArg₂ (· * ·) (ref2 x0 x1 x2 r q) (ref47 x0 x1 x2 x3 x4 r q))) (congrArg₂ (· * ·) (ref47 x0 x1 x2 x3 x4 r q) (ref2 x0 x1 x2 r q))

theorem ref57 (r : Fin 4096) (q : Fin 1024) : val_main_v57 (F := Ideal) x0 x1 x2 x3 x4 (at2 r q) = x2 (at2 0 q) * grad (stream x0 x1 x2 r) (fun k => x3 (at2 0 k)) (fun k => x4 (at2 r k)) q := by
  have e : val_main_v52 (F := Ideal) x2 (at2 r q) = x2 (at2 0 q) := (val_main_v52_apply x2 _).trans (congrArg x2 (ext2 rfl rfl))
  rw [← ref51, ← e]
  rfl

theorem ref56 (q : Fin 1024) : val_main_v56 (F := Ideal) x0 x1 x2 x3 x4 (at2 0 q) = ∑ r : Fin 4096, grad (stream x0 x1 x2 r) (fun k => x3 (at2 0 k)) (fun k => x4 (at2 r k)) q * x1 (at2 r q) := by
  refine (val_main_v56_apply x0 x1 x2 x3 x4 _).trans ((val_main_v55_apply x0 x1 x2 x3 x4 _).trans ?_)
  refine (congrArg₂ (· + ·) Ideal.ofBits_zero_f32 (Finset.sum_congr rfl fun r _ => ?_)).trans (zero_add _)
  rw [show idx_main_v55 (idx_main_v56 (at2 0 q)) r = at2 r q from ext2 rfl (by show 0 * 1024 + q.val = q.val; omega)]
  exact congrArg (· * x1 (at2 r q)) (ref51 x0 x1 x2 x3 x4 r q)

/-- One row's mean of squares. -/
theorem ref24 (r : Fin 4096) : val_main_v24 (F := Ideal) x0 x1 x2 x3 x4 (ValueIdx.ix1 r)
    = Ideal.div (∑ q, miss (stream x0 x1 x2 r) (fun k => x3 (at2 0 k)) (fun k => x4 (at2 r k)) q * miss (stream x0 x1 x2 r) (fun k => x3 (at2 0 k)) (fun k => x4 (at2 r k)) q) len := by
  refine congrArg₂ Ideal.div ((val_main_v22_apply x0 x1 x2 x3 x4 _).trans ?_) (val_main_v23_apply _)
  refine (congrArg₂ (· + ·) Ideal.ofBits_zero_f32 (Finset.sum_congr rfl fun q _ => ?_)).trans (zero_add _)
  rw [show idx_main_v22 (ValueIdx.ix1 r) q = at2 r q from ext2 rfl rfl]
  exact congrArg₂ (· * ·) (ref18 x0 x1 x2 x3 x4 r q) (ref18 x0 x1 x2 x3 x4 r q)

theorem ref58 (j : Fin 128) : val_main_v58 (F := Ideal) x0 x1 x2 x3 x4 (at2 0 j)
    = factor * ∑ r : Fin 4096, Ideal.div (∑ q, miss (stream x0 x1 x2 r) (fun k => x3 (at2 0 k)) (fun k => x4 (at2 r k)) q * miss (stream x0 x1 x2 r) (fun k => x3 (at2 0 k)) (fun k => x4 (at2 r k)) q) len := by
  refine (val_main_v58_apply x0 x1 x2 x3 x4 _).trans (congrArg (factor * ·) ((val_main_v25_apply x0 x1 x2 x3 x4 _).trans ?_))
  refine (congrArg₂ (· + ·) Ideal.ofBits_zero_f32 ?_).trans (zero_add _)
  exact (Eq.symm (Fintype.sum_equiv (⟨fun r => ValueIdx.ix1 r, fun j => j 0, fun _ => rfl, fun j => (ValueIdx.eq_ix1 j).symm⟩ : Fin 4096 ≃ Cert.NormLossRefIdeal.S4096.Idx) _ _ fun _ => rfl)).trans (Finset.sum_congr rfl fun r _ => ref24 x0 x1 x2 x3 x4 r)

end Reference

/-! ### The results -/

theorem final7 (c : Dev nD) : (dats m 0 c).arrAt 7 cfg0.N = Cert.NormLossRefIdeal.Read.val_main_v58 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h1 : t.val % 8 = 7 := (flush0_7 t).mp hf
  blk_simp
  rw [after0_7]
  obtain ⟨p, j, rfl⟩ : ∃ (p : Fin 1) (j : Fin 128), y = at2 p j := ⟨_, _, eq_at2 y⟩
  rw [show ((win0_7.blk t).view.emb (at2 p j)) = at2 0 j from ext2 ((emb_fixed win0_7 t _ 0 (idx_facts t).2.2.2.2.2.2.2.1.1).trans (by show p.val = 0; omega))
    (emb_fixed win0_7 t _ 1 (idx_facts t).2.2.2.2.2.2.2.1.2), ref58]
  refine (congrFun (congrArg (fun s => s.1) (point_last m c t h1)) (at2 p j)).trans ((pay14_at _ p j).trans ?_)
  refine Eq.trans (congrArg (· * halfShare) (Finset.sum_congr rfl fun q _ => ?_))
    (loss_eq fun r => miss (stream (m ((c : Thread nD τ).loc main_arg0)) (m ((c : Thread nD τ).loc main_arg1)) (m ((c : Thread nD τ).loc main_arg2)) r)
      (fun k => m ((c : Thread nD τ).loc main_arg3) (at2 0 k)) fun k => m ((c : Thread nD τ).loc main_arg4) (at2 r k))
  refine carried m c q (fun s => s.1) (fun t k => miss (row (iblk m c 0 t) (iblk m c 1 t) (iblk m c 2 t) k) (fun j => iblk m c 3 t (at2 0 j)) (fun j => iblk m c 4 t (at2 k j)) q * miss (row (iblk m c 0 t) (iblk m c 1 t) (iblk m c 2 t) k) (fun j => iblk m c 3 t (at2 0 j)) (fun j => iblk m c 4 t (at2 k j)) q) _
    (fun a => zero1 a q) (fun t s a => pay8_at _ _ _ _ _ s.1 a q) (fun t k r hr => ?_) t h1
  rw [row_at m c t k r hr, funext fun j => g_at m c t j, funext fun j => t_at m c t k j r hr]

theorem final8 (c : Dev nD) : (dats m 0 c).arrAt 8 cfg0.N = Cert.NormLossRefIdeal.Read.val_main_v56 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h1 : t.val % 8 = 7 := (flush0_8 t).mp hf
  blk_simp
  rw [after0_8]
  obtain ⟨p, q, rfl⟩ : ∃ (p : Fin 1) (q : Fin 1024), y = at2 p q := ⟨_, _, eq_at2 y⟩
  rw [show ((win0_8.blk t).view.emb (at2 p q)) = at2 0 q from ext2 ((emb_fixed win0_8 t _ 0 (idx_facts t).2.2.2.2.2.2.2.2.1.1).trans (by show p.val = 0; omega))
    (emb_fixed win0_8 t _ 1 (idx_facts t).2.2.2.2.2.2.2.2.1.2), ref56]
  refine (congrFun (congrArg (fun s => s.2.1) (point_last m c t h1)) (at2 p q)).trans ((pay15_at _ p q).trans ?_)
  refine carried m c q (fun s => s.2.1) (fun t k => grad (row (iblk m c 0 t) (iblk m c 1 t) (iblk m c 2 t) k) (fun j => iblk m c 3 t (at2 0 j)) (fun j => iblk m c 4 t (at2 k j)) q * iblk m c 1 t (at2 k q)) _ (fun a => zero2 a q) (fun t s a => pay13_at _ _ _ _ _ s.2.1 a q) (fun t k r hr => ?_) t h1
  rw [row_at m c t k r hr, funext fun j => g_at m c t j, funext fun j => t_at m c t k j r hr, z_at m c t k q r hr]

theorem final9 (c : Dev nD) : (dats m 0 c).arrAt 9 cfg0.N = Cert.NormLossRefIdeal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have h1 : t.val % 8 = 7 := (flush0_9 t).mp hf
  blk_simp
  rw [after0_9]
  obtain ⟨p, q, rfl⟩ : ∃ (p : Fin 1) (q : Fin 1024), y = at2 p q := ⟨_, _, eq_at2 y⟩
  rw [show ((win0_9.blk t).view.emb (at2 p q)) = at2 0 q from ext2 ((emb_fixed win0_9 t _ 0 (idx_facts t).2.2.2.2.2.2.2.2.2.1).trans (by show p.val = 0; omega))
    (emb_fixed win0_9 t _ 1 (idx_facts t).2.2.2.2.2.2.2.2.2.2), ref35]
  refine (congrFun (congrArg (fun s => s.2.2) (point_last m c t h1)) (at2 p q)).trans ((pay16_at _ p q).trans ?_)
  refine carried m c q (fun s => s.2.2) (fun t k => gain (row (iblk m c 0 t) (iblk m c 1 t) (iblk m c 2 t) k) (fun j => iblk m c 3 t (at2 0 j)) (fun j => iblk m c 4 t (at2 k j)) q) _ (fun a => zero3 a q) (fun t s a => pay10_at _ _ _ _ _ s.2.2 a q) (fun t k r hr => ?_) t h1
  rw [row_at m c t k r hr, funext fun j => g_at m c t j, funext fun j => t_at m c t k j r hr]

theorem final5 (c : Dev nD) : (dats m 0 c).arrAt 5 cfg0.N = Cert.NormLossRefIdeal.Read.val_main_v51 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_5.blk t).view.emb (at2 p q)) = at2 r q from ext2 ((win0_5.rect_emb_val t _ 0).trans
    ((congrArg (· * 512 + p.val) (idx_facts t).2.2.2.2.2.1.1).trans hr.symm)) (emb_fixed win0_5 t _ 1 (idx_facts t).2.2.2.2.2.1.2), ref51,
    ← row_at m c t p r hr, ← funext fun j => g_at m c t j, ← funext fun j => t_at m c t p j r hr]
  by_cases h0 : t.val % 8 = 0
  · exact (congrFun (congrArg (fun s => s.1) (point_first m c t h0)) (at2 p q)).trans (gradient_at _ _ _ _ _ p q)
  · exact (congrFun (congrArg (fun s => s.1) (point_next m c t h0)) (at2 p q)).trans (gradient_at _ _ _ _ _ p q)

theorem final6 (c : Dev nD) : (dats m 0 c).arrAt 6 cfg0.N = Cert.NormLossRefIdeal.Read.val_main_v57 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨p, q, rfl⟩ : ∃ (p : Fin 512) (q : Fin 1024), y = at2 p q := ⟨_, _, eq_at2 y⟩
  have hN : cfg0.N = 8 := N_0
  obtain ⟨r, hr⟩ : ∃ r : Fin 4096, r.val = t.val * 512 + p.val := ⟨⟨t.val * 512 + p.val, by have := lt_of_lt_of_eq t.isLt hN; omega⟩, rfl⟩
  rw [show ((win0_6.blk t).view.emb (at2 p q)) = at2 r q from ext2 ((win0_6.rect_emb_val t _ 0).trans
    ((congrArg (· * 512 + p.val) (idx_facts t).2.2.2.2.2.2.1.1).trans hr.symm)) (emb_fixed win0_6 t _ 1 (idx_facts t).2.2.2.2.2.2.1.2), ref57,
    ← row_at m c t p r hr, ← funext fun j => g_at m c t j, ← funext fun j => t_at m c t p j r hr, ← gt_at m c t q]
  by_cases h0 : t.val % 8 = 0
  · exact (congrFun (congrArg (fun s => s.2.1) (point_first m c t h0)) (at2 p q)).trans (pay12_at _ _ _ _ _ p q)
  · exact (congrFun (congrArg (fun s => s.2.1) (point_next m c t h0)) (at2 p q)).trans (pay12_at _ _ _ _ _ p q)

end Cert.NormLossIdeal.Norm

end
-- ==== Proof.lean ====
/- The gradient of neighbourhood attention: the frames of the kernel and of its idealization, and that the idealization
   differs from the kernel in the mask alone. The products of the step: the frames of each kernel, of its idealization and
   of its reference, and that the kernel's array and the reference's hold the same extended reals. The gradients of the norms: the same. -/
module

public import proofs.«01_k».proof.Defs
public import proofs.«01_k».proof.Proof.Gen.Kernel
public import proofs.«01_k».proof.Proof.Gen.KernelIdeal
public import proofs.«01_k».proof.Proof.Bits.Body
public import proofs.«01_k».proof.Proof.Body
public import proofs.«01_k».proof.Proof.Gen.DownDx.Frame
public import proofs.«01_k».proof.Proof.Gen.DownDxRefIdeal.Run
public import proofs.«01_k».proof.Proof.Products.DownDx
public import proofs.«01_k».proof.Proof.Gen.DownDw.Frame
public import proofs.«01_k».proof.Proof.Gen.DownDwRefIdeal.Run
public import proofs.«01_k».proof.Proof.Products.DownDw
public import proofs.«01_k».proof.Proof.Gen.UpDx.Frame
public import proofs.«01_k».proof.Proof.Gen.UpDxRefIdeal.Run
public import proofs.«01_k».proof.Proof.Products.UpDx
public import proofs.«01_k».proof.Proof.Gen.UpDwGate.Frame
public import proofs.«01_k».proof.Proof.Gen.UpDwGateRefIdeal.Run
public import proofs.«01_k».proof.Proof.Products.UpDwGate
public import proofs.«01_k».proof.Proof.Gen.UpDwVal.Frame
public import proofs.«01_k».proof.Proof.Gen.UpDwValRefIdeal.Run
public import proofs.«01_k».proof.Proof.Products.UpDwVal
public import proofs.«01_k».proof.Proof.Gen.OutDx.Frame
public import proofs.«01_k».proof.Proof.Gen.OutDxRefIdeal.Run
public import proofs.«01_k».proof.Proof.Products.OutDx
public import proofs.«01_k».proof.Proof.Gen.OutDw.Frame
public import proofs.«01_k».proof.Proof.Gen.OutDwRefIdeal.Run
public import proofs.«01_k».proof.Proof.Products.OutDw
public import proofs.«01_k».proof.Proof.Gen.InDx.Frame
public import proofs.«01_k».proof.Proof.Gen.InDxRefIdeal.Run
public import proofs.«01_k».proof.Proof.Products.InDx
public import proofs.«01_k».proof.Proof.Gen.InDw.Frame
public import proofs.«01_k».proof.Proof.Gen.InDwRefIdeal.Run
public import proofs.«01_k».proof.Proof.Products.InDw
public import proofs.«01_k».proof.Proof.Gen.MmQkv.Frame
public import proofs.«01_k».proof.Proof.Gen.MmQkvRefIdeal.Run
public import proofs.«01_k».proof.Proof.Products.MmQkv
public import proofs.«01_k».proof.Proof.Gen.MmAg.Frame
public import proofs.«01_k».proof.Proof.Gen.MmAgRefIdeal.Run
public import proofs.«01_k».proof.Proof.Products.MmAg
public import proofs.«01_k».proof.Proof.Gen.MmOut.Frame
public import proofs.«01_k».proof.Proof.Gen.MmOutRefIdeal.Run
public import proofs.«01_k».proof.Proof.Products.MmOut
public import proofs.«01_k».proof.Proof.Gen.MmUp.Frame
public import proofs.«01_k».proof.Proof.Gen.MmUpRefIdeal.Run
public import proofs.«01_k».proof.Proof.Products.MmUp
public import proofs.«01_k».proof.Proof.Gen.MmDown.Frame
public import proofs.«01_k».proof.Proof.Gen.MmDownRefIdeal.Run
public import proofs.«01_k».proof.Proof.Products.MmDown
public import proofs.«01_k».proof.Proof.Gen.NormCtxBwd.Frame
public import proofs.«01_k».proof.Proof.Gen.NormCtxBwdRefIdeal.Run
public import proofs.«01_k».proof.Proof.Norms.NormCtxBwd
public import proofs.«01_k».proof.Proof.Gen.Norm1Bwd.Frame
public import proofs.«01_k».proof.Proof.Gen.Norm1BwdRefIdeal.Run
public import proofs.«01_k».proof.Proof.Norms.Norm1Bwd
public import proofs.«01_k».proof.Proof.Gen.Norm2Bwd.Frame
public import proofs.«01_k».proof.Proof.Gen.Norm2BwdRefIdeal.Run
public import proofs.«01_k».proof.Proof.Norms.Norm2Bwd
public import proofs.«01_k».proof.Proof.Gen.Norm2Fwd.Frame
public import proofs.«01_k».proof.Proof.Gen.Norm2FwdRefIdeal.Run
public import proofs.«01_k».proof.Proof.Norms.Norm2Fwd
public import proofs.«01_k».proof.Proof.Gen.Norm1Fwd.Frame
public import proofs.«01_k».proof.Proof.Gen.Norm1FwdRefIdeal.Run
public import proofs.«01_k».proof.Proof.Norms.Norm1Fwd
public import proofs.«01_k».proof.Proof.Gen.NormLoss.Frame
public import proofs.«01_k».proof.Proof.Gen.NormLossRefIdeal.Run
public import proofs.«01_k».proof.Proof.Norms.NormLoss
public import Idealize.ShloMosaic.Adequacy
public import Idealize.ShloMosaic.Init

@[expose] public section

noncomputable section

namespace Cert.Proof

open Idealize.ShloMosaic Idealize.SL.Sem

theorem frame_Kernel : Cert.quiescent_Kernel := fun m ρ _ =>
  (θ_run Cert.Kernel.defs _ _).mono (fun r h => ⟨fun c =>
      ⟨((Pipeline.Dat.toRForget_arrAt_iff _ (by decide) _ _).mp ((h.1 c).1 3)).trans
          (((Cert.Kernel.AttnRun.dats m 0 c).arrAt_in 3 rfl _).trans ((Cert.Kernel.AttnRun.A_eq m c 3).trans (Cert.Kernel.Gen.V_main_arg0 m c))),
        ((h.1 c).2 Cert.Kernel.main_arg1 (Pipeline.mem_restRefs_of Cert.Kernel.main_arg1 (by decide) (by decide))).trans (Cert.Kernel.Gen.V_main_arg1 m c),
        ((Pipeline.Dat.toRForget_arrAt_iff _ (by decide) _ _).mp ((h.1 c).1 1)).trans
          (((Cert.Kernel.AttnRun.dats m 0 c).arrAt_in 1 rfl _).trans ((Cert.Kernel.AttnRun.A_eq m c 1).trans (Cert.Kernel.Gen.V_main_arg2 m c)))⟩, h.2⟩)
    (Cert.Kernel.AttnRun.run_main (F := Bits) m ρ)

theorem frame_KernelIdeal : Cert.quiescent_KernelIdeal := fun m ρ _ =>
  (θ_run Cert.KernelIdeal.defs _ _).mono (fun r h => ⟨fun c =>
      ⟨((Pipeline.Dat.toRForget_arrAt_iff _ (by decide) _ _).mp ((h.1 c).1 3)).trans
          (((Cert.KernelIdeal.AttnRun.dats m 0 c).arrAt_in 3 rfl _).trans ((Cert.KernelIdeal.AttnRun.A_eq m c 3).trans (Cert.KernelIdeal.Gen.V_main_arg0 m c))),
        ((h.1 c).2 Cert.KernelIdeal.main_arg1 (Pipeline.mem_restRefs_of Cert.KernelIdeal.main_arg1 (by decide) (by decide))).trans (Cert.KernelIdeal.Gen.V_main_arg1 m c),
        ((Pipeline.Dat.toRForget_arrAt_iff _ (by decide) _ _).mp ((h.1 c).1 1)).trans
          (((Cert.KernelIdeal.AttnRun.dats m 0 c).arrAt_in 1 rfl _).trans ((Cert.KernelIdeal.AttnRun.A_eq m c 1).trans (Cert.KernelIdeal.Gen.V_main_arg2 m c)))⟩, h.2⟩)
    (Cert.KernelIdeal.AttnRun.run_main (F := Ideal) m ρ)

theorem preserves : Cert.preserves_Kernel_KernelIdeal :=
  IdealRules.named_const.statement Cert.KernelIdeal.κ "mask" .f32 0xF149F2CA#32 ⊥ rfl

theorem frame_DownDx : Cert.quiescent_DownDx := fun m ρ _ => Cert.DownDx.Gen.frame m ρ

theorem frame_DownDxIdeal : Cert.quiescent_DownDxIdeal := fun m ρ _ => Cert.DownDxIdeal.Gen.frame m ρ

theorem frame_DownDxRefIdeal : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem algebraic_DownDx : Cert.algebraic_DownDxIdeal_DownDxRefIdeal := fun m g m' g' _ hagree =>
  ⟨fun c => (Cert.DownDxIdeal.Gen.dats m 0 c).arrAt 2 Cert.DownDxIdeal.cfg0.N, Cert.DownDxIdeal.Value.run_blocks m g,
    (θ_run Cert.DownDxRefIdeal.defs _ _).mono (fun r h c => ⟨(h c).1.trans ((Cert.DownDxRefIdeal.Read.val_main_v5_eq _ _).trans (by
        obtain ⟨-, h1, h2⟩ := hagree c
        rw [h1, h2]
        exact (Cert.DownDxIdeal.Product.final m c).symm)), (h c).2⟩)
      (Cert.DownDxRefIdeal.Value.run (F := Ideal) m' g')⟩

theorem frame_DownDw : Cert.quiescent_DownDw := fun m ρ _ => Cert.DownDw.Gen.frame m ρ

theorem frame_DownDwIdeal : Cert.quiescent_DownDwIdeal := fun m ρ _ => Cert.DownDwIdeal.Gen.frame m ρ

theorem frame_DownDwRefIdeal : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic_DownDw : Cert.algebraic_DownDwIdeal_DownDwRefIdeal := fun m g m' g' _ hagree =>
  ⟨fun c => (Cert.DownDwIdeal.Gen.dats m 0 c).arrAt 2 Cert.DownDwIdeal.cfg0.N, Cert.DownDwIdeal.Value.run_blocks m g,
    (θ_run Cert.DownDwRefIdeal.defs _ _).mono (fun r h c => ⟨(h c).1.trans ((Cert.DownDwRefIdeal.Read.val_main_v5_eq _ _).trans (by
        obtain ⟨h0, -, h2⟩ := hagree c
        rw [h0, h2]
        exact (Cert.DownDwIdeal.Product.final m c).symm)), (h c).2⟩)
      (Cert.DownDwRefIdeal.Value.run (F := Ideal) m' g')⟩

theorem frame_UpDx : Cert.quiescent_UpDx := fun m ρ _ => Cert.UpDx.Gen.frame m ρ

theorem frame_UpDxIdeal : Cert.quiescent_UpDxIdeal := fun m ρ _ => Cert.UpDxIdeal.Gen.frame m ρ

theorem frame_UpDxRefIdeal : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem algebraic_UpDx : Cert.algebraic_UpDxIdeal_UpDxRefIdeal := fun m g m' g' _ hagree =>
  ⟨fun c => (Cert.UpDxIdeal.Gen.dats m 0 c).arrAt 3 Cert.UpDxIdeal.cfg0.N, Cert.UpDxIdeal.Value.run_blocks m g,
    (θ_run Cert.UpDxRefIdeal.defs _ _).mono (fun r h c => ⟨(h c).1.trans ((Cert.UpDxRefIdeal.Read.val_main_v8_eq _ _ _).trans (by
        obtain ⟨-, h1, h2, h3⟩ := hagree c
        rw [h1, h2, h3]
        exact (Cert.UpDxIdeal.Product.final m c).symm)), (h c).2⟩)
      (Cert.UpDxRefIdeal.Value.run (F := Ideal) m' g')⟩

theorem frame_UpDwGate : Cert.quiescent_UpDwGate := fun m ρ _ => Cert.UpDwGate.Gen.frame m ρ

theorem frame_UpDwGateIdeal : Cert.quiescent_UpDwGateIdeal := fun m ρ _ => Cert.UpDwGateIdeal.Gen.frame m ρ

theorem frame_UpDwGateRefIdeal : Cert.quiescent_UpDwGateRefIdeal := fun m ρ _ =>
  (θ_run Cert.UpDwGateRefIdeal.defs _ _).mono (fun r h => ⟨fun c => (h c).2, sem_eq_zero_of_no_sems (by decide) r.2⟩)
    (Cert.UpDwGateRefIdeal.Value.run (F := Ideal) m ρ)

theorem algebraic_UpDwGate : Cert.algebraic_UpDwGateIdeal_UpDwGateRefIdeal := fun m g m' g' _ hagree =>
  ⟨fun c => Cert.UpDwGateRefIdeal.Read.val_main_v5 (m ((c.tc : Thread Cert.UpDwGateIdeal.nD Cert.UpDwGateIdeal.τ).loc Cert.UpDwGateIdeal.main_arg0))
      (m ((c.tc : Thread Cert.UpDwGateIdeal.nD Cert.UpDwGateIdeal.τ).loc Cert.UpDwGateIdeal.main_arg1)), Cert.UpDwGateIdeal.Product.run m g,
    (θ_run Cert.UpDwGateRefIdeal.defs _ _).mono (fun r h c => ⟨(h c).1.trans ((Cert.UpDwGateRefIdeal.Read.val_main_v5_eq _ _).trans (by
        obtain ⟨h0, h1⟩ := hagree c
        rw [h0, h1])), (h c).2⟩)
      (Cert.UpDwGateRefIdeal.Value.run (F := Ideal) m' g')⟩

theorem frame_UpDwVal : Cert.quiescent_UpDwVal := fun m ρ _ => Cert.UpDwVal.Gen.frame m ρ

theorem frame_UpDwValIdeal : Cert.quiescent_UpDwValIdeal := fun m ρ _ => Cert.UpDwValIdeal.Gen.frame m ρ

theorem frame_UpDwValRefIdeal : Cert.quiescent_UpDwValRefIdeal := fun m ρ _ =>
  (θ_run Cert.UpDwValRefIdeal.defs _ _).mono (fun r h => ⟨fun c => (h c).2, sem_eq_zero_of_no_sems (by decide) r.2⟩)
    (Cert.UpDwValRefIdeal.Value.run (F := Ideal) m ρ)

theorem algebraic_UpDwVal : Cert.algebraic_UpDwValIdeal_UpDwValRefIdeal := fun m g m' g' _ hagree =>
  ⟨fun c => (Cert.UpDwValIdeal.Gen.dats m 0 c).arrAt 2 Cert.UpDwValIdeal.cfg0.N, Cert.UpDwValIdeal.Value.run_blocks m g,
    (θ_run Cert.UpDwValRefIdeal.defs _ _).mono (fun r h c => ⟨(h c).1.trans ((Cert.UpDwValRefIdeal.Read.val_main_v7_eq _ _ _).trans (by
        obtain ⟨h0, h1, h2⟩ := hagree c
        rw [h0, h1, h2]
        exact (Cert.UpDwValIdeal.Product.final m c).symm)), (h c).2⟩)
      (Cert.UpDwValRefIdeal.Value.run (F := Ideal) m' g')⟩

theorem frame_OutDx : Cert.quiescent_OutDx := fun m ρ _ => Cert.OutDx.Gen.frame m ρ

theorem frame_OutDxIdeal : Cert.quiescent_OutDxIdeal := fun m ρ _ => Cert.OutDxIdeal.Gen.frame m ρ

theorem frame_OutDxRefIdeal : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem algebraic_OutDx : Cert.algebraic_OutDxIdeal_OutDxRefIdeal := fun m g m' g' _ hagree =>
  ⟨fun c => (Cert.OutDxIdeal.Gen.dats m 0 c).arrAt 2 Cert.OutDxIdeal.cfg0.N, Cert.OutDxIdeal.Value.run_blocks m g,
    (θ_run Cert.OutDxRefIdeal.defs _ _).mono (fun r h c => ⟨(h c).1.trans ((Cert.OutDxRefIdeal.Read.val_main_v4_eq _ _).trans (by
        obtain ⟨-, h1, h2⟩ := hagree c
        rw [h1, h2]
        exact (Cert.OutDxIdeal.Product.final m c).symm)), (h c).2⟩)
      (Cert.OutDxRefIdeal.Value.run (F := Ideal) m' g')⟩

theorem frame_OutDw : Cert.quiescent_OutDw := fun m ρ _ => Cert.OutDw.Gen.frame m ρ

theorem frame_OutDwIdeal : Cert.quiescent_OutDwIdeal := fun m ρ _ => Cert.OutDwIdeal.Gen.frame m ρ

theorem frame_OutDwRefIdeal : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem algebraic_OutDw : Cert.algebraic_OutDwIdeal_OutDwRefIdeal := fun m g m' g' _ hagree =>
  ⟨fun c => (Cert.OutDwIdeal.Gen.dats m 0 c).arrAt 2 Cert.OutDwIdeal.cfg0.N, Cert.OutDwIdeal.Value.run_blocks m g,
    (θ_run Cert.OutDwRefIdeal.defs _ _).mono (fun r h c => ⟨(h c).1.trans ((Cert.OutDwRefIdeal.Read.val_main_v5_eq _ _).trans (by
        obtain ⟨h0, -, h2⟩ := hagree c
        rw [h0, h2]
        exact (Cert.OutDwIdeal.Product.final m c).symm)), (h c).2⟩)
      (Cert.OutDwRefIdeal.Value.run (F := Ideal) m' g')⟩

theorem frame_InDx : Cert.quiescent_InDx := fun m ρ _ => Cert.InDx.Gen.frame m ρ

theorem frame_InDxIdeal : Cert.quiescent_InDxIdeal := fun m ρ _ => Cert.InDxIdeal.Gen.frame m ρ

theorem frame_InDxRefIdeal : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem algebraic_InDx : Cert.algebraic_InDxIdeal_InDxRefIdeal := fun m g m' g' _ hagree =>
  ⟨fun c => (Cert.InDxIdeal.Gen.dats m 0 c).arrAt 5 Cert.InDxIdeal.cfg0.N, Cert.InDxIdeal.Value.run_blocks m g,
    (θ_run Cert.InDxRefIdeal.defs _ _).mono (fun r h c => ⟨(h c).1.trans ((Cert.InDxRefIdeal.Read.val_main_v12_eq _ _ _ _ _).trans (by
        obtain ⟨-, h1, h2, h3, h4, h5⟩ := hagree c
        rw [h1, h2, h3, h4, h5]
        exact (Cert.InDxIdeal.Product.final m c).symm)), (h c).2⟩)
      (Cert.InDxRefIdeal.Value.run (F := Ideal) m' g')⟩

theorem frame_InDw : Cert.quiescent_InDw := fun m ρ _ => Cert.InDw.Gen.frame m ρ

theorem frame_InDwIdeal : Cert.quiescent_InDwIdeal := fun m ρ _ => Cert.InDwIdeal.Gen.frame m ρ

theorem frame_InDwRefIdeal : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem algebraic_InDw : Cert.algebraic_InDwIdeal_InDwRefIdeal := fun m g m' g' _ hagree =>
  ⟨fun c => (Cert.InDwIdeal.Gen.dats m 0 c).arrAt 5 Cert.InDwIdeal.cfg0.N, Cert.InDwIdeal.Value.run_blocks m g,
    (θ_run Cert.InDwRefIdeal.defs _ _).mono (fun r h c => ⟨(h c).1.trans ((Cert.InDwRefIdeal.Read.val_main_v13_eq _ _ _ _ _).trans (by
        obtain ⟨h0, -, h2, h3, h4, h5⟩ := hagree c
        rw [h0, h2, h3, h4, h5]
        exact (Cert.InDwIdeal.Product.final m c).symm)), (h c).2⟩)
      (Cert.InDwRefIdeal.Value.run (F := Ideal) m' g')⟩

theorem frame_MmQkv : Cert.quiescent_MmQkv := fun m ρ _ => Cert.MmQkv.Gen.frame m ρ

theorem frame_MmQkvIdeal : Cert.quiescent_MmQkvIdeal := fun m ρ _ => Cert.MmQkvIdeal.Gen.frame m ρ

theorem frame_MmQkvRefIdeal : Cert.quiescent_MmQkvRefIdeal := fun m ρ _ =>
  (θ_run Cert.MmQkvRefIdeal.defs _ _).mono (fun r h => ⟨fun c => (h c).2, sem_eq_zero_of_no_sems (by decide) r.2⟩)
    (Cert.MmQkvRefIdeal.Value.run (F := Ideal) m ρ)

theorem algebraic_MmQkv : Cert.algebraic_MmQkvIdeal_MmQkvRefIdeal := fun m g m' g' _ hagree =>
  ⟨fun c => (Cert.MmQkvIdeal.Gen.dats m 0 c).arrAt 2 Cert.MmQkvIdeal.cfg0.N, Cert.MmQkvIdeal.Value.run_blocks m g,
    (θ_run Cert.MmQkvRefIdeal.defs _ _).mono (fun r h c => ⟨(h c).1.trans ((Cert.MmQkvRefIdeal.Read.val_main_v4_eq _ _).trans (by
        obtain ⟨h0, h1⟩ := hagree c
        rw [h0, h1]
        exact (Cert.MmQkvIdeal.Product.final m c).symm)), (h c).2⟩)
      (Cert.MmQkvRefIdeal.Value.run (F := Ideal) m' g')⟩

theorem frame_MmAg : Cert.quiescent_MmAg := fun m ρ _ => Cert.MmAg.Gen.frame m ρ

theorem frame_MmAgIdeal : Cert.quiescent_MmAgIdeal := fun m ρ _ => Cert.MmAgIdeal.Gen.frame m ρ

theorem frame_MmAgRefIdeal : Cert.quiescent_MmAgRefIdeal := fun m ρ _ =>
  (θ_run Cert.MmAgRefIdeal.defs _ _).mono (fun r h => ⟨fun c => (h c).2, sem_eq_zero_of_no_sems (by decide) r.2⟩)
    (Cert.MmAgRefIdeal.Value.run (F := Ideal) m ρ)

theorem algebraic_MmAg : Cert.algebraic_MmAgIdeal_MmAgRefIdeal := fun m g m' g' _ hagree =>
  ⟨fun c => (Cert.MmAgIdeal.Gen.dats m 0 c).arrAt 2 Cert.MmAgIdeal.cfg0.N, Cert.MmAgIdeal.Value.run_blocks m g,
    (θ_run Cert.MmAgRefIdeal.defs _ _).mono (fun r h c => ⟨(h c).1.trans ((Cert.MmAgRefIdeal.Read.val_main_v3_eq _ _).trans (by
        obtain ⟨h0, h1⟩ := hagree c
        rw [h0, h1]
        exact (Cert.MmAgIdeal.Product.final m c).symm)), (h c).2⟩)
      (Cert.MmAgRefIdeal.Value.run (F := Ideal) m' g')⟩

theorem frame_MmOut : Cert.quiescent_MmOut := fun m ρ _ => Cert.MmOut.Gen.frame m ρ

theorem frame_MmOutIdeal : Cert.quiescent_MmOutIdeal := fun m ρ _ => Cert.MmOutIdeal.Gen.frame m ρ

theorem frame_MmOutRefIdeal : Cert.quiescent_MmOutRefIdeal := fun m ρ _ =>
  (θ_run Cert.MmOutRefIdeal.defs _ _).mono (fun r h => ⟨fun c => (h c).2, sem_eq_zero_of_no_sems (by decide) r.2⟩)
    (Cert.MmOutRefIdeal.Value.run (F := Ideal) m ρ)

theorem algebraic_MmOut : Cert.algebraic_MmOutIdeal_MmOutRefIdeal := fun m g m' g' _ hagree =>
  ⟨fun c => (Cert.MmOutIdeal.Gen.dats m 0 c).arrAt 2 Cert.MmOutIdeal.cfg0.N, Cert.MmOutIdeal.Value.run_blocks m g,
    (θ_run Cert.MmOutRefIdeal.defs _ _).mono (fun r h c => ⟨(h c).1.trans ((Cert.MmOutRefIdeal.Read.val_main_v2_eq _ _).trans (by
        obtain ⟨h0, h1⟩ := hagree c
        rw [h0, h1]
        exact (Cert.MmOutIdeal.Product.final m c).symm)), (h c).2⟩)
      (Cert.MmOutRefIdeal.Value.run (F := Ideal) m' g')⟩

theorem frame_MmUp : Cert.quiescent_MmUp := fun m ρ _ => Cert.MmUp.Gen.frame m ρ

theorem frame_MmUpIdeal : Cert.quiescent_MmUpIdeal := fun m ρ _ => Cert.MmUpIdeal.Gen.frame m ρ

theorem frame_MmUpRefIdeal : Cert.quiescent_MmUpRefIdeal := fun m ρ _ =>
  (θ_run Cert.MmUpRefIdeal.defs _ _).mono (fun r h => ⟨fun c => (h c).2, sem_eq_zero_of_no_sems (by decide) r.2⟩)
    (Cert.MmUpRefIdeal.Value.run (F := Ideal) m ρ)

theorem algebraic_MmUp : Cert.algebraic_MmUpIdeal_MmUpRefIdeal := fun m g m' g' _ hagree =>
  ⟨fun c => (Cert.MmUpIdeal.Gen.dats m 0 c).arrAt 2 Cert.MmUpIdeal.cfg0.N, Cert.MmUpIdeal.Value.run_blocks m g,
    (θ_run Cert.MmUpRefIdeal.defs _ _).mono (fun r h c => ⟨(h c).1.trans ((Cert.MmUpRefIdeal.Read.val_main_v3_eq _ _).trans (by
        obtain ⟨h0, h1⟩ := hagree c
        rw [h0, h1]
        exact (Cert.MmUpIdeal.Product.final m c).symm)), (h c).2⟩)
      (Cert.MmUpRefIdeal.Value.run (F := Ideal) m' g')⟩

theorem frame_MmDown : Cert.quiescent_MmDown := fun m ρ _ => Cert.MmDown.Gen.frame m ρ

theorem frame_MmDownIdeal : Cert.quiescent_MmDownIdeal := fun m ρ _ => Cert.MmDownIdeal.Gen.frame m ρ

theorem frame_MmDownRefIdeal : Cert.quiescent_MmDownRefIdeal := fun m ρ _ =>
  (θ_run Cert.MmDownRefIdeal.defs _ _).mono (fun r h => ⟨fun c => (h c).2, sem_eq_zero_of_no_sems (by decide) r.2⟩)
    (Cert.MmDownRefIdeal.Value.run (F := Ideal) m ρ)

theorem algebraic_MmDown : Cert.algebraic_MmDownIdeal_MmDownRefIdeal := fun m g m' g' _ hagree =>
  ⟨fun c => (Cert.MmDownIdeal.Gen.dats m 0 c).arrAt 2 Cert.MmDownIdeal.cfg0.N, Cert.MmDownIdeal.Value.run_blocks m g,
    (θ_run Cert.MmDownRefIdeal.defs _ _).mono (fun r h c => ⟨(h c).1.trans ((Cert.MmDownRefIdeal.Read.val_main_v2_eq _ _).trans (by
        obtain ⟨h0, h1⟩ := hagree c
        rw [h0, h1]
        exact (Cert.MmDownIdeal.Product.final m c).symm)), (h c).2⟩)
      (Cert.MmDownRefIdeal.Value.run (F := Ideal) m' g')⟩

theorem frame_NormCtxBwd : Cert.quiescent_NormCtxBwd := fun m ρ _ => Cert.NormCtxBwd.Gen.frame m ρ

theorem frame_NormCtxBwdIdeal : Cert.quiescent_NormCtxBwdIdeal := fun m ρ _ => Cert.NormCtxBwdIdeal.Gen.frame m ρ

theorem frame_NormCtxBwdRefIdeal : Cert.quiescent_NormCtxBwdRefIdeal := fun m ρ _ =>
  (θ_run Cert.NormCtxBwdRefIdeal.defs _ _).mono (fun r h => ⟨fun c => (h c).2.2.2, sem_eq_zero_of_no_sems (by decide) r.2⟩)
    (Cert.NormCtxBwdRefIdeal.Value.run (F := Ideal) m ρ)

theorem algebraic_NormCtxBwd : Cert.algebraic_NormCtxBwdIdeal_NormCtxBwdRefIdeal := fun m g m' g' _ hagree =>
  ⟨fun c => (Cert.NormCtxBwdIdeal.Gen.dats m 0 c).arrAt 4 Cert.NormCtxBwdIdeal.cfg0.N, fun c => (Cert.NormCtxBwdIdeal.Gen.dats m 0 c).arrAt 5 Cert.NormCtxBwdIdeal.cfg0.N, fun c => (Cert.NormCtxBwdIdeal.Gen.dats m 0 c).arrAt 6 Cert.NormCtxBwdIdeal.cfg0.N, Cert.NormCtxBwdIdeal.Value.run_blocks m g,
    (θ_run Cert.NormCtxBwdRefIdeal.defs _ _).mono (fun r h c => ⟨(h c).1.trans ((Cert.NormCtxBwdRefIdeal.Read.val_main_v20_eq _).trans (by
        obtain ⟨-, -, -, -, h4⟩ := hagree c
        rw [h4]
        exact (Cert.NormCtxBwdIdeal.Norm.final4 m c).symm)),
      (h c).2.1.trans ((Cert.NormCtxBwdRefIdeal.Read.val_main_v23_eq _ _ _).trans (by
        obtain ⟨h0, h1, -, -, h4⟩ := hagree c
        rw [h0, h1, h4]
        exact (Cert.NormCtxBwdIdeal.Norm.final5 m c).symm)),
      (h c).2.2.1.trans ((Cert.NormCtxBwdRefIdeal.Read.val_main_v28_eq _ _ _).trans (by
        obtain ⟨h0, -, h2, -, h4⟩ := hagree c
        rw [h0, h2, h4]
        exact (Cert.NormCtxBwdIdeal.Norm.final6 m c).symm)), (h c).2.2.2⟩)
      (Cert.NormCtxBwdRefIdeal.Value.run (F := Ideal) m' g')⟩

theorem frame_Norm1Bwd : Cert.quiescent_Norm1Bwd := fun m ρ _ => Cert.Norm1Bwd.Gen.frame m ρ

theorem frame_Norm1BwdIdeal : Cert.quiescent_Norm1BwdIdeal := fun m ρ _ => Cert.Norm1BwdIdeal.Gen.frame m ρ

theorem frame_Norm1BwdRefIdeal : Cert.quiescent_Norm1BwdRefIdeal := fun m ρ _ =>
  (θ_run Cert.Norm1BwdRefIdeal.defs _ _).mono (fun r h => ⟨fun c => (h c).2.2.2.2, sem_eq_zero_of_no_sems (by decide) r.2⟩)
    (Cert.Norm1BwdRefIdeal.Value.run (F := Ideal) m ρ)

theorem algebraic_Norm1Bwd : Cert.algebraic_Norm1BwdIdeal_Norm1BwdRefIdeal := fun m g m' g' _ hagree =>
  ⟨fun c => (Cert.Norm1BwdIdeal.Gen.dats m 0 c).arrAt 5 Cert.Norm1BwdIdeal.cfg0.N, fun c => (Cert.Norm1BwdIdeal.Gen.dats m 0 c).arrAt 6 Cert.Norm1BwdIdeal.cfg0.N, fun c => (Cert.Norm1BwdIdeal.Gen.dats m 0 c).arrAt 7 Cert.Norm1BwdIdeal.cfg0.N, fun c => (Cert.Norm1BwdIdeal.Gen.dats m 0 c).arrAt 8 Cert.Norm1BwdIdeal.cfg0.N, Cert.Norm1BwdIdeal.Value.run_blocks m g,
    (θ_run Cert.Norm1BwdRefIdeal.defs _ _).mono (fun r h c => ⟨(h c).1.trans ((Cert.Norm1BwdRefIdeal.Read.val_main_v23_eq _).trans (by
        obtain ⟨-, -, -, -, h4, -⟩ := hagree c
        rw [h4]
        exact (Cert.Norm1BwdIdeal.Norm.final5 m c).symm)),
      (h c).2.1.trans ((Cert.Norm1BwdRefIdeal.Read.val_main_v26_eq _ _ _).trans (by
        obtain ⟨h0, h1, -, -, h4, -⟩ := hagree c
        rw [h0, h1, h4]
        exact (Cert.Norm1BwdIdeal.Norm.final6 m c).symm)),
      (h c).2.2.1.trans ((Cert.Norm1BwdRefIdeal.Read.val_main_v31_eq _ _ _).trans (by
        obtain ⟨h0, -, h2, -, h4, -⟩ := hagree c
        rw [h0, h2, h4]
        exact (Cert.Norm1BwdIdeal.Norm.final7 m c).symm)),
      (h c).2.2.2.1.trans ((Cert.Norm1BwdRefIdeal.Read.val_main_v48_eq _ _).trans (by
        obtain ⟨h0, h1, h2, -, h4, h5⟩ := hagree c
        rw [h0, h1, h2, h4, h5]
        exact (Cert.Norm1BwdIdeal.Norm.final8 m c).symm)), (h c).2.2.2.2⟩)
      (Cert.Norm1BwdRefIdeal.Value.run (F := Ideal) m' g')⟩

theorem frame_Norm2Bwd : Cert.quiescent_Norm2Bwd := fun m ρ _ => Cert.Norm2Bwd.Gen.frame m ρ

theorem frame_Norm2BwdIdeal : Cert.quiescent_Norm2BwdIdeal := fun m ρ _ => Cert.Norm2BwdIdeal.Gen.frame m ρ

theorem frame_Norm2BwdRefIdeal : Cert.quiescent_Norm2BwdRefIdeal := fun m ρ _ =>
  (θ_run Cert.Norm2BwdRefIdeal.defs _ _).mono (fun r h => ⟨fun c => (h c).2.2.2.2.2.2, sem_eq_zero_of_no_sems (by decide) r.2⟩)
    (Cert.Norm2BwdRefIdeal.Value.run (F := Ideal) m ρ)

theorem algebraic_Norm2Bwd : Cert.algebraic_Norm2BwdIdeal_Norm2BwdRefIdeal := fun m g m' g' _ hagree =>
  ⟨fun c => (Cert.Norm2BwdIdeal.Gen.dats m 0 c).arrAt 7 Cert.Norm2BwdIdeal.cfg0.N, fun c => (Cert.Norm2BwdIdeal.Gen.dats m 0 c).arrAt 8 Cert.Norm2BwdIdeal.cfg0.N, fun c => (Cert.Norm2BwdIdeal.Gen.dats m 0 c).arrAt 9 Cert.Norm2BwdIdeal.cfg0.N, fun c => (Cert.Norm2BwdIdeal.Gen.dats m 0 c).arrAt 10 Cert.Norm2BwdIdeal.cfg0.N, fun c => (Cert.Norm2BwdIdeal.Gen.dats m 0 c).arrAt 11 Cert.Norm2BwdIdeal.cfg0.N, fun c => (Cert.Norm2BwdIdeal.Gen.dats m 0 c).arrAt 12 Cert.Norm2BwdIdeal.cfg0.N, Cert.Norm2BwdIdeal.Value.run_blocks m g,
    (θ_run Cert.Norm2BwdRefIdeal.defs _ _).mono (fun r h c => ⟨(h c).1.trans ((Cert.Norm2BwdRefIdeal.Read.val_main_v26_eq _).trans (by
        obtain ⟨-, -, -, -, -, -, -, h7⟩ := hagree c
        rw [h7]
        exact (Cert.Norm2BwdIdeal.Norm.final7 m c).symm)),
      (h c).2.1.trans ((Cert.Norm2BwdRefIdeal.Read.val_main_v29_eq _ _ _ _ _).trans (by
        obtain ⟨h0, h1, h2, h3, -, -, -, h7⟩ := hagree c
        rw [h0, h1, h2, h3, h7]
        exact (Cert.Norm2BwdIdeal.Norm.final8 m c).symm)),
      (h c).2.2.1.trans ((Cert.Norm2BwdRefIdeal.Read.val_main_v34_eq _ _ _ _ _).trans (by
        obtain ⟨h0, h1, h2, -, h4, -, -, h7⟩ := hagree c
        rw [h0, h1, h2, h4, h7]
        exact (Cert.Norm2BwdIdeal.Norm.final9 m c).symm)),
      (h c).2.2.2.1.trans ((Cert.Norm2BwdRefIdeal.Read.val_main_v51_eq _ _).trans (by
        obtain ⟨h0, h1, h2, h3, h4, -, h6, h7⟩ := hagree c
        rw [h0, h1, h2, h3, h4, h6, h7]
        exact (Cert.Norm2BwdIdeal.Norm.final10 m c).symm)),
      (h c).2.2.2.2.1.trans ((Cert.Norm2BwdRefIdeal.Read.val_main_v58_eq _ _).trans (by
        obtain ⟨h0, h1, h2, h3, h4, -, h6, h7⟩ := hagree c
        rw [h0, h1, h2, h3, h4, h6, h7]
        exact (Cert.Norm2BwdIdeal.Norm.final11 m c).symm)),
      (h c).2.2.2.2.2.1.trans ((Cert.Norm2BwdRefIdeal.Read.val_main_v57_eq _ _).trans (by
        obtain ⟨h0, h1, h2, h3, h4, -, h6, h7⟩ := hagree c
        rw [h0, h1, h2, h3, h4, h6, h7]
        exact (Cert.Norm2BwdIdeal.Norm.final12 m c).symm)), (h c).2.2.2.2.2.2⟩)
      (Cert.Norm2BwdRefIdeal.Value.run (F := Ideal) m' g')⟩

theorem frame_Norm2Fwd : Cert.quiescent_Norm2Fwd := fun m ρ _ => Cert.Norm2Fwd.Gen.frame m ρ

theorem frame_Norm2FwdIdeal : Cert.quiescent_Norm2FwdIdeal := fun m ρ _ => Cert.Norm2FwdIdeal.Gen.frame m ρ

theorem frame_Norm2FwdRefIdeal : Cert.quiescent_Norm2FwdRefIdeal := fun m ρ _ =>
  (θ_run Cert.Norm2FwdRefIdeal.defs _ _).mono (fun r h => ⟨fun c => (h c).2.2, sem_eq_zero_of_no_sems (by decide) r.2⟩)
    (Cert.Norm2FwdRefIdeal.Value.run (F := Ideal) m ρ)

theorem algebraic_Norm2Fwd : Cert.algebraic_Norm2FwdIdeal_Norm2FwdRefIdeal := fun m g m' g' _ hagree =>
  ⟨fun c => (Cert.Norm2FwdIdeal.Gen.dats m 0 c).arrAt 6 Cert.Norm2FwdIdeal.cfg0.N, fun c => (Cert.Norm2FwdIdeal.Gen.dats m 0 c).arrAt 7 Cert.Norm2FwdIdeal.cfg0.N, Cert.Norm2FwdIdeal.Value.run_blocks m g,
    (θ_run Cert.Norm2FwdRefIdeal.defs _ _).mono (fun r h c => ⟨(h c).1.trans ((Cert.Norm2FwdRefIdeal.Read.val_main_v2_eq _ _ _).trans (by
        obtain ⟨h0, h1, h2, -, -, -⟩ := hagree c
        rw [h0, h1, h2]
        exact (Cert.Norm2FwdIdeal.Norm.final6 m c).symm)),
      (h c).2.1.trans ((Cert.Norm2FwdRefIdeal.Read.val_main_v21_eq _ _ _ _ _ _).trans (by
        obtain ⟨h0, h1, h2, h3, h4, h5⟩ := hagree c
        rw [h0, h1, h2, h3, h4, h5]
        exact (Cert.Norm2FwdIdeal.Norm.final7 m c).symm)), (h c).2.2⟩)
      (Cert.Norm2FwdRefIdeal.Value.run (F := Ideal) m' g')⟩

theorem frame_Norm1Fwd : Cert.quiescent_Norm1Fwd := fun m ρ _ => Cert.Norm1Fwd.Gen.frame m ρ

theorem frame_Norm1FwdIdeal : Cert.quiescent_Norm1FwdIdeal := fun m ρ _ => Cert.Norm1FwdIdeal.Gen.frame m ρ

theorem frame_Norm1FwdRefIdeal : Cert.quiescent_Norm1FwdRefIdeal := fun m ρ _ =>
  (θ_run Cert.Norm1FwdRefIdeal.defs _ _).mono (fun r h => ⟨fun c => (h c).2, sem_eq_zero_of_no_sems (by decide) r.2⟩)
    (Cert.Norm1FwdRefIdeal.Value.run (F := Ideal) m ρ)

theorem algebraic_Norm1Fwd : Cert.algebraic_Norm1FwdIdeal_Norm1FwdRefIdeal := fun m g m' g' _ hagree =>
  ⟨fun c => (Cert.Norm1FwdIdeal.Gen.dats m 0 c).arrAt 7 Cert.Norm1FwdIdeal.cfg0.N, Cert.Norm1FwdIdeal.Value.run_blocks m g,
    (θ_run Cert.Norm1FwdRefIdeal.defs _ _).mono (fun r h c => ⟨(h c).1.trans ((Cert.Norm1FwdRefIdeal.Read.val_main_v37_eq _ _ _ _ _ _ _).trans (by
        obtain ⟨h0, h1, h2, h3, h4, h5, h6⟩ := hagree c
        rw [h0, h1, h2, h3, h4, h5, h6]
        exact (Cert.Norm1FwdIdeal.Norm.final7 m c).symm)), (h c).2⟩)
      (Cert.Norm1FwdRefIdeal.Value.run (F := Ideal) m' g')⟩

theorem frame_NormLoss : Cert.quiescent_NormLoss := fun m ρ _ => Cert.NormLoss.Gen.frame m ρ

theorem frame_NormLossIdeal : Cert.quiescent_NormLossIdeal := fun m ρ _ => Cert.NormLossIdeal.Gen.frame m ρ

theorem frame_NormLossRefIdeal : Cert.quiescent_NormLossRefIdeal := fun m ρ _ =>
  (θ_run Cert.NormLossRefIdeal.defs _ _).mono (fun r h => ⟨fun c => (h c).2.2.2.2.2, sem_eq_zero_of_no_sems (by decide) r.2⟩)
    (Cert.NormLossRefIdeal.Value.run (F := Ideal) m ρ)

theorem algebraic_NormLoss : Cert.algebraic_NormLossIdeal_NormLossRefIdeal := fun m g m' g' _ hagree =>
  ⟨fun c => (Cert.NormLossIdeal.Gen.dats m 0 c).arrAt 5 Cert.NormLossIdeal.cfg0.N, fun c => (Cert.NormLossIdeal.Gen.dats m 0 c).arrAt 6 Cert.NormLossIdeal.cfg0.N, fun c => (Cert.NormLossIdeal.Gen.dats m 0 c).arrAt 7 Cert.NormLossIdeal.cfg0.N, fun c => (Cert.NormLossIdeal.Gen.dats m 0 c).arrAt 8 Cert.NormLossIdeal.cfg0.N, fun c => (Cert.NormLossIdeal.Gen.dats m 0 c).arrAt 9 Cert.NormLossIdeal.cfg0.N, Cert.NormLossIdeal.Value.run_blocks m g,
    (θ_run Cert.NormLossRefIdeal.defs _ _).mono (fun r h c => ⟨(h c).1.trans ((Cert.NormLossRefIdeal.Read.val_main_v51_eq _ _).trans (by
        obtain ⟨h0, h1, h2, h3, h4⟩ := hagree c
        rw [h0, h1, h2, h3, h4]
        exact (Cert.NormLossIdeal.Norm.final5 m c).symm)),
      (h c).2.1.trans ((Cert.NormLossRefIdeal.Read.val_main_v57_eq _ _).trans (by
        obtain ⟨h0, h1, h2, h3, h4⟩ := hagree c
        rw [h0, h1, h2, h3, h4]
        exact (Cert.NormLossIdeal.Norm.final6 m c).symm)),
      (h c).2.2.1.trans ((Cert.NormLossRefIdeal.Read.val_main_v58_eq _ _ _ _ _).trans (by
        obtain ⟨h0, h1, h2, h3, h4⟩ := hagree c
        rw [h0, h1, h2, h3, h4]
        exact (Cert.NormLossIdeal.Norm.final7 m c).symm)),
      (h c).2.2.2.1.trans ((Cert.NormLossRefIdeal.Read.val_main_v56_eq _ _).trans (by
        obtain ⟨h0, h1, h2, h3, h4⟩ := hagree c
        rw [h0, h1, h2, h3, h4]
        exact (Cert.NormLossIdeal.Norm.final8 m c).symm)),
      (h c).2.2.2.2.1.trans ((Cert.NormLossRefIdeal.Read.val_main_v35_eq _ _ _ _ _).trans (by
        obtain ⟨h0, h1, h2, h3, h4⟩ := hagree c
        rw [h0, h1, h2, h3, h4]
        exact (Cert.NormLossIdeal.Norm.final9 m c).symm)), (h c).2.2.2.2.2⟩)
      (Cert.NormLossRefIdeal.Value.run (F := Ideal) m' g')⟩

theorem claim : Cert.Claim := ⟨
  Cert.Kernel.Gen.facts, Cert.KernelIdeal.Gen.facts, Cert.DownDx.Gen.facts, Cert.DownDxIdeal.Gen.facts, Cert.DownDxRefIdeal.Gen.facts,
  Cert.DownDw.Gen.facts, Cert.DownDwIdeal.Gen.facts, Cert.DownDwRefIdeal.Gen.facts, Cert.UpDx.Gen.facts, Cert.UpDxIdeal.Gen.facts,
  Cert.UpDxRefIdeal.Gen.facts, Cert.UpDwGate.Gen.facts, Cert.UpDwGateIdeal.Gen.facts, Cert.UpDwGateRefIdeal.Gen.facts, Cert.UpDwVal.Gen.facts,
  Cert.UpDwValIdeal.Gen.facts, Cert.UpDwValRefIdeal.Gen.facts, Cert.OutDx.Gen.facts, Cert.OutDxIdeal.Gen.facts, Cert.OutDxRefIdeal.Gen.facts,
  Cert.OutDw.Gen.facts, Cert.OutDwIdeal.Gen.facts, Cert.OutDwRefIdeal.Gen.facts, Cert.InDx.Gen.facts, Cert.InDxIdeal.Gen.facts,
  Cert.InDxRefIdeal.Gen.facts, Cert.InDw.Gen.facts, Cert.InDwIdeal.Gen.facts, Cert.InDwRefIdeal.Gen.facts, Cert.MmQkv.Gen.facts,
  Cert.MmQkvIdeal.Gen.facts, Cert.MmQkvRefIdeal.Gen.facts, Cert.MmAg.Gen.facts, Cert.MmAgIdeal.Gen.facts, Cert.MmAgRefIdeal.Gen.facts,
  Cert.MmOut.Gen.facts, Cert.MmOutIdeal.Gen.facts, Cert.MmOutRefIdeal.Gen.facts, Cert.MmUp.Gen.facts, Cert.MmUpIdeal.Gen.facts,
  Cert.MmUpRefIdeal.Gen.facts, Cert.MmDown.Gen.facts, Cert.MmDownIdeal.Gen.facts, Cert.MmDownRefIdeal.Gen.facts, Cert.NormCtxBwd.Gen.facts,
  Cert.NormCtxBwdIdeal.Gen.facts, Cert.NormCtxBwdRefIdeal.Gen.facts, Cert.Norm1Bwd.Gen.facts, Cert.Norm1BwdIdeal.Gen.facts,
  Cert.Norm1BwdRefIdeal.Gen.facts, Cert.Norm2Bwd.Gen.facts, Cert.Norm2BwdIdeal.Gen.facts, Cert.Norm2BwdRefIdeal.Gen.facts, Cert.Norm2Fwd.Gen.facts,
  Cert.Norm2FwdIdeal.Gen.facts, Cert.Norm2FwdRefIdeal.Gen.facts, Cert.Norm1Fwd.Gen.facts, Cert.Norm1FwdIdeal.Gen.facts,
  Cert.Norm1FwdRefIdeal.Gen.facts, Cert.NormLoss.Gen.facts, Cert.NormLossIdeal.Gen.facts, Cert.NormLossRefIdeal.Gen.facts, frame_Kernel,
  frame_KernelIdeal, frame_DownDx, frame_DownDxIdeal, frame_DownDxRefIdeal, frame_DownDw, frame_DownDwIdeal, frame_DownDwRefIdeal, frame_UpDx,
  frame_UpDxIdeal, frame_UpDxRefIdeal, frame_UpDwGate, frame_UpDwGateIdeal, frame_UpDwGateRefIdeal, frame_UpDwVal, frame_UpDwValIdeal,
  frame_UpDwValRefIdeal, frame_OutDx, frame_OutDxIdeal, frame_OutDxRefIdeal, frame_OutDw, frame_OutDwIdeal, frame_OutDwRefIdeal, frame_InDx,
  frame_InDxIdeal, frame_InDxRefIdeal, frame_InDw, frame_InDwIdeal, frame_InDwRefIdeal, frame_MmQkv, frame_MmQkvIdeal, frame_MmQkvRefIdeal,
  frame_MmAg, frame_MmAgIdeal, frame_MmAgRefIdeal, frame_MmOut, frame_MmOutIdeal, frame_MmOutRefIdeal, frame_MmUp, frame_MmUpIdeal,
  frame_MmUpRefIdeal, frame_MmDown, frame_MmDownIdeal, frame_MmDownRefIdeal, frame_NormCtxBwd, frame_NormCtxBwdIdeal, frame_NormCtxBwdRefIdeal,
  frame_Norm1Bwd, frame_Norm1BwdIdeal, frame_Norm1BwdRefIdeal, frame_Norm2Bwd, frame_Norm2BwdIdeal, frame_Norm2BwdRefIdeal, frame_Norm2Fwd,
  frame_Norm2FwdIdeal, frame_Norm2FwdRefIdeal, frame_Norm1Fwd, frame_Norm1FwdIdeal, frame_Norm1FwdRefIdeal, frame_NormLoss, frame_NormLossIdeal,
  frame_NormLossRefIdeal, preserves, trivial, algebraic_DownDx, trivial, algebraic_DownDw, trivial, algebraic_UpDx, trivial, algebraic_UpDwGate,
  trivial, algebraic_UpDwVal, trivial, algebraic_OutDx, trivial, algebraic_OutDw, trivial, algebraic_InDx, trivial, algebraic_InDw, trivial,
  algebraic_MmQkv, trivial, algebraic_MmAg, trivial, algebraic_MmOut, trivial, algebraic_MmUp, trivial, algebraic_MmDown, trivial,
  algebraic_NormCtxBwd, trivial, algebraic_Norm1Bwd, trivial, algebraic_Norm2Bwd, trivial, algebraic_Norm2Fwd, trivial, algebraic_Norm1Fwd, trivial,
  algebraic_NormLoss⟩

end Cert.Proof

end
